-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v70_0)) (v1 : (c : Dev Cert.KernelIdeal.nD) → Buf (Elt Ideal) ((c.tc : Thread Cert.KernelIdeal.nD Cert.KernelIdeal.τ).loc Cert.KernelIdeal.main_v70_1)) (v2 : (c : Dev Cert.KernelIdeal.nD) → Buf (Elt Ideal) ((c.tc : Thread Cert.KernelIdeal.nD Cert.KernelIdeal.τ).loc Cert.KernelIdeal.main_v70_2)) (v3 : (c : Dev Cert.KernelIdeal.nD) → Buf (Elt Ideal) ((c.tc : Thread Cert.KernelIdeal.nD Cert.KernelIdeal.τ).loc Cert.KernelIdeal.main_v70_3)) (v4 : (c : Dev Cert.KernelIdeal.nD) → Buf (Elt Ideal) ((c.tc : Thread Cert.KernelIdeal.nD Cert.KernelIdeal.τ).loc Cert.KernelIdeal.main_v70_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70_0) = v0 c
          ∧ r.2.mem ((c.tc : Thread Cert.KernelIdeal.nD Cert.KernelIdeal.τ).loc Cert.KernelIdeal.main_v70_1) = v1 c
          ∧ r.2.mem ((c.tc : Thread Cert.KernelIdeal.nD Cert.KernelIdeal.τ).loc Cert.KernelIdeal.main_v70_2) = v2 c
          ∧ r.2.mem ((c.tc : Thread Cert.KernelIdeal.nD Cert.KernelIdeal.τ).loc Cert.KernelIdeal.main_v70_3) = v3 c
          ∧ r.2.mem ((c.tc : Thread Cert.KernelIdeal.nD Cert.KernelIdeal.τ).loc Cert.KernelIdeal.main_v70_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v177) = v0 c
          ∧ r.2.mem ((c.tc : Thread Cert.ReferenceIdeal.nD Cert.ReferenceIdeal.τ).loc Cert.ReferenceIdeal.main_v178) = v1 c
          ∧ r.2.mem ((c.tc : Thread Cert.ReferenceIdeal.nD Cert.ReferenceIdeal.τ).loc Cert.ReferenceIdeal.main_v179) = v2 c
          ∧ r.2.mem ((c.tc : Thread Cert.ReferenceIdeal.nD Cert.ReferenceIdeal.τ).loc Cert.ReferenceIdeal.main_v149) = v3 c
          ∧ r.2.mem ((c.tc : Thread Cert.ReferenceIdeal.nD Cert.ReferenceIdeal.τ).loc Cert.ReferenceIdeal.main_v181) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_3) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v36) = v0 c
          ∧ r.2.mem ((c.tc : Thread Cert.Reference4Ideal.nD Cert.Reference4Ideal.τ).loc Cert.Reference4Ideal.main_v37) = v1 c
          ∧ r.2.mem ((c.tc : Thread Cert.Reference4Ideal.nD Cert.Reference4Ideal.τ).loc Cert.Reference4Ideal.main_v38) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v22) = v0 c
          ∧ r.2.mem ((c.tc : Thread Cert.Reference11Ideal.nD Cert.Reference11Ideal.τ).loc Cert.Reference11Ideal.main_v23) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_v9) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_v6) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v9) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_arg3) = v0 c
          ∧ r.2.mem ((c.tc : Thread Cert.Reference17Ideal.nD Cert.Reference17Ideal.τ).loc Cert.Reference17Ideal.main_v23) = v1 c
          ∧ r.2.mem ((c.tc : Thread Cert.Reference17Ideal.nD Cert.Reference17Ideal.τ).loc Cert.Reference17Ideal.main_v4) = v2 c
          ∧ r.2.mem ((c.tc : Thread Cert.Reference17Ideal.nD Cert.Reference17Ideal.τ).loc Cert.Reference17Ideal.main_v10) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_arg3) = v0 c
          ∧ r.2.mem ((c.tc : Thread Cert.Reference18Ideal.nD Cert.Reference18Ideal.τ).loc Cert.Reference18Ideal.main_v23) = v1 c
          ∧ r.2.mem ((c.tc : Thread Cert.Reference18Ideal.nD Cert.Reference18Ideal.τ).loc Cert.Reference18Ideal.main_v4) = v2 c
          ∧ r.2.mem ((c.tc : Thread Cert.Reference18Ideal.nD Cert.Reference18Ideal.τ).loc Cert.Reference18Ideal.main_v10) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_arg3) = v0 c
          ∧ r.2.mem ((c.tc : Thread Cert.Reference19Ideal.nD Cert.Reference19Ideal.τ).loc Cert.Reference19Ideal.main_v23) = v1 c
          ∧ r.2.mem ((c.tc : Thread Cert.Reference19Ideal.nD Cert.Reference19Ideal.τ).loc Cert.Reference19Ideal.main_v4) = v2 c
          ∧ r.2.mem ((c.tc : Thread Cert.Reference19Ideal.nD Cert.Reference19Ideal.τ).loc Cert.Reference19Ideal.main_v10) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_arg3) = v0 c
          ∧ r.2.mem ((c.tc : Thread Cert.Reference20Ideal.nD Cert.Reference20Ideal.τ).loc Cert.Reference20Ideal.main_v23) = v1 c
          ∧ r.2.mem ((c.tc : Thread Cert.Reference20Ideal.nD Cert.Reference20Ideal.τ).loc Cert.Reference20Ideal.main_v4) = v2 c
          ∧ r.2.mem ((c.tc : Thread Cert.Reference20Ideal.nD Cert.Reference20Ideal.τ).loc Cert.Reference20Ideal.main_v10) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v0) = v0 c
          ∧ r.2.mem ((c.tc : Thread Cert.Reference21Ideal.nD Cert.Reference21Ideal.τ).loc Cert.Reference21Ideal.main_v24) = v1 c
          ∧ r.2.mem ((c.tc : Thread Cert.Reference21Ideal.nD Cert.Reference21Ideal.τ).loc Cert.Reference21Ideal.main_v5) = v2 c
          ∧ r.2.mem ((c.tc : Thread Cert.Reference21Ideal.nD Cert.Reference21Ideal.τ).loc Cert.Reference21Ideal.main_v11) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v0) = v0 c
          ∧ r.2.mem ((c.tc : Thread Cert.Reference22Ideal.nD Cert.Reference22Ideal.τ).loc Cert.Reference22Ideal.main_v24) = v1 c
          ∧ r.2.mem ((c.tc : Thread Cert.Reference22Ideal.nD Cert.Reference22Ideal.τ).loc Cert.Reference22Ideal.main_v5) = v2 c
          ∧ r.2.mem ((c.tc : Thread Cert.Reference22Ideal.nD Cert.Reference22Ideal.τ).loc Cert.Reference22Ideal.main_v11) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v1) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v3) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v3) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v24) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v24) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
-- ==== Pre_finite.lean ====
abbrev S4096x10752 : Shape := ⟨2, ![4096, 10752]⟩
abbrev S4096x2048 : Shape := ⟨2, ![4096, 2048]⟩
abbrev S32x128x256 : Shape := ⟨3, ![32, 128, 256]⟩
abbrev S32 : Shape := ⟨1, ![32]⟩
abbrev S4096x2560 : Shape := ⟨2, ![4096, 2560]⟩
abbrev S_ : Shape := ⟨0, ![]⟩

class Facts : Prop where
  slices_S4096x10752_S4096x2560_0_4096 : S4096x10752.Slices ![0, 4096] S4096x2560
  bitsLt_bf16_f32 : FTy.bits .bf16 < FTy.bits .f32
  bcast_S_S4096x2560 : S_.BroadcastsInDim S4096x2560 (![] : Fin 0 → Fin S4096x2560.rank)
  reducesTo_S4096x2560_S_d0_1 : S4096x2560.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S32x128x256 : S_.BroadcastsInDim S32x128x256 (![] : Fin 0 → Fin S32x128x256.rank)
  reducesTo_S32x128x256_S_d0_1_2 : S32x128x256.ReducesTo [0, 1, 2] S_
  bcast_S_S32 : S_.BroadcastsInDim S32 (![] : Fin 0 → Fin S32.rank)
  reducesTo_S32_S_d0 : S32.ReducesTo [0] S_

variable [Facts]

def fn_part1 {F : FTy → Type} [FloatOps F] (main_v16 : IVec S_ 1) (main_v17 : FVec F S32 .f32) : IVec S_ 1 :=
  let main_cst_4 : FVec F S_ .f32 := constant S_ .f32 0x7F800000#32
  let main_v18 : FVec F S32 .f32 := broadcastInDim S32 ![] bcast_S_S32 main_cst_4
  let main_v19 : IVec S32 1 := cmpf .olt main_v17 main_v18
  let main_c_5 : IVec S_ 1 := constantI S_ 1 1#1
  let main_v20 : IVec S_ 1 := (fun x v => Host.reduce IntOp.andi x v reducesTo_S32_S_d0 h_S_) main_v19 main_c_5
  let main_v21 : IVec S_ 1 := andi main_v16 main_v20
  main_v21

def fn {F : FTy → Type} [FloatOps F] (main_arg0 : FVec F S4096x10752 .bf16) (main_arg1 : FVec F S4096x2048 .bf16) (main_arg2 : FVec F S32x128x256 .f32) (main_arg3 : FVec F S32 .f32) (main_arg4 : FVec F S4096x10752 .bf16) : IVec S_ 1 :=
  let main_v0 : FVec F S4096x2560 .bf16 := (extractStridedSlice S4096x2560 ![0, 4096] · slices_S4096x10752_S4096x2560_0_4096) main_arg0
  let main_v1 : FVec F S4096x2560 .f32 := (extf .f32 · bitsLt_bf16_f32) main_v0
  let main_v2 : FVec F S4096x2560 .f32 := Host.absf main_v1
  let main_cst : FVec F S_ .f32 := constant S_ .f32 0x7F800000#32
  let main_v3 : FVec F S4096x2560 .f32 := broadcastInDim S4096x2560 ![] bcast_S_S4096x2560 main_cst
  let main_v4 : IVec S4096x2560 1 := cmpf .olt main_v2 main_v3
  let main_c : IVec S_ 1 := constantI S_ 1 1#1
  let main_v5 : IVec S_ 1 := (fun x v => Host.reduce IntOp.andi x v reducesTo_S4096x2560_S_d0_1 h_S_) main_v4 main_c
  let main_v6 : FVec F S4096x2048 .f32 := (extf .f32 · bitsLt_bf16_f32) main_arg1
  let main_v7 : FVec F S4096x2048 .f32 := Host.absf main_v6
  let main_cst_0 : FVec F S_ .f32 := constant S_ .f32 0x7F800000#32
  let main_v8 : FVec F S4096x2048 .f32 := broadcastInDim S4096x2048 ![] bcast_S_S4096x2048 main_cst_0
  let main_v9 : IVec S4096x2048 1 := cmpf .olt main_v7 main_v8
  let main_c_1 : IVec S_ 1 := constantI S_ 1 1#1
  let main_v10 : IVec S_ 1 := (fun x v => Host.reduce IntOp.andi x v reducesTo_S4096x2048_S_d0_1 h_S_) main_v9 main_c_1
  let main_v11 : IVec S_ 1 := andi main_v5 main_v10
  let main_v12 : FVec F S32x128x256 .f32 := Host.absf main_arg2
  let main_cst_2 : FVec F S_ .f32 := constant S_ .f32 0x7F800000#32
  let main_v13 : FVec F S32x128x256 .f32 := broadcastInDim S32x128x256 ![] bcast_S_S32x128x256 main_cst_2
  let main_v14 : IVec S32x128x256 1 := cmpf .olt main_v12 main_v13
  let main_c_3 : IVec S_ 1 := constantI S_ 1 1#1
  let main_v15 : IVec S_ 1 := (fun x v => Host.reduce IntOp.andi x v reducesTo_S32x128x256_S_d0_1_2 h_S_) main_v14 main_c_3
  let main_v16 : IVec S_ 1 := andi main_v11 main_v15
  let main_v17 : FVec F S32 .f32 := Host.absf main_arg3
  fn_part1 (F := F) main_v16 main_v17
-- ==== Kernel.lean ====
abbrev S4096x10752 : Shape := ⟨2, ![4096, 10752]⟩
abbrev S4096x2048 : Shape := ⟨2, ![4096, 2048]⟩
abbrev S32x128x256 : Shape := ⟨3, ![32, 128, 256]⟩
abbrev S32 : Shape := ⟨1, ![32]⟩
abbrev S32x128x4x8x64 : Shape := ⟨5, ![32, 128, 4, 8, 64]⟩
abbrev S4096x256 : Shape := ⟨2, ![4096, 256]⟩
abbrev S_ : Shape := ⟨0, ![]⟩
abbrev S4224x256 : Shape := ⟨2, ![4224, 256]⟩
abbrev S33x128x4x64 : Shape := ⟨4, ![33, 128, 4, 64]⟩
abbrev S32x128x4x64 : Shape := ⟨4, ![32, 128, 4, 64]⟩
abbrev S32x256x4x64 : Shape := ⟨4, ![32, 256, 4, 64]⟩
abbrev S32x4x256x128x8 : Shape := ⟨5, ![32, 4, 256, 128, 8]⟩
abbrev S32x4x8x128x256 : Shape := ⟨5, ![32, 4, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S4x8x128x256 : Shape := ⟨4, ![4, 8, 128, 256]⟩
abbrev S32x1x1x128x256 : Shape := ⟨5, ![32, 1, 1, 128, 256]⟩
abbrev S1x4x8x128x256 : Shape := ⟨5, ![1, 4, 8, 128, 256]⟩
abbrev S4x8 : Shape := ⟨2, ![4, 8]⟩
abbrev S1x4x8x1 : Shape := ⟨4, ![1, 4, 8, 1]⟩
abbrev S32x4x8x128 : Shape := ⟨4, ![32, 4, 8, 128]⟩
abbrev S32x4x8x128x1 : Shape := ⟨5, ![32, 4, 8, 128, 1]⟩
abbrev S32x128x4x8 : Shape := ⟨4, ![32, 128, 4, 8]⟩
abbrev S4096x32 : Shape := ⟨2, ![4096, 32]⟩
abbrev S4096x128 : Shape := ⟨2, ![4096, 128]⟩
abbrev S8x128 : Shape := ⟨2, ![8, 128]⟩
abbrev S128x2048 : Shape := ⟨2, ![128, 2048]⟩
abbrev S128x128 : Shape := ⟨2, ![128, 128]⟩
abbrev S1x128 : Shape := ⟨2, ![1, 128]⟩
abbrev S256x256 : Shape := ⟨2, ![256, 256]⟩
abbrev S256x64 : Shape := ⟨2, ![256, 64]⟩
abbrev S256x128 : Shape := ⟨2, ![256, 128]⟩
abbrev S1024x128 : Shape := ⟨2, ![1024, 128]⟩
abbrev S1x128x1 : Shape := ⟨3, ![1, 128, 1]⟩
abbrev S8x128x1 : Shape := ⟨3, ![8, 128, 1]⟩
abbrev S8x128x256 : Shape := ⟨3, ![8, 128, 256]⟩
abbrev S1 : Shape := ⟨1, ![1]⟩
abbrev S1024x256 : Shape := ⟨2, ![1024, 256]⟩
abbrev S8x1 : Shape := ⟨2, ![8, 1]⟩
abbrev S8x1x1 : Shape := ⟨3, ![8, 1, 1]⟩
abbrev S1x1x1 : Shape := ⟨3, ![1, 1, 1]⟩
abbrev S1x1 : Shape := ⟨2, ![1, 1]⟩
abbrev S128x512 : Shape := ⟨2, ![128, 512]⟩

abbrev nBuf : Space → Nat
  | .hbm => 97
  | .vmem => 21
  | .smem => 1
  | _ => 0

abbrev bufTy : (tb : Table) → Fin (tcTables nBuf tb) → BufTy
  | .hbm, ⟨0, _⟩ => ⟨S4096x10752, .bf16⟩
  | .hbm, ⟨1, _⟩ => ⟨S4096x2048, .bf16⟩
  | .hbm, ⟨2, _⟩ => ⟨S32x128x256, .f32⟩
  | .hbm, ⟨3, _⟩ => ⟨S32, .f32⟩
  | .hbm, ⟨4, _⟩ => ⟨S4096x10752, .bf16⟩
  | .hbm, ⟨5, _⟩ => ⟨S4096x10752, .f32⟩
  | .hbm, ⟨6, _⟩ => ⟨S4096x2048, .f32⟩
  | .hbm, ⟨7, _⟩ => ⟨S32x128x4x8x64, .f32⟩
  | .hbm, ⟨8, _⟩ => ⟨S4096x256, .f32⟩
  | .hbm, ⟨9, _⟩ => ⟨S_, .i32⟩
  | .hbm, ⟨10, _⟩ => ⟨S_, .f32⟩
  | .hbm, ⟨11, _⟩ => ⟨S4224x256, .f32⟩
  | .hbm, ⟨12, _⟩ => ⟨S33x128x4x64, .f32⟩
  | .hbm, ⟨13, _⟩ => ⟨S32x128x4x64, .f32⟩
  | .hbm, ⟨14, _⟩ => ⟨S32x128x4x64, .f32⟩
  | .hbm, ⟨15, _⟩ => ⟨S32x256x4x64, .f32⟩
  | .hbm, ⟨16, _⟩ => ⟨S32x4x256x128x8, .f32⟩
  | .hbm, ⟨17, _⟩ => ⟨S32x4x8x128x256, .f32⟩
  | .hbm, ⟨18, _⟩ => ⟨S_, .f32⟩
  | .hbm, ⟨19, _⟩ => ⟨S32x4x8x128x256, .f32⟩
  | .hbm, ⟨20, _⟩ => ⟨S32x4x8x128x256, .f32⟩
  | .hbm, ⟨21, _⟩ => ⟨S128, .i32⟩
  | .hbm, ⟨22, _⟩ => ⟨S128x1, .i32⟩
  | .hbm, ⟨23, _⟩ => ⟨S256, .i32⟩
  | .hbm, ⟨24, _⟩ => ⟨S1x256, .i32⟩
  | .hbm, ⟨25, _⟩ => ⟨S_, .i32⟩
  | .hbm, ⟨26, _⟩ => ⟨S128x1, .i32⟩
  | .hbm, ⟨27, _⟩ => ⟨S128x1, .i32⟩
  | .hbm, ⟨28, _⟩ => ⟨S128x256, .i32⟩
  | .hbm, ⟨29, _⟩ => ⟨S128x256, .i32⟩
  | .hbm, ⟨30, _⟩ => ⟨S128x256, .i32⟩
  | .hbm, ⟨31, _⟩ => ⟨S32, .i32⟩
  | .hbm, ⟨32, _⟩ => ⟨S32x1x1, .i32⟩
  | .hbm, ⟨33, _⟩ => ⟨S_, .i32⟩
  | .hbm, ⟨34, _⟩ => ⟨S32x1x1, .i32⟩
  | .hbm, ⟨35, _⟩ => ⟨S32x1x1, .i32⟩
  | .hbm, ⟨36, _⟩ => ⟨S_, .i32⟩
  | .hbm, ⟨37, _⟩ => ⟨S32x1x1, .i32⟩
  | .hbm, ⟨38, _⟩ => ⟨S32x1x1, .i32⟩
  | .hbm, ⟨39, _⟩ => ⟨S1x1x256, .i32⟩
  | .hbm, ⟨40, _⟩ => ⟨S32x1x256, .i32⟩
  | .hbm, ⟨41, _⟩ => ⟨S32x1x256, .i32⟩
  | .hbm, ⟨42, _⟩ => ⟨S32x1x256, .i32⟩
  | .hbm, ⟨43, _⟩ => ⟨S_, .i32⟩
  | .hbm, ⟨44, _⟩ => ⟨S32x1x256, .i32⟩
  | .hbm, ⟨45, _⟩ => ⟨S32x1x256, .i1⟩
  | .hbm, ⟨46, _⟩ => ⟨S1x128x256, .i32⟩
  | .hbm, ⟨47, _⟩ => ⟨S_, .i32⟩
  | .hbm, ⟨48, _⟩ => ⟨S1x128x256, .i32⟩
  | .hbm, ⟨49, _⟩ => ⟨S1x128x256, .i1⟩
  | .hbm, ⟨50, _⟩ => ⟨S32x128x256, .i1⟩
  | .hbm, ⟨51, _⟩ => ⟨S32x128x256, .i1⟩
  | .hbm, ⟨52, _⟩ => ⟨S32x128x256, .i1⟩
  | .hbm, ⟨53, _⟩ => ⟨S1x128x256, .i32⟩
  | .hbm, ⟨54, _⟩ => ⟨S_, .i32⟩
  | .hbm, ⟨55, _⟩ => ⟨S1x128x256, .i32⟩
  | .hbm, ⟨56, _⟩ => ⟨S1x128x256, .i1⟩
  | .hbm, ⟨57, _⟩ => ⟨S32x128x256, .i1⟩
  | .hbm, ⟨58, _⟩ => ⟨S32x128x256, .i1⟩
  | .hbm, ⟨59, _⟩ => ⟨S4x8x128x256, .f32⟩
  | .hbm, ⟨60, _⟩ => ⟨S32x1x1x128x256, .i1⟩
  | .hbm, ⟨61, _⟩ => ⟨S1x4x8x128x256, .f32⟩
  | .hbm, ⟨62, _⟩ => ⟨S32x4x8x128x256, .f32⟩
  | .hbm, ⟨63, _⟩ => ⟨S32x4x8x128x256, .f32⟩
  | .hbm, ⟨64, _⟩ => ⟨S_, .f32⟩
  | .hbm, ⟨65, _⟩ => ⟨S_, .f32⟩
  | .hbm, ⟨66, _⟩ => ⟨S32x4x8x128x256, .i1⟩
  | .hbm, ⟨67, _⟩ => ⟨S32x4x8x128x256, .f32⟩
  | .hbm, ⟨68, _⟩ => ⟨S32x4x8x128x256, .f32⟩
  | .hbm, ⟨69, _⟩ => ⟨S4x8, .f32⟩
  | .hbm, ⟨70, _⟩ => ⟨S1x4x8x1, .f32⟩
  | .hbm, ⟨71, _⟩ => ⟨S_, .f32⟩
  | .hbm, ⟨72, _⟩ => ⟨S32x4x8x128, .f32⟩
  | .hbm, ⟨73, _⟩ => ⟨S32x4x8x128, .f32⟩
  | .hbm, ⟨74, _⟩ => ⟨S32x4x8x128, .f32⟩
  | .hbm, ⟨75, _⟩ => ⟨S32x4x8x128x1, .f32⟩
  | .hbm, ⟨76, _⟩ => ⟨S32x4x8x128x256, .f32⟩
  | .hbm, ⟨77, _⟩ => ⟨S32x4x8x128x256, .f32⟩
  | .hbm, ⟨78, _⟩ => ⟨S32x4x8x128x256, .f32⟩
  | .hbm, ⟨79, _⟩ => ⟨S_, .f32⟩
  | .hbm, ⟨80, _⟩ => ⟨S32x4x8x128, .f32⟩
  | .hbm, ⟨81, _⟩ => ⟨S32x4x8x128, .f32⟩
  | .hbm, ⟨82, _⟩ => ⟨S32x4x8x128, .f32⟩
  | .hbm, ⟨83, _⟩ => ⟨S32x4x8x128, .f32⟩
  | .hbm, ⟨84, _⟩ => ⟨S32x4x8x128, .f32⟩
  | .hbm, ⟨85, _⟩ => ⟨S32x4x8x128, .f32⟩
  | .hbm, ⟨86, _⟩ => ⟨S32x4x8x128, .f32⟩
  | .hbm, ⟨87, _⟩ => ⟨S32x128x4x8, .f32⟩
  | .hbm, ⟨88, _⟩ => ⟨S4096x32, .f32⟩
  | .hbm, ⟨89, _⟩ => ⟨S_, .i32⟩
  | .hbm, ⟨90, _⟩ => ⟨S_, .f32⟩
  | .hbm, ⟨91, _⟩ => ⟨S4096x128, .f32⟩
  | .hbm, ⟨92, _⟩ => ⟨S4096x10752, .bf16⟩
  | .hbm, ⟨93, _⟩ => ⟨S4224x256, .f32⟩
  | .hbm, ⟨94, _⟩ => ⟨S4224x256, .f32⟩
  | .hbm, ⟨95, _⟩ => ⟨S32x128x256, .f32⟩
  | .hbm, ⟨96, _⟩ => ⟨S8x128, .f32⟩
  | .local _ .vmem, ⟨0, _⟩ => ⟨S128x2048, .bf16⟩
  | .local _ .vmem, ⟨1, _⟩ => ⟨S128x2048, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S32x128x256, .f32⟩
  | .local _ .vmem, ⟨11, _⟩ => ⟨S128x2048, .bf16⟩
  | .local _ .vmem, ⟨12, _⟩ => ⟨S128x2048, .bf16⟩
  | .local _ .vmem, ⟨13, _⟩ => ⟨S128x128, .f32⟩
  | .local _ .vmem, ⟨14, _⟩ => ⟨S128x128, .f32⟩
  | .local _ .vmem, ⟨15, _⟩ => ⟨S128x2048, .bf16⟩
  | .local _ .vmem, ⟨16, _⟩ => ⟨S128x2048, .bf16⟩
  | .local _ .vmem, ⟨17, _⟩ => ⟨S4224x256, .f32⟩
  | .local _ .vmem, ⟨18, _⟩ => ⟨S4224x256, .f32⟩
  | .local _ .vmem, ⟨19, _⟩ => ⟨S32x128x256, .f32⟩
  | .local _ .vmem, ⟨20, _⟩ => ⟨S8x128, .f32⟩
  | .local _ .smem, ⟨0, _⟩ => ⟨S32, .f32⟩
  | _, _ => ⟨S4096x10752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_1 : Ref sig .tc := ⟨.hbm, 33, rfl⟩
abbrev main_v24 : Ref sig .tc := ⟨.hbm, 34, rfl⟩
abbrev main_v25 : Ref sig .tc := ⟨.hbm, 35, rfl⟩
abbrev main_c_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c_5 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_6 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_7 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_8 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_c_9 : Ref sig .tc := ⟨.hbm, 89, rfl⟩
abbrev main_call2_v0 : Ref sig .tc := ⟨.hbm, 90, rfl⟩
abbrev main_v69 : Ref sig .tc := ⟨.hbm, 91, rfl⟩
abbrev main_v70_0 : Ref sig .tc := ⟨.hbm, 92, rfl⟩
abbrev main_v70_1 : Ref sig .tc := ⟨.hbm, 93, rfl⟩
abbrev main_v70_2 : Ref sig .tc := ⟨.hbm, 94, rfl⟩
abbrev main_v70_3 : Ref sig .tc := ⟨.hbm, 95, rfl⟩
abbrev main_v70_4 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg6_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c128_i32_262 : BitVec 32 := 128#32
  let v1166 : BitVec 32 := Scalar.muli arg0 c128_i32_262
  v1166
def k0_off1 (i : grid0.Coords) : Fin 2 → Nat :=
  let arg0 : BitVec 32 := BitVec.ofNat 32 (i 0).val
  let c128_i32_262 : BitVec 32 := 128#32
  let v1166 : BitVec 32 := Scalar.muli arg0 c128_i32_262
  let v1167 : BitVec 32 := v1166
  let v1168 : Index := Scalar.indexCast v1167
  let c0_263 : Index := 0#32
  ![v1168.toNat, 0]
def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c24_i32 : BitVec 32 := 24#32
  let c0_i32_0 : BitVec 32 := 0#32
  ![v1.toNat, c24_i32.toNat]

def cc0_transform_2 (i : grid0.Coords) : Fin 2 → Nat :=
  let arg0 : BitVec 32 := BitVec.ofNat 32 (i 0).val
  let c24_i32 : BitVec 32 := 24#32
  let c0_i32 : BitVec 32 := 0#32
  ![arg0.toNat, c24_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c25_i32 : BitVec 32 := 25#32
  let c0_i32_0 : BitVec 32 := 0#32
  ![v1.toNat, c25_i32.toNat]

def cc0_transform_4 (i : grid0.Coords) : Fin 2 → Nat :=
  let arg0 : BitVec 32 := BitVec.ofNat 32 (i 0).val
  let c25_i32 : BitVec 32 := 25#32
  let c0_i32 : BitVec 32 := 0#32
  ![arg0.toNat, c25_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S32x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S4224x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4224x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x128x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S4096x10752 : Shape := ⟨2, ![4096, 10752]⟩
abbrev S4096x2048 : Shape := ⟨2, ![4096, 2048]⟩
abbrev S32x128x256 : Shape := ⟨3, ![32, 128, 256]⟩
abbrev S32 : Shape := ⟨1, ![32]⟩
abbrev S4096x256 : Shape := ⟨2, ![4096, 256]⟩
abbrev S32x128x4x8x64 : Shape := ⟨5, ![32, 128, 4, 8, 64]⟩
abbrev S_ : Shape := ⟨0, ![]⟩
abbrev S1x128x4x64 : Shape := ⟨4, ![1, 128, 4, 64]⟩
abbrev S32x128x4x64 : Shape := ⟨4, ![32, 128, 4, 64]⟩
abbrev S33x128x4x64 : Shape := ⟨4, ![33, 128, 4, 64]⟩
abbrev S32x256x4x64 : Shape := ⟨4, ![32, 256, 4, 64]⟩
abbrev S32x4x256x128x8 : Shape := ⟨5, ![32, 4, 256, 128, 8]⟩
abbrev S32x4x8x128x256 : Shape := ⟨5, ![32, 4, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S4x8x128x256 : Shape := ⟨4, ![4, 8, 128, 256]⟩
abbrev S32x1x1x128x256 : Shape := ⟨5, ![32, 1, 1, 128, 256]⟩
abbrev S1x4x8x128x256 : Shape := ⟨5, ![1, 4, 8, 128, 256]⟩
abbrev S4x8 : Shape := ⟨2, ![4, 8]⟩
abbrev S1x4x8x1 : Shape := ⟨4, ![1, 4, 8, 1]⟩
abbrev S32x4x8x128 : Shape := ⟨4, ![32, 4, 8, 128]⟩
abbrev S32x4x8x128x1 : Shape := ⟨5, ![32, 4, 8, 128, 1]⟩
abbrev S32x4x64x8x128 : Shape := ⟨5, ![32, 4, 64, 8, 128]⟩
abbrev S32x4x64x256 : Shape := ⟨4, ![32, 4, 64, 256]⟩
abbrev S32x4x128x8x64 : Shape := ⟨5, ![32, 4, 128, 8, 64]⟩
abbrev S32x4x256x64 : Shape := ⟨4, ![32, 4, 256, 64]⟩
abbrev S4096x4096 : Shape := ⟨2, ![4096, 4096]⟩
abbrev S4096x4608 : Shape := ⟨2, ![4096, 4608]⟩
abbrev S4224x256 : Shape := ⟨2, ![4224, 256]⟩
abbrev S1x32 : Shape := ⟨2, ![1, 32]⟩
abbrev S8x128 : Shape := ⟨2, ![8, 128]⟩

abbrev nBuf : Space → Nat
  | .hbm => 236
  | .vmem => 0
  | .smem => 0
  | _ => 0

abbrev hbmTy0_0 (i : Nat) : BufTy := match i % 128 with
  | 0 => ⟨S4096x10752, .bf16⟩
  | 1 => ⟨S4096x2048, .bf16⟩
  | 2 => ⟨S32x128x256, .f32⟩
  | 3 => ⟨S32, .f32⟩
  | 4 => ⟨S4096x10752, .bf16⟩
  | 5 => ⟨S4096x10752, .f32⟩
  | 6 => ⟨S4096x2048, .f32⟩
  | 7 => ⟨S4096x256, .f32⟩
  | 8 => ⟨S4096x256, .f32⟩
  | 9 => ⟨S32x128x4x8x64, .f32⟩
  | 10 => ⟨S_, .f32⟩
  | 11 => ⟨S1x128x4x64, .f32⟩
  | 12 => ⟨S32x128x4x64, .f32⟩
  | 13 => ⟨S33x128x4x64, .f32⟩
  | 14 => ⟨S_, .f32⟩
  | 15 => ⟨S1x128x4x64, .f32⟩
  | 16 => ⟨S32x128x4x64, .f32⟩
  | 17 => ⟨S32x128x4x64, .f32⟩
  | 18 => ⟨S32x256x4x64, .f32⟩
  | 19 => ⟨S_, .f32⟩
  | 20 => ⟨S1x128x4x64, .f32⟩
  | 21 => ⟨S32x128x4x64, .f32⟩
  | 22 => ⟨S33x128x4x64, .f32⟩
  | 23 => ⟨S_, .f32⟩
  | 24 => ⟨S1x128x4x64, .f32⟩
  | 25 => ⟨S32x128x4x64, .f32⟩
  | 26 => ⟨S32x128x4x64, .f32⟩
  | 27 => ⟨S32x256x4x64, .f32⟩
  | 28 => ⟨S32x4x256x128x8, .f32⟩
  | 29 => ⟨S32x4x8x128x256, .f32⟩
  | 30 => ⟨S_, .f32⟩
  | 31 => ⟨S32x4x8x128x256, .f32⟩
  | 32 => ⟨S32x4x8x128x256, .f32⟩
  | 33 => ⟨S128, .i32⟩
  | 34 => ⟨S128x1, .i32⟩
  | 35 => ⟨S256, .i32⟩
  | 36 => ⟨S1x256, .i32⟩
  | 37 => ⟨S_, .i32⟩
  | 38 => ⟨S128x1, .i32⟩
  | 39 => ⟨S128x1, .i32⟩
  | 40 => ⟨S128x256, .i32⟩
  | 41 => ⟨S128x256, .i32⟩
  | 42 => ⟨S128x256, .i32⟩
  | 43 => ⟨S32, .i32⟩
  | 44 => ⟨S32x1x1, .i32⟩
  | 45 => ⟨S_, .i32⟩
  | 46 => ⟨S32x1x1, .i32⟩
  | 47 => ⟨S32x1x1, .i32⟩
  | 48 => ⟨S_, .i32⟩
  | 49 => ⟨S32x1x1, .i32⟩
  | 50 => ⟨S32x1x1, .i32⟩
  | 51 => ⟨S1x1x256, .i32⟩
  | 52 => ⟨S32x1x256, .i32⟩
  | 53 => ⟨S32x1x256, .i32⟩
  | 54 => ⟨S32x1x256, .i32⟩
  | 55 => ⟨S_, .i32⟩
  | 56 => ⟨S32x1x256, .i32⟩
  | 57 => ⟨S32x1x256, .i1⟩
  | 58 => ⟨S1x128x256, .i32⟩
  | 59 => ⟨S_, .i32⟩
  | 60 => ⟨S1x128x256, .i32⟩
  | 61 => ⟨S1x128x256, .i1⟩
  | 62 => ⟨S32x128x256, .i1⟩
  | 63 => ⟨S32x128x256, .i1⟩
  | 64 => ⟨S32x128x256, .i1⟩
  | 65 => ⟨S1x128x256, .i32⟩
  | 66 => ⟨S_, .i32⟩
  | 67 => ⟨S1x128x256, .i32⟩
  | 68 => ⟨S1x128x256, .i1⟩
  | 69 => ⟨S32x128x256, .i1⟩
  | 70 => ⟨S32x128x256, .i1⟩
  | 71 => ⟨S4x8x128x256, .f32⟩
  | 72 => ⟨S32x1x1x128x256, .i1⟩
  | 73 => ⟨S1x4x8x128x256, .f32⟩
  | 74 => ⟨S32x4x8x128x256, .f32⟩
  | 75 => ⟨S32x4x8x128x256, .f32⟩
  | 76 => ⟨S_, .f32⟩
  | 77 => ⟨S_, .f32⟩
  | 78 => ⟨S32x4x8x128x256, .i1⟩
  | 79 => ⟨S32x4x8x128x256, .f32⟩
  | 80 => ⟨S32x4x8x128x256, .f32⟩
  | 81 => ⟨S_, .f32⟩
  | 82 => ⟨S32x4x8x128x256, .f32⟩
  | 83 => ⟨S4x8, .f32⟩
  | 84 => ⟨S1x4x8x1, .f32⟩
  | 85 => ⟨S_, .f32⟩
  | 86 => ⟨S32x4x8x128, .f32⟩
  | 87 => ⟨S32x4x8x128x1, .f32⟩
  | 88 => ⟨S32x4x8x128x256, .f32⟩
  | 89 => ⟨S32x4x8x128x256, .i1⟩
  | 90 => ⟨S32x4x8x128x256, .f32⟩
  | 91 => ⟨S_, .f32⟩
  | 92 => ⟨S32x4x8x128, .f32⟩
  | 93 => ⟨S32x4x8x128, .f32⟩
  | 94 => ⟨S32x4x8x128, .f32⟩
  | 95 => ⟨S32x4x8x128, .f32⟩
  | 96 => ⟨S32x4x8x128, .i1⟩
  | 97 => ⟨S32x4x8x128, .f32⟩
  | 98 => ⟨S32x4x8x128, .i1⟩
  | 99 => ⟨S_, .f32⟩
  | 100 => ⟨S32x4x8x128, .f32⟩
  | 101 => ⟨S_, .f32⟩
  | 102 => ⟨S32x4x8x128, .f32⟩
  | 103 => ⟨S_, .f32⟩
  | 104 => ⟨S32x4x8x128, .f32⟩
  | 105 => ⟨S32x4x8x128, .f32⟩
  | 106 => ⟨S32x4x8x128, .f32⟩
  | 107 => ⟨S32x4x8x128, .f32⟩
  | 108 => ⟨S32x4x8x128, .i1⟩
  | 109 => ⟨S32x4x8x128, .f32⟩
  | 110 => ⟨S32x4x8x128, .i1⟩
  | 111 => ⟨S_, .f32⟩
  | 112 => ⟨S32x4x8x128, .f32⟩
  | 113 => ⟨S_, .f32⟩
  | 114 => ⟨S32x4x8x128, .f32⟩
  | 115 => ⟨S_, .f32⟩
  | 116 => ⟨S32x4x8x128, .f32⟩
  | 117 => ⟨S32x4x8x128, .f32⟩
  | 118 => ⟨S32x4x8x128, .f32⟩
  | 119 => ⟨S32x4x8x128x1, .f32⟩
  | 120 => ⟨S32x4x8x128x256, .f32⟩
  | 121 => ⟨S32x4x8x128x256, .f32⟩
  | 122 => ⟨S32x4x8x128x256, .f32⟩
  | 123 => ⟨S_, .f32⟩
  | 124 => ⟨S32x4x8x128, .f32⟩
  | 125 => ⟨S32x4x8x128, .f32⟩
  | 126 => ⟨S32x4x8x128, .f32⟩
  | 127 => ⟨S32x4x8x128, .f32⟩
  | _ => ⟨S4096x10752, .bf16⟩

abbrev hbmTy0_1 (i : Nat) : BufTy := match i % 128 with
  | 0 => ⟨S32x4x8x128, .f32⟩
  | 1 => ⟨S32x4x8x128x1, .f32⟩
  | 2 => ⟨S32x4x8x128x256, .f32⟩
  | 3 => ⟨S32x4x8x128x256, .f32⟩
  | 4 => ⟨S32x4x8x128x1, .f32⟩
  | 5 => ⟨S_, .f32⟩
  | 6 => ⟨S32x4x8x128x1, .f32⟩
  | 7 => ⟨S32x4x8x128x1, .f32⟩
  | 8 => ⟨S32x4x64x8x128, .f32⟩
  | 9 => ⟨S32x128x4x8x64, .f32⟩
  | 10 => ⟨S4096x2048, .f32⟩
  | 11 => ⟨S4096x2048, .f32⟩
  | 12 => ⟨S32x128x4x8x64, .f32⟩
  | 13 => ⟨S32x4x64x8x128, .f32⟩
  | 14 => ⟨S32x4x8x128x256, .f32⟩
  | 15 => ⟨S32x4x64x256, .f32⟩
  | 16 => ⟨S32x256x4x64, .f32⟩
  | 17 => ⟨S32x4x8x128x256, .f32⟩
  | 18 => ⟨S32x4x8x128x256, .f32⟩
  | 19 => ⟨S32x4x8x128x256, .f32⟩
  | 20 => ⟨S_, .f32⟩
  | 21 => ⟨S32x4x8x128, .f32⟩
  | 22 => ⟨S32x4x8x128x1, .f32⟩
  | 23 => ⟨S32x4x8x128x1, .f32⟩
  | 24 => ⟨S32x4x8x128x256, .f32⟩
  | 25 => ⟨S32x4x8x128x256, .f32⟩
  | 26 => ⟨S_, .f32⟩
  | 27 => ⟨S32x4x8x128, .f32⟩
  | 28 => ⟨S32x4x8x128, .f32⟩
  | 29 => ⟨S_, .f32⟩
  | 30 => ⟨S4x8, .f32⟩
  | 31 => ⟨S1x4x8x1, .f32⟩
  | 32 => ⟨S32x4x8x128, .f32⟩
  | 33 => ⟨S32x4x8x128x256, .f32⟩
  | 34 => ⟨S32x4x8x128x256, .f32⟩
  | 35 => ⟨S32x4x8x128x256, .f32⟩
  | 36 => ⟨S32x4x8x128x256, .f32⟩
  | 37 => ⟨S_, .f32⟩
  | 38 => ⟨S32x4x8x128, .f32⟩
  | 39 => ⟨S32x4x8x128x1, .f32⟩
  | 40 => ⟨S_, .f32⟩
  | 41 => ⟨S32x4x8x128, .f32⟩
  | 42 => ⟨S32x4x8x128, .f32⟩
  | 43 => ⟨S32x4x8x128, .f32⟩
  | 44 => ⟨S_, .f32⟩
  | 45 => ⟨S4x8, .f32⟩
  | 46 => ⟨S1x4x8x1, .f32⟩
  | 47 => ⟨S1x4x8x1, .f32⟩
  | 48 => ⟨S32x4x8x128, .f32⟩
  | 49 => ⟨S32x4x8x128, .f32⟩
  | 50 => ⟨S32x4x8x128x256, .f32⟩
  | 51 => ⟨S32x4x8x128x256, .f32⟩
  | 52 => ⟨S32x4x8x128x256, .f32⟩
  | 53 => ⟨S_, .f32⟩
  | 54 => ⟨S4x8, .f32⟩
  | 55 => ⟨S32, .f32⟩
  | 56 => ⟨S_, .f32⟩
  | 57 => ⟨S32x4x8x128x256, .f32⟩
  | 58 => ⟨S32x4x8x128x256, .f32⟩
  | 59 => ⟨S_, .f32⟩
  | 60 => ⟨S4x8x128x256, .f32⟩
  | 61 => ⟨S1x4x8x128x256, .f32⟩
  | 62 => ⟨S_, .f32⟩
  | 63 => ⟨S4x8x128x256, .f32⟩
  | 64 => ⟨S32x128x256, .f32⟩
  | 65 => ⟨S_, .f32⟩
  | 66 => ⟨S32x4x8x128x256, .f32⟩
  | 67 => ⟨S32x4x8x128x256, .f32⟩
  | 68 => ⟨S32x4x256x128x8, .f32⟩
  | 69 => ⟨S32x4x128x8x64, .f32⟩
  | 70 => ⟨S32x128x4x8x64, .f32⟩
  | 71 => ⟨S32x4x256x64, .f32⟩
  | 72 => ⟨S32x256x4x64, .f32⟩
  | 73 => ⟨S32x128x4x64, .f32⟩
  | 74 => ⟨S32x128x4x64, .f32⟩
  | 75 => ⟨S_, .f32⟩
  | 76 => ⟨S33x128x4x64, .f32⟩
  | 77 => ⟨S_, .f32⟩
  | 78 => ⟨S33x128x4x64, .f32⟩
  | 79 => ⟨S33x128x4x64, .f32⟩
  | 80 => ⟨S1x128x4x64, .f32⟩
  | 81 => ⟨S32x128x4x64, .f32⟩
  | 82 => ⟨S4096x256, .f32⟩
  | 83 => ⟨S32x128x4x64, .f32⟩
  | 84 => ⟨S32x128x4x64, .f32⟩
  | 85 => ⟨S_, .f32⟩
  | 86 => ⟨S33x128x4x64, .f32⟩
  | 87 => ⟨S_, .f32⟩
  | 88 => ⟨S33x128x4x64, .f32⟩
  | 89 => ⟨S33x128x4x64, .f32⟩
  | 90 => ⟨S1x128x4x64, .f32⟩
  | 91 => ⟨S32x128x4x64, .f32⟩
  | 92 => ⟨S4096x256, .f32⟩
  | 93 => ⟨S4096x2048, .f32⟩
  | 94 => ⟨S4096x4096, .bf16⟩
  | 95 => ⟨S4096x2048, .bf16⟩
  | 96 => ⟨S4096x4608, .bf16⟩
  | 97 => ⟨S4096x10752, .bf16⟩
  | 98 => ⟨S_, .i32⟩
  | 99 => ⟨S_, .f32⟩
  | 100 => ⟨S4224x256, .f32⟩
  | 101 => ⟨S_, .i32⟩
  | 102 => ⟨S_, .f32⟩
  | 103 => ⟨S4224x256, .f32⟩
  | 104 => ⟨S1x32, .f32⟩
  | 105 => ⟨S_, .i32⟩
  | 106 => ⟨S_, .f32⟩
  | 107 => ⟨S8x128, .f32⟩
  | _ => ⟨S4096x10752, .bf16⟩

abbrev hbmTy (i : Nat) : BufTy := match i / 128 with
  | 0 => hbmTy0_0 i
  | 1 => hbmTy0_1 i
  | _ => ⟨S4096x10752, .bf16⟩

abbrev bufTy : (tb : Table) → Fin (tcTables nBuf tb) → BufTy
  | .hbm, ⟨i, _⟩ => hbmTy i
  | _, _ => ⟨S4096x10752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c_4 : Ref sig .tc := ⟨.hbm, 45, rfl⟩
abbrev main_v34 : Ref sig .tc := ⟨.hbm, 46, rfl⟩
abbrev main_v35 : Ref sig .tc := ⟨.hbm, 47, rfl⟩
abbrev main_c_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c_6 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c_7 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_c_8 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_9 : Ref sig .tc := ⟨.hbm, 76, rfl⟩
abbrev main_call0_v0 : Ref sig .tc := ⟨.hbm, 77, rfl⟩
abbrev main_v60_1 : Ref sig .tc := ⟨.hbm, 78, rfl⟩
abbrev main_call0_v2 : Ref sig .tc := ⟨.hbm, 79, rfl⟩
abbrev main_v60_0 : Ref sig .tc := ⟨.hbm, 80, rfl⟩
abbrev main_call0_cst : Ref sig .tc := ⟨.hbm, 81, rfl⟩
abbrev main_v60_2 : Ref sig .tc := ⟨.hbm, 82, rfl⟩
abbrev main_v61 : Ref sig .tc := ⟨.hbm, 83, rfl⟩
abbrev main_v62 : Ref sig .tc := ⟨.hbm, 84, rfl⟩
abbrev main_cst_10 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_11 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_12 : Ref sig .tc := ⟨.hbm, 99, rfl⟩
abbrev main_v75 : Ref sig .tc := ⟨.hbm, 100, rfl⟩
abbrev main_cst_13 : Ref sig .tc := ⟨.hbm, 101, rfl⟩
abbrev main_v76 : Ref sig .tc := ⟨.hbm, 102, rfl⟩
abbrev main_cst_14 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_15 : Ref sig .tc := ⟨.hbm, 111, rfl⟩
abbrev main_v84 : Ref sig .tc := ⟨.hbm, 112, rfl⟩
abbrev main_cst_16 : Ref sig .tc := ⟨.hbm, 113, rfl⟩
abbrev main_v85 : Ref sig .tc := ⟨.hbm, 114, rfl⟩
abbrev main_cst_17 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_cst_18 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_cst_19 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_cst_20 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_cst_21 : Ref sig .tc := ⟨.hbm, 154, rfl⟩
abbrev main_v121 : Ref sig .tc := ⟨.hbm, 155, rfl⟩
abbrev main_v122 : Ref sig .tc := ⟨.hbm, 156, rfl⟩
abbrev main_cst_22 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_cst_23 : Ref sig .tc := ⟨.hbm, 165, rfl⟩
abbrev main_v130 : Ref sig .tc := ⟨.hbm, 166, rfl⟩
abbrev main_v131 : Ref sig .tc := ⟨.hbm, 167, rfl⟩
abbrev main_cst_24 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_cst_25 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_cst_26 : Ref sig .tc := ⟨.hbm, 181, rfl⟩
abbrev main_v143 : Ref sig .tc := ⟨.hbm, 182, rfl⟩
abbrev main_v144 : Ref sig .tc := ⟨.hbm, 183, rfl⟩
abbrev main_call1_cst : Ref sig .tc := ⟨.hbm, 184, rfl⟩
abbrev main_call1_v0 : Ref sig .tc := ⟨.hbm, 185, rfl⟩
abbrev main_v145 : Ref sig .tc := ⟨.hbm, 186, rfl⟩
abbrev main_cst_27 : Ref sig .tc := ⟨.hbm, 187, rfl⟩
abbrev main_v146 : Ref sig .tc := ⟨.hbm, 188, rfl⟩
abbrev main_v147 : Ref sig .tc := ⟨.hbm, 189, rfl⟩
abbrev main_cst_28 : Ref sig .tc := ⟨.hbm, 190, rfl⟩
abbrev main_v148 : Ref sig .tc := ⟨.hbm, 191, rfl⟩
abbrev main_v149 : Ref sig .tc := ⟨.hbm, 192, rfl⟩
abbrev main_cst_29 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_cst_30 : Ref sig .tc := ⟨.hbm, 203, rfl⟩
abbrev main_v159 : Ref sig .tc := ⟨.hbm, 204, rfl⟩
abbrev main_cst_31 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_cst_32 : Ref sig .tc := ⟨.hbm, 213, rfl⟩
abbrev main_v167 : Ref sig .tc := ⟨.hbm, 214, rfl⟩
abbrev main_cst_33 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_c_34 : Ref sig .tc := ⟨.hbm, 226, rfl⟩
abbrev main_call2_v0 : Ref sig .tc := ⟨.hbm, 227, rfl⟩
abbrev main_v178 : Ref sig .tc := ⟨.hbm, 228, rfl⟩
abbrev main_c_35 : Ref sig .tc := ⟨.hbm, 229, rfl⟩
abbrev main_call3_v0 : Ref sig .tc := ⟨.hbm, 230, rfl⟩
abbrev main_v179 : Ref sig .tc := ⟨.hbm, 231, rfl⟩
abbrev main_v180 : Ref sig .tc := ⟨.hbm, 232, rfl⟩
abbrev main_c_36 : Ref sig .tc := ⟨.hbm, 233, rfl⟩
abbrev main_call4_v0 : Ref sig .tc := ⟨.hbm, 234, rfl⟩
abbrev main_v181 : Ref sig .tc := ⟨.hbm, 235, rfl⟩

abbrev nD : Nat := 1
abbrev τ : Topo := Topo.v7x

variable {F : FTy → Type} [FloatOps F]
-- ==== Kernel2.lean ====
abbrev S4096x2048 : Shape := ⟨2, ![4096, 2048]⟩
abbrev S8192x2048 : Shape := ⟨2, ![8192, 2048]⟩
abbrev S4096x8192 : Shape := ⟨2, ![4096, 8192]⟩
abbrev S1024x2048 : Shape := ⟨2, ![1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .bf16⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S4096x2048 : Shape := ⟨2, ![4096, 2048]⟩
abbrev S8192x2048 : Shape := ⟨2, ![8192, 2048]⟩
abbrev S4096x8192 : Shape := ⟨2, ![4096, 8192]⟩
abbrev S_ : Shape := ⟨0, ![]⟩
abbrev S2048x8192 : Shape := ⟨2, ![2048, 8192]⟩

abbrev nBuf : Space → Nat
  | .hbm => 27
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .bf16⟩
  | .hbm, ⟨3, _⟩ => ⟨S4096x8192, .f32⟩
  | .hbm, ⟨4, _⟩ => ⟨S8192x2048, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .i1⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x2048, .f32⟩
  | .hbm, ⟨18, _⟩ => ⟨S4096x2048, .f32⟩
  | .hbm, ⟨19, _⟩ => ⟨S2048x8192, .f32⟩
  | .hbm, ⟨20, _⟩ => ⟨S8192x2048, .f32⟩
  | .hbm, ⟨21, _⟩ => ⟨S4096x8192, .f32⟩
  | .hbm, ⟨22, _⟩ => ⟨S4096x8192, .f32⟩
  | .hbm, ⟨23, _⟩ => ⟨S_, .f32⟩
  | .hbm, ⟨24, _⟩ => ⟨S4096x8192, .f32⟩
  | .hbm, ⟨25, _⟩ => ⟨S4096x8192, .f32⟩
  | .hbm, ⟨26, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Kernel3.lean ====
abbrev S4096x2048 : Shape := ⟨2, ![4096, 2048]⟩
abbrev S8192x2048 : Shape := ⟨2, ![8192, 2048]⟩
abbrev S4096x8192 : Shape := ⟨2, ![4096, 8192]⟩
abbrev S_ : Shape := ⟨0, ![]⟩
abbrev S2048x512 : Shape := ⟨2, ![2048, 512]⟩
abbrev S2048x2048 : Shape := ⟨2, ![2048, 2048]⟩
abbrev S512x2048 : Shape := ⟨2, ![512, 2048]⟩

abbrev nBuf : Space → Nat
  | .hbm => 10
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .bf16⟩
  | .hbm, ⟨3, _⟩ => ⟨S4096x8192, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S4096x8192, .bf16⟩
  | .hbm, ⟨9, _⟩ => ⟨S8192x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2048 : Shape := ⟨2, ![4096, 2048]⟩
abbrev S8192x2048 : Shape := ⟨2, ![8192, 2048]⟩
abbrev S4096x8192 : Shape := ⟨2, ![4096, 8192]⟩
abbrev S_ : Shape := ⟨0, ![]⟩
abbrev S2048x8192 : Shape := ⟨2, ![2048, 8192]⟩

abbrev nBuf : Space → Nat
  | .hbm => 27
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .bf16⟩
  | .hbm, ⟨3, _⟩ => ⟨S4096x8192, .f32⟩
  | .hbm, ⟨4, _⟩ => ⟨S8192x2048, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .i1⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x2048, .f32⟩
  | .hbm, ⟨18, _⟩ => ⟨S4096x2048, .f32⟩
  | .hbm, ⟨19, _⟩ => ⟨S2048x8192, .f32⟩
  | .hbm, ⟨20, _⟩ => ⟨S8192x2048, .f32⟩
  | .hbm, ⟨21, _⟩ => ⟨S4096x8192, .f32⟩
  | .hbm, ⟨22, _⟩ => ⟨S4096x8192, .f32⟩
  | .hbm, ⟨23, _⟩ => ⟨S_, .f32⟩
  | .hbm, ⟨24, _⟩ => ⟨S4096x8192, .f32⟩
  | .hbm, ⟨25, _⟩ => ⟨S4096x8192, .f32⟩
  | .hbm, ⟨26, _⟩ => ⟨S8192x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Kernel4.lean ====
abbrev S4096x2048 : Shape := ⟨2, ![4096, 2048]⟩
abbrev S2048x2048 : Shape := ⟨2, ![2048, 2048]⟩
abbrev S4096x10752 : Shape := ⟨2, ![4096, 10752]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 9
  | .vmem => 20
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x10752, .bf16⟩
  | .hbm, ⟨3, _⟩ => ⟨S4096x2048, .bf16⟩
  | .hbm, ⟨4, _⟩ => ⟨S4096x2048, .bf16⟩
  | .hbm, ⟨5, _⟩ => ⟨S4096x2048, .bf16⟩
  | .hbm, ⟨6, _⟩ => ⟨S4096x2048, .bf16⟩
  | .hbm, ⟨7, _⟩ => ⟨S4096x10752, .bf16⟩
  | .hbm, ⟨8, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c13_i32 : BitVec 32 := 13#32
  let v0 : BitVec 32 := Scalar.addi arg1 c13_i32
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.addi arg1 c17_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c13_i32 : BitVec 32 := 13#32
  let v0 : BitVec 32 := Scalar.addi arg1 c13_i32
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== Reference4Ideal.lean ====
abbrev S4096x2048 : Shape := ⟨2, ![4096, 2048]⟩
abbrev S2048x2048 : Shape := ⟨2, ![2048, 2048]⟩
abbrev S4096x10752 : Shape := ⟨2, ![4096, 10752]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x10752, .bf16⟩
  | .hbm, ⟨3, _⟩ => ⟨S4096x2048, .bf16⟩
  | .hbm, ⟨4, _⟩ => ⟨S4096x2048, .bf16⟩
  | .hbm, ⟨5, _⟩ => ⟨S4096x10752, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S2048x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .bf16⟩
  | .hbm, ⟨48, _⟩ => ⟨S4096x2048, .bf16⟩
  | .hbm, ⟨49, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Kernel5.lean ====
abbrev S4096x2048 : Shape := ⟨2, ![4096, 2048]⟩
abbrev S2048x2048 : Shape := ⟨2, ![2048, 2048]⟩
abbrev S2048x512 : Shape := ⟨2, ![2048, 512]⟩
abbrev S512x2048 : Shape := ⟨2, ![512, 2048]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .hbm, ⟨3, _⟩ => ⟨S2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2048 : Shape := ⟨2, ![4096, 2048]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S4096x2048, .f32⟩
  | .hbm, ⟨10, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .hbm, ⟨3, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2048 : Shape := ⟨2, ![4096, 2048]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S4096x2048, .f32⟩
  | .hbm, ⟨10, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel7.lean ====
abbrev S4096x2048 : Shape := ⟨2, ![4096, 2048]⟩
abbrev S2048x2048 : Shape := ⟨2, ![2048, 2048]⟩
abbrev S2048x512 : Shape := ⟨2, ![2048, 512]⟩
abbrev S512x2048 : Shape := ⟨2, ![512, 2048]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .hbm, ⟨3, _⟩ => ⟨S2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2048 : Shape := ⟨2, ![4096, 2048]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S4096x2048, .f32⟩
  | .hbm, ⟨10, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .hbm, ⟨3, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2048 : Shape := ⟨2, ![4096, 2048]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S4096x2048, .f32⟩
  | .hbm, ⟨10, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel9.lean ====
abbrev S4096x2048 : Shape := ⟨2, ![4096, 2048]⟩
abbrev S2048x2048 : Shape := ⟨2, ![2048, 2048]⟩
abbrev S2048x512 : Shape := ⟨2, ![2048, 512]⟩
abbrev S512x2048 : Shape := ⟨2, ![512, 2048]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .hbm, ⟨3, _⟩ => ⟨S2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x2048 : Shape := ⟨2, ![4096, 2048]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S4096x2048, .f32⟩
  | .hbm, ⟨10, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel10.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2048 : Shape := ⟨2, ![4096, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | .hbm, ⟨5, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel11.lean ====
abbrev S4096x2048 : Shape := ⟨2, ![4096, 2048]⟩
abbrev S2048x2048 : Shape := ⟨2, ![2048, 2048]⟩
abbrev S4096x10752 : Shape := ⟨2, ![4096, 10752]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 6
  | .vmem => 14
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .hbm, ⟨3, _⟩ => ⟨S4096x10752, .bf16⟩
  | .hbm, ⟨4, _⟩ => ⟨S4096x2048, .bf16⟩
  | .hbm, ⟨5, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c13_i32 : BitVec 32 := 13#32
  let v0 : BitVec 32 := Scalar.addi arg1 c13_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.addi arg1 c17_i32
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference11Ideal.lean ====
abbrev S4096x2048 : Shape := ⟨2, ![4096, 2048]⟩
abbrev S2048x2048 : Shape := ⟨2, ![2048, 2048]⟩
abbrev S4096x10752 : Shape := ⟨2, ![4096, 10752]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .hbm, ⟨3, _⟩ => ⟨S4096x10752, .bf16⟩
  | .hbm, ⟨4, _⟩ => ⟨S4096x10752, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S2048x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .bf16⟩
  | .hbm, ⟨31, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel12.lean ====
abbrev S4096x2048 : Shape := ⟨2, ![4096, 2048]⟩
abbrev S2048x2048 : Shape := ⟨2, ![2048, 2048]⟩
abbrev S8x2048 : Shape := ⟨2, ![8, 2048]⟩
abbrev S1024x2048 : Shape := ⟨2, ![1024, 2048]⟩
abbrev S2048x1024 : Shape := ⟨2, ![2048, 1024]⟩
abbrev S1024x1024 : Shape := ⟨2, ![1024, 1024]⟩
abbrev S8x1024 : Shape := ⟨2, ![8, 1024]⟩
abbrev S1x1024 : Shape := ⟨2, ![1, 1024]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S8x2048, .f32⟩
  | .hbm, ⟨4, _⟩ => ⟨S4096x2048, .bf16⟩
  | .hbm, ⟨5, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S8x1024, .f32⟩
  | .local _ .vmem, ⟨7, _⟩ => ⟨S8x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference12Ideal.lean ====
abbrev S4096x2048 : Shape := ⟨2, ![4096, 2048]⟩
abbrev S2048x2048 : Shape := ⟨2, ![2048, 2048]⟩
abbrev S8x2048 : Shape := ⟨2, ![8, 2048]⟩
abbrev S1x2048 : Shape := ⟨2, ![1, 2048]⟩
abbrev S2048 : Shape := ⟨1, ![2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S8x2048, .f32⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S1x2048, .f32⟩
  | .hbm, ⟨8, _⟩ => ⟨S2048, .f32⟩
  | .hbm, ⟨9, _⟩ => ⟨S4096x2048, .bf16⟩
  | .hbm, ⟨10, _⟩ => ⟨S1x2048, .f32⟩
  | .hbm, ⟨11, _⟩ => ⟨S4096x2048, .f32⟩
  | .hbm, ⟨12, _⟩ => ⟨S4096x2048, .f32⟩
  | .hbm, ⟨13, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel13.lean ====
abbrev S4096x2048 : Shape := ⟨2, ![4096, 2048]⟩
abbrev S8192x2048 : Shape := ⟨2, ![8192, 2048]⟩
abbrev S4096x8192 : Shape := ⟨2, ![4096, 8192]⟩
abbrev S1024x2048 : Shape := ⟨2, ![1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .bf16⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S4096x2048 : Shape := ⟨2, ![4096, 2048]⟩
abbrev S8192x2048 : Shape := ⟨2, ![8192, 2048]⟩
abbrev S4096x8192 : Shape := ⟨2, ![4096, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x2048, .f32⟩
  | .hbm, ⟨3, _⟩ => ⟨S8192x2048, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S4096x8192, .bf16⟩
  | .hbm, ⟨10, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel14.lean ====
abbrev S4096x8192 : Shape := ⟨2, ![4096, 8192]⟩
abbrev S4096x2048 : Shape := ⟨2, ![4096, 2048]⟩
abbrev S8192x2048 : Shape := ⟨2, ![8192, 2048]⟩
abbrev S2048x512 : Shape := ⟨2, ![2048, 512]⟩
abbrev S2048x2048 : Shape := ⟨2, ![2048, 2048]⟩
abbrev S512x2048 : Shape := ⟨2, ![512, 2048]⟩

abbrev nBuf : Space → Nat
  | .hbm => 4
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S8192x2048, .bf16⟩
  | .hbm, ⟨3, _⟩ => ⟨S8192x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x8192 : Shape := ⟨2, ![4096, 8192]⟩
abbrev S4096x2048 : Shape := ⟨2, ![4096, 2048]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S8192x2048, .bf16⟩
  | .hbm, ⟨3, _⟩ => ⟨S4096x2048, .f32⟩
  | .hbm, ⟨4, _⟩ => ⟨S8192x2048, .f32⟩
  | .hbm, ⟨5, _⟩ => ⟨S4096x8192, .f32⟩
  | .hbm, ⟨6, _⟩ => ⟨S4096x8192, .f32⟩
  | .hbm, ⟨7, _⟩ => ⟨S8192x2048, .f32⟩
  | .hbm, ⟨8, _⟩ => ⟨S4096x2048, .f32⟩
  | .hbm, ⟨9, _⟩ => ⟨S8192x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel15.lean ====
abbrev S4096x10752 : Shape := ⟨2, ![4096, 10752]⟩
abbrev S4096x2048 : Shape := ⟨2, ![4096, 2048]⟩
abbrev S10752x2048 : Shape := ⟨2, ![10752, 2048]⟩
abbrev S2048x768 : Shape := ⟨2, ![2048, 768]⟩
abbrev S2048x2048 : Shape := ⟨2, ![2048, 2048]⟩
abbrev S768x2048 : Shape := ⟨2, ![768, 2048]⟩

abbrev nBuf : Space → Nat
  | .hbm => 4
  | .vmem => 7
  | .smem => 0
  | _ => 0

abbrev bufTy : (tb : Table) → Fin (tcTables nBuf tb) → BufTy
  | .hbm, ⟨0, _⟩ => ⟨S4096x10752, .bf16⟩
  | .hbm, ⟨1, _⟩ => ⟨S4096x2048, .bf16⟩
  | .hbm, ⟨2, _⟩ => ⟨S10752x2048, .bf16⟩
  | .hbm, ⟨3, _⟩ => ⟨S10752x2048, .bf16⟩
  | .local _ .vmem, ⟨0, _⟩ => ⟨S2048x768, .bf16⟩
  | .local _ .vmem, ⟨1, _⟩ => ⟨S2048x768, .bf16⟩
  | .local _ .vmem, ⟨2, _⟩ => ⟨S2048x2048, .bf16⟩
  | .local _ .vmem, ⟨3, _⟩ => ⟨S2048x2048, .bf16⟩
  | .local _ .vmem, ⟨4, _⟩ => ⟨S768x2048, .bf16⟩
  | .local _ .vmem, ⟨5, _⟩ => ⟨S768x2048, .bf16⟩
  | .local _ .vmem, ⟨6, _⟩ => ⟨S768x2048, .f32⟩
  | _, _ => ⟨S4096x10752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![14, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x10752 : Shape := ⟨2, ![4096, 10752]⟩
abbrev S4096x2048 : Shape := ⟨2, ![4096, 2048]⟩
abbrev S10752x2048 : Shape := ⟨2, ![10752, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x10752, .bf16⟩
  | .hbm, ⟨1, _⟩ => ⟨S4096x2048, .bf16⟩
  | .hbm, ⟨2, _⟩ => ⟨S10752x2048, .bf16⟩
  | .hbm, ⟨3, _⟩ => ⟨S4096x2048, .f32⟩
  | .hbm, ⟨4, _⟩ => ⟨S10752x2048, .f32⟩
  | .hbm, ⟨5, _⟩ => ⟨S4096x10752, .f32⟩
  | .hbm, ⟨6, _⟩ => ⟨S4096x10752, .f32⟩
  | .hbm, ⟨7, _⟩ => ⟨S10752x2048, .f32⟩
  | .hbm, ⟨8, _⟩ => ⟨S4096x2048, .f32⟩
  | .hbm, ⟨9, _⟩ => ⟨S10752x2048, .bf16⟩
  | _, _ => ⟨S4096x10752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel16.lean ====
abbrev S4096x10752 : Shape := ⟨2, ![4096, 10752]⟩
abbrev S4096x2048 : Shape := ⟨2, ![4096, 2048]⟩
abbrev S10752x2048 : Shape := ⟨2, ![10752, 2048]⟩
abbrev S1024x2688 : Shape := ⟨2, ![1024, 2688]⟩
abbrev S2688x1024 : Shape := ⟨2, ![2688, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x10752, .bf16⟩
  | .hbm, ⟨1, _⟩ => ⟨S4096x2048, .bf16⟩
  | .hbm, ⟨2, _⟩ => ⟨S10752x2048, .bf16⟩
  | .hbm, ⟨3, _⟩ => ⟨S4096x2048, .bf16⟩
  | .hbm, ⟨4, _⟩ => ⟨S4096x2048, .bf16⟩
  | .local _ .vmem, ⟨0, _⟩ => ⟨S1024x2688, .bf16⟩
  | .local _ .vmem, ⟨1, _⟩ => ⟨S1024x2688, .bf16⟩
  | .local _ .vmem, ⟨2, _⟩ => ⟨S2688x1024, .bf16⟩
  | .local _ .vmem, ⟨3, _⟩ => ⟨S2688x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x10752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg0 c2_i32
  let c0_i32 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg0 c2_i32
  let c0_i32 : BitVec 32 := 0#32
  ![v0.toNat, arg1.toNat]

abbrev stage0_0 : Fin 2 → Memref sig .tc .vmem S1024x2688 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2688x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x10752 : Shape := ⟨2, ![4096, 10752]⟩
abbrev S4096x2048 : Shape := ⟨2, ![4096, 2048]⟩
abbrev S10752x2048 : Shape := ⟨2, ![10752, 2048]⟩
abbrev S2048x2048 : Shape := ⟨2, ![2048, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x10752, .bf16⟩
  | .hbm, ⟨1, _⟩ => ⟨S4096x2048, .bf16⟩
  | .hbm, ⟨2, _⟩ => ⟨S10752x2048, .bf16⟩
  | .hbm, ⟨3, _⟩ => ⟨S4096x2048, .bf16⟩
  | .hbm, ⟨4, _⟩ => ⟨S4096x2048, .f32⟩
  | .hbm, ⟨5, _⟩ => ⟨S10752x2048, .f32⟩
  | .hbm, ⟨6, _⟩ => ⟨S4096x10752, .f32⟩
  | .hbm, ⟨7, _⟩ => ⟨S4096x10752, .f32⟩
  | .hbm, ⟨8, _⟩ => ⟨S10752x2048, .f32⟩
  | .hbm, ⟨9, _⟩ => ⟨S4096x2048, .f32⟩
  | .hbm, ⟨10, _⟩ => ⟨S4096x2048, .bf16⟩
  | .hbm, ⟨11, _⟩ => ⟨S2048x2048, .bf16⟩
  | .hbm, ⟨12, _⟩ => ⟨S2048x2048, .bf16⟩
  | .hbm, ⟨13, _⟩ => ⟨S4096x2048, .bf16⟩
  | _, _ => ⟨S4096x10752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel17.lean ====
abbrev S2048x1024 : Shape := ⟨2, ![2048, 1024]⟩
abbrev S128x1024 : Shape := ⟨2, ![128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference17Ideal.lean ====
abbrev S2048x1024 : Shape := ⟨2, ![2048, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S2048x1536 : Shape := ⟨2, ![2048, 1536]⟩
abbrev S128x1536 : Shape := ⟨2, ![128, 1536]⟩

abbrev nBuf : Space → Nat
  | .hbm => 8
  | .vmem => 16
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | .local _ .vmem, ⟨14, _⟩ => ⟨S128x1536, .f32⟩
  | .local _ .vmem, ⟨15, _⟩ => ⟨S128x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference18Ideal.lean ====
abbrev S2048x1536 : Shape := ⟨2, ![2048, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S_, .f32⟩
  | .hbm, ⟨5, _⟩ => ⟨S2048x1536, .f32⟩
  | .hbm, ⟨6, _⟩ => ⟨S2048x1536, .f32⟩
  | .hbm, ⟨7, _⟩ => ⟨S_, .f32⟩
  | .hbm, ⟨8, _⟩ => ⟨S2048x1536, .f32⟩
  | .hbm, ⟨9, _⟩ => ⟨S2048x1536, .f32⟩
  | .hbm, ⟨10, _⟩ => ⟨S2048x1536, .f32⟩
  | .hbm, ⟨11, _⟩ => ⟨S_, .f32⟩
  | .hbm, ⟨12, _⟩ => ⟨S2048x1536, .f32⟩
  | .hbm, ⟨13, _⟩ => ⟨S2048x1536, .f32⟩
  | .hbm, ⟨14, _⟩ => ⟨S2048x1536, .f32⟩
  | .hbm, ⟨15, _⟩ => ⟨S_, .f32⟩
  | .hbm, ⟨16, _⟩ => ⟨S2048x1536, .f32⟩
  | .hbm, ⟨17, _⟩ => ⟨S2048x1536, .f32⟩
  | .hbm, ⟨18, _⟩ => ⟨S2048x1536, .f32⟩
  | .hbm, ⟨19, _⟩ => ⟨S_, .f32⟩
  | .hbm, ⟨20, _⟩ => ⟨S2048x1536, .f32⟩
  | .hbm, ⟨21, _⟩ => ⟨S2048x1536, .f32⟩
  | .hbm, ⟨22, _⟩ => ⟨S_, .f32⟩
  | .hbm, ⟨23, _⟩ => ⟨S2048x1536, .f32⟩
  | .hbm, ⟨24, _⟩ => ⟨S2048x1536, .f32⟩
  | .hbm, ⟨25, _⟩ => ⟨S2048x1536, .f32⟩
  | .hbm, ⟨26, _⟩ => ⟨S_, .f32⟩
  | .hbm, ⟨27, _⟩ => ⟨S2048x1536, .f32⟩
  | .hbm, ⟨28, _⟩ => ⟨S2048x1536, .f32⟩
  | .hbm, ⟨29, _⟩ => ⟨S2048x1536, .f32⟩
  | .hbm, ⟨30, _⟩ => ⟨S_, .f32⟩
  | .hbm, ⟨31, _⟩ => ⟨S2048x1536, .f32⟩
  | .hbm, ⟨32, _⟩ => ⟨S2048x1536, .f32⟩
  | .hbm, ⟨33, _⟩ => ⟨S2048x1536, .f32⟩
  | .hbm, ⟨34, _⟩ => ⟨S_, .f32⟩
  | .hbm, ⟨35, _⟩ => ⟨S2048x1536, .f32⟩
  | .hbm, ⟨36, _⟩ => ⟨S2048x1536, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S2048x1344 : Shape := ⟨2, ![2048, 1344]⟩
abbrev S128x1344 : Shape := ⟨2, ![128, 1344]⟩

abbrev nBuf : Space → Nat
  | .hbm => 8
  | .vmem => 16
  | .smem => 0
  | _ => 0

abbrev bufTy : (tb : Table) → Fin (tcTables nBuf tb) → BufTy
  | .hbm, ⟨0, _⟩ => ⟨S2048x1344, .f32⟩
  | .hbm, ⟨1, _⟩ => ⟨S2048x1344, .f32⟩
  | .hbm, ⟨2, _⟩ => ⟨S2048x1344, .f32⟩
  | .hbm, ⟨3, _⟩ => ⟨S2048x1344, .f32⟩
  | .hbm, ⟨4, _⟩ => ⟨S2048x1344, .f32⟩
  | .hbm, ⟨5, _⟩ => ⟨S2048x1344, .f32⟩
  | .hbm, ⟨6, _⟩ => ⟨S2048x1344, .f32⟩
  | .hbm, ⟨7, _⟩ => ⟨S2048x1344, .f32⟩
  | .local _ .vmem, ⟨0, _⟩ => ⟨S128x1344, .f32⟩
  | .local _ .vmem, ⟨1, _⟩ => ⟨S128x1344, .f32⟩
  | .local _ .vmem, ⟨2, _⟩ => ⟨S128x1344, .f32⟩
  | .local _ .vmem, ⟨3, _⟩ => ⟨S128x1344, .f32⟩
  | .local _ .vmem, ⟨4, _⟩ => ⟨S128x1344, .f32⟩
  | .local _ .vmem, ⟨5, _⟩ => ⟨S128x1344, .f32⟩
  | .local _ .vmem, ⟨6, _⟩ => ⟨S128x1344, .f32⟩
  | .local _ .vmem, ⟨7, _⟩ => ⟨S128x1344, .f32⟩
  | .local _ .vmem, ⟨8, _⟩ => ⟨S128x1344, .f32⟩
  | .local _ .vmem, ⟨9, _⟩ => ⟨S128x1344, .f32⟩
  | .local _ .vmem, ⟨10, _⟩ => ⟨S128x1344, .f32⟩
  | .local _ .vmem, ⟨11, _⟩ => ⟨S128x1344, .f32⟩
  | .local _ .vmem, ⟨12, _⟩ => ⟨S128x1344, .f32⟩
  | .local _ .vmem, ⟨13, _⟩ => ⟨S128x1344, .f32⟩
  | .local _ .vmem, ⟨14, _⟩ => ⟨S128x1344, .f32⟩
  | .local _ .vmem, ⟨15, _⟩ => ⟨S128x1344, .f32⟩
  | _, _ => ⟨S2048x1344, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1344 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1344 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1344 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1344 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1344 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1344 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1344 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1344 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference19Ideal.lean ====
abbrev S2048x1344 : Shape := ⟨2, ![2048, 1344]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1344, .f32⟩
  | .hbm, ⟨1, _⟩ => ⟨S2048x1344, .f32⟩
  | .hbm, ⟨2, _⟩ => ⟨S2048x1344, .f32⟩
  | .hbm, ⟨3, _⟩ => ⟨S2048x1344, .f32⟩
  | .hbm, ⟨4, _⟩ => ⟨S_, .f32⟩
  | .hbm, ⟨5, _⟩ => ⟨S2048x1344, .f32⟩
  | .hbm, ⟨6, _⟩ => ⟨S2048x1344, .f32⟩
  | .hbm, ⟨7, _⟩ => ⟨S_, .f32⟩
  | .hbm, ⟨8, _⟩ => ⟨S2048x1344, .f32⟩
  | .hbm, ⟨9, _⟩ => ⟨S2048x1344, .f32⟩
  | .hbm, ⟨10, _⟩ => ⟨S2048x1344, .f32⟩
  | .hbm, ⟨11, _⟩ => ⟨S_, .f32⟩
  | .hbm, ⟨12, _⟩ => ⟨S2048x1344, .f32⟩
  | .hbm, ⟨13, _⟩ => ⟨S2048x1344, .f32⟩
  | .hbm, ⟨14, _⟩ => ⟨S2048x1344, .f32⟩
  | .hbm, ⟨15, _⟩ => ⟨S_, .f32⟩
  | .hbm, ⟨16, _⟩ => ⟨S2048x1344, .f32⟩
  | .hbm, ⟨17, _⟩ => ⟨S2048x1344, .f32⟩
  | .hbm, ⟨18, _⟩ => ⟨S2048x1344, .f32⟩
  | .hbm, ⟨19, _⟩ => ⟨S_, .f32⟩
  | .hbm, ⟨20, _⟩ => ⟨S2048x1344, .f32⟩
  | .hbm, ⟨21, _⟩ => ⟨S2048x1344, .f32⟩
  | .hbm, ⟨22, _⟩ => ⟨S_, .f32⟩
  | .hbm, ⟨23, _⟩ => ⟨S2048x1344, .f32⟩
  | .hbm, ⟨24, _⟩ => ⟨S2048x1344, .f32⟩
  | .hbm, ⟨25, _⟩ => ⟨S2048x1344, .f32⟩
  | .hbm, ⟨26, _⟩ => ⟨S_, .f32⟩
  | .hbm, ⟨27, _⟩ => ⟨S2048x1344, .f32⟩
  | .hbm, ⟨28, _⟩ => ⟨S2048x1344, .f32⟩
  | .hbm, ⟨29, _⟩ => ⟨S2048x1344, .f32⟩
  | .hbm, ⟨30, _⟩ => ⟨S_, .f32⟩
  | .hbm, ⟨31, _⟩ => ⟨S2048x1344, .f32⟩
  | .hbm, ⟨32, _⟩ => ⟨S2048x1344, .f32⟩
  | .hbm, ⟨33, _⟩ => ⟨S2048x1344, .f32⟩
  | .hbm, ⟨34, _⟩ => ⟨S_, .f32⟩
  | .hbm, ⟨35, _⟩ => ⟨S2048x1344, .f32⟩
  | .hbm, ⟨36, _⟩ => ⟨S2048x1344, .f32⟩
  | _, _ => ⟨S2048x1344, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S4x256 : Shape := ⟨2, ![4, 256]⟩

abbrev nBuf : Space → Nat
  | .hbm => 8
  | .vmem => 8
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S4x256, .f32⟩
  | .hbm, ⟨5, _⟩ => ⟨S4x256, .f32⟩
  | .hbm, ⟨6, _⟩ => ⟨S4x256, .f32⟩
  | .hbm, ⟨7, _⟩ => ⟨S4x256, .f32⟩
  | .local _ .vmem, ⟨0, _⟩ => ⟨S4x256, .f32⟩
  | .local _ .vmem, ⟨1, _⟩ => ⟨S4x256, .f32⟩
  | .local _ .vmem, ⟨2, _⟩ => ⟨S4x256, .f32⟩
  | .local _ .vmem, ⟨3, _⟩ => ⟨S4x256, .f32⟩
  | .local _ .vmem, ⟨4, _⟩ => ⟨S4x256, .f32⟩
  | .local _ .vmem, ⟨5, _⟩ => ⟨S4x256, .f32⟩
  | .local _ .vmem, ⟨6, _⟩ => ⟨S4x256, .f32⟩
  | .local _ .vmem, ⟨7, _⟩ => ⟨S4x256, .f32⟩
  | _, _ => ⟨S4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference20Ideal.lean ====
abbrev S4x256 : Shape := ⟨2, ![4, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S_, .f32⟩
  | .hbm, ⟨5, _⟩ => ⟨S4x256, .f32⟩
  | .hbm, ⟨6, _⟩ => ⟨S4x256, .f32⟩
  | .hbm, ⟨7, _⟩ => ⟨S_, .f32⟩
  | .hbm, ⟨8, _⟩ => ⟨S4x256, .f32⟩
  | .hbm, ⟨9, _⟩ => ⟨S4x256, .f32⟩
  | .hbm, ⟨10, _⟩ => ⟨S4x256, .f32⟩
  | .hbm, ⟨11, _⟩ => ⟨S_, .f32⟩
  | .hbm, ⟨12, _⟩ => ⟨S4x256, .f32⟩
  | .hbm, ⟨13, _⟩ => ⟨S4x256, .f32⟩
  | .hbm, ⟨14, _⟩ => ⟨S4x256, .f32⟩
  | .hbm, ⟨15, _⟩ => ⟨S_, .f32⟩
  | .hbm, ⟨16, _⟩ => ⟨S4x256, .f32⟩
  | .hbm, ⟨17, _⟩ => ⟨S4x256, .f32⟩
  | .hbm, ⟨18, _⟩ => ⟨S4x256, .f32⟩
  | .hbm, ⟨19, _⟩ => ⟨S_, .f32⟩
  | .hbm, ⟨20, _⟩ => ⟨S4x256, .f32⟩
  | .hbm, ⟨21, _⟩ => ⟨S4x256, .f32⟩
  | .hbm, ⟨22, _⟩ => ⟨S_, .f32⟩
  | .hbm, ⟨23, _⟩ => ⟨S4x256, .f32⟩
  | .hbm, ⟨24, _⟩ => ⟨S4x256, .f32⟩
  | .hbm, ⟨25, _⟩ => ⟨S4x256, .f32⟩
  | .hbm, ⟨26, _⟩ => ⟨S_, .f32⟩
  | .hbm, ⟨27, _⟩ => ⟨S4x256, .f32⟩
  | .hbm, ⟨28, _⟩ => ⟨S4x256, .f32⟩
  | .hbm, ⟨29, _⟩ => ⟨S4x256, .f32⟩
  | .hbm, ⟨30, _⟩ => ⟨S_, .f32⟩
  | .hbm, ⟨31, _⟩ => ⟨S4x256, .f32⟩
  | .hbm, ⟨32, _⟩ => ⟨S4x256, .f32⟩
  | .hbm, ⟨33, _⟩ => ⟨S4x256, .f32⟩
  | .hbm, ⟨34, _⟩ => ⟨S_, .f32⟩
  | .hbm, ⟨35, _⟩ => ⟨S4x256, .f32⟩
  | .hbm, ⟨36, _⟩ => ⟨S4x256, .f32⟩
  | _, _ => ⟨S4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S256x2048 : Shape := ⟨2, ![256, 2048]⟩
abbrev S8x256x2048 : Shape := ⟨3, ![8, 256, 2048]⟩
abbrev S128x2048 : Shape := ⟨2, ![128, 2048]⟩
abbrev S1x128x2048 : Shape := ⟨3, ![1, 128, 2048]⟩

abbrev nBuf : Space → Nat
  | .hbm => 8
  | .vmem => 30
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S8x256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | .local _ .vmem, ⟨18, _⟩ => ⟨S1x128x2048, .f32⟩
  | .local _ .vmem, ⟨19, _⟩ => ⟨S1x128x2048, .f32⟩
  | .local _ .vmem, ⟨20, _⟩ => ⟨S1x128x2048, .f32⟩
  | .local _ .vmem, ⟨21, _⟩ => ⟨S1x128x2048, .f32⟩
  | .local _ .vmem, ⟨22, _⟩ => ⟨S128x2048, .f32⟩
  | .local _ .vmem, ⟨23, _⟩ => ⟨S128x2048, .f32⟩
  | .local _ .vmem, ⟨24, _⟩ => ⟨S128x2048, .f32⟩
  | .local _ .vmem, ⟨25, _⟩ => ⟨S128x2048, .f32⟩
  | .local _ .vmem, ⟨26, _⟩ => ⟨S128x2048, .f32⟩
  | .local _ .vmem, ⟨27, _⟩ => ⟨S128x2048, .f32⟩
  | .local _ .vmem, ⟨28, _⟩ => ⟨S128x2048, .f32⟩
  | .local _ .vmem, ⟨29, _⟩ => ⟨S128x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_7 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_8 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_9 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_10 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference21Ideal.lean ====
abbrev S256x2048 : Shape := ⟨2, ![256, 2048]⟩
abbrev S8x256x2048 : Shape := ⟨3, ![8, 256, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S8x256x2048, .f32⟩
  | .hbm, ⟨4, _⟩ => ⟨S_, .f32⟩
  | .hbm, ⟨5, _⟩ => ⟨S256x2048, .f32⟩
  | .hbm, ⟨6, _⟩ => ⟨S_, .f32⟩
  | .hbm, ⟨7, _⟩ => ⟨S256x2048, .f32⟩
  | .hbm, ⟨8, _⟩ => ⟨S256x2048, .f32⟩
  | .hbm, ⟨9, _⟩ => ⟨S_, .f32⟩
  | .hbm, ⟨10, _⟩ => ⟨S256x2048, .f32⟩
  | .hbm, ⟨11, _⟩ => ⟨S256x2048, .f32⟩
  | .hbm, ⟨12, _⟩ => ⟨S256x2048, .f32⟩
  | .hbm, ⟨13, _⟩ => ⟨S_, .f32⟩
  | .hbm, ⟨14, _⟩ => ⟨S256x2048, .f32⟩
  | .hbm, ⟨15, _⟩ => ⟨S256x2048, .f32⟩
  | .hbm, ⟨16, _⟩ => ⟨S256x2048, .f32⟩
  | .hbm, ⟨17, _⟩ => ⟨S_, .f32⟩
  | .hbm, ⟨18, _⟩ => ⟨S256x2048, .f32⟩
  | .hbm, ⟨19, _⟩ => ⟨S256x2048, .f32⟩
  | .hbm, ⟨20, _⟩ => ⟨S256x2048, .f32⟩
  | .hbm, ⟨21, _⟩ => ⟨S_, .f32⟩
  | .hbm, ⟨22, _⟩ => ⟨S256x2048, .f32⟩
  | .hbm, ⟨23, _⟩ => ⟨S256x2048, .f32⟩
  | .hbm, ⟨24, _⟩ => ⟨S_, .f32⟩
  | .hbm, ⟨25, _⟩ => ⟨S256x2048, .f32⟩
  | .hbm, ⟨26, _⟩ => ⟨S256x2048, .f32⟩
  | .hbm, ⟨27, _⟩ => ⟨S256x2048, .f32⟩
  | .hbm, ⟨28, _⟩ => ⟨S_, .f32⟩
  | .hbm, ⟨29, _⟩ => ⟨S256x2048, .f32⟩
  | .hbm, ⟨30, _⟩ => ⟨S256x2048, .f32⟩
  | .hbm, ⟨31, _⟩ => ⟨S256x2048, .f32⟩
  | .hbm, ⟨32, _⟩ => ⟨S_, .f32⟩
  | .hbm, ⟨33, _⟩ => ⟨S256x2048, .f32⟩
  | .hbm, ⟨34, _⟩ => ⟨S256x2048, .f32⟩
  | .hbm, ⟨35, _⟩ => ⟨S256x2048, .f32⟩
  | .hbm, ⟨36, _⟩ => ⟨S_, .f32⟩
  | .hbm, ⟨37, _⟩ => ⟨S256x2048, .f32⟩
  | .hbm, ⟨38, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel22.lean ====
abbrev S24x2048 : Shape := ⟨2, ![24, 2048]⟩
abbrev S8x24x2048 : Shape := ⟨3, ![8, 24, 2048]⟩
abbrev S1x24x2048 : Shape := ⟨3, ![1, 24, 2048]⟩

abbrev nBuf : Space → Nat
  | .hbm => 8
  | .vmem => 15
  | .smem => 0
  | _ => 0

abbrev bufTy : (tb : Table) → Fin (tcTables nBuf tb) → BufTy
  | .hbm, ⟨0, _⟩ => ⟨S24x2048, .f32⟩
  | .hbm, ⟨1, _⟩ => ⟨S24x2048, .f32⟩
  | .hbm, ⟨2, _⟩ => ⟨S24x2048, .f32⟩
  | .hbm, ⟨3, _⟩ => ⟨S8x24x2048, .f32⟩
  | .hbm, ⟨4, _⟩ => ⟨S24x2048, .f32⟩
  | .hbm, ⟨5, _⟩ => ⟨S24x2048, .f32⟩
  | .hbm, ⟨6, _⟩ => ⟨S24x2048, .f32⟩
  | .hbm, ⟨7, _⟩ => ⟨S24x2048, .f32⟩
  | .local _ .vmem, ⟨0, _⟩ => ⟨S24x2048, .f32⟩
  | .local _ .vmem, ⟨1, _⟩ => ⟨S24x2048, .f32⟩
  | .local _ .vmem, ⟨2, _⟩ => ⟨S24x2048, .f32⟩
  | .local _ .vmem, ⟨3, _⟩ => ⟨S1x24x2048, .f32⟩
  | .local _ .vmem, ⟨4, _⟩ => ⟨S1x24x2048, .f32⟩
  | .local _ .vmem, ⟨5, _⟩ => ⟨S1x24x2048, .f32⟩
  | .local _ .vmem, ⟨6, _⟩ => ⟨S1x24x2048, .f32⟩
  | .local _ .vmem, ⟨7, _⟩ => ⟨S1x24x2048, .f32⟩
  | .local _ .vmem, ⟨8, _⟩ => ⟨S1x24x2048, .f32⟩
  | .local _ .vmem, ⟨9, _⟩ => ⟨S1x24x2048, .f32⟩
  | .local _ .vmem, ⟨10, _⟩ => ⟨S1x24x2048, .f32⟩
  | .local _ .vmem, ⟨11, _⟩ => ⟨S24x2048, .f32⟩
  | .local _ .vmem, ⟨12, _⟩ => ⟨S24x2048, .f32⟩
  | .local _ .vmem, ⟨13, _⟩ => ⟨S24x2048, .f32⟩
  | .local _ .vmem, ⟨14, _⟩ => ⟨S24x2048, .f32⟩
  | _, _ => ⟨S24x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_7 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_8 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_9 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_10 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S24x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S24x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S24x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x24x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x24x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x24x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x24x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x24x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x24x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1x24x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S1x24x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S24x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S24x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S24x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S24x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]
-- ==== Reference22Ideal.lean ====
abbrev S24x2048 : Shape := ⟨2, ![24, 2048]⟩
abbrev S8x24x2048 : Shape := ⟨3, ![8, 24, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S24x2048, .f32⟩
  | .hbm, ⟨1, _⟩ => ⟨S24x2048, .f32⟩
  | .hbm, ⟨2, _⟩ => ⟨S24x2048, .f32⟩
  | .hbm, ⟨3, _⟩ => ⟨S8x24x2048, .f32⟩
  | .hbm, ⟨4, _⟩ => ⟨S_, .f32⟩
  | .hbm, ⟨5, _⟩ => ⟨S24x2048, .f32⟩
  | .hbm, ⟨6, _⟩ => ⟨S_, .f32⟩
  | .hbm, ⟨7, _⟩ => ⟨S24x2048, .f32⟩
  | .hbm, ⟨8, _⟩ => ⟨S24x2048, .f32⟩
  | .hbm, ⟨9, _⟩ => ⟨S_, .f32⟩
  | .hbm, ⟨10, _⟩ => ⟨S24x2048, .f32⟩
  | .hbm, ⟨11, _⟩ => ⟨S24x2048, .f32⟩
  | .hbm, ⟨12, _⟩ => ⟨S24x2048, .f32⟩
  | .hbm, ⟨13, _⟩ => ⟨S_, .f32⟩
  | .hbm, ⟨14, _⟩ => ⟨S24x2048, .f32⟩
  | .hbm, ⟨15, _⟩ => ⟨S24x2048, .f32⟩
  | .hbm, ⟨16, _⟩ => ⟨S24x2048, .f32⟩
  | .hbm, ⟨17, _⟩ => ⟨S_, .f32⟩
  | .hbm, ⟨18, _⟩ => ⟨S24x2048, .f32⟩
  | .hbm, ⟨19, _⟩ => ⟨S24x2048, .f32⟩
  | .hbm, ⟨20, _⟩ => ⟨S24x2048, .f32⟩
  | .hbm, ⟨21, _⟩ => ⟨S_, .f32⟩
  | .hbm, ⟨22, _⟩ => ⟨S24x2048, .f32⟩
  | .hbm, ⟨23, _⟩ => ⟨S24x2048, .f32⟩
  | .hbm, ⟨24, _⟩ => ⟨S_, .f32⟩
  | .hbm, ⟨25, _⟩ => ⟨S24x2048, .f32⟩
  | .hbm, ⟨26, _⟩ => ⟨S24x2048, .f32⟩
  | .hbm, ⟨27, _⟩ => ⟨S24x2048, .f32⟩
  | .hbm, ⟨28, _⟩ => ⟨S_, .f32⟩
  | .hbm, ⟨29, _⟩ => ⟨S24x2048, .f32⟩
  | .hbm, ⟨30, _⟩ => ⟨S24x2048, .f32⟩
  | .hbm, ⟨31, _⟩ => ⟨S24x2048, .f32⟩
  | .hbm, ⟨32, _⟩ => ⟨S_, .f32⟩
  | .hbm, ⟨33, _⟩ => ⟨S24x2048, .f32⟩
  | .hbm, ⟨34, _⟩ => ⟨S24x2048, .f32⟩
  | .hbm, ⟨35, _⟩ => ⟨S24x2048, .f32⟩
  | .hbm, ⟨36, _⟩ => ⟨S_, .f32⟩
  | .hbm, ⟨37, _⟩ => ⟨S24x2048, .f32⟩
  | .hbm, ⟨38, _⟩ => ⟨S24x2048, .f32⟩
  | _, _ => ⟨S24x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel23.lean ====
abbrev S8x2048 : Shape := ⟨2, ![8, 2048]⟩
abbrev S8x1536 : Shape := ⟨2, ![8, 1536]⟩
abbrev S2048x1536 : Shape := ⟨2, ![2048, 1536]⟩
abbrev S2048x8 : Shape := ⟨2, ![2048, 8]⟩
abbrev S256x8 : Shape := ⟨2, ![256, 8]⟩
abbrev S256x1536 : Shape := ⟨2, ![256, 1536]⟩
abbrev S256x1 : Shape := ⟨2, ![256, 1]⟩
abbrev S1x1536 : Shape := ⟨2, ![1, 1536]⟩

abbrev nBuf : Space → Nat
  | .hbm => 5
  | .vmem => 5
  | .smem => 0
  | _ => 0

abbrev bufTy : (tb : Table) → Fin (tcTables nBuf tb) → BufTy
  | .hbm, ⟨0, _⟩ => ⟨S8x2048, .f32⟩
  | .hbm, ⟨1, _⟩ => ⟨S8x1536, .f32⟩
  | .hbm, ⟨2, _⟩ => ⟨S2048x1536, .f32⟩
  | .hbm, ⟨3, _⟩ => ⟨S2048x8, .f32⟩
  | .hbm, ⟨4, _⟩ => ⟨S2048x1536, .f32⟩
  | .local _ .vmem, ⟨0, _⟩ => ⟨S256x8, .f32⟩
  | .local _ .vmem, ⟨1, _⟩ => ⟨S256x8, .f32⟩
  | .local _ .vmem, ⟨2, _⟩ => ⟨S8x1536, .f32⟩
  | .local _ .vmem, ⟨3, _⟩ => ⟨S256x1536, .f32⟩
  | .local _ .vmem, ⟨4, _⟩ => ⟨S256x1536, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference23Ideal.lean ====
abbrev S8x2048 : Shape := ⟨2, ![8, 2048]⟩
abbrev S8x1536 : Shape := ⟨2, ![8, 1536]⟩
abbrev S2048x1536 : Shape := ⟨2, ![2048, 1536]⟩
abbrev S_ : Shape := ⟨0, ![]⟩
abbrev S1536x2048 : Shape := ⟨2, ![1536, 2048]⟩

abbrev nBuf : Space → Nat
  | .hbm => 15
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x1536, .f32⟩
  | .hbm, ⟨2, _⟩ => ⟨S2048x1536, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x1536, .f32⟩
  | .hbm, ⟨13, _⟩ => ⟨S1536x2048, .f32⟩
  | .hbm, ⟨14, _⟩ => ⟨S2048x1536, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Kernel24.lean ====
abbrev S8x2048 : Shape := ⟨2, ![8, 2048]⟩
abbrev S2048x1536 : Shape := ⟨2, ![2048, 1536]⟩
abbrev S1x1536 : Shape := ⟨2, ![1, 1536]⟩
abbrev S8x1536 : Shape := ⟨2, ![8, 1536]⟩
abbrev S2048x512 : Shape := ⟨2, ![2048, 512]⟩
abbrev S1x512 : Shape := ⟨2, ![1, 512]⟩
abbrev S8x512 : Shape := ⟨2, ![8, 512]⟩

abbrev nBuf : Space → Nat
  | .hbm => 4
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2048x1536, .f32⟩
  | .hbm, ⟨2, _⟩ => ⟨S1x1536, .f32⟩
  | .hbm, ⟨3, _⟩ => ⟨S8x1536, .f32⟩
  | .local _ .vmem, ⟨0, _⟩ => ⟨S8x2048, .f32⟩
  | .local _ .vmem, ⟨1, _⟩ => ⟨S2048x512, .f32⟩
  | .local _ .vmem, ⟨2, _⟩ => ⟨S2048x512, .f32⟩
  | .local _ .vmem, ⟨3, _⟩ => ⟨S1x512, .f32⟩
  | .local _ .vmem, ⟨4, _⟩ => ⟨S1x512, .f32⟩
  | .local _ .vmem, ⟨5, _⟩ => ⟨S8x512, .f32⟩
  | .local _ .vmem, ⟨6, _⟩ => ⟨S8x512, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference24Ideal.lean ====
abbrev S8x2048 : Shape := ⟨2, ![8, 2048]⟩
abbrev S2048x1536 : Shape := ⟨2, ![2048, 1536]⟩
abbrev S1x1536 : Shape := ⟨2, ![1, 1536]⟩
abbrev S_ : Shape := ⟨0, ![]⟩
abbrev S8x1536 : Shape := ⟨2, ![8, 1536]⟩

abbrev nBuf : Space → Nat
  | .hbm => 15
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048x1536, .f32⟩
  | .hbm, ⟨2, _⟩ => ⟨S1x1536, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x1536, .f32⟩
  | .hbm, ⟨13, _⟩ => ⟨S8x1536, .f32⟩
  | .hbm, ⟨14, _⟩ => ⟨S8x1536, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Kernel25.lean ====
abbrev S4096x2048 : Shape := ⟨2, ![4096, 2048]⟩
abbrev S1x2048 : Shape := ⟨2, ![1, 2048]⟩
abbrev S8x2048 : Shape := ⟨2, ![8, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S8x2048, .f32⟩
  | .hbm, ⟨3, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S8x2048, .f32⟩
  | .local _ .vmem, ⟨4, _⟩ => ⟨S512x2048, .bf16⟩
  | .local _ .vmem, ⟨5, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference25Ideal.lean ====
abbrev S4096x2048 : Shape := ⟨2, ![4096, 2048]⟩
abbrev S1x2048 : Shape := ⟨2, ![1, 2048]⟩
abbrev S8x2048 : Shape := ⟨2, ![8, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 32
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S8x2048, .f32⟩
  | .hbm, ⟨3, _⟩ => ⟨S1x2048, .f32⟩
  | .hbm, ⟨4, _⟩ => ⟨S2048, .f32⟩
  | .hbm, ⟨5, _⟩ => ⟨S1x2048, .f32⟩
  | .hbm, ⟨6, _⟩ => ⟨S2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S2048, .f32⟩
  | .hbm, ⟨24, _⟩ => ⟨S2048, .f32⟩
  | .hbm, ⟨25, _⟩ => ⟨S1x2048, .f32⟩
  | .hbm, ⟨26, _⟩ => ⟨S4096x2048, .f32⟩
  | .hbm, ⟨27, _⟩ => ⟨S4096x2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Kernel26.lean ====
abbrev S4096x2048 : Shape := ⟨2, ![4096, 2048]⟩
abbrev S1x2048 : Shape := ⟨2, ![1, 2048]⟩
abbrev S8x2048 : Shape := ⟨2, ![8, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S8x2048, .f32⟩
  | .hbm, ⟨3, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S8x2048, .f32⟩
  | .local _ .vmem, ⟨4, _⟩ => ⟨S512x2048, .bf16⟩
  | .local _ .vmem, ⟨5, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference26Ideal.lean ====
abbrev S4096x2048 : Shape := ⟨2, ![4096, 2048]⟩
abbrev S1x2048 : Shape := ⟨2, ![1, 2048]⟩
abbrev S8x2048 : Shape := ⟨2, ![8, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 32
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S8x2048, .f32⟩
  | .hbm, ⟨3, _⟩ => ⟨S1x2048, .f32⟩
  | .hbm, ⟨4, _⟩ => ⟨S2048, .f32⟩
  | .hbm, ⟨5, _⟩ => ⟨S1x2048, .f32⟩
  | .hbm, ⟨6, _⟩ => ⟨S2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S2048, .f32⟩
  | .hbm, ⟨24, _⟩ => ⟨S2048, .f32⟩
  | .hbm, ⟨25, _⟩ => ⟨S1x2048, .f32⟩
  | .hbm, ⟨26, _⟩ => ⟨S4096x2048, .f32⟩
  | .hbm, ⟨27, _⟩ => ⟨S4096x2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Proof.KDefs.lean ====
module
public import proofs.«01_k».proof.Proof.Gen.KernelIdeal.Value
@[expose] public section
set_option maxRecDepth 16384
noncomputable section
namespace Cert.Proof.K
open Cert.KernelIdeal Cert.KernelIdeal.Gen Cert.KernelIdeal.Value Idealize.ShloMosaic Idealize.ShloMosaic.TcCoe Idealize.SL.Sem

/-! The operations of one grid point of the kernel, said once for all four groups of eight heads:
    `kv` is the group. -/

theorem slices_q (n : Fin 16) : S128x2048.Slices ![0, 128 * n.val] S128x128 := by
  revert n; decide
theorem slices_kv (kv : Fin 4) : S256x256.Slices ![0, 64 * kv.val] S256x64 := by
  revert kv; decide
theorem slices_lse (n : Fin 32) : S128x128.Slices ![0, n.val] S128x1 := by
  revert n; decide
theorem inb_bias (kv : Fin 4) : ∀ a, (![8 * kv.val, 0, 0] : Fin 3 → Nat) a + S8x128x256.size a ≤ S32x128x256.size a := by
  revert kv; decide
theorem inb_sink (n : Fin 32) : ∀ a, (![n.val] : Fin 1 → Nat) a + S1.size a ≤ S32.size a := by
  revert n; decide

variable {F : FTy → Type} [FloatOps F] [Named F]

/-- Lanes below 64. -/
def low : IVec S1x128 1 :=
  cmpi .slt (iota .tc S1x128 32 [1] iota_S1x128_d1_w32) (broadcast S1x128 64#32)
def lowB : IVec S128x128 1 :=
  broadcastTo S128x128 (shapeCast S1x128 low shapeCasts_S1x128_S1x128) broadcasts_S1x128_S128x128
def highB : IVec S128x128 1 :=
  broadcastTo S128x128 (shapeCast S1x128 (xori low (constantI S1x128 1 1#1)) shapeCasts_S1x128_S1x128) broadcasts_S1x128_S128x128
def lowW : IVec S256x128 1 :=
  broadcastTo S256x128 (shapeCast S1x128 low shapeCasts_S1x128_S1x128) broadcasts_S1x128_S256x128

/-- Which (query row, band row) pairs of block `i` are attended. -/
def valid (i : grid0.Coords) : IVec S128x256 1 :=
  andi (andi (cmpi .sge (subi (addi (iota .tc S128x256 32 [0] iota_S128x256_d0_w32) (broadcast S128x256 128#32)) (iota .tc S128x256 32 [1] iota_S128x256_d1_w32)) (broadcast S128x256 0#32))
      (cmpi .slt (subi (addi (iota .tc S128x256 32 [0] iota_S128x256_d0_w32) (broadcast S128x256 128#32)) (iota .tc S128x256 32 [1] iota_S128x256_d1_w32)) (broadcast S128x256 128#32)))
    (ori (cmpi .sge (iota .tc S128x256 32 [1] iota_S128x256_d1_w32) (broadcast S128x256 128#32))
      (broadcast S128x256 (Scalar.xori (Scalar.cmpi .eq (BitVec.ofNat 32 (i 0).val) 0#32) 1#1)))

/-- The band: the block before, then this block. -/
def band (a b : Vec F S128x256 .bf16) : FVec F S256x256 .bf16 :=
  concatenate S256x256 0 [⟨S128x256, a⟩, ⟨S128x256, b⟩] concatenates_S128x256_S128x256_S256x256_d0

/-- A group's 64 columns of the band, in both halves of the lanes. -/
def dup (kv : Fin 4) (x : FVec F S256x256 .bf16) : FVec F S256x128 .bf16 :=
  concatenate S256x128 1 [⟨S256x64, extractStridedSlice S256x64 ![0, 64 * kv.val] x (slices_kv kv)⟩,
    ⟨S256x64, extractStridedSlice S256x64 ![0, 64 * kv.val] x (slices_kv kv)⟩] concatenates_S256x64_S256x64_S256x128_d1

def zeroQ : FVec F S128x128 .bf16 := broadcast S128x128 (Scalar.ofBits .bf16 0x0000#16)

/-- Lane block `n` of the queries. -/
def qblk (n : Fin 16) (x : Vec F S128x2048 .bf16) : FVec F S128x128 .bf16 :=
  extractStridedSlice S128x128 ![0, 128 * n.val] x (slices_q n)

/-- The eight heads of a group stacked, each with the other half of the lanes zero. -/
def stack (kv : Fin 4) (x : Vec F S128x2048 .bf16) : FVec F S1024x128 .bf16 :=
  concatenate S1024x128 0 [⟨S128x128, select lowB (qblk ⟨4 * kv.val + 0, by omega⟩ x) zeroQ⟩,
    ⟨S128x128, select highB (qblk ⟨4 * kv.val + 0, by omega⟩ x) zeroQ⟩,
    ⟨S128x128, select lowB (qblk ⟨4 * kv.val + 1, by omega⟩ x) zeroQ⟩,
    ⟨S128x128, select highB (qblk ⟨4 * kv.val + 1, by omega⟩ x) zeroQ⟩,
    ⟨S128x128, select lowB (qblk ⟨4 * kv.val + 2, by omega⟩ x) zeroQ⟩,
    ⟨S128x128, select highB (qblk ⟨4 * kv.val + 2, by omega⟩ x) zeroQ⟩,
    ⟨S128x128, select lowB (qblk ⟨4 * kv.val + 3, by omega⟩ x) zeroQ⟩,
    ⟨S128x128, select highB (qblk ⟨4 * kv.val + 3, by omega⟩ x) zeroQ⟩] concatenates_S128x128_S128x128_S128x128_S128x128_S128x128_S128x128_S128x128_S128x128_S1024x128_d0

/-- The saved log-sum-exps of a group. -/
def lseg (kv : Fin 4) (x : Vec F S128x128 .f32) : FVec F S8x128x1 .f32 :=
  concatenate S8x128x1 0 [⟨S1x128x1, shapeCast S1x128x1 (extractStridedSlice S128x1 ![0, 8 * kv.val + 0] (shapeCast S128x128 x shapeCasts_S128x128_S128x128) (slices_lse ⟨8 * kv.val + 0, by omega⟩)) shapeCasts_S128x1_S1x128x1⟩,
    ⟨S1x128x1, shapeCast S1x128x1 (extractStridedSlice S128x1 ![0, 8 * kv.val + 1] (shapeCast S128x128 x shapeCasts_S128x128_S128x128) (slices_lse ⟨8 * kv.val + 1, by omega⟩)) shapeCasts_S128x1_S1x128x1⟩,
    ⟨S1x128x1, shapeCast S1x128x1 (extractStridedSlice S128x1 ![0, 8 * kv.val + 2] (shapeCast S128x128 x shapeCasts_S128x128_S128x128) (slices_lse ⟨8 * kv.val + 2, by omega⟩)) shapeCasts_S128x1_S1x128x1⟩,
    ⟨S1x128x1, shapeCast S1x128x1 (extractStridedSlice S128x1 ![0, 8 * kv.val + 3] (shapeCast S128x128 x shapeCasts_S128x128_S128x128) (slices_lse ⟨8 * kv.val + 3, by omega⟩)) shapeCasts_S128x1_S1x128x1⟩,
    ⟨S1x128x1, shapeCast S1x128x1 (extractStridedSlice S128x1 ![0, 8 * kv.val + 4] (shapeCast S128x128 x shapeCasts_S128x128_S128x128) (slices_lse ⟨8 * kv.val + 4, by omega⟩)) shapeCasts_S128x1_S1x128x1⟩,
    ⟨S1x128x1, shapeCast S1x128x1 (extractStridedSlice S128x1 ![0, 8 * kv.val + 5] (shapeCast S128x128 x shapeCasts_S128x128_S128x128) (slices_lse ⟨8 * kv.val + 5, by omega⟩)) shapeCasts_S128x1_S1x128x1⟩,
    ⟨S1x128x1, shapeCast S1x128x1 (extractStridedSlice S128x1 ![0, 8 * kv.val + 6] (shapeCast S128x128 x shapeCasts_S128x128_S128x128) (slices_lse ⟨8 * kv.val + 6, by omega⟩)) shapeCasts_S128x1_S1x128x1⟩,
    ⟨S1x128x1, shapeCast S1x128x1 (extractStridedSlice S128x1 ![0, 8 * kv.val + 7] (shapeCast S128x128 x shapeCasts_S128x128_S128x128) (slices_lse ⟨8 * kv.val + 7, by omega⟩)) shapeCasts_S128x1_S1x128x1⟩] concatenates_S1x128x1_S1x128x1_S1x128x1_S1x128x1_S1x128x1_S1x128x1_S1x128x1_S1x128x1_S8x128x1_d0

/-- The sinks of a group, one word each. -/
def word (x : Vec F S32 .f32) (n : Fin 32) : F .f32 :=
  View.ld x (Rect.unit (s := S32) ![n.val] S1.size (inb_sink n)) (Shape.Idx.first (show 0 < S1.numel by decide))
def sinkg (kv : Fin 4) (x : Vec F S32 .f32) : FVec F S8x128x1 .f32 :=
  concatenate S8x128x1 0 [⟨S1x128x1, broadcast S1x128x1 (word x ⟨8 * kv.val + 0, by omega⟩)⟩,
    ⟨S1x128x1, broadcast S1x128x1 (word x ⟨8 * kv.val + 1, by omega⟩)⟩,
    ⟨S1x128x1, broadcast S1x128x1 (word x ⟨8 * kv.val + 2, by omega⟩)⟩,
    ⟨S1x128x1, broadcast S1x128x1 (word x ⟨8 * kv.val + 3, by omega⟩)⟩,
    ⟨S1x128x1, broadcast S1x128x1 (word x ⟨8 * kv.val + 4, by omega⟩)⟩,
    ⟨S1x128x1, broadcast S1x128x1 (word x ⟨8 * kv.val + 5, by omega⟩)⟩,
    ⟨S1x128x1, broadcast S1x128x1 (word x ⟨8 * kv.val + 6, by omega⟩)⟩,
    ⟨S1x128x1, broadcast S1x128x1 (word x ⟨8 * kv.val + 7, by omega⟩)⟩] concatenates_S1x128x1_S1x128x1_S1x128x1_S1x128x1_S1x128x1_S1x128x1_S1x128x1_S1x128x1_S8x128x1_d0

/-- A group's bias. -/
def bias (kv : Fin 4) (x : Vec F S32x128x256 .f32) : FVec F S8x128x256 .f32 :=
  View.ld x (Rect.unit (s := S32x128x256) ![8 * kv.val, 0, 0] S8x128x256.size (inb_bias kv))

/-- The products of the stacked rows with the band. -/
def rowdot (a : FVec F S1024x128 .bf16) (b : FVec F S256x128 .bf16) : FVec F S1024x256 .f32 :=
  matmul dot_S1024x128_S256x128_S1024x256_1_1_0_0_n_n none a b (constant S1024x256 .f32 0x00000000#32)

/-- The probabilities of a group, from the logits and the saved log-sum-exps. -/
def probs (s : FVec F S1024x256 .f32) (b : FVec F S8x128x256 .f32) (l : FVec F S8x128x1 .f32) (va : IVec S128x256 1) : FVec F S8x128x256 .f32 :=
  exp (subf (select (broadcastTo S8x128x256 (shapeCast S1x128x256 (shapeCast S1x128x256 va shapeCasts_S128x256_S1x128x256) shapeCasts_S1x128x256_S1x128x256) broadcasts_S1x128x256_S8x128x256)
      (addf (shapeCast S8x128x256 (mulf s (broadcast S1024x256 (Scalar.ofBits .f32 0x3E000000#32))) shapeCasts_S1024x256_S8x128x256) b)
      (broadcast S8x128x256 (Named.named κ "mask" 0xF149F2CA#32)))
    (broadcastTo S8x128x256 l broadcasts_S8x128x1_S8x128x256))

def dprobs (s : FVec F S1024x256 .f32) : FVec F S8x128x256 .f32 := shapeCast S8x128x256 s shapeCasts_S1024x256_S8x128x256

def delta (p dp : FVec F S8x128x256 .f32) : FVec F S8x128x1 .f32 :=
  shapeCast S8x128x1 (multiReduction .add [2] S8x128 (mulf p dp) 0x00000000#32 reduces_S8x128x256_S8x128 (.inl rfl) rfl) shapeCasts_S8x128_S8x128x1

/-- The gradient of the logits. -/
def dlog (p dp : FVec F S8x128x256 .f32) (d : FVec F S8x128x1 .f32) : FVec F S8x128x256 .f32 :=
  mulf p (subf dp (broadcastTo S8x128x256 d broadcasts_S8x128x1_S8x128x256))

/-- The gradient of the sinks of a group. -/
def dsink (s l d : FVec F S8x128x1 .f32) : FVec F S8x1x1 .f32 :=
  subf (broadcast S8x1x1 (Scalar.ofBits .f32 0x00000000#32))
    (shapeCast S8x1x1 (multiReduction .add [1] S8x1 (mulf (exp (subf s l)) d) 0x00000000#32 reduces_S8x128x1_S8x1 (.inl rfl) rfl) shapeCasts_S8x1_S8x1x1)

theorem slices_ds (g : Fin 8) : S8x1x1.Slices ![g.val, 0, 0] S1x1x1 := by revert g; decide

/-- One head's sink gradient put into its lane. -/
def put (kv : Fin 4) (ds : FVec F S8x1x1 .f32) (g : Fin 8) (row : FVec F S1x128 .f32) : FVec F S1x128 .f32 :=
  addf row (select (cmpi .eq (iota .tc S1x128 32 [1] iota_S1x128_d1_w32) (broadcast S1x128 (BitVec.ofNat 32 (8 * kv.val + g.val))))
    (broadcastTo S1x128 (shapeCast S1x1 (shapeCast S1x1 (extractStridedSlice S1x1x1 ![g.val, 0, 0] ds (slices_ds g)) shapeCasts_S1x1x1_S1x1) shapeCasts_S1x1_S1x1) broadcasts_S1x1_S1x128)
    (broadcast S1x128 (Scalar.ofBits .f32 0x00000000#32)))

def putAll (kv : Fin 4) (ds : FVec F S8x1x1 .f32) (row : FVec F S1x128 .f32) : FVec F S1x128 .f32 :=
  put kv ds 7 (put kv ds 6 (put kv ds 5 (put kv ds 4 (put kv ds 3 (put kv ds 2 (put kv ds 1 (put kv ds 0 row)))))))

/-- Rows stacked and rounded for a product. -/
def flat (x : FVec F S8x128x256 .f32) : FVec F S1024x256 .bf16 :=
  truncf .bf16 (shapeCast S1024x256 x shapeCasts_S8x128x256_S1024x256) bitsLt_bf16_f32

def dqs (x : FVec F S1024x256 .bf16) (k : FVec F S256x128 .bf16) : FVec F S1024x128 .f32 :=
  mulf (matmul dot_S1024x256_S256x128_S1024x128_1_0_0_1_n_n none x k (constant S1024x128 .f32 0x00000000#32)) (broadcast S1024x128 (Scalar.ofBits .f32 0x3E000000#32))

theorem slices_dq (n : Fin 8) : S1024x128.Slices ![128 * n.val, 0] S128x128 := by revert n; decide

def pick (x : FVec F S1024x128 .f32) (a b : Fin 8) : FVec F S128x128 .f32 :=
  select lowB (extractStridedSlice S128x128 ![128 * a.val, 0] x (slices_dq a)) (extractStridedSlice S128x128 ![128 * b.val, 0] x (slices_dq b))

/-- The query gradient of a group, its heads side by side again. -/
def unstack (x : FVec F S1024x128 .f32) : FVec F S128x512 .f32 :=
  concatenate S128x512 1 [⟨S128x128, pick x 0 1⟩, ⟨S128x128, pick x 2 3⟩, ⟨S128x128, pick x 4 5⟩, ⟨S128x128, pick x 6 7⟩] concatenates_S128x128_S128x128_S128x128_S128x128_S128x512_d1

def coldot (x : FVec F S1024x256 .bf16) (q : FVec F S1024x128 .bf16) : FVec F S256x128 .f32 :=
  addf (broadcast S256x128 (Scalar.ofBits .f32 0x00000000#32)) (matmul dot_S1024x256_S1024x128_S256x128_0_0_1_1_n_n none x q (constant S256x128 .f32 0x00000000#32))

/-- The two halves of the lanes added into each other. -/
def fold (a : FVec F S256x128 .f32) : FVec F S256x128 .f32 := addf a (dynamicRotate 1 64#32 none a rotates_S256x128_d1)

def dkg (x : FVec F S1024x256 .bf16) (q : FVec F S1024x128 .bf16) : FVec F S256x128 .f32 :=
  mulf (fold (coldot x q)) (broadcast S256x128 (Scalar.ofBits .f32 0x3E000000#32))
def dvg (x : FVec F S1024x256 .bf16) (q : FVec F S1024x128 .bf16) : FVec F S256x128 .f32 := fold (coldot x q)

/-- The four groups' columns side by side. -/
def merge (a b c d : FVec F S256x128 .f32) : FVec F S256x256 .f32 :=
  concatenate S256x256 1 [⟨S256x128, select lowW a b⟩, ⟨S256x128, select lowW c d⟩] concatenates_S256x128_S256x128_S256x256_d1

section point
variable (i : grid0.Coords) (x0 : Vec F S128x2048 .bf16) (x1 x2 x3 x4 : Vec F S128x256 .bf16) (x5 : Vec F S32x128x256 .f32)
  (x6 : Vec F S32 .f32) (x7 : Vec F S128x2048 .bf16) (x8 : Vec F S128x128 .f32)

def P (kv : Fin 4) : FVec F S8x128x256 .f32 :=
  probs (rowdot (stack kv x0) (dup kv (band x1 x2))) (bias kv x5) (lseg kv x8) (valid i)
def DP (kv : Fin 4) : FVec F S8x128x256 .f32 := dprobs (rowdot (stack kv x7) (dup kv (band x3 x4)))
def DL (kv : Fin 4) : FVec F S8x128x1 .f32 := delta (P i x0 x1 x2 x5 x8 kv) (DP x3 x4 x7 kv)
def DS (kv : Fin 4) : FVec F S8x128x256 .f32 :=
  dlog (P i x0 x1 x2 x5 x8 kv) (DP x3 x4 x7 kv) (DL i x0 x1 x2 x3 x4 x5 x7 x8 kv)
def DSK (kv : Fin 4) : FVec F S8x1x1 .f32 := dsink (sinkg kv x6) (lseg kv x8) (DL i x0 x1 x2 x3 x4 x5 x7 x8 kv)
def DQ (kv : Fin 4) : FVec F S128x512 .f32 :=
  unstack (dqs (flat (DS i x0 x1 x2 x3 x4 x5 x7 x8 kv)) (dup kv (band x1 x2)))
def DK (kv : Fin 4) : FVec F S256x128 .f32 := dkg (flat (DS i x0 x1 x2 x3 x4 x5 x7 x8 kv)) (stack kv x0)
def DV (kv : Fin 4) : FVec F S256x128 .f32 := dvg (flat (P i x0 x1 x2 x5 x8 kv)) (stack kv x7)

/-- The query gradient the point stores. -/
def dqAll : FVec F S128x2048 .bf16 :=
  truncf .bf16 (concatenate S128x2048 1 [⟨S128x512, DQ i x0 x1 x2 x3 x4 x5 x7 x8 0⟩, ⟨S128x512, DQ i x0 x1 x2 x3 x4 x5 x7 x8 1⟩,
    ⟨S128x512, DQ i x0 x1 x2 x3 x4 x5 x7 x8 2⟩, ⟨S128x512, DQ i x0 x1 x2 x3 x4 x5 x7 x8 3⟩] concatenates_S128x512_S128x512_S128x512_S128x512_S128x2048_d1) bitsLt_bf16_f32
/-- What the point adds to the key and value gradients of its band. -/
def dkAll : FVec F S256x256 .f32 :=
  merge (DK i x0 x1 x2 x3 x4 x5 x7 x8 0) (DK i x0 x1 x2 x3 x4 x5 x7 x8 1) (DK i x0 x1 x2 x3 x4 x5 x7 x8 2) (DK i x0 x1 x2 x3 x4 x5 x7 x8 3)
def dvAll : FVec F S256x256 .f32 :=
  merge (DV i x0 x1 x2 x5 x7 x8 0) (DV i x0 x1 x2 x5 x7 x8 1) (DV i x0 x1 x2 x5 x7 x8 2) (DV i x0 x1 x2 x5 x7 x8 3)
def dsAll : FVec F S1x128 .f32 :=
  putAll 3 (DSK i x0 x1 x2 x3 x4 x5 x6 x7 x8 3) (putAll 2 (DSK i x0 x1 x2 x3 x4 x5 x6 x7 x8 2) (putAll 1 (DSK i x0 x1 x2 x3 x4 x5 x6 x7 x8 1)
    (putAll 0 (DSK i x0 x1 x2 x3 x4 x5 x6 x7 x8 0) (broadcast S1x128 (Scalar.ofBits .f32 0x00000000#32)))))
/-- An accumulator's rows with what the point adds. -/
def addTo (a b : FVec F S256x256 .f32) : FVec F S256x256 .f32 := addf (shapeCast S256x256 a shapeCasts_S256x256_S256x256) b
def addB (a b : FVec F S8x128x256 .f32) : FVec F S8x128x256 .f32 := addf (shapeCast S8x128x256 a shapeCasts_S8x128x256_S8x128x256) b
def addS (a b : FVec F S1x128 .f32) : FVec F S1x128 .f32 := addf (shapeCast S1x128 a shapeCasts_S1x128_S1x128) b
end point
end Cert.Proof.K
end
-- ==== Proof.Spec.lean ====
module
public import Idealize.ShloMosaic.PureOps.Ideal
@[expose] public section
noncomputable section
namespace Cert.Proof.K

/-! The mathematics of one block of queries, over the reals: band attention with sinks and a bias per head, and its
    gradients. The band of block `n` is block `n - 1`, then block `n`. -/

/-- Row `i` of the `g`-th stacked head. -/
abbrev row8 (g : Fin 8) (i : Fin 128) : Fin 1024 := ⟨128 * g.val + i.val, by omega⟩
/-- The `g`-th head of a group. -/
abbrev hd (kv : Fin 4) (g : Fin 8) : Fin 32 := ⟨8 * kv.val + g.val, by omega⟩
/-- Column `d` of head `h`. -/
abbrev qcol (h : Fin 32) (d : Fin 64) : Fin 2048 := ⟨64 * h.val + d.val, by omega⟩
/-- Column `d` of group `kv`. -/
abbrev kcol (kv : Fin 4) (d : Fin 64) : Fin 256 := ⟨64 * kv.val + d.val, by omega⟩
/-- Lane `d` of a half. -/
abbrev lane (e : Fin 2) (d : Fin 64) : Fin 128 := ⟨64 * e.val + d.val, by omega⟩

/-- Query row `r` of block `n` attends to band row `j`. -/
def V (n r j : ℕ) : Prop := (j ≤ r + 128 ∧ r < j) ∧ (128 ≤ j ∨ n ≠ 0)
instance (n r j : ℕ) : Decidable (V n r j) := by unfold V; infer_instance

/-- The group of a head. -/
abbrev grp (h : Fin 32) : Fin 4 := ⟨h.val / 8, by omega⟩

section block
variable (n : ℕ) (q g : Fin 128 → Fin 2048 → ℝ) (k v : Fin 256 → Fin 256 → ℝ) (b : Fin 32 → Fin 128 → Fin 256 → ℝ)
  (l : Fin 128 → Fin 32 → ℝ) (s : Fin 32 → ℝ)

/-- Head `h`'s product of row `i` with band row `j`. -/
def sc (h : Fin 32) (i : Fin 128) (j : Fin 256) : ℝ := ∑ d : Fin 64, q i (qcol h d) * k j (kcol (grp h) d)
/-- The probability that row `i` of head `h` gives band row `j`. -/
def pr (h : Fin 32) (i : Fin 128) (j : Fin 256) : ℝ :=
  if V n i.val j.val then Real.exp (sc q k h i j * (1 / 8) + b h i j - l i h) else 0
/-- The gradient of a row's probabilities, contracted with them. -/
def dl (h : Fin 32) (i : Fin 128) : ℝ := ∑ j, pr n q k b l h i j * sc g v h i j
/-- The gradient of the logits. -/
def ds (h : Fin 32) (i : Fin 128) (j : Fin 256) : ℝ := pr n q k b l h i j * (sc g v h i j - dl n q g k v b l h i)
/-- The gradient of a head's sink. -/
def dsk (h : Fin 32) : ℝ := -∑ i, Real.exp (s h - l i h) * dl n q g k v b l h i
def dq (i : Fin 128) (h : Fin 32) (d : Fin 64) : ℝ := (∑ j, ds n q g k v b l h i j * k j (kcol (grp h) d)) * (1 / 8)
def dk (j : Fin 256) (w : Fin 4) (d : Fin 64) : ℝ :=
  (∑ e : Fin 8, ∑ i, ds n q g k v b l (hd w e) i j * q i (qcol (hd w e) d)) * (1 / 8)
def dv (j : Fin 256) (w : Fin 4) (d : Fin 64) : ℝ := ∑ e : Fin 8, ∑ i, pr n q k b l (hd w e) i j * g i (qcol (hd w e) d)
end block

/-! Sums split and carried into the extended reals. -/

theorem coe_sum {ι : Type} (t : Finset ι) (f : ι → ℝ) : ((∑ x ∈ t, f x : ℝ) : EReal) = ∑ x ∈ t, (f x : EReal) := by
  classical
  induction t using Finset.induction_on with
  | empty => simp
  | insert a t ha ih => rw [Finset.sum_insert ha, Finset.sum_insert ha, EReal.coe_add, ih]

theorem sum_lanes {M : Type} [AddCommMonoid M] (f : Fin 128 → M) : ∑ l, f l = ∑ e : Fin 2, ∑ d : Fin 64, f (lane e d) := by
  rw [← Fintype.sum_prod_type', ← (finProdFinEquiv (m := 2) (n := 64)).sum_comp]
  exact Finset.sum_congr rfl fun x _ => congrArg f (Fin.ext (by simp [finProdFinEquiv]; omega))

theorem sum_rows {M : Type} [AddCommMonoid M] (f : Fin 1024 → M) : ∑ r, f r = ∑ g : Fin 8, ∑ i : Fin 128, f (row8 g i) := by
  rw [← Fintype.sum_prod_type', ← (finProdFinEquiv (m := 8) (n := 128)).sum_comp]
  exact Finset.sum_congr rfl fun x _ => congrArg f (Fin.ext (by simp [finProdFinEquiv]; omega))

theorem grp_hd (w : Fin 4) (e : Fin 8) : grp (hd w e) = w := Fin.ext (by simp; omega)
end Cert.Proof.K
end
-- ==== Proof.KVal.lean ====
module
public import proofs.«01_k».proof.Proof.KDefs
public import proofs.«01_k».proof.Proof.Spec
public import Idealize.ShloMosaic.Lib.Pointwise
public import Idealize.ShloMosaic.Lib.WordArith
@[expose] public section
set_option maxRecDepth 16384
noncomputable section
namespace Cert.Proof.K
open Cert.KernelIdeal Cert.KernelIdeal.Gen Cert.KernelIdeal.Value Idealize.ShloMosaic Idealize.ShloMosaic.TcCoe Idealize.SL.Sem

/-! The kernel's operations read at an index, over the extended reals. -/

theorem ofBits_eighth : Ideal.ofBits .f32 0x3E000000#32 = ((1 / 8 : ℝ) : EReal) := by
  simp [Ideal.ofBits, Ideal.ieee, -EReal.coe_mul]; norm_num

theorem at2 {m n : ℕ} {T : Type} (x : Shape.Idx ⟨2, ![m, n]⟩ → T) {a a' : Fin m} {b b' : Fin n} (h : a.val = a'.val) (h' : b.val = b'.val) :
    x (ix2 a b) = x (ix2 a' b') := by rw [Fin.ext h, Fin.ext h']
theorem at3 {m n p : ℕ} {T : Type} (x : Shape.Idx ⟨3, ![m, n, p]⟩ → T) {a a' : Fin m} {b b' : Fin n} {c c' : Fin p} (h : a.val = a'.val) (h' : b.val = b'.val)
    (h'' : c.val = c'.val) : x (ix3 a b c) = x (ix3 a' b' c') := by rw [Fin.ext h, Fin.ext h', Fin.ext h'']
theorem select_one {T : Type} (a b : T) : Scalar.select (1#1) a b = a := rfl
theorem select_zero {T : Type} (a b : T) : Scalar.select (0#1) a b = b := rfl
theorem low_apply (u : Fin 1) (l : Fin 128) : low (ix2 u l) = if l.val < 64 then 1#1 else 0#1 := by
  pointwise [low]
  revert l; decide +kernel
theorem lowB_apply (i l : Fin 128) : lowB (ix2 i l) = if l.val < 64 then 1#1 else 0#1 := by
  pointwise [lowB]
  exact low_apply _ _
theorem lowW_apply (i : Fin 256) (l : Fin 128) : lowW (ix2 i l) = if l.val < 64 then 1#1 else 0#1 := by
  pointwise [lowW]
  exact low_apply _ _
theorem highB_apply (i l : Fin 128) : highB (ix2 i l) = if l.val < 64 then 0#1 else 1#1 := by
  pointwise [highB]
  rw [low_apply]; split <;> rfl
theorem qblk_apply (n : Fin 16) (x : Vec Ideal S128x2048 .bf16) (i l : Fin 128) :
    qblk n x (ix2 i l) = x (ix2 i ⟨128 * n.val + l.val, by omega⟩) := by
  pointwise [qblk]
theorem dup_apply (kv : Fin 4) (x : FVec Ideal S256x256 .bf16) (j : Fin 256) (e : Fin 2) (d : Fin 64) :
    dup kv x (ix2 j (lane e d)) = x (ix2 j (kcol kv d)) := by
  fin_cases e <;> pointwise [dup]
theorem band_lo (a b : Vec Ideal S128x256 .bf16) (j : Fin 128) (c : Fin 256) :
    band a b (ix2 ⟨j.val, by omega⟩ c) = a (ix2 j c) := by
  pointwise [band]
theorem band_hi (a b : Vec Ideal S128x256 .bf16) (j : Fin 128) (c : Fin 256) :
    band a b (ix2 ⟨128 + j.val, by omega⟩ c) = b (ix2 j c) := by
  pointwise [band]
theorem zeroQ_apply (i : S128x128.Idx) : zeroQ (F := Ideal) i = 0 := by
  pointwise [zeroQ]
set_option maxHeartbeats 2000000 in
theorem stack_apply (kv : Fin 4) (x : Vec Ideal S128x2048 .bf16) (g : Fin 8) (i : Fin 128) (e : Fin 2) (d : Fin 64) :
    stack kv x (ix2 (row8 g i) (lane e d)) = if e.val = g.val % 2 then x (ix2 i (qcol (hd kv g) d)) else 0 := by
  fin_cases g <;> fin_cases e <;> pointwise [stack] <;>
   (try (rw [dif_neg (by omega)])) <;> (try (rw [dif_neg (by omega)])) <;> (try (rw [dif_neg (by omega)])) <;> (try (rw [dif_neg (by omega)])) <;>
   (try (rw [dif_neg (by omega)])) <;> (try (rw [dif_neg (by omega)])) <;> (try (rw [dif_neg (by omega)])) <;> (try (rw [dif_pos (by omega)])) <;>
   simp only [lowB_apply, highB_apply, qblk_apply, zeroQ_apply] <;> (first | rw [if_pos (by omega)] | rw [if_neg (by omega)]) <;>
   simp only [select_one, select_zero] <;> exact at2 x (by simp; try omega) (by simp; try omega)
theorem lseg_apply (kv : Fin 4) (x : Vec Ideal S128x128 .f32) (g : Fin 8) (i : Fin 128) (u : Fin 1) :
    lseg kv x (ix3 g i u) = x (ix2 i ⟨8 * kv.val + g.val, by omega⟩) := by
  fin_cases g <;> pointwise [lseg]
theorem word_apply (x : Vec Ideal S32 .f32) (n : Fin 32) : word x n = x (ix1 n) := by
  pointwise [word]
theorem sinkg_apply (kv : Fin 4) (x : Vec Ideal S32 .f32) (g : Fin 8) (i : Fin 128) (u : Fin 1) :
    sinkg kv x (ix3 g i u) = x (ix1 (hd kv g)) := by
  fin_cases g <;> pointwise [sinkg] <;> (rw [word_apply]; rfl)

theorem first_bit (n : Fin 32) : Scalar.xori (BitVec.ofBool (BitVec.ofNat 32 n.val == 0#32)) 1#1 = BitVec.ofBool (decide (n.val ≠ 0)) := by
  revert n; decide +kernel

theorem valid_apply (i : grid0.Coords) (r : Fin 128) (j : Fin 256) :
    valid i (ix2 r j) = BitVec.ofBool (decide (V (i 0).val r.val j.val)) := by
  have hi : (i 0).val < 32 := (i 0).isLt
  pointwise [valid]
  have e1 : (IntOp.subi (IntOp.addi (BitVec.ofNat 32 r.val) 128#32) (BitVec.ofNat 32 j.val)).toInt = (r.val : ℤ) + 128 - j.val := by
    have ha : (BitVec.ofNat 32 r.val + 128#32).toInt = (r.val : ℤ) + 128 := by
      rw [WordArith.toInt_add_of_bounds] <;> rw [WordArith.toInt_ofNat_small _ (by omega)] <;> simp <;> omega
    show (BitVec.ofNat 32 r.val + 128#32 - BitVec.ofNat 32 j.val).toInt = _
    rw [WordArith.toInt_sub_of_bounds] <;> rw [ha, WordArith.toInt_ofNat_small _ (by omega)] <;> omega
  have e2 : (128#32).toInt = 128 := rfl
  have e3 : (0#32).toInt = 0 := rfl
  have e4 := first_bit ⟨(i 0).val, hi⟩
  simp only [IntOp.cmpi, Scalar.cmpi, BitVec.sle_eq_decide, BitVec.slt_eq_decide, e1, e2, e3, e4, WordArith.toInt_ofNat_small j.val (by omega),
    WordArith.andi_ofBool, WordArith.ori_ofBool]
  congr 1
  have a1 : decide ((0 : ℤ) ≤ (r.val : ℤ) + 128 - j.val) = decide (j.val ≤ r.val + 128) := decide_eq_decide.mpr (by omega)
  have a2 : decide ((r.val : ℤ) + 128 - j.val < 128) = decide (r.val < j.val) := decide_eq_decide.mpr (by omega)
  have a3 : decide ((128 : ℤ) ≤ (j.val : ℤ)) = decide (128 ≤ j.val) := decide_eq_decide.mpr (by omega)
  rw [a1, a2, a3, Bool.eq_iff_iff]
  simp only [Bool.and_eq_true, Bool.or_eq_true, decide_eq_true_eq]
  exact Iff.rfl

theorem named_mask : Named.named (F := Ideal) (φ := .f32) κ "mask" 0xF149F2CA#32 = (⊥ : EReal) := by
  simp [Named.named, κ]
theorem probs_apply (s : FVec Ideal S1024x256 .f32) (b : FVec Ideal S8x128x256 .f32) (l : FVec Ideal S8x128x1 .f32) (va : IVec S128x256 1)
   (g : Fin 8) (i : Fin 128) (j : Fin 256) :
    probs s b l va (ix3 g i j) = Ideal.exp (Scalar.select (va (ix2 i j)) (s (ix2 (row8 g i) j) * ((1 / 8 : ℝ) : EReal) + b (ix3 g i j)) ⊥ - l (ix3 g i 0)) := by
  pointwise [probs]
  rw [ofBits_eighth, named_mask, at2 s (a' := row8 g i) (b' := j) (by simp; omega) rfl]
theorem delta_apply (p dp : FVec Ideal S8x128x256 .f32) (g : Fin 8) (i : Fin 128) (u : Fin 1) :
    delta p dp (ix3 g i u) = ∑ j : Fin 256, p (ix3 g i j) * dp (ix3 g i j) := by
  pointwise [delta]
theorem dlog_apply (p dp : FVec Ideal S8x128x256 .f32) (d) (g : Fin 8) (i : Fin 128) (j : Fin 256) :
    dlog p dp d (ix3 g i j) = p (ix3 g i j) * (dp (ix3 g i j) - d (ix3 g i 0)) := by
  pointwise [dlog]
theorem dsink_apply (s l d : FVec Ideal S8x128x1 .f32) (g : Fin 8) (u w: Fin 1) :
    dsink s l d (ix3 g u w) = 0 - ∑ x : Fin 128, Ideal.exp (s (ix3 g x 0) - l (ix3 g x 0)) * d (ix3 g x 0) := by
  pointwise [dsink]
theorem word_eq (l : Fin 128) (n : Fin 32) : IntOp.cmpi .eq (BitVec.ofNat 32 l.val) (BitVec.ofNat 32 n.val) = BitVec.ofBool (decide (l.val = n.val)) := by
  revert l n; decide +kernel
theorem select_ofBool {T : Type} (p : Prop) [Decidable p] (a b : T) : Scalar.select (BitVec.ofBool (decide p)) a b = if p then a else b := by
  by_cases h : p <;> simp [h, Scalar.select]
theorem put_apply (kv : Fin 4) (ds : FVec Ideal S8x1x1 .f32) (g : Fin 8) (row : FVec Ideal S1x128 .f32) (u : Fin 1) (l : Fin 128) :
    put kv ds g row (ix2 u l) = row (ix2 u l) + if l.val = 8 * kv.val + g.val then ds (ix3 g 0 0) else 0 := by
  pointwise [put]
  have := word_eq l (hd kv g)
  dsimp only at this
  rw [this, select_ofBool]
theorem rowdot_apply (a : FVec Ideal S1024x128 .bf16) (b : FVec Ideal S256x128 .bf16) (r : Fin 1024) (j : Fin 256) :
    rowdot a b (ix2 r j) = ∑ l : Fin 128, a (ix2 r l) * b (ix2 j l) := by
  pointwise [rowdot]
theorem dprobs_apply (s : FVec Ideal S1024x256 .f32) (g : Fin 8) (i : Fin 128) (j : Fin 256) :
    dprobs s (ix3 g i j) = s (ix2 (row8 g i) j) := by
  pointwise [dprobs]
  exact at2 s (by simp; omega) rfl
theorem flat_apply (x : FVec Ideal S8x128x256 .f32) (g : Fin 8) (i : Fin 128) (j : Fin 256) :
    flat x (ix2 (row8 g i) j) = x (ix3 g i j) := by
  pointwise [flat]
  exact at3 x (by simp; try omega) (by simp; try omega) rfl
theorem dqs_apply (x : FVec Ideal S1024x256 .bf16) (k : FVec Ideal S256x128 .bf16) (r : Fin 1024) (l : Fin 128) :
    dqs x k (ix2 r l) = (∑ j, x (ix2 r j) * k (ix2 j l)) * ((1 / 8 : ℝ) : EReal) := by
  pointwise [dqs]
  rw [ofBits_eighth]
theorem coldot_apply (x : FVec Ideal S1024x256 .bf16) (k : FVec Ideal S1024x128 .bf16) (j : Fin 256) (l : Fin 128) :
    coldot x k (ix2 j l) = ∑ r, x (ix2 r j) * k (ix2 r l) := by
  pointwise [coldot]
theorem fold_apply (x : FVec Ideal S256x128 .f32) (j : Fin 256) (e : Fin 2) (d : Fin 64) :
    fold x (ix2 j (lane e d)) = x (ix2 j (lane 0 d)) + x (ix2 j (lane 1 d)) := by
  fin_cases e <;> pointwise [fold]
  · congr 1; exact at2 x rfl (by simp; omega)
  · rw [add_comm]; congr 1; exact at2 x rfl (by simp; try omega)
theorem bias_apply (kv : Fin 4) (x : FVec Ideal S32x128x256 .f32) (g : Fin 8) (i : Fin 128) (j : Fin 256) :
    bias kv x (ix3 g i j) = x (ix3 (hd kv g) i j) := by
  pointwise [bias]
theorem pick_apply (x : FVec Ideal S1024x128 .f32) (a b : Fin 8) (i : Fin 128) (e : Fin 2) (d : Fin 64) :
    pick x a b (ix2 i (lane e d)) = x (ix2 (row8 (if e = 0 then a else b) i) (lane e d)) := by
  fin_cases e <;> pointwise [pick] <;> rw [lowB_apply] <;>
    (first | (rw [if_pos (by simp)]; rw [select_one]; done) | (rw [if_neg (by simp)]; rw [select_zero]; done) | (rw [if_pos (by simp)]; rw [select_one]; exact at2 x rfl (by simp)) |
      (rw [if_neg (by simp)]; rw [select_zero]; exact at2 x rfl (by simp)))
theorem unstack_apply (x : FVec Ideal S1024x128 .f32) (i : Fin 128) (g : Fin 8) (d : Fin 64) :
    unstack x (ix2 i ⟨64 * g.val + d.val, by omega⟩) = x (ix2 (row8 g i) (lane ⟨g.val % 2, by omega⟩ d)) := by
  have key : ∀ (a b : Fin 8) (e : Fin 2) (l : Fin 128), l.val = 64 * e.val + d.val →
      pick x a b (ix2 i l) = x (ix2 (row8 (if e = 0 then a else b) i) (lane e d)) := fun a b e l h => by
    rw [show l = lane e d from Fin.ext h]; exact pick_apply x a b i e d
  fin_cases g <;> pointwise [unstack] <;>
   (try (rw [dif_neg (by omega)])) <;> (try (rw [dif_neg (by omega)])) <;> (try (rw [dif_neg (by omega)])) <;> (try (rw [dif_pos (by omega)])) <;>
   (first | (rw [key _ _ 0 _ (by simp; try omega)]; rfl) | (rw [key _ _ 1 _ (by simp; try omega)]; rfl))
theorem merge_apply (a b c d : FVec Ideal S256x128 .f32) (j : Fin 256) (kv : Fin 4) (t : Fin 64) :
    merge a b c d (ix2 j (kcol kv t)) = (![a, b, c, d] kv : FVec Ideal S256x128 .f32) (ix2 j (lane ⟨kv.val % 2, by omega⟩ t)) := by
  fin_cases kv <;> pointwise [merge] <;>
   (try (rw [dif_neg (by omega)])) <;> (try (rw [dif_pos (by omega)])) <;> simp only [lowW_apply] <;>
   (first | rw [if_pos (by omega)] | rw [if_neg (by omega)]) <;> simp only [select_one, select_zero] <;>
   exact at2 _ rfl (by simp; try omega)
theorem addTo_apply (a b : FVec Ideal S256x256 .f32) (i j : Fin 256) : addTo a b (ix2 i j) = a (ix2 i j) + b (ix2 i j) := by
  pointwise [addTo]
theorem addB_apply (a b : FVec Ideal S8x128x256 .f32) (g : Fin 8) (i : Fin 128) (j : Fin 256) : addB a b (ix3 g i j) = a (ix3 g i j) + b (ix3 g i j) := by
  pointwise [addB]
theorem addS_apply (a b : FVec Ideal S1x128 .f32) (i : Fin 1) (j : Fin 128) : addS a b (ix2 i j) = a (ix2 i j) + b (ix2 i j) := by
  pointwise [addS]
end Cert.Proof.K
end
-- ==== Proof.KReal.lean ====
module
public import proofs.«01_k».proof.Proof.KVal
@[expose] public section
set_option maxRecDepth 16384
noncomputable section
namespace Cert.Proof.K
open Cert.KernelIdeal Cert.KernelIdeal.Gen Cert.KernelIdeal.Value Idealize.ShloMosaic Idealize.ShloMosaic.TcCoe Idealize.SL.Sem

/-! A grid point's results, where what it reads is real. -/

theorem stack_dot (kv : Fin 4) (x : Vec Ideal S128x2048 .bf16) (k : FVec Ideal S256x256 .bf16) (g : Fin 8) (i : Fin 128) (j : Fin 256) :
    rowdot (stack kv x) (dup kv k) (ix2 (row8 g i) j) = ∑ d : Fin 64, x (ix2 i (qcol (hd kv g) d)) * k (ix2 j (kcol kv d)) := by
  rw [rowdot_apply, sum_lanes, Fin.sum_univ_two]
  simp only [stack_apply, dup_apply]
  rcases Nat.mod_two_eq_zero_or_one g.val with h | h <;> simp [h]

theorem coldot_stack (kv : Fin 4) (y : FVec Ideal S8x128x256 .f32) (x : Vec Ideal S128x2048 .bf16) (j : Fin 256) (t : Fin 2) (d : Fin 64) :
    fold (coldot (flat y) (stack kv x)) (ix2 j (lane t d)) = ∑ e : Fin 8, ∑ r : Fin 128, y (ix3 e r j) * x (ix2 r (qcol (hd kv e) d)) := by
  rw [fold_apply, coldot_apply, coldot_apply, sum_rows, sum_rows, ← Finset.sum_add_distrib]
  refine Finset.sum_congr rfl fun e _ => ?_
  rw [← Finset.sum_add_distrib]
  refine Finset.sum_congr rfl fun r _ => ?_
  rw [flat_apply, stack_apply, stack_apply]
  rcases Nat.mod_two_eq_zero_or_one e.val with h | h <;> simp [h]

theorem quads (a b c d : FVec Ideal S128x512 .f32) (i : Fin 128) (kv : Fin 4) (m : Fin 512) :
    (truncf .bf16 (concatenate S128x2048 1 [⟨S128x512, a⟩, ⟨S128x512, b⟩, ⟨S128x512, c⟩, ⟨S128x512, d⟩]
      concatenates_S128x512_S128x512_S128x512_S128x512_S128x2048_d1) bitsLt_bf16_f32 : FVec Ideal S128x2048 .bf16) (ix2 i ⟨512 * kv.val + m.val, by omega⟩)
      = (![a, b, c, d] kv : FVec Ideal S128x512 .f32) (ix2 i m) := by
  fin_cases kv <;> pointwise [] <;>
   (try (rw [dif_neg (by omega)])) <;> (try (rw [dif_neg (by omega)])) <;> (try (rw [dif_neg (by omega)])) <;> (try (rw [dif_pos (by omega)])) <;>
   exact at2 _ rfl (by simp; try omega)

section point
variable (i : grid0.Coords) (x0 : Vec Ideal S128x2048 .bf16) (x1 x2 x3 x4 : Vec Ideal S128x256 .bf16) (x5 : Vec Ideal S32x128x256 .f32)
  (x6 : Vec Ideal S32 .f32) (x7 : Vec Ideal S128x2048 .bf16) (x8 : Vec Ideal S128x128 .f32)
variable {q g : Fin 128 → Fin 2048 → ℝ} {k v : Fin 256 → Fin 256 → ℝ} {b : Fin 32 → Fin 128 → Fin 256 → ℝ}
  {l : Fin 128 → Fin 32 → ℝ} {s : Fin 32 → ℝ}

theorem P_real (hq : ∀ r c, x0 (ix2 r c) = (q r c : EReal)) (hk : ∀ j c, band x1 x2 (ix2 j c) = (k j c : EReal))
    (hb : ∀ h r j, x5 (ix3 h r j) = (b h r j : EReal)) (hl : ∀ r (h : Fin 32), x8 (ix2 r ⟨h.val, by omega⟩) = (l r h : EReal))
    (kv : Fin 4) (e : Fin 8) (r : Fin 128) (j : Fin 256) :
    P i x0 x1 x2 x5 x8 kv (ix3 e r j) = (pr (i 0).val q k b l (hd kv e) r j : EReal) := by
  rw [P, probs_apply, valid_apply, select_ofBool, stack_dot, bias_apply, lseg_apply, hb, hl r (hd kv e)]
  simp only [hq, hk, ← EReal.coe_mul, ← coe_sum, ← EReal.coe_add]
  unfold pr sc
  by_cases h : V (i 0).val r.val j.val
  · rw [if_pos h, if_pos h, ← EReal.coe_sub, Ideal.exp_coe, grp_hd]
  · rw [if_neg h, if_neg h, EReal.bot_sub, Ideal.exp_bot]; rfl

theorem DP_real (hg : ∀ r c, x7 (ix2 r c) = (g r c : EReal)) (hv : ∀ j c, band x3 x4 (ix2 j c) = (v j c : EReal))
    (kv : Fin 4) (e : Fin 8) (r : Fin 128) (j : Fin 256) :
    DP x3 x4 x7 kv (ix3 e r j) = (sc g v (hd kv e) r j : EReal) := by
  rw [DP, dprobs_apply, stack_dot]
  simp only [hg, hv, ← EReal.coe_mul, ← coe_sum]
  rw [sc, grp_hd]

variable (hq : ∀ r c, x0 (ix2 r c) = (q r c : EReal)) (hk : ∀ j c, band x1 x2 (ix2 j c) = (k j c : EReal))
  (hg : ∀ r c, x7 (ix2 r c) = (g r c : EReal)) (hv : ∀ j c, band x3 x4 (ix2 j c) = (v j c : EReal))
  (hb : ∀ h r j, x5 (ix3 h r j) = (b h r j : EReal)) (hs : ∀ h, x6 (ix1 h) = (s h : EReal))
  (hl : ∀ r (h : Fin 32), x8 (ix2 r ⟨h.val, by omega⟩) = (l r h : EReal))
include hq hk hb hl hg hv

theorem DL_real (kv : Fin 4) (e : Fin 8) (r : Fin 128) (u : Fin 1) :
    DL i x0 x1 x2 x3 x4 x5 x7 x8 kv (ix3 e r u) = (dl (i 0).val q g k v b l (hd kv e) r : EReal) := by
  rw [DL, delta_apply]
  simp only [P_real i x0 x1 x2 x5 x8 hq hk hb hl, DP_real x3 x4 x7 hg hv, ← EReal.coe_mul, ← coe_sum]
  rfl

theorem DS_real (kv : Fin 4) (e : Fin 8) (r : Fin 128) (j : Fin 256) :
    DS i x0 x1 x2 x3 x4 x5 x7 x8 kv (ix3 e r j) = (ds (i 0).val q g k v b l (hd kv e) r j : EReal) := by
  rw [DS, dlog_apply, P_real i x0 x1 x2 x5 x8 hq hk hb hl, DP_real x3 x4 x7 hg hv, DL_real i x0 x1 x2 x3 x4 x5 x7 x8 hq hk hg hv hb hl,
    ← EReal.coe_sub, ← EReal.coe_mul]
  rfl

include hs in
theorem DSK_real (kv : Fin 4) (e : Fin 8) (u w : Fin 1) :
    DSK i x0 x1 x2 x3 x4 x5 x6 x7 x8 kv (ix3 e u w) = (dsk (i 0).val q g k v b l s (hd kv e) : EReal) := by
  rw [DSK, dsink_apply]
  have hl' : ∀ r, x8 (ix2 r ⟨8 * kv.val + e.val, by omega⟩) = (l r (hd kv e) : EReal) := fun r => hl r (hd kv e)
  simp only [sinkg_apply, lseg_apply, hs, hl', DL_real i x0 x1 x2 x3 x4 x5 x7 x8 hq hk hg hv hb hl, ← EReal.coe_sub, Ideal.exp_coe, ← EReal.coe_mul, ← coe_sum]
  rw [← EReal.coe_zero, ← EReal.coe_sub, zero_sub]
  rfl

theorem DQ_real (kv : Fin 4) (e : Fin 8) (r : Fin 128) (d : Fin 64) :
    DQ i x0 x1 x2 x3 x4 x5 x7 x8 kv (ix2 r ⟨64 * e.val + d.val, by omega⟩) = (dq (i 0).val q g k v b l r (hd kv e) d : EReal) := by
  rw [DQ, unstack_apply, dqs_apply]
  simp only [flat_apply, dup_apply, DS_real i x0 x1 x2 x3 x4 x5 x7 x8 hq hk hg hv hb hl, hk, ← EReal.coe_mul, ← coe_sum]
  rw [dq, grp_hd]

theorem DK_real (kv : Fin 4) (j : Fin 256) (t : Fin 2) (d : Fin 64) :
    DK i x0 x1 x2 x3 x4 x5 x7 x8 kv (ix2 j (lane t d)) = (dk (i 0).val q g k v b l j kv d : EReal) := by
  have : DK i x0 x1 x2 x3 x4 x5 x7 x8 kv (ix2 j (lane t d))
      = fold (coldot (flat (DS i x0 x1 x2 x3 x4 x5 x7 x8 kv)) (stack kv x0)) (ix2 j (lane t d)) * ((1 / 8 : ℝ) : EReal) := by
    rw [← ofBits_eighth]; rfl
  rw [this, coldot_stack]
  simp only [DS_real i x0 x1 x2 x3 x4 x5 x7 x8 hq hk hg hv hb hl, hq, ← EReal.coe_mul, ← coe_sum]
  rfl

theorem DV_real (kv : Fin 4) (j : Fin 256) (t : Fin 2) (d : Fin 64) :
    DV i x0 x1 x2 x5 x7 x8 kv (ix2 j (lane t d)) = (dv (i 0).val q g k b l j kv d : EReal) := by
  rw [DV, dvg, coldot_stack]
  simp only [P_real i x0 x1 x2 x5 x8 hq hk hb hl, hg, ← EReal.coe_mul, ← coe_sum]
  rfl

theorem dkAll_real (j : Fin 256) (kv : Fin 4) (d : Fin 64) :
    dkAll i x0 x1 x2 x3 x4 x5 x7 x8 (ix2 j (kcol kv d)) = (dk (i 0).val q g k v b l j kv d : EReal) := by
  rw [dkAll, merge_apply]
  fin_cases kv <;> exact DK_real i x0 x1 x2 x3 x4 x5 x7 x8 hq hk hg hv hb hl _ j _ d

theorem dvAll_real (j : Fin 256) (kv : Fin 4) (d : Fin 64) :
    dvAll i x0 x1 x2 x5 x7 x8 (ix2 j (kcol kv d)) = (dv (i 0).val q g k b l j kv d : EReal) := by
  rw [dvAll, merge_apply]
  fin_cases kv <;> exact DV_real i x0 x1 x2 x3 x4 x5 x7 x8 hq hk hg hv hb hl _ j _ d

theorem dqAll_real (r : Fin 128) (h : Fin 32) (d : Fin 64) :
    dqAll i x0 x1 x2 x3 x4 x5 x7 x8 (ix2 r (qcol h d)) = (dq (i 0).val q g k v b l r h d : EReal) := by
  obtain ⟨kv, e, rfl⟩ : ∃ kv e, h = hd kv e := ⟨grp h, ⟨h.val % 8, by omega⟩, Fin.ext (by simp; omega)⟩
  rw [← DQ_real i x0 x1 x2 x3 x4 x5 x7 x8 hq hk hg hv hb hl]
  have : qcol (hd kv e) d = ⟨512 * kv.val + (⟨64 * e.val + d.val, by omega⟩ : Fin 512).val, by simp; omega⟩ := Fin.ext (by simp; omega)
  rw [this, dqAll, quads]
  fin_cases kv <;> rfl

include hs in
theorem dsAll_real (u : Fin 1) (h : Fin 32) :
    dsAll i x0 x1 x2 x3 x4 x5 x6 x7 x8 (ix2 u ⟨h.val, by omega⟩) = (dsk (i 0).val q g k v b l s h : EReal) := by
  obtain ⟨kv, e, rfl⟩ : ∃ kv e, h = hd kv e := ⟨grp h, ⟨h.val % 8, by omega⟩, Fin.ext (by simp; omega)⟩
  rw [← DSK_real i x0 x1 x2 x3 x4 x5 x6 x7 x8 hq hk hg hv hb hs hl kv e 0 0]
  simp only [dsAll, putAll, put_apply]
  fin_cases kv <;> fin_cases e <;> simp <;> exact zero_add _

omit hq hk hg hv hb hl in
theorem dsAll_rest (u : Fin 1) (t : Fin 128) (ht : 32 ≤ t.val) : dsAll i x0 x1 x2 x3 x4 x5 x6 x7 x8 (ix2 u t) = 0 := by
  have key : ∀ (kv : Fin 4) (e : Fin 8) (ds : FVec Ideal S8x1x1 .f32) (row : FVec Ideal S1x128 .f32), put kv ds e row (ix2 u t) = row (ix2 u t) := by
    intro kv e ds row
    rw [put_apply, if_neg (by omega), add_zero]
  simp only [dsAll, putAll, key]
  exact Ideal.ofBits_zero_f32
end point
end Cert.Proof.K
end
-- ==== Proof.KFold.lean ====
module
public import proofs.«01_k».proof.Proof.KDefs
import Idealize.ShloMosaic.Lib.Pipeline.ValueKit
@[expose] public section
set_option maxRecDepth 16384
noncomputable section
namespace Cert.Proof.K
open Cert.KernelIdeal Cert.KernelIdeal.Gen Cert.KernelIdeal.Value Idealize.ShloMosaic Idealize.ShloMosaic.TcCoe Idealize.SL.Sem
variable {F : FTy → Type} [FloatOps F] [Named F]

/-! The kernel's texts of the four groups, read as the operations named in `KDefs`. -/

theorem hz2 : (![0, 0] : Fin 2 → Nat) = fun _ => 0 := by decide +kernel
theorem ld_q (x : Vec F S128x2048 .bf16) : View.ld x (Rect.unit (s := S128x2048) ![0, 0] S128x2048.size inb_S128x2048_S128x2048_0_0) = x :=
  View.ld_unit_zero (Val := Elt F) (S := S128x2048) hz2 _ x
theorem ld_k (x : Vec F S128x256 .bf16) : View.ld x (Rect.unit (s := S128x256) ![0, 0] S128x256.size inb_S128x256_S128x256_0_0) = x :=
  View.ld_unit_zero (Val := Elt F) (S := S128x256) hz2 _ x
theorem ld_l (x : Vec F S128x128 .f32) : View.ld x (Rect.unit (s := S128x128) ![0, 0] S128x128.size inb_S128x128_S128x128_0_0) = x :=
  View.ld_unit_zero (Val := Elt F) (S := S128x128) hz2 _ x
theorem stack_0 (x : Vec F S128x2048 .bf16) : concatenate S1024x128 0 [⟨S128x128, select (broadcastTo S128x128 (shapeCast S1x128 (cmpi .slt (iota .tc S1x128 32 [1] iota_S1x128_d1_w32) (broadcast S1x128 64#32)) shapeCasts_S1x128_S1x128) broadcasts_S1x128_S128x128) (extractStridedSlice S128x128 ![0, 0] x slices_S128x2048_o0_0_S128x128) (broadcast S128x128 (Scalar.ofBits .bf16 0x0000#16))⟩,
  ⟨S128x128, select (broadcastTo S128x128 (shapeCast S1x128 (xori (cmpi .slt (iota .tc S1x128 32 [1] iota_S1x128_d1_w32) (broadcast S1x128 64#32)) (constantI S1x128 1 1#1)) shapeCasts_S1x128_S1x128) broadcasts_S1x128_S128x128) (extractStridedSlice S128x128 ![0, 0] x slices_S128x2048_o0_0_S128x128) (broadcast S128x128 (Scalar.ofBits .bf16 0x0000#16))⟩,
  ⟨S128x128, select (broadcastTo S128x128 (shapeCast S1x128 (cmpi .slt (iota .tc S1x128 32 [1] iota_S1x128_d1_w32) (broadcast S1x128 64#32)) shapeCasts_S1x128_S1x128) broadcasts_S1x128_S128x128) (extractStridedSlice S128x128 ![0, 128] x slices_S128x2048_o0_128_S128x128) (broadcast S128x128 (Scalar.ofBits .bf16 0x0000#16))⟩,
  ⟨S128x128, select (broadcastTo S128x128 (shapeCast S1x128 (xori (cmpi .slt (iota .tc S1x128 32 [1] iota_S1x128_d1_w32) (broadcast S1x128 64#32)) (constantI S1x128 1 1#1)) shapeCasts_S1x128_S1x128) broadcasts_S1x128_S128x128) (extractStridedSlice S128x128 ![0, 128] x slices_S128x2048_o0_128_S128x128) (broadcast S128x128 (Scalar.ofBits .bf16 0x0000#16))⟩,
  ⟨S128x128, select (broadcastTo S128x128 (shapeCast S1x128 (cmpi .slt (iota .tc S1x128 32 [1] iota_S1x128_d1_w32) (broadcast S1x128 64#32)) shapeCasts_S1x128_S1x128) broadcasts_S1x128_S128x128) (extractStridedSlice S128x128 ![0, 256] x slices_S128x2048_o0_256_S128x128) (broadcast S128x128 (Scalar.ofBits .bf16 0x0000#16))⟩,
  ⟨S128x128, select (broadcastTo S128x128 (shapeCast S1x128 (xori (cmpi .slt (iota .tc S1x128 32 [1] iota_S1x128_d1_w32) (broadcast S1x128 64#32)) (constantI S1x128 1 1#1)) shapeCasts_S1x128_S1x128) broadcasts_S1x128_S128x128) (extractStridedSlice S128x128 ![0, 256] x slices_S128x2048_o0_256_S128x128) (broadcast S128x128 (Scalar.ofBits .bf16 0x0000#16))⟩,
  ⟨S128x128, select (broadcastTo S128x128 (shapeCast S1x128 (cmpi .slt (iota .tc S1x128 32 [1] iota_S1x128_d1_w32) (broadcast S1x128 64#32)) shapeCasts_S1x128_S1x128) broadcasts_S1x128_S128x128) (extractStridedSlice S128x128 ![0, 384] x slices_S128x2048_o0_384_S128x128) (broadcast S128x128 (Scalar.ofBits .bf16 0x0000#16))⟩,
  ⟨S128x128, select (broadcastTo S128x128 (shapeCast S1x128 (xori (cmpi .slt (iota .tc S1x128 32 [1] iota_S1x128_d1_w32) (broadcast S1x128 64#32)) (constantI S1x128 1 1#1)) shapeCasts_S1x128_S1x128) broadcasts_S1x128_S128x128) (extractStridedSlice S128x128 ![0, 384] x slices_S128x2048_o0_384_S128x128) (broadcast S128x128 (Scalar.ofBits .bf16 0x0000#16))⟩] concatenates_S128x128_S128x128_S128x128_S128x128_S128x128_S128x128_S128x128_S128x128_S1024x128_d0 = stack 0 x := rfl
theorem dup_0 (x : FVec F S256x256 .bf16) : concatenate S256x128 1 [⟨S256x64, extractStridedSlice S256x64 ![0, 0] x slices_S256x256_o0_0_S256x64⟩, ⟨S256x64, extractStridedSlice S256x64 ![0, 0] x slices_S256x256_o0_0_S256x64⟩] concatenates_S256x64_S256x64_S256x128_d1 = dup 0 x := rfl
theorem lseg_0 (x : Vec F S128x128 .f32) : concatenate S8x128x1 0 [⟨S1x128x1, shapeCast S1x128x1 (extractStridedSlice S128x1 ![0, 0] (shapeCast S128x128 x shapeCasts_S128x128_S128x128) slices_S128x128_o0_0_S128x1) shapeCasts_S128x1_S1x128x1⟩,
  ⟨S1x128x1, shapeCast S1x128x1 (extractStridedSlice S128x1 ![0, 1] (shapeCast S128x128 x shapeCasts_S128x128_S128x128) slices_S128x128_o0_1_S128x1) shapeCasts_S128x1_S1x128x1⟩,
  ⟨S1x128x1, shapeCast S1x128x1 (extractStridedSlice S128x1 ![0, 2] (shapeCast S128x128 x shapeCasts_S128x128_S128x128) slices_S128x128_o0_2_S128x1) shapeCasts_S128x1_S1x128x1⟩,
  ⟨S1x128x1, shapeCast S1x128x1 (extractStridedSlice S128x1 ![0, 3] (shapeCast S128x128 x shapeCasts_S128x128_S128x128) slices_S128x128_o0_3_S128x1) shapeCasts_S128x1_S1x128x1⟩,
  ⟨S1x128x1, shapeCast S1x128x1 (extractStridedSlice S128x1 ![0, 4] (shapeCast S128x128 x shapeCasts_S128x128_S128x128) slices_S128x128_o0_4_S128x1) shapeCasts_S128x1_S1x128x1⟩,
  ⟨S1x128x1, shapeCast S1x128x1 (extractStridedSlice S128x1 ![0, 5] (shapeCast S128x128 x shapeCasts_S128x128_S128x128) slices_S128x128_o0_5_S128x1) shapeCasts_S128x1_S1x128x1⟩,
  ⟨S1x128x1, shapeCast S1x128x1 (extractStridedSlice S128x1 ![0, 6] (shapeCast S128x128 x shapeCasts_S128x128_S128x128) slices_S128x128_o0_6_S128x1) shapeCasts_S128x1_S1x128x1⟩,
  ⟨S1x128x1, shapeCast S1x128x1 (extractStridedSlice S128x1 ![0, 7] (shapeCast S128x128 x shapeCasts_S128x128_S128x128) slices_S128x128_o0_7_S128x1) shapeCasts_S128x1_S1x128x1⟩] concatenates_S1x128x1_S1x128x1_S1x128x1_S1x128x1_S1x128x1_S1x128x1_S1x128x1_S1x128x1_S8x128x1_d0 = lseg 0 x := rfl
theorem sink_0 (x : Vec F S32 .f32) : concatenate S8x128x1 0 [⟨S1x128x1, broadcast S1x128x1 (View.ld x (Rect.unit (s := S32) ![0] S1.size inb_S32_S1_0) (Shape.Idx.first (show 0 < S1.numel by decide)))⟩,
  ⟨S1x128x1, broadcast S1x128x1 (View.ld x (Rect.unit (s := S32) ![1] S1.size inb_S32_S1_1) (Shape.Idx.first (show 0 < S1.numel by decide)))⟩,
  ⟨S1x128x1, broadcast S1x128x1 (View.ld x (Rect.unit (s := S32) ![2] S1.size inb_S32_S1_2) (Shape.Idx.first (show 0 < S1.numel by decide)))⟩,
  ⟨S1x128x1, broadcast S1x128x1 (View.ld x (Rect.unit (s := S32) ![3] S1.size inb_S32_S1_3) (Shape.Idx.first (show 0 < S1.numel by decide)))⟩,
  ⟨S1x128x1, broadcast S1x128x1 (View.ld x (Rect.unit (s := S32) ![4] S1.size inb_S32_S1_4) (Shape.Idx.first (show 0 < S1.numel by decide)))⟩,
  ⟨S1x128x1, broadcast S1x128x1 (View.ld x (Rect.unit (s := S32) ![5] S1.size inb_S32_S1_5) (Shape.Idx.first (show 0 < S1.numel by decide)))⟩,
  ⟨S1x128x1, broadcast S1x128x1 (View.ld x (Rect.unit (s := S32) ![6] S1.size inb_S32_S1_6) (Shape.Idx.first (show 0 < S1.numel by decide)))⟩,
  ⟨S1x128x1, broadcast S1x128x1 (View.ld x (Rect.unit (s := S32) ![7] S1.size inb_S32_S1_7) (Shape.Idx.first (show 0 < S1.numel by decide)))⟩] concatenates_S1x128x1_S1x128x1_S1x128x1_S1x128x1_S1x128x1_S1x128x1_S1x128x1_S1x128x1_S8x128x1_d0 = sinkg 0 x := rfl
theorem bias_0 (x : Vec F S32x128x256 .f32) : View.ld x (Rect.unit (s := S32x128x256) ![0, 0, 0] S8x128x256.size inb_S32x128x256_S8x128x256_0_0_0) = bias 0 x := rfl
theorem stack_1 (x : Vec F S128x2048 .bf16) : concatenate S1024x128 0 [⟨S128x128, select (broadcastTo S128x128 (shapeCast S1x128 (cmpi .slt (iota .tc S1x128 32 [1] iota_S1x128_d1_w32) (broadcast S1x128 64#32)) shapeCasts_S1x128_S1x128) broadcasts_S1x128_S128x128) (extractStridedSlice S128x128 ![0, 512] x slices_S128x2048_o0_512_S128x128) (broadcast S128x128 (Scalar.ofBits .bf16 0x0000#16))⟩,
  ⟨S128x128, select (broadcastTo S128x128 (shapeCast S1x128 (xori (cmpi .slt (iota .tc S1x128 32 [1] iota_S1x128_d1_w32) (broadcast S1x128 64#32)) (constantI S1x128 1 1#1)) shapeCasts_S1x128_S1x128) broadcasts_S1x128_S128x128) (extractStridedSlice S128x128 ![0, 512] x slices_S128x2048_o0_512_S128x128) (broadcast S128x128 (Scalar.ofBits .bf16 0x0000#16))⟩,
  ⟨S128x128, select (broadcastTo S128x128 (shapeCast S1x128 (cmpi .slt (iota .tc S1x128 32 [1] iota_S1x128_d1_w32) (broadcast S1x128 64#32)) shapeCasts_S1x128_S1x128) broadcasts_S1x128_S128x128) (extractStridedSlice S128x128 ![0, 640] x slices_S128x2048_o0_640_S128x128) (broadcast S128x128 (Scalar.ofBits .bf16 0x0000#16))⟩,
  ⟨S128x128, select (broadcastTo S128x128 (shapeCast S1x128 (xori (cmpi .slt (iota .tc S1x128 32 [1] iota_S1x128_d1_w32) (broadcast S1x128 64#32)) (constantI S1x128 1 1#1)) shapeCasts_S1x128_S1x128) broadcasts_S1x128_S128x128) (extractStridedSlice S128x128 ![0, 640] x slices_S128x2048_o0_640_S128x128) (broadcast S128x128 (Scalar.ofBits .bf16 0x0000#16))⟩,
  ⟨S128x128, select (broadcastTo S128x128 (shapeCast S1x128 (cmpi .slt (iota .tc S1x128 32 [1] iota_S1x128_d1_w32) (broadcast S1x128 64#32)) shapeCasts_S1x128_S1x128) broadcasts_S1x128_S128x128) (extractStridedSlice S128x128 ![0, 768] x slices_S128x2048_o0_768_S128x128) (broadcast S128x128 (Scalar.ofBits .bf16 0x0000#16))⟩,
  ⟨S128x128, select (broadcastTo S128x128 (shapeCast S1x128 (xori (cmpi .slt (iota .tc S1x128 32 [1] iota_S1x128_d1_w32) (broadcast S1x128 64#32)) (constantI S1x128 1 1#1)) shapeCasts_S1x128_S1x128) broadcasts_S1x128_S128x128) (extractStridedSlice S128x128 ![0, 768] x slices_S128x2048_o0_768_S128x128) (broadcast S128x128 (Scalar.ofBits .bf16 0x0000#16))⟩,
  ⟨S128x128, select (broadcastTo S128x128 (shapeCast S1x128 (cmpi .slt (iota .tc S1x128 32 [1] iota_S1x128_d1_w32) (broadcast S1x128 64#32)) shapeCasts_S1x128_S1x128) broadcasts_S1x128_S128x128) (extractStridedSlice S128x128 ![0, 896] x slices_S128x2048_o0_896_S128x128) (broadcast S128x128 (Scalar.ofBits .bf16 0x0000#16))⟩,
  ⟨S128x128, select (broadcastTo S128x128 (shapeCast S1x128 (xori (cmpi .slt (iota .tc S1x128 32 [1] iota_S1x128_d1_w32) (broadcast S1x128 64#32)) (constantI S1x128 1 1#1)) shapeCasts_S1x128_S1x128) broadcasts_S1x128_S128x128) (extractStridedSlice S128x128 ![0, 896] x slices_S128x2048_o0_896_S128x128) (broadcast S128x128 (Scalar.ofBits .bf16 0x0000#16))⟩] concatenates_S128x128_S128x128_S128x128_S128x128_S128x128_S128x128_S128x128_S128x128_S1024x128_d0 = stack 1 x := rfl
theorem dup_1 (x : FVec F S256x256 .bf16) : concatenate S256x128 1 [⟨S256x64, extractStridedSlice S256x64 ![0, 64] x slices_S256x256_o0_64_S256x64⟩, ⟨S256x64, extractStridedSlice S256x64 ![0, 64] x slices_S256x256_o0_64_S256x64⟩] concatenates_S256x64_S256x64_S256x128_d1 = dup 1 x := rfl
theorem lseg_1 (x : Vec F S128x128 .f32) : concatenate S8x128x1 0 [⟨S1x128x1, shapeCast S1x128x1 (extractStridedSlice S128x1 ![0, 8] (shapeCast S128x128 x shapeCasts_S128x128_S128x128) slices_S128x128_o0_8_S128x1) shapeCasts_S128x1_S1x128x1⟩,
  ⟨S1x128x1, shapeCast S1x128x1 (extractStridedSlice S128x1 ![0, 9] (shapeCast S128x128 x shapeCasts_S128x128_S128x128) slices_S128x128_o0_9_S128x1) shapeCasts_S128x1_S1x128x1⟩,
  ⟨S1x128x1, shapeCast S1x128x1 (extractStridedSlice S128x1 ![0, 10] (shapeCast S128x128 x shapeCasts_S128x128_S128x128) slices_S128x128_o0_10_S128x1) shapeCasts_S128x1_S1x128x1⟩,
  ⟨S1x128x1, shapeCast S1x128x1 (extractStridedSlice S128x1 ![0, 11] (shapeCast S128x128 x shapeCasts_S128x128_S128x128) slices_S128x128_o0_11_S128x1) shapeCasts_S128x1_S1x128x1⟩,
  ⟨S1x128x1, shapeCast S1x128x1 (extractStridedSlice S128x1 ![0, 12] (shapeCast S128x128 x shapeCasts_S128x128_S128x128) slices_S128x128_o0_12_S128x1) shapeCasts_S128x1_S1x128x1⟩,
  ⟨S1x128x1, shapeCast S1x128x1 (extractStridedSlice S128x1 ![0, 13] (shapeCast S128x128 x shapeCasts_S128x128_S128x128) slices_S128x128_o0_13_S128x1) shapeCasts_S128x1_S1x128x1⟩,
  ⟨S1x128x1, shapeCast S1x128x1 (extractStridedSlice S128x1 ![0, 14] (shapeCast S128x128 x shapeCasts_S128x128_S128x128) slices_S128x128_o0_14_S128x1) shapeCasts_S128x1_S1x128x1⟩,
  ⟨S1x128x1, shapeCast S1x128x1 (extractStridedSlice S128x1 ![0, 15] (shapeCast S128x128 x shapeCasts_S128x128_S128x128) slices_S128x128_o0_15_S128x1) shapeCasts_S128x1_S1x128x1⟩] concatenates_S1x128x1_S1x128x1_S1x128x1_S1x128x1_S1x128x1_S1x128x1_S1x128x1_S1x128x1_S8x128x1_d0 = lseg 1 x := rfl
theorem sink_1 (x : Vec F S32 .f32) : concatenate S8x128x1 0 [⟨S1x128x1, broadcast S1x128x1 (View.ld x (Rect.unit (s := S32) ![8] S1.size inb_S32_S1_8) (Shape.Idx.first (show 0 < S1.numel by decide)))⟩,
  ⟨S1x128x1, broadcast S1x128x1 (View.ld x (Rect.unit (s := S32) ![9] S1.size inb_S32_S1_9) (Shape.Idx.first (show 0 < S1.numel by decide)))⟩,
  ⟨S1x128x1, broadcast S1x128x1 (View.ld x (Rect.unit (s := S32) ![10] S1.size inb_S32_S1_10) (Shape.Idx.first (show 0 < S1.numel by decide)))⟩,
  ⟨S1x128x1, broadcast S1x128x1 (View.ld x (Rect.unit (s := S32) ![11] S1.size inb_S32_S1_11) (Shape.Idx.first (show 0 < S1.numel by decide)))⟩,
  ⟨S1x128x1, broadcast S1x128x1 (View.ld x (Rect.unit (s := S32) ![12] S1.size inb_S32_S1_12) (Shape.Idx.first (show 0 < S1.numel by decide)))⟩,
  ⟨S1x128x1, broadcast S1x128x1 (View.ld x (Rect.unit (s := S32) ![13] S1.size inb_S32_S1_13) (Shape.Idx.first (show 0 < S1.numel by decide)))⟩,
  ⟨S1x128x1, broadcast S1x128x1 (View.ld x (Rect.unit (s := S32) ![14] S1.size inb_S32_S1_14) (Shape.Idx.first (show 0 < S1.numel by decide)))⟩,
  ⟨S1x128x1, broadcast S1x128x1 (View.ld x (Rect.unit (s := S32) ![15] S1.size inb_S32_S1_15) (Shape.Idx.first (show 0 < S1.numel by decide)))⟩] concatenates_S1x128x1_S1x128x1_S1x128x1_S1x128x1_S1x128x1_S1x128x1_S1x128x1_S1x128x1_S8x128x1_d0 = sinkg 1 x := rfl
theorem bias_1 (x : Vec F S32x128x256 .f32) : View.ld x (Rect.unit (s := S32x128x256) ![8, 0, 0] S8x128x256.size inb_S32x128x256_S8x128x256_8_0_0) = bias 1 x := rfl
theorem stack_2 (x : Vec F S128x2048 .bf16) : concatenate S1024x128 0 [⟨S128x128, select (broadcastTo S128x128 (shapeCast S1x128 (cmpi .slt (iota .tc S1x128 32 [1] iota_S1x128_d1_w32) (broadcast S1x128 64#32)) shapeCasts_S1x128_S1x128) broadcasts_S1x128_S128x128) (extractStridedSlice S128x128 ![0, 1024] x slices_S128x2048_o0_1024_S128x128) (broadcast S128x128 (Scalar.ofBits .bf16 0x0000#16))⟩,
  ⟨S128x128, select (broadcastTo S128x128 (shapeCast S1x128 (xori (cmpi .slt (iota .tc S1x128 32 [1] iota_S1x128_d1_w32) (broadcast S1x128 64#32)) (constantI S1x128 1 1#1)) shapeCasts_S1x128_S1x128) broadcasts_S1x128_S128x128) (extractStridedSlice S128x128 ![0, 1024] x slices_S128x2048_o0_1024_S128x128) (broadcast S128x128 (Scalar.ofBits .bf16 0x0000#16))⟩,
  ⟨S128x128, select (broadcastTo S128x128 (shapeCast S1x128 (cmpi .slt (iota .tc S1x128 32 [1] iota_S1x128_d1_w32) (broadcast S1x128 64#32)) shapeCasts_S1x128_S1x128) broadcasts_S1x128_S128x128) (extractStridedSlice S128x128 ![0, 1152] x slices_S128x2048_o0_1152_S128x128) (broadcast S128x128 (Scalar.ofBits .bf16 0x0000#16))⟩,
  ⟨S128x128, select (broadcastTo S128x128 (shapeCast S1x128 (xori (cmpi .slt (iota .tc S1x128 32 [1] iota_S1x128_d1_w32) (broadcast S1x128 64#32)) (constantI S1x128 1 1#1)) shapeCasts_S1x128_S1x128) broadcasts_S1x128_S128x128) (extractStridedSlice S128x128 ![0, 1152] x slices_S128x2048_o0_1152_S128x128) (broadcast S128x128 (Scalar.ofBits .bf16 0x0000#16))⟩,
  ⟨S128x128, select (broadcastTo S128x128 (shapeCast S1x128 (cmpi .slt (iota .tc S1x128 32 [1] iota_S1x128_d1_w32) (broadcast S1x128 64#32)) shapeCasts_S1x128_S1x128) broadcasts_S1x128_S128x128) (extractStridedSlice S128x128 ![0, 1280] x slices_S128x2048_o0_1280_S128x128) (broadcast S128x128 (Scalar.ofBits .bf16 0x0000#16))⟩,
  ⟨S128x128, select (broadcastTo S128x128 (shapeCast S1x128 (xori (cmpi .slt (iota .tc S1x128 32 [1] iota_S1x128_d1_w32) (broadcast S1x128 64#32)) (constantI S1x128 1 1#1)) shapeCasts_S1x128_S1x128) broadcasts_S1x128_S128x128) (extractStridedSlice S128x128 ![0, 1280] x slices_S128x2048_o0_1280_S128x128) (broadcast S128x128 (Scalar.ofBits .bf16 0x0000#16))⟩,
  ⟨S128x128, select (broadcastTo S128x128 (shapeCast S1x128 (cmpi .slt (iota .tc S1x128 32 [1] iota_S1x128_d1_w32) (broadcast S1x128 64#32)) shapeCasts_S1x128_S1x128) broadcasts_S1x128_S128x128) (extractStridedSlice S128x128 ![0, 1408] x slices_S128x2048_o0_1408_S128x128) (broadcast S128x128 (Scalar.ofBits .bf16 0x0000#16))⟩,
  ⟨S128x128, select (broadcastTo S128x128 (shapeCast S1x128 (xori (cmpi .slt (iota .tc S1x128 32 [1] iota_S1x128_d1_w32) (broadcast S1x128 64#32)) (constantI S1x128 1 1#1)) shapeCasts_S1x128_S1x128) broadcasts_S1x128_S128x128) (extractStridedSlice S128x128 ![0, 1408] x slices_S128x2048_o0_1408_S128x128) (broadcast S128x128 (Scalar.ofBits .bf16 0x0000#16))⟩] concatenates_S128x128_S128x128_S128x128_S128x128_S128x128_S128x128_S128x128_S128x128_S1024x128_d0 = stack 2 x := rfl
theorem dup_2 (x : FVec F S256x256 .bf16) : concatenate S256x128 1 [⟨S256x64, extractStridedSlice S256x64 ![0, 128] x slices_S256x256_o0_128_S256x64⟩, ⟨S256x64, extractStridedSlice S256x64 ![0, 128] x slices_S256x256_o0_128_S256x64⟩] concatenates_S256x64_S256x64_S256x128_d1 = dup 2 x := rfl
theorem lseg_2 (x : Vec F S128x128 .f32) : concatenate S8x128x1 0 [⟨S1x128x1, shapeCast S1x128x1 (extractStridedSlice S128x1 ![0, 16] (shapeCast S128x128 x shapeCasts_S128x128_S128x128) slices_S128x128_o0_16_S128x1) shapeCasts_S128x1_S1x128x1⟩,
  ⟨S1x128x1, shapeCast S1x128x1 (extractStridedSlice S128x1 ![0, 17] (shapeCast S128x128 x shapeCasts_S128x128_S128x128) slices_S128x128_o0_17_S128x1) shapeCasts_S128x1_S1x128x1⟩,
  ⟨S1x128x1, shapeCast S1x128x1 (extractStridedSlice S128x1 ![0, 18] (shapeCast S128x128 x shapeCasts_S128x128_S128x128) slices_S128x128_o0_18_S128x1) shapeCasts_S128x1_S1x128x1⟩,
  ⟨S1x128x1, shapeCast S1x128x1 (extractStridedSlice S128x1 ![0, 19] (shapeCast S128x128 x shapeCasts_S128x128_S128x128) slices_S128x128_o0_19_S128x1) shapeCasts_S128x1_S1x128x1⟩,
  ⟨S1x128x1, shapeCast S1x128x1 (extractStridedSlice S128x1 ![0, 20] (shapeCast S128x128 x shapeCasts_S128x128_S128x128) slices_S128x128_o0_20_S128x1) shapeCasts_S128x1_S1x128x1⟩,
  ⟨S1x128x1, shapeCast S1x128x1 (extractStridedSlice S128x1 ![0, 21] (shapeCast S128x128 x shapeCasts_S128x128_S128x128) slices_S128x128_o0_21_S128x1) shapeCasts_S128x1_S1x128x1⟩,
  ⟨S1x128x1, shapeCast S1x128x1 (extractStridedSlice S128x1 ![0, 22] (shapeCast S128x128 x shapeCasts_S128x128_S128x128) slices_S128x128_o0_22_S128x1) shapeCasts_S128x1_S1x128x1⟩,
  ⟨S1x128x1, shapeCast S1x128x1 (extractStridedSlice S128x1 ![0, 23] (shapeCast S128x128 x shapeCasts_S128x128_S128x128) slices_S128x128_o0_23_S128x1) shapeCasts_S128x1_S1x128x1⟩] concatenates_S1x128x1_S1x128x1_S1x128x1_S1x128x1_S1x128x1_S1x128x1_S1x128x1_S1x128x1_S8x128x1_d0 = lseg 2 x := rfl
theorem sink_2 (x : Vec F S32 .f32) : concatenate S8x128x1 0 [⟨S1x128x1, broadcast S1x128x1 (View.ld x (Rect.unit (s := S32) ![16] S1.size inb_S32_S1_16) (Shape.Idx.first (show 0 < S1.numel by decide)))⟩,
  ⟨S1x128x1, broadcast S1x128x1 (View.ld x (Rect.unit (s := S32) ![17] S1.size inb_S32_S1_17) (Shape.Idx.first (show 0 < S1.numel by decide)))⟩,
  ⟨S1x128x1, broadcast S1x128x1 (View.ld x (Rect.unit (s := S32) ![18] S1.size inb_S32_S1_18) (Shape.Idx.first (show 0 < S1.numel by decide)))⟩,
  ⟨S1x128x1, broadcast S1x128x1 (View.ld x (Rect.unit (s := S32) ![19] S1.size inb_S32_S1_19) (Shape.Idx.first (show 0 < S1.numel by decide)))⟩,
  ⟨S1x128x1, broadcast S1x128x1 (View.ld x (Rect.unit (s := S32) ![20] S1.size inb_S32_S1_20) (Shape.Idx.first (show 0 < S1.numel by decide)))⟩,
  ⟨S1x128x1, broadcast S1x128x1 (View.ld x (Rect.unit (s := S32) ![21] S1.size inb_S32_S1_21) (Shape.Idx.first (show 0 < S1.numel by decide)))⟩,
  ⟨S1x128x1, broadcast S1x128x1 (View.ld x (Rect.unit (s := S32) ![22] S1.size inb_S32_S1_22) (Shape.Idx.first (show 0 < S1.numel by decide)))⟩,
  ⟨S1x128x1, broadcast S1x128x1 (View.ld x (Rect.unit (s := S32) ![23] S1.size inb_S32_S1_23) (Shape.Idx.first (show 0 < S1.numel by decide)))⟩] concatenates_S1x128x1_S1x128x1_S1x128x1_S1x128x1_S1x128x1_S1x128x1_S1x128x1_S1x128x1_S8x128x1_d0 = sinkg 2 x := rfl
theorem bias_2 (x : Vec F S32x128x256 .f32) : View.ld x (Rect.unit (s := S32x128x256) ![16, 0, 0] S8x128x256.size inb_S32x128x256_S8x128x256_16_0_0) = bias 2 x := rfl
theorem stack_3 (x : Vec F S128x2048 .bf16) : concatenate S1024x128 0 [⟨S128x128, select (broadcastTo S128x128 (shapeCast S1x128 (cmpi .slt (iota .tc S1x128 32 [1] iota_S1x128_d1_w32) (broadcast S1x128 64#32)) shapeCasts_S1x128_S1x128) broadcasts_S1x128_S128x128) (extractStridedSlice S128x128 ![0, 1536] x slices_S128x2048_o0_1536_S128x128) (broadcast S128x128 (Scalar.ofBits .bf16 0x0000#16))⟩,
  ⟨S128x128, select (broadcastTo S128x128 (shapeCast S1x128 (xori (cmpi .slt (iota .tc S1x128 32 [1] iota_S1x128_d1_w32) (broadcast S1x128 64#32)) (constantI S1x128 1 1#1)) shapeCasts_S1x128_S1x128) broadcasts_S1x128_S128x128) (extractStridedSlice S128x128 ![0, 1536] x slices_S128x2048_o0_1536_S128x128) (broadcast S128x128 (Scalar.ofBits .bf16 0x0000#16))⟩,
  ⟨S128x128, select (broadcastTo S128x128 (shapeCast S1x128 (cmpi .slt (iota .tc S1x128 32 [1] iota_S1x128_d1_w32) (broadcast S1x128 64#32)) shapeCasts_S1x128_S1x128) broadcasts_S1x128_S128x128) (extractStridedSlice S128x128 ![0, 1664] x slices_S128x2048_o0_1664_S128x128) (broadcast S128x128 (Scalar.ofBits .bf16 0x0000#16))⟩,
  ⟨S128x128, select (broadcastTo S128x128 (shapeCast S1x128 (xori (cmpi .slt (iota .tc S1x128 32 [1] iota_S1x128_d1_w32) (broadcast S1x128 64#32)) (constantI S1x128 1 1#1)) shapeCasts_S1x128_S1x128) broadcasts_S1x128_S128x128) (extractStridedSlice S128x128 ![0, 1664] x slices_S128x2048_o0_1664_S128x128) (broadcast S128x128 (Scalar.ofBits .bf16 0x0000#16))⟩,
  ⟨S128x128, select (broadcastTo S128x128 (shapeCast S1x128 (cmpi .slt (iota .tc S1x128 32 [1] iota_S1x128_d1_w32) (broadcast S1x128 64#32)) shapeCasts_S1x128_S1x128) broadcasts_S1x128_S128x128) (extractStridedSlice S128x128 ![0, 1792] x slices_S128x2048_o0_1792_S128x128) (broadcast S128x128 (Scalar.ofBits .bf16 0x0000#16))⟩,
  ⟨S128x128, select (broadcastTo S128x128 (shapeCast S1x128 (xori (cmpi .slt (iota .tc S1x128 32 [1] iota_S1x128_d1_w32) (broadcast S1x128 64#32)) (constantI S1x128 1 1#1)) shapeCasts_S1x128_S1x128) broadcasts_S1x128_S128x128) (extractStridedSlice S128x128 ![0, 1792] x slices_S128x2048_o0_1792_S128x128) (broadcast S128x128 (Scalar.ofBits .bf16 0x0000#16))⟩,
  ⟨S128x128, select (broadcastTo S128x128 (shapeCast S1x128 (cmpi .slt (iota .tc S1x128 32 [1] iota_S1x128_d1_w32) (broadcast S1x128 64#32)) shapeCasts_S1x128_S1x128) broadcasts_S1x128_S128x128) (extractStridedSlice S128x128 ![0, 1920] x slices_S128x2048_o0_1920_S128x128) (broadcast S128x128 (Scalar.ofBits .bf16 0x0000#16))⟩,
  ⟨S128x128, select (broadcastTo S128x128 (shapeCast S1x128 (xori (cmpi .slt (iota .tc S1x128 32 [1] iota_S1x128_d1_w32) (broadcast S1x128 64#32)) (constantI S1x128 1 1#1)) shapeCasts_S1x128_S1x128) broadcasts_S1x128_S128x128) (extractStridedSlice S128x128 ![0, 1920] x slices_S128x2048_o0_1920_S128x128) (broadcast S128x128 (Scalar.ofBits .bf16 0x0000#16))⟩] concatenates_S128x128_S128x128_S128x128_S128x128_S128x128_S128x128_S128x128_S128x128_S1024x128_d0 = stack 3 x := rfl
theorem dup_3 (x : FVec F S256x256 .bf16) : concatenate S256x128 1 [⟨S256x64, extractStridedSlice S256x64 ![0, 192] x slices_S256x256_o0_192_S256x64⟩, ⟨S256x64, extractStridedSlice S256x64 ![0, 192] x slices_S256x256_o0_192_S256x64⟩] concatenates_S256x64_S256x64_S256x128_d1 = dup 3 x := rfl
theorem lseg_3 (x : Vec F S128x128 .f32) : concatenate S8x128x1 0 [⟨S1x128x1, shapeCast S1x128x1 (extractStridedSlice S128x1 ![0, 24] (shapeCast S128x128 x shapeCasts_S128x128_S128x128) slices_S128x128_o0_24_S128x1) shapeCasts_S128x1_S1x128x1⟩,
  ⟨S1x128x1, shapeCast S1x128x1 (extractStridedSlice S128x1 ![0, 25] (shapeCast S128x128 x shapeCasts_S128x128_S128x128) slices_S128x128_o0_25_S128x1) shapeCasts_S128x1_S1x128x1⟩,
  ⟨S1x128x1, shapeCast S1x128x1 (extractStridedSlice S128x1 ![0, 26] (shapeCast S128x128 x shapeCasts_S128x128_S128x128) slices_S128x128_o0_26_S128x1) shapeCasts_S128x1_S1x128x1⟩,
  ⟨S1x128x1, shapeCast S1x128x1 (extractStridedSlice S128x1 ![0, 27] (shapeCast S128x128 x shapeCasts_S128x128_S128x128) slices_S128x128_o0_27_S128x1) shapeCasts_S128x1_S1x128x1⟩,
  ⟨S1x128x1, shapeCast S1x128x1 (extractStridedSlice S128x1 ![0, 28] (shapeCast S128x128 x shapeCasts_S128x128_S128x128) slices_S128x128_o0_28_S128x1) shapeCasts_S128x1_S1x128x1⟩,
  ⟨S1x128x1, shapeCast S1x128x1 (extractStridedSlice S128x1 ![0, 29] (shapeCast S128x128 x shapeCasts_S128x128_S128x128) slices_S128x128_o0_29_S128x1) shapeCasts_S128x1_S1x128x1⟩,
  ⟨S1x128x1, shapeCast S1x128x1 (extractStridedSlice S128x1 ![0, 30] (shapeCast S128x128 x shapeCasts_S128x128_S128x128) slices_S128x128_o0_30_S128x1) shapeCasts_S128x1_S1x128x1⟩,
  ⟨S1x128x1, shapeCast S1x128x1 (extractStridedSlice S128x1 ![0, 31] (shapeCast S128x128 x shapeCasts_S128x128_S128x128) slices_S128x128_o0_31_S128x1) shapeCasts_S128x1_S1x128x1⟩] concatenates_S1x128x1_S1x128x1_S1x128x1_S1x128x1_S1x128x1_S1x128x1_S1x128x1_S1x128x1_S8x128x1_d0 = lseg 3 x := rfl
theorem sink_3 (x : Vec F S32 .f32) : concatenate S8x128x1 0 [⟨S1x128x1, broadcast S1x128x1 (View.ld x (Rect.unit (s := S32) ![24] S1.size inb_S32_S1_24) (Shape.Idx.first (show 0 < S1.numel by decide)))⟩,
  ⟨S1x128x1, broadcast S1x128x1 (View.ld x (Rect.unit (s := S32) ![25] S1.size inb_S32_S1_25) (Shape.Idx.first (show 0 < S1.numel by decide)))⟩,
  ⟨S1x128x1, broadcast S1x128x1 (View.ld x (Rect.unit (s := S32) ![26] S1.size inb_S32_S1_26) (Shape.Idx.first (show 0 < S1.numel by decide)))⟩,
  ⟨S1x128x1, broadcast S1x128x1 (View.ld x (Rect.unit (s := S32) ![27] S1.size inb_S32_S1_27) (Shape.Idx.first (show 0 < S1.numel by decide)))⟩,
  ⟨S1x128x1, broadcast S1x128x1 (View.ld x (Rect.unit (s := S32) ![28] S1.size inb_S32_S1_28) (Shape.Idx.first (show 0 < S1.numel by decide)))⟩,
  ⟨S1x128x1, broadcast S1x128x1 (View.ld x (Rect.unit (s := S32) ![29] S1.size inb_S32_S1_29) (Shape.Idx.first (show 0 < S1.numel by decide)))⟩,
  ⟨S1x128x1, broadcast S1x128x1 (View.ld x (Rect.unit (s := S32) ![30] S1.size inb_S32_S1_30) (Shape.Idx.first (show 0 < S1.numel by decide)))⟩,
  ⟨S1x128x1, broadcast S1x128x1 (View.ld x (Rect.unit (s := S32) ![31] S1.size inb_S32_S1_31) (Shape.Idx.first (show 0 < S1.numel by decide)))⟩] concatenates_S1x128x1_S1x128x1_S1x128x1_S1x128x1_S1x128x1_S1x128x1_S1x128x1_S1x128x1_S8x128x1_d0 = sinkg 3 x := rfl
theorem bias_3 (x : Vec F S32x128x256 .f32) : View.ld x (Rect.unit (s := S32x128x256) ![24, 0, 0] S8x128x256.size inb_S32x128x256_S8x128x256_24_0_0) = bias 3 x := rfl
/-- The accumulators' initial contents. -/
def zero10 : Vec F S4224x256 .f32 := broadcast S4224x256 (Scalar.ofBits .f32 0x00000000#32)
def zero12 : Vec F S32x128x256 .f32 := broadcast S32x128x256 (Scalar.ofBits .f32 0x00000000#32)
def zero13 : Vec F S8x128 .f32 := broadcast S8x128 (Scalar.ofBits .f32 0x00000000#32)
theorem band_eq (a b : Vec F S128x256 .bf16) : concatenate S256x256 0 [⟨S128x256, a⟩, ⟨S128x256, b⟩] concatenates_S128x256_S128x256_S256x256_d0 = band a b := rfl
theorem valid_eq (i : grid0.Coords) : k0_pay6 i = valid i := rfl
theorem valid_eq2 (i : grid0.Coords) : andi (andi (cmpi .sge (subi (addi (iota .tc S128x256 32 [0] iota_S128x256_d0_w32) (broadcast S128x256 128#32)) (iota .tc S128x256 32 [1] iota_S128x256_d1_w32)) (broadcast S128x256 0#32))
      (cmpi .slt (subi (addi (iota .tc S128x256 32 [0] iota_S128x256_d0_w32) (broadcast S128x256 128#32)) (iota .tc S128x256 32 [1] iota_S128x256_d1_w32)) (broadcast S128x256 128#32)))
    (ori (cmpi .sge (iota .tc S128x256 32 [1] iota_S128x256_d1_w32) (broadcast S128x256 128#32))
      (broadcast S128x256 (Scalar.xori (Scalar.cmpi .eq (BitVec.ofNat 32 (i 0).val) 0#32) 1#1))) = valid i := rfl
end Cert.Proof.K
end
-- ==== Proof.KUpd.lean ====
module
public import proofs.«01_k».proof.Proof.KReal
public import proofs.«01_k».proof.Proof.KFold
public import Idealize.ShloMosaic.Lib.Pipeline.ValueKit
@[expose] public section
set_option maxRecDepth 16384
noncomputable section
namespace Cert.Proof.K
open Cert.KernelIdeal Cert.KernelIdeal.Gen Cert.KernelIdeal.Value Idealize.ShloMosaic Idealize.ShloMosaic.TcCoe Idealize.SL.Sem

/-! What a point leaves in an accumulator, at an index: what was there, and what the point adds. -/

theorem emb2 {s0 s1 z0 z1 : ℕ} (off : Fin 2 → ℕ) (inb : ∀ a, off a + (![z0, z1] : Fin 2 → ℕ) a ≤ (⟨2, ![s0, s1]⟩ : Shape).size a)
    (a : Fin s0) (b : Fin s1) (x : Fin z0) (y : Fin z1) (ha : a.val = off 0 + x.val) (hb : b.val = off 1 + y.val) :
    (Rect.unit (s := ⟨2, ![s0, s1]⟩) off ![z0, z1] inb).emb (ix2 x y) = ix2 a b := by
  funext t
  refine Fin.ext ?_
  fin_cases t
  · show off 0 + 1 * x.val = a.val; omega
  · show off 1 + 1 * y.val = b.val; omega

theorem not_mem2 {s0 s1 z0 z1 : ℕ} (off : Fin 2 → ℕ) (inb : ∀ a, off a + (![z0, z1] : Fin 2 → ℕ) a ≤ (⟨2, ![s0, s1]⟩ : Shape).size a)
    (a : Fin s0) (b : Fin s1) (h : a.val < off 0 ∨ off 0 + z0 ≤ a.val) :
    ix2 a b ∉ (Rect.unit (s := ⟨2, ![s0, s1]⟩) off ![z0, z1] inb).set := by
  rw [Rect.mem_set_unit]
  intro hh
  have h0 := hh 0
  have e : (ix2 a b (0 : Fin 2) : ℕ) = a.val := rfl
  have e' : (![z0, z1] : Fin 2 → ℕ) 0 = z0 := rfl
  rw [e'] at h0
  rcases h with h | h
  · exact absurd (lt_of_le_of_lt h0.1 h) (lt_irrefl _)
  · exact absurd (lt_of_le_of_lt h h0.2) (lt_irrefl _)

theorem canon_miss {s : Shape} {e : EltTy} (r : Rect s) (w : r.shape.Idx → Elt Ideal e) (L : List (View.Piece (Elt Ideal) s e)) (y : s.Idx)
    (h : y ∉ r.set) : View.canon (Val := Elt Ideal) (⟨r, w⟩ :: L) y = View.canon L y := View.canon_cons_of_not_mem (⟨r, w⟩ : View.Piece (Elt Ideal) s e) L h

theorem read_miss {s : Shape} {e : EltTy} {sp : Space} (v : View sig .tc sp s e) (f : v.ty.Contents (Elt Ideal)) (r : Rect s) (w : r.shape.Idx → Elt Ideal e)
    (L : List (View.Piece (Elt Ideal) s e)) (y : s.Idx)
    (h : y ∉ r.set) : v.read (Elt Ideal) (v.writes (Elt Ideal) f (⟨r, w⟩ :: L)) y = v.read (Elt Ideal) (v.writes (Elt Ideal) f L) y :=
  View.read_writes_cons_miss v f (⟨r, w⟩ : View.Piece (Elt Ideal) s e) L y h

variable (i : grid0.Coords)

/-- What the point of block `n` adds at row `a` to a padded gradient. -/
def ctr (n : ℕ) (d : FVec Ideal S256x256 .f32) (a : Fin 4224) (c : Fin 256) : EReal :=
  if h : 128 * n ≤ a.val ∧ a.val < 128 * n + 256 then d (ix2 ⟨a.val - 128 * n, by omega⟩ c) else 0

theorem canon_rows (old : Vec Ideal S4224x256 .f32) (d : FVec Ideal S256x256 .f32) (a : Fin 4224) (c : Fin 256) :
    View.canon (Val := Elt Ideal) [⟨(Rect.unit (s := S4224x256) (k0_off1 i) ![256, 256] (k0_off1_inb i)),
        addTo (View.ld (Val := Elt Ideal) (e' := .f32) old (Rect.unit (s := S4224x256) (k0_off1 i) ![256, 256] (k0_off1_inb i))) d⟩,
      ⟨Rect.unit (s := S4224x256) ![0, 0] ![4224, 256] inb_S4224x256_S4224x256_0_0, old⟩] (ix2 a c) = old (ix2 a c) + ctr (i 0).val d a c := by
  have e := k0_off1_eq i
  have e0 : k0_off1 i 0 = 128 * (i 0).val := by rw [e]; rfl
  have e1 : k0_off1 i 1 = 0 := by rw [e]; rfl
  unfold ctr
  by_cases h : 128 * (i 0).val ≤ a.val ∧ a.val < 128 * (i 0).val + 256
  · have hy := emb2 (k0_off1 i) (k0_off1_inb i) a c ⟨a.val - 128 * (i 0).val, by omega⟩ c (by rw [e0]; simp; omega) (by rw [e1]; omega)
    rw [dif_pos h]
    rw [← hy, View.canon_cons_emb, addTo_apply]
    rfl
  · rw [dif_neg h, add_zero]
    have hn := (not_mem2 (k0_off1 i) (k0_off1_inb i) a c (by rw [e0]; omega))
    rw [canon_miss _ _ _ _ hn]
    rw [View.canon_unit_zero hz2]

theorem read_rows (arg : Memref sig .tc .vmem S4224x256 .f32) (harg : arg.IsWhole) (old : Vec Ideal S4224x256 .f32) (d : FVec Ideal S256x256 .f32)
    (a : Fin 4224) (c : Fin 256) :
    View.read (Elt Ideal) arg.view (arg.view.writes (Elt Ideal) (harg.unread old) [⟨(Rect.unit (s := S4224x256) (k0_off1 i) ![256, 256] (k0_off1_inb i)),
        addTo (View.ld (Val := Elt Ideal) (e' := .f32) old (Rect.unit (s := S4224x256) (k0_off1 i) ![256, 256] (k0_off1_inb i))) d⟩]) (ix2 a c)
      = old (ix2 a c) + ctr (i 0).val d a c := by
  have e := k0_off1_eq i
  have e0 : k0_off1 i 0 = 128 * (i 0).val := by rw [e]; rfl
  have e1 : k0_off1 i 1 = 0 := by rw [e]; rfl
  unfold ctr
  by_cases h : 128 * (i 0).val ≤ a.val ∧ a.val < 128 * (i 0).val + 256
  · have hy := emb2 (k0_off1 i) (k0_off1_inb i) a c ⟨a.val - 128 * (i 0).val, by omega⟩ c (by rw [e0]; simp; omega) (by rw [e1]; omega)
    rw [dif_pos h]
    rw [← hy, View.read_writes_cons_emb, addTo_apply]
    rfl
  · rw [dif_neg h, add_zero]
    have hn := (not_mem2 (k0_off1 i) (k0_off1_inb i) a c (by rw [e0]; omega))
    rw [read_miss _ _ _ _ _ _ hn]
    exact congrFun (harg.read_unread old) _

/-- What the point adds to the sink gradients. -/
def ctrS (d : FVec Ideal S1x128 .f32) (a : Fin 8) (l : Fin 128) : EReal := if a.val = 0 then d (ix2 0 l) else 0

theorem canon_sinks (old : Vec Ideal S8x128 .f32) (d : FVec Ideal S1x128 .f32) (a : Fin 8) (c : Fin 128) :
    View.canon (Val := Elt Ideal) [⟨(Rect.unit (s := S8x128) ![0, 0] ![1, 128] inb_S8x128_S1x128_0_0),
        addS (View.ld (Val := Elt Ideal) (e' := .f32) old (Rect.unit (s := S8x128) ![0, 0] ![1, 128] inb_S8x128_S1x128_0_0)) d⟩,
      ⟨Rect.unit (s := S8x128) ![0, 0] ![8, 128] inb_S8x128_S8x128_0_0, old⟩] (ix2 a c) = old (ix2 a c) + ctrS d a c := by
  unfold ctrS
  by_cases h : a.val = 0
  · have hy := emb2 ![0, 0] inb_S8x128_S1x128_0_0 a c 0 c (by rw [h]; rfl) (by simp)
    rw [if_pos h]
    rw [← hy, View.canon_cons_emb, addS_apply]
    rfl
  · rw [if_neg h, add_zero]
    have hn := (not_mem2 ![0, 0] inb_S8x128_S1x128_0_0 a c (by right; show 0 + 1 ≤ a.val; omega))
    rw [canon_miss _ _ _ _ hn]
    rw [View.canon_unit_zero hz2]

theorem read_sinks (arg : Memref sig .tc .vmem S8x128 .f32) (harg : arg.IsWhole) (old : Vec Ideal S8x128 .f32) (d : FVec Ideal S1x128 .f32)
    (a : Fin 8) (c : Fin 128) :
    View.read (Elt Ideal) arg.view (arg.view.writes (Elt Ideal) (harg.unread old) [⟨(Rect.unit (s := S8x128) ![0, 0] ![1, 128] inb_S8x128_S1x128_0_0),
        addS (View.ld (Val := Elt Ideal) (e' := .f32) old (Rect.unit (s := S8x128) ![0, 0] ![1, 128] inb_S8x128_S1x128_0_0)) d⟩]) (ix2 a c)
      = old (ix2 a c) + ctrS d a c := by
  unfold ctrS
  by_cases h : a.val = 0
  · have hy := emb2 ![0, 0] inb_S8x128_S1x128_0_0 a c 0 c (by rw [h]; rfl) (by simp)
    rw [if_pos h]
    rw [← hy, View.read_writes_cons_emb, addS_apply]
    rfl
  · rw [if_neg h, add_zero]
    have hn := (not_mem2 ![0, 0] inb_S8x128_S1x128_0_0 a c (by right; show 0 + 1 ≤ a.val; omega))
    rw [read_miss _ _ _ _ _ _ hn]
    exact congrFun (harg.read_unread old) _

theorem emb3 {s0 s1 s2 z0 z1 z2 : ℕ} (off : Fin 3 → ℕ) (inb : ∀ a, off a + (![z0, z1, z2] : Fin 3 → ℕ) a ≤ (⟨3, ![s0, s1, s2]⟩ : Shape).size a)
    (a : Fin s0) (b : Fin s1) (c : Fin s2) (x : Fin z0) (y : Fin z1) (z : Fin z2) (ha : a.val = off 0 + x.val) (hb : b.val = off 1 + y.val)
    (hc : c.val = off 2 + z.val) :
    (Rect.unit (s := ⟨3, ![s0, s1, s2]⟩) off ![z0, z1, z2] inb).emb (ix3 x y z) = ix3 a b c := by
  funext t
  refine Fin.ext ?_
  fin_cases t
  · show off 0 + 1 * x.val = a.val; omega
  · show off 1 + 1 * y.val = b.val; omega
  · show off 2 + 1 * z.val = c.val; omega

theorem not_mem3 {s0 s1 s2 z0 z1 z2 : ℕ} (off : Fin 3 → ℕ) (inb : ∀ a, off a + (![z0, z1, z2] : Fin 3 → ℕ) a ≤ (⟨3, ![s0, s1, s2]⟩ : Shape).size a)
    (a : Fin s0) (b : Fin s1) (c : Fin s2) (h : a.val < off 0 ∨ off 0 + z0 ≤ a.val) :
    ix3 a b c ∉ (Rect.unit (s := ⟨3, ![s0, s1, s2]⟩) off ![z0, z1, z2] inb).set := by
  rw [Rect.mem_set_unit]
  intro hh
  have h0 := hh 0
  have e' : (![z0, z1, z2] : Fin 3 → ℕ) 0 = z0 := rfl
  rw [e'] at h0
  rcases h with h | h
  · exact absurd (lt_of_le_of_lt h0.1 h) (lt_irrefl _)
  · exact absurd (lt_of_le_of_lt h h0.2) (lt_irrefl _)

theorem canon_bias (old : Vec Ideal S32x128x256 .f32) (d : Fin 4 → FVec Ideal S8x128x256 .f32) (L : List (View.Piece (Elt Ideal) S32x128x256 .f32))
    (kv : Fin 4) (e : Fin 8) (r : Fin 128) (j : Fin 256) :
    View.canon (Val := Elt Ideal) (⟨(Rect.unit (s := S32x128x256) ![24, 0, 0] ![8, 128, 256] inb_S32x128x256_S8x128x256_24_0_0),
        addB (View.ld (Val := Elt Ideal) (e' := .f32) old (Rect.unit (s := S32x128x256) ![24, 0, 0] ![8, 128, 256] inb_S32x128x256_S8x128x256_24_0_0)) (d 3)⟩ ::
      ⟨(Rect.unit (s := S32x128x256) ![16, 0, 0] ![8, 128, 256] inb_S32x128x256_S8x128x256_16_0_0),
        addB (View.ld (Val := Elt Ideal) (e' := .f32) old (Rect.unit (s := S32x128x256) ![16, 0, 0] ![8, 128, 256] inb_S32x128x256_S8x128x256_16_0_0)) (d 2)⟩ ::
      ⟨(Rect.unit (s := S32x128x256) ![8, 0, 0] ![8, 128, 256] inb_S32x128x256_S8x128x256_8_0_0),
        addB (View.ld (Val := Elt Ideal) (e' := .f32) old (Rect.unit (s := S32x128x256) ![8, 0, 0] ![8, 128, 256] inb_S32x128x256_S8x128x256_8_0_0)) (d 1)⟩ ::
      ⟨(Rect.unit (s := S32x128x256) ![0, 0, 0] ![8, 128, 256] inb_S32x128x256_S8x128x256_0_0_0),
        addB (View.ld (Val := Elt Ideal) (e' := .f32) old (Rect.unit (s := S32x128x256) ![0, 0, 0] ![8, 128, 256] inb_S32x128x256_S8x128x256_0_0_0)) (d 0)⟩ :: L)
      (ix3 (hd kv e) r j) = old (ix3 (hd kv e) r j) + d kv (ix3 e r j) := by
  fin_cases kv
  · have hy := emb3 ![0, 0, 0] inb_S32x128x256_S8x128x256_0_0_0 (hd 0 e) r j e r j (by simp) (by simp) (by simp)
    show View.canon _ (ix3 (hd 0 e) r j) = old (ix3 (hd 0 e) r j) + _
    have n24 := not_mem3 ![24, 0, 0] inb_S32x128x256_S8x128x256_24_0_0 (hd 0 e) r j (by left; show 8 * 0 + e.val < 24; omega)
    rw [canon_miss _ _ _ _ n24]
    have n16 := not_mem3 ![16, 0, 0] inb_S32x128x256_S8x128x256_16_0_0 (hd 0 e) r j (by left; show 8 * 0 + e.val < 16; omega)
    rw [canon_miss _ _ _ _ n16]
    have n8 := not_mem3 ![8, 0, 0] inb_S32x128x256_S8x128x256_8_0_0 (hd 0 e) r j (by left; show 8 * 0 + e.val < 8; omega)
    rw [canon_miss _ _ _ _ n8]
    rw [← hy, View.canon_cons_emb, addB_apply]
    rfl
  · have hy := emb3 ![8, 0, 0] inb_S32x128x256_S8x128x256_8_0_0 (hd 1 e) r j e r j (by simp) (by simp) (by simp)
    show View.canon _ (ix3 (hd 1 e) r j) = old (ix3 (hd 1 e) r j) + _
    have n24 := not_mem3 ![24, 0, 0] inb_S32x128x256_S8x128x256_24_0_0 (hd 1 e) r j (by left; show 8 * 1 + e.val < 24; omega)
    rw [canon_miss _ _ _ _ n24]
    have n16 := not_mem3 ![16, 0, 0] inb_S32x128x256_S8x128x256_16_0_0 (hd 1 e) r j (by left; show 8 * 1 + e.val < 16; omega)
    rw [canon_miss _ _ _ _ n16]
    rw [← hy, View.canon_cons_emb, addB_apply]
    rfl
  · have hy := emb3 ![16, 0, 0] inb_S32x128x256_S8x128x256_16_0_0 (hd 2 e) r j e r j (by simp) (by simp) (by simp)
    show View.canon _ (ix3 (hd 2 e) r j) = old (ix3 (hd 2 e) r j) + _
    have n24 := not_mem3 ![24, 0, 0] inb_S32x128x256_S8x128x256_24_0_0 (hd 2 e) r j (by left; show 8 * 2 + e.val < 24; omega)
    rw [canon_miss _ _ _ _ n24]
    rw [← hy, View.canon_cons_emb, addB_apply]
    rfl
  · have hy := emb3 ![24, 0, 0] inb_S32x128x256_S8x128x256_24_0_0 (hd 3 e) r j e r j (by simp) (by simp) (by simp)
    show View.canon _ (ix3 (hd 3 e) r j) = old (ix3 (hd 3 e) r j) + _
    rw [← hy, View.canon_cons_emb, addB_apply]
    rfl
end Cert.Proof.K
end
-- ==== Proof.KData.lean ====
module
public import proofs.«01_k».proof.Proof.Spec
@[expose] public section
noncomputable section
namespace Cert.Proof.K

/-! The arrays of a device as real numbers, the blocks cut from them, and the gradients of all blocks together. -/

/-- Row `r` of block `n`. -/
abbrev row (n : Fin 32) (r : Fin 128) : Fin 4096 := ⟨128 * n.val + r.val, by omega⟩
/-- The block before, or the first. -/
abbrev prev (n : Fin 32) : Fin 32 := ⟨n.val - 1, by omega⟩

/-- Queries, keys, values, the gradient of the output, the bias table, the sinks, and a shift per row and head. -/
structure Arrays where
  q : Fin 4096 → Fin 2048 → ℝ
  k : Fin 4096 → Fin 256 → ℝ
  v : Fin 4096 → Fin 256 → ℝ
  g : Fin 4096 → Fin 2048 → ℝ
  b : Fin 32 → Fin 128 → Fin 256 → ℝ
  s : Fin 32 → ℝ
  l : Fin 4096 → Fin 32 → ℝ

namespace Arrays
variable (D : Arrays) (n : Fin 32)

/-- Block `n` of an array. -/
abbrev blk {w : ℕ} (x : Fin 4096 → Fin w → ℝ) (n : Fin 32) (i : Fin 128) (j : Fin w) : ℝ := x (row n i) j
/-- The band of block `n`: the block before it, then it. -/
def bandOf (x : Fin 4096 → Fin 256 → ℝ) (n : Fin 32) (j : Fin 256) (c : Fin 256) : ℝ :=
  if h : j.val < 128 then x (row (prev n) ⟨j.val, h⟩) c else x (row n ⟨j.val - 128, by omega⟩) c

def ds (h : Fin 32) (i : Fin 128) (j : Fin 256) : ℝ :=
  K.ds n.val (blk D.q n) (blk D.g n) (bandOf D.k n) (bandOf D.v n) D.b (blk D.l n) h i j
def dsk (h : Fin 32) : ℝ := K.dsk n.val (blk D.q n) (blk D.g n) (bandOf D.k n) (bandOf D.v n) D.b (blk D.l n) D.s h
def dq (i : Fin 128) (h : Fin 32) (d : Fin 64) : ℝ :=
  K.dq n.val (blk D.q n) (blk D.g n) (bandOf D.k n) (bandOf D.v n) D.b (blk D.l n) i h d
def dk (j : Fin 256) (w : Fin 4) (d : Fin 64) : ℝ :=
  K.dk n.val (blk D.q n) (blk D.g n) (bandOf D.k n) (bandOf D.v n) D.b (blk D.l n) j w d
def dv (j : Fin 256) (w : Fin 4) (d : Fin 64) : ℝ :=
  K.dv n.val (blk D.q n) (blk D.g n) (bandOf D.k n) D.b (blk D.l n) j w d
end Arrays

/-- What the blocks up to `t` add at row `r` of block `b` of a padded gradient: block `b` its first half, block `b - 1` its second. -/
def halves (f : Fin 32 → Fin 256 → ℝ) (t : ℕ) (b : Fin 33) (r : Fin 128) : ℝ :=
  (if h : b.val < 32 ∧ b.val ≤ t then f ⟨b.val, h.1⟩ ⟨r.val, by omega⟩ else 0)
    + (if h : 0 < b.val ∧ b.val - 1 ≤ t then f ⟨b.val - 1, by omega⟩ ⟨128 + r.val, by omega⟩ else 0)

/-- Row `r` of block `b` of a padded gradient. -/
abbrev prow (b : Fin 33) (r : Fin 128) : Fin 4224 := ⟨128 * b.val + r.val, by omega⟩

/-- The sum of the first `t + 1` blocks. -/
def upto (f : Fin 32 → ℝ) (t : ℕ) : ℝ := ∑ n : Fin 32, if n.val ≤ t then f n else 0

theorem upto_zero (f : Fin 32 → ℝ) : upto f 0 = f 0 := by
  unfold upto
  rw [Finset.sum_eq_single (0 : Fin 32)]
  · rfl
  · intro n _ hn
    exact if_neg fun h => hn (Fin.ext (Nat.le_zero.mp h))
  · simp

theorem upto_succ (f : Fin 32 → ℝ) (t : ℕ) (ht : t + 1 < 32) : upto f (t + 1) = upto f t + f ⟨t + 1, ht⟩ := by
  unfold upto
  have e : f ⟨t + 1, ht⟩ = ∑ n : Fin 32, if n = (⟨t + 1, ht⟩ : Fin 32) then f n else 0 := by simp
  rw [e, ← Finset.sum_add_distrib]
  refine Finset.sum_congr rfl fun n _ => ?_
  have hn : n = (⟨t + 1, ht⟩ : Fin 32) ↔ n.val = t + 1 := Fin.ext_iff
  by_cases h1 : n.val ≤ t
  · rw [if_pos (by omega), if_pos h1, if_neg (by rw [hn]; omega), add_zero]
  · by_cases h2 : n.val = t + 1
    · rw [if_pos (by omega), if_neg h1, if_pos (hn.mpr h2), zero_add]
    · rw [if_neg (by omega), if_neg h1, if_neg (by rw [hn]; exact h2), add_zero]

theorem upto_all (f : Fin 32 → ℝ) : upto f 31 = ∑ n, f n := Finset.sum_congr rfl fun n _ => if_pos (by omega)
end Cert.Proof.K
end
-- ==== Proof.KBlk.lean ====
module
public import proofs.«01_k».proof.Proof.KReal
public import proofs.«01_k».proof.Proof.KData
public import Idealize.ShloMosaic.Lib.Pipeline.ValueKit
@[expose] public section
set_option maxRecDepth 16384
noncomputable section
namespace Cert.Proof.K
open Cert.KernelIdeal Cert.KernelIdeal.Gen Cert.KernelIdeal.Value Idealize.ShloMosaic Idealize.ShloMosaic.TcCoe Idealize.SL.Sem

/-! The blocks a grid point reads, at an index of the arrays they are cut from. -/

variable (m : (ℓ : Loc nD τ sig) → Buf (Elt Ideal) ℓ) (c : Dev nD)

theorem coord (t : Fin cfg0.N) : ((grid0.coords t) 0).val = t.val := by
  revert t; decide +kernel
theorem idx0 : ∀ t : Fin cfg0.N, win0_0.index t = ![t.val, 2] := by decide +kernel
theorem idx1 : ∀ t : Fin cfg0.N, win0_1.index t = ![t.val - 1, 24] := by decide +kernel
theorem idx2 : ∀ t : Fin cfg0.N, win0_2.index t = ![t.val, 24] := by decide +kernel
theorem idx3 : ∀ t : Fin cfg0.N, win0_3.index t = ![t.val - 1, 25] := by decide +kernel
theorem idx4 : ∀ t : Fin cfg0.N, win0_4.index t = ![t.val, 25] := by decide +kernel
theorem idx5 : ∀ t : Fin cfg0.N, win0_5.index t = ![0, 0, 0] := by decide +kernel
theorem idx6 : ∀ t : Fin cfg0.N, win0_6.index t = ![0] := by decide +kernel
theorem idx7 : ∀ t : Fin cfg0.N, win0_7.index t = ![t.val, 0] := by decide +kernel
theorem idx8 : ∀ t : Fin cfg0.N, win0_8.index t = ![t.val, 0] := by decide +kernel
theorem idx9 : ∀ t : Fin cfg0.N, win0_9.index t = ![t.val, 2] := by decide +kernel

theorem X0_apply (t : Fin 32) (r : Fin 128) (j : Fin 2048) :
    X0_0 m c t (ix2 r j) = m ((c : Thread nD τ).loc main_arg0) (ix2 (row t r) ⟨4096 + j.val, by omega⟩) := by
  unfold X0_0 Pipeline.Window.fill
  rw [dif_pos (moved0_0 t _)]
  blk_ext [iblk, V_main_arg0, idx0 t]
theorem blk1_apply (t : Fin 32) (r : Fin 128) (j : Fin 256) :
    iblk m c 1 t (ix2 r j) = m ((c : Thread nD τ).loc main_arg0) (ix2 (row (prev t) r) ⟨6144 + j.val, by omega⟩) := by
  blk_ext [iblk, V_main_arg0, idx1 t]
theorem blk2_apply (t : Fin 32) (r : Fin 128) (j : Fin 256) :
    iblk m c 2 t (ix2 r j) = m ((c : Thread nD τ).loc main_arg0) (ix2 (row t r) ⟨6144 + j.val, by omega⟩) := by
  blk_ext [iblk, V_main_arg0, idx2 t]
theorem blk3_apply (t : Fin 32) (r : Fin 128) (j : Fin 256) :
    iblk m c 3 t (ix2 r j) = m ((c : Thread nD τ).loc main_arg0) (ix2 (row (prev t) r) ⟨6400 + j.val, by omega⟩) := by
  blk_ext [iblk, V_main_arg0, idx3 t]
theorem blk4_apply (t : Fin 32) (r : Fin 128) (j : Fin 256) :
    iblk m c 4 t (ix2 r j) = m ((c : Thread nD τ).loc main_arg0) (ix2 (row t r) ⟨6400 + j.val, by omega⟩) := by
  blk_ext [iblk, V_main_arg0, idx4 t]
theorem blk5_apply (t : Fin 32) (h : Fin 32) (r : Fin 128) (j : Fin 256) :
    iblk m c 5 t (ix3 h r j) = m ((c : Thread nD τ).loc main_arg2) (ix3 h r j) := by
  blk_ext [iblk, V_main_arg2, idx5 t]
theorem blk6_apply (t : Fin 32) (h : Fin 32) :
    iblk m c 6 t (ix1 h) = m ((c : Thread nD τ).loc main_arg3) (ix1 h) := by
  blk_ext [iblk, V_main_arg3, idx6 t]
theorem blk7_apply (t : Fin 32) (r : Fin 128) (j : Fin 2048) :
    iblk m c 7 t (ix2 r j) = m ((c : Thread nD τ).loc main_arg1) (ix2 (row t r) j) := by
  blk_ext [iblk, V_main_arg1, idx7 t]
theorem blk8_apply (t : Fin 32) (r : Fin 128) (j : Fin 128) :
    iblk m c 8 t (ix2 r j) = Cert.KernelIdeal.Gen.V m c main_v69 (ix2 (row t r) j) := by
  blk_ext [iblk, idx8 t]
end Cert.Proof.K
end
-- ==== Proof.KOut9.lean ====
module
public import proofs.«01_k».proof.Proof.KFold
import Idealize.ShloMosaic.Lib.Pipeline.ValueKit
import Idealize.ShloMosaic.Lib.Pipeline.ReadBack
@[expose] public section
set_option maxRecDepth 16384
set_option maxHeartbeats 1000000
noncomputable section
namespace Cert.Proof.K
open Cert.KernelIdeal Cert.KernelIdeal.Gen Cert.KernelIdeal.Value Idealize.ShloMosaic Idealize.ShloMosaic.TcCoe Idealize.SL.Sem
variable {F : FTy → Type} [FloatOps F] [Named F]

/-! The query gradient a grid point stores. -/

theorem out_A_9 (c : Dev nD) (i : grid0.Coords) (arg1 : Memref sig .tc .vmem S128x2048 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S32x128x256 .f32) (harg6 : arg6.IsWhole) (arg7 : Memref sig .tc .smem S32 .f32) (harg7 : arg7.IsWhole) (arg8 : Memref sig .tc .vmem S128x2048 .bf16) (harg8 : arg8.IsWhole) (arg9 : Memref sig .tc .vmem S128x128 .f32) (harg9 : arg9.IsWhole) (arg11 : Memref sig .tc .vmem S128x2048 .bf16) (harg11 : arg11.IsWhole) (arg12 : Memref sig .tc .vmem S4224x256 .f32) (harg12 : arg12.IsWhole) (arg13 : Memref sig .tc .vmem S4224x256 .f32) (harg13 : arg13.IsWhole) (arg14 : Memref sig .tc .vmem S32x128x256 .f32) (harg14 : arg14.IsWhole) (arg15 : Memref sig .tc .vmem S8x128 .f32) (harg15 : arg15.IsWhole) (hc0 : cond0_0 i)
    (x0 : Vec F S128x2048 .bf16) (x1 : Vec F S128x256 .bf16) (x2 : Vec F S128x256 .bf16) (x3 : Vec F S128x256 .bf16) (x4 : Vec F S128x256 .bf16) (x5 : Vec F S32x128x256 .f32) (x6 : Vec F S32 .f32) (x7 : Vec F S128x2048 .bf16) (x8 : Vec F S128x128 .f32) :
    out0_A_9 c i arg1 harg1 arg2 harg2 arg3 harg3 arg4 harg4 arg5 harg5 arg6 harg6 arg7 harg7 arg8 harg8 arg9 harg9 arg11 harg11 arg12 harg12 arg13 harg13 arg14 harg14 arg15 harg15 hc0 x0 x1 x2 x3 x4 x5 x6 x7 x8 = dqAll i x0 x1 x2 x3 x4 x5 x7 x8 := by
  frame_out
  generalize hq : (View.ld (View.read (Elt F) arg1.view (harg1.unread x0)) (Rect.unit (s := S128x2048) ![0, 0] ![128, 2048] inb_S128x2048_S128x2048_0_0) : Vec F S128x2048 .bf16) = q
  obtain rfl : x0 = q := by rw [← hq, harg1.read_unread]; exact (ld_q x0).symm
  generalize hk1 : (View.ld (View.read (Elt F) arg2.view (harg2.unread x1)) (Rect.unit (s := S128x256) ![0, 0] ![128, 256] inb_S128x256_S128x256_0_0) : Vec F S128x256 .bf16) = k1
  obtain rfl : x1 = k1 := by rw [← hk1, harg2.read_unread]; exact (ld_k x1).symm
  generalize hk2 : (View.ld (View.read (Elt F) arg3.view (harg3.unread x2)) (Rect.unit (s := S128x256) ![0, 0] ![128, 256] inb_S128x256_S128x256_0_0) : Vec F S128x256 .bf16) = k2
  obtain rfl : x2 = k2 := by rw [← hk2, harg3.read_unread]; exact (ld_k x2).symm
  generalize hv1 : (View.ld (View.read (Elt F) arg4.view (harg4.unread x3)) (Rect.unit (s := S128x256) ![0, 0] ![128, 256] inb_S128x256_S128x256_0_0) : Vec F S128x256 .bf16) = v1
  obtain rfl : x3 = v1 := by rw [← hv1, harg4.read_unread]; exact (ld_k x3).symm
  generalize hv2 : (View.ld (View.read (Elt F) arg5.view (harg5.unread x4)) (Rect.unit (s := S128x256) ![0, 0] ![128, 256] inb_S128x256_S128x256_0_0) : Vec F S128x256 .bf16) = v2
  obtain rfl : x4 = v2 := by rw [← hv2, harg5.read_unread]; exact (ld_k x4).symm
  generalize hg : (View.ld (View.read (Elt F) arg8.view (harg8.unread x7)) (Rect.unit (s := S128x2048) ![0, 0] ![128, 2048] inb_S128x2048_S128x2048_0_0) : Vec F S128x2048 .bf16) = g
  obtain rfl : x7 = g := by rw [← hg, harg8.read_unread]; exact (ld_q x7).symm
  generalize hl : (View.ld (View.read (Elt F) arg9.view (harg9.unread x8)) (Rect.unit (s := S128x128) ![0, 0] ![128, 128] inb_S128x128_S128x128_0_0) : Vec F S128x128 .f32) = l
  obtain rfl : x8 = l := by rw [← hl, harg9.read_unread]; exact (ld_l x8).symm
  generalize hsk : View.read (Elt F) arg7.view (harg7.unread x6) = sk
  obtain rfl : x6 = sk := (harg7.read_unread x6).symm.trans hsk
  generalize hbb : View.read (Elt F) arg6.view (harg6.unread x5) = bb
  obtain rfl : x5 = bb := (harg6.read_unread x5).symm.trans hbb
  try rw [band_eq x1 x2]
  try rw [band_eq x3 x4]
  try rw [valid_eq2 i]
  try rw [valid_eq i]
  try rw [stack_0 x0]
  try rw [stack_0 x7]
  try rw [dup_0 (band x1 x2)]
  try rw [dup_0 (band x3 x4)]
  try rw [lseg_0 x8]
  try rw [sink_0 x6]
  try rw [bias_0 x5]
  try rw [stack_1 x0]
  try rw [stack_1 x7]
  try rw [dup_1 (band x1 x2)]
  try rw [dup_1 (band x3 x4)]
  try rw [lseg_1 x8]
  try rw [sink_1 x6]
  try rw [bias_1 x5]
  try rw [stack_2 x0]
  try rw [stack_2 x7]
  try rw [dup_2 (band x1 x2)]
  try rw [dup_2 (band x3 x4)]
  try rw [lseg_2 x8]
  try rw [sink_2 x6]
  try rw [bias_2 x5]
  try rw [stack_3 x0]
  try rw [stack_3 x7]
  try rw [dup_3 (band x1 x2)]
  try rw [dup_3 (band x3 x4)]
  try rw [lseg_3 x8]
  try rw [sink_3 x6]
  try rw [bias_3 x5]
  rfl

theorem out_B_9 (c : Dev nD) (i : grid0.Coords) (arg1 : Memref sig .tc .vmem S128x2048 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S32x128x256 .f32) (harg6 : arg6.IsWhole) (arg7 : Memref sig .tc .smem S32 .f32) (harg7 : arg7.IsWhole) (arg8 : Memref sig .tc .vmem S128x2048 .bf16) (harg8 : arg8.IsWhole) (arg9 : Memref sig .tc .vmem S128x128 .f32) (harg9 : arg9.IsWhole) (arg11 : Memref sig .tc .vmem S128x2048 .bf16) (harg11 : arg11.IsWhole) (arg12 : Memref sig .tc .vmem S4224x256 .f32) (harg12 : arg12.IsWhole) (arg13 : Memref sig .tc .vmem S4224x256 .f32) (harg13 : arg13.IsWhole) (arg14 : Memref sig .tc .vmem S32x128x256 .f32) (harg14 : arg14.IsWhole) (arg15 : Memref sig .tc .vmem S8x128 .f32) (harg15 : arg15.IsWhole) (hc0 : ¬cond0_0 i)
    (x0 : Vec F S128x2048 .bf16) (x1 : Vec F S128x256 .bf16) (x2 : Vec F S128x256 .bf16) (x3 : Vec F S128x256 .bf16) (x4 : Vec F S128x256 .bf16) (x5 : Vec F S32x128x256 .f32) (x6 : Vec F S32 .f32) (x7 : Vec F S128x2048 .bf16) (x8 : Vec F S128x128 .f32) (xo10 : Vec F S4224x256 .f32) (xo11 : Vec F S4224x256 .f32) (xo12 : Vec F S32x128x256 .f32) (xo13 : Vec F S8x128 .f32) :
    out0_B_9 c i arg1 harg1 arg2 harg2 arg3 harg3 arg4 harg4 arg5 harg5 arg6 harg6 arg7 harg7 arg8 harg8 arg9 harg9 arg11 harg11 arg12 harg12 arg13 harg13 arg14 harg14 arg15 harg15 hc0 x0 x1 x2 x3 x4 x5 x6 x7 x8 xo10 xo11 xo12 xo13 = dqAll i x0 x1 x2 x3 x4 x5 x7 x8 := by
  frame_out
  generalize hq : (View.ld (View.read (Elt F) arg1.view (harg1.unread x0)) (Rect.unit (s := S128x2048) ![0, 0] ![128, 2048] inb_S128x2048_S128x2048_0_0) : Vec F S128x2048 .bf16) = q
  obtain rfl : x0 = q := by rw [← hq, harg1.read_unread]; exact (ld_q x0).symm
  generalize hk1 : (View.ld (View.read (Elt F) arg2.view (harg2.unread x1)) (Rect.unit (s := S128x256) ![0, 0] ![128, 256] inb_S128x256_S128x256_0_0) : Vec F S128x256 .bf16) = k1
  obtain rfl : x1 = k1 := by rw [← hk1, harg2.read_unread]; exact (ld_k x1).symm
  generalize hk2 : (View.ld (View.read (Elt F) arg3.view (harg3.unread x2)) (Rect.unit (s := S128x256) ![0, 0] ![128, 256] inb_S128x256_S128x256_0_0) : Vec F S128x256 .bf16) = k2
  obtain rfl : x2 = k2 := by rw [← hk2, harg3.read_unread]; exact (ld_k x2).symm
  generalize hv1 : (View.ld (View.read (Elt F) arg4.view (harg4.unread x3)) (Rect.unit (s := S128x256) ![0, 0] ![128, 256] inb_S128x256_S128x256_0_0) : Vec F S128x256 .bf16) = v1
  obtain rfl : x3 = v1 := by rw [← hv1, harg4.read_unread]; exact (ld_k x3).symm
  generalize hv2 : (View.ld (View.read (Elt F) arg5.view (harg5.unread x4)) (Rect.unit (s := S128x256) ![0, 0] ![128, 256] inb_S128x256_S128x256_0_0) : Vec F S128x256 .bf16) = v2
  obtain rfl : x4 = v2 := by rw [← hv2, harg5.read_unread]; exact (ld_k x4).symm
  generalize hg : (View.ld (View.read (Elt F) arg8.view (harg8.unread x7)) (Rect.unit (s := S128x2048) ![0, 0] ![128, 2048] inb_S128x2048_S128x2048_0_0) : Vec F S128x2048 .bf16) = g
  obtain rfl : x7 = g := by rw [← hg, harg8.read_unread]; exact (ld_q x7).symm
  generalize hl : (View.ld (View.read (Elt F) arg9.view (harg9.unread x8)) (Rect.unit (s := S128x128) ![0, 0] ![128, 128] inb_S128x128_S128x128_0_0) : Vec F S128x128 .f32) = l
  obtain rfl : x8 = l := by rw [← hl, harg9.read_unread]; exact (ld_l x8).symm
  generalize hsk : View.read (Elt F) arg7.view (harg7.unread x6) = sk
  obtain rfl : x6 = sk := (harg7.read_unread x6).symm.trans hsk
  generalize hbb : View.read (Elt F) arg6.view (harg6.unread x5) = bb
  obtain rfl : x5 = bb := (harg6.read_unread x5).symm.trans hbb
  try rw [band_eq x1 x2]
  try rw [band_eq x3 x4]
  try rw [valid_eq2 i]
  try rw [valid_eq i]
  try rw [stack_0 x0]
  try rw [stack_0 x7]
  try rw [dup_0 (band x1 x2)]
  try rw [dup_0 (band x3 x4)]
  try rw [lseg_0 x8]
  try rw [sink_0 x6]
  try rw [bias_0 x5]
  try rw [stack_1 x0]
  try rw [stack_1 x7]
  try rw [dup_1 (band x1 x2)]
  try rw [dup_1 (band x3 x4)]
  try rw [lseg_1 x8]
  try rw [sink_1 x6]
  try rw [bias_1 x5]
  try rw [stack_2 x0]
  try rw [stack_2 x7]
  try rw [dup_2 (band x1 x2)]
  try rw [dup_2 (band x3 x4)]
  try rw [lseg_2 x8]
  try rw [sink_2 x6]
  try rw [bias_2 x5]
  try rw [stack_3 x0]
  try rw [stack_3 x7]
  try rw [dup_3 (band x1 x2)]
  try rw [dup_3 (band x3 x4)]
  try rw [lseg_3 x8]
  try rw [sink_3 x6]
  try rw [bias_3 x5]
  rfl

end Cert.Proof.K
end
-- ==== Proof.KOut10.lean ====
module
public import proofs.«01_k».proof.Proof.KFold
import Idealize.ShloMosaic.Lib.Pipeline.ValueKit
import Idealize.ShloMosaic.Lib.Pipeline.ReadBack
@[expose] public section
set_option maxRecDepth 16384
set_option maxHeartbeats 1000000
noncomputable section
namespace Cert.Proof.K
open Cert.KernelIdeal Cert.KernelIdeal.Gen Cert.KernelIdeal.Value Idealize.ShloMosaic Idealize.ShloMosaic.TcCoe Idealize.SL.Sem
variable {F : FTy → Type} [FloatOps F] [Named F]

/-! The rows of the key gradient a grid point adds to. -/

theorem out_A_10 (c : Dev nD) (i : grid0.Coords) (arg1 : Memref sig .tc .vmem S128x2048 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S32x128x256 .f32) (harg6 : arg6.IsWhole) (arg7 : Memref sig .tc .smem S32 .f32) (harg7 : arg7.IsWhole) (arg8 : Memref sig .tc .vmem S128x2048 .bf16) (harg8 : arg8.IsWhole) (arg9 : Memref sig .tc .vmem S128x128 .f32) (harg9 : arg9.IsWhole) (arg11 : Memref sig .tc .vmem S128x2048 .bf16) (harg11 : arg11.IsWhole) (arg12 : Memref sig .tc .vmem S4224x256 .f32) (harg12 : arg12.IsWhole) (arg13 : Memref sig .tc .vmem S4224x256 .f32) (harg13 : arg13.IsWhole) (arg14 : Memref sig .tc .vmem S32x128x256 .f32) (harg14 : arg14.IsWhole) (arg15 : Memref sig .tc .vmem S8x128 .f32) (harg15 : arg15.IsWhole) (hc0 : cond0_0 i)
    (x0 : Vec F S128x2048 .bf16) (x1 : Vec F S128x256 .bf16) (x2 : Vec F S128x256 .bf16) (x3 : Vec F S128x256 .bf16) (x4 : Vec F S128x256 .bf16) (x5 : Vec F S32x128x256 .f32) (x6 : Vec F S32 .f32) (x7 : Vec F S128x2048 .bf16) (x8 : Vec F S128x128 .f32) :
    out0_A_10 c i arg1 harg1 arg2 harg2 arg3 harg3 arg4 harg4 arg5 harg5 arg6 harg6 arg7 harg7 arg8 harg8 arg9 harg9 arg11 harg11 arg12 harg12 arg13 harg13 arg14 harg14 arg15 harg15 hc0 x0 x1 x2 x3 x4 x5 x6 x7 x8 = View.canon (Val := Elt F) [⟨(Rect.unit (s := S4224x256) (k0_off1 i) ![256, 256] (k0_off1_inb i)), addTo (View.ld (Val := Elt F) (e' := .f32) (zero10 (F := F)) (Rect.unit (s := S4224x256) (k0_off1 i) ![256, 256] (k0_off1_inb i))) (dkAll i x0 x1 x2 x3 x4 x5 x7 x8)⟩, ⟨Rect.unit (s := S4224x256) ![0, 0] ![4224, 256] inb_S4224x256_S4224x256_0_0, (zero10 (F := F))⟩] := by
  frame_out
  generalize hq : (View.ld (View.read (Elt F) arg1.view (harg1.unread x0)) (Rect.unit (s := S128x2048) ![0, 0] ![128, 2048] inb_S128x2048_S128x2048_0_0) : Vec F S128x2048 .bf16) = q
  obtain rfl : x0 = q := by rw [← hq, harg1.read_unread]; exact (ld_q x0).symm
  generalize hk1 : (View.ld (View.read (Elt F) arg2.view (harg2.unread x1)) (Rect.unit (s := S128x256) ![0, 0] ![128, 256] inb_S128x256_S128x256_0_0) : Vec F S128x256 .bf16) = k1
  obtain rfl : x1 = k1 := by rw [← hk1, harg2.read_unread]; exact (ld_k x1).symm
  generalize hk2 : (View.ld (View.read (Elt F) arg3.view (harg3.unread x2)) (Rect.unit (s := S128x256) ![0, 0] ![128, 256] inb_S128x256_S128x256_0_0) : Vec F S128x256 .bf16) = k2
  obtain rfl : x2 = k2 := by rw [← hk2, harg3.read_unread]; exact (ld_k x2).symm
  generalize hv1 : (View.ld (View.read (Elt F) arg4.view (harg4.unread x3)) (Rect.unit (s := S128x256) ![0, 0] ![128, 256] inb_S128x256_S128x256_0_0) : Vec F S128x256 .bf16) = v1
  obtain rfl : x3 = v1 := by rw [← hv1, harg4.read_unread]; exact (ld_k x3).symm
  generalize hv2 : (View.ld (View.read (Elt F) arg5.view (harg5.unread x4)) (Rect.unit (s := S128x256) ![0, 0] ![128, 256] inb_S128x256_S128x256_0_0) : Vec F S128x256 .bf16) = v2
  obtain rfl : x4 = v2 := by rw [← hv2, harg5.read_unread]; exact (ld_k x4).symm
  generalize hg : (View.ld (View.read (Elt F) arg8.view (harg8.unread x7)) (Rect.unit (s := S128x2048) ![0, 0] ![128, 2048] inb_S128x2048_S128x2048_0_0) : Vec F S128x2048 .bf16) = g
  obtain rfl : x7 = g := by rw [← hg, harg8.read_unread]; exact (ld_q x7).symm
  generalize hl : (View.ld (View.read (Elt F) arg9.view (harg9.unread x8)) (Rect.unit (s := S128x128) ![0, 0] ![128, 128] inb_S128x128_S128x128_0_0) : Vec F S128x128 .f32) = l
  obtain rfl : x8 = l := by rw [← hl, harg9.read_unread]; exact (ld_l x8).symm
  generalize hsk : View.read (Elt F) arg7.view (harg7.unread x6) = sk
  obtain rfl : x6 = sk := (harg7.read_unread x6).symm.trans hsk
  generalize hbb : View.read (Elt F) arg6.view (harg6.unread x5) = bb
  obtain rfl : x5 = bb := (harg6.read_unread x5).symm.trans hbb
  try rw [band_eq x1 x2]
  try rw [band_eq x3 x4]
  try rw [valid_eq2 i]
  try rw [valid_eq i]
  try rw [stack_0 x0]
  try rw [stack_0 x7]
  try rw [dup_0 (band x1 x2)]
  try rw [dup_0 (band x3 x4)]
  try rw [lseg_0 x8]
  try rw [sink_0 x6]
  try rw [bias_0 x5]
  try rw [stack_1 x0]
  try rw [stack_1 x7]
  try rw [dup_1 (band x1 x2)]
  try rw [dup_1 (band x3 x4)]
  try rw [lseg_1 x8]
  try rw [sink_1 x6]
  try rw [bias_1 x5]
  try rw [stack_2 x0]
  try rw [stack_2 x7]
  try rw [dup_2 (band x1 x2)]
  try rw [dup_2 (band x3 x4)]
  try rw [lseg_2 x8]
  try rw [sink_2 x6]
  try rw [bias_2 x5]
  try rw [stack_3 x0]
  try rw [stack_3 x7]
  try rw [dup_3 (band x1 x2)]
  try rw [dup_3 (band x3 x4)]
  try rw [lseg_3 x8]
  try rw [sink_3 x6]
  try rw [bias_3 x5]
  rfl

theorem out_B_10 (c : Dev nD) (i : grid0.Coords) (arg1 : Memref sig .tc .vmem S128x2048 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S32x128x256 .f32) (harg6 : arg6.IsWhole) (arg7 : Memref sig .tc .smem S32 .f32) (harg7 : arg7.IsWhole) (arg8 : Memref sig .tc .vmem S128x2048 .bf16) (harg8 : arg8.IsWhole) (arg9 : Memref sig .tc .vmem S128x128 .f32) (harg9 : arg9.IsWhole) (arg11 : Memref sig .tc .vmem S128x2048 .bf16) (harg11 : arg11.IsWhole) (arg12 : Memref sig .tc .vmem S4224x256 .f32) (harg12 : arg12.IsWhole) (arg13 : Memref sig .tc .vmem S4224x256 .f32) (harg13 : arg13.IsWhole) (arg14 : Memref sig .tc .vmem S32x128x256 .f32) (harg14 : arg14.IsWhole) (arg15 : Memref sig .tc .vmem S8x128 .f32) (harg15 : arg15.IsWhole) (hc0 : ¬cond0_0 i)
    (x0 : Vec F S128x2048 .bf16) (x1 : Vec F S128x256 .bf16) (x2 : Vec F S128x256 .bf16) (x3 : Vec F S128x256 .bf16) (x4 : Vec F S128x256 .bf16) (x5 : Vec F S32x128x256 .f32) (x6 : Vec F S32 .f32) (x7 : Vec F S128x2048 .bf16) (x8 : Vec F S128x128 .f32) (xo10 : Vec F S4224x256 .f32) (xo11 : Vec F S4224x256 .f32) (xo12 : Vec F S32x128x256 .f32) (xo13 : Vec F S8x128 .f32) :
    out0_B_10 c i arg1 harg1 arg2 harg2 arg3 harg3 arg4 harg4 arg5 harg5 arg6 harg6 arg7 harg7 arg8 harg8 arg9 harg9 arg11 harg11 arg12 harg12 arg13 harg13 arg14 harg14 arg15 harg15 hc0 x0 x1 x2 x3 x4 x5 x6 x7 x8 xo10 xo11 xo12 xo13 = View.read (Elt F) arg12.view (arg12.view.writes (Elt F) (harg12.unread xo10) [⟨(Rect.unit (s := S4224x256) (k0_off1 i) ![256, 256] (k0_off1_inb i)), addTo (View.ld (Val := Elt F) (e' := .f32) xo10 (Rect.unit (s := S4224x256) (k0_off1 i) ![256, 256] (k0_off1_inb i))) (dkAll i x0 x1 x2 x3 x4 x5 x7 x8)⟩]) := by
  frame_out
  generalize hq : (View.ld (View.read (Elt F) arg1.view (harg1.unread x0)) (Rect.unit (s := S128x2048) ![0, 0] ![128, 2048] inb_S128x2048_S128x2048_0_0) : Vec F S128x2048 .bf16) = q
  obtain rfl : x0 = q := by rw [← hq, harg1.read_unread]; exact (ld_q x0).symm
  generalize hk1 : (View.ld (View.read (Elt F) arg2.view (harg2.unread x1)) (Rect.unit (s := S128x256) ![0, 0] ![128, 256] inb_S128x256_S128x256_0_0) : Vec F S128x256 .bf16) = k1
  obtain rfl : x1 = k1 := by rw [← hk1, harg2.read_unread]; exact (ld_k x1).symm
  generalize hk2 : (View.ld (View.read (Elt F) arg3.view (harg3.unread x2)) (Rect.unit (s := S128x256) ![0, 0] ![128, 256] inb_S128x256_S128x256_0_0) : Vec F S128x256 .bf16) = k2
  obtain rfl : x2 = k2 := by rw [← hk2, harg3.read_unread]; exact (ld_k x2).symm
  generalize hv1 : (View.ld (View.read (Elt F) arg4.view (harg4.unread x3)) (Rect.unit (s := S128x256) ![0, 0] ![128, 256] inb_S128x256_S128x256_0_0) : Vec F S128x256 .bf16) = v1
  obtain rfl : x3 = v1 := by rw [← hv1, harg4.read_unread]; exact (ld_k x3).symm
  generalize hv2 : (View.ld (View.read (Elt F) arg5.view (harg5.unread x4)) (Rect.unit (s := S128x256) ![0, 0] ![128, 256] inb_S128x256_S128x256_0_0) : Vec F S128x256 .bf16) = v2
  obtain rfl : x4 = v2 := by rw [← hv2, harg5.read_unread]; exact (ld_k x4).symm
  generalize hg : (View.ld (View.read (Elt F) arg8.view (harg8.unread x7)) (Rect.unit (s := S128x2048) ![0, 0] ![128, 2048] inb_S128x2048_S128x2048_0_0) : Vec F S128x2048 .bf16) = g
  obtain rfl : x7 = g := by rw [← hg, harg8.read_unread]; exact (ld_q x7).symm
  generalize hl : (View.ld (View.read (Elt F) arg9.view (harg9.unread x8)) (Rect.unit (s := S128x128) ![0, 0] ![128, 128] inb_S128x128_S128x128_0_0) : Vec F S128x128 .f32) = l
  obtain rfl : x8 = l := by rw [← hl, harg9.read_unread]; exact (ld_l x8).symm
  generalize hsk : View.read (Elt F) arg7.view (harg7.unread x6) = sk
  obtain rfl : x6 = sk := (harg7.read_unread x6).symm.trans hsk
  generalize hbb : View.read (Elt F) arg6.view (harg6.unread x5) = bb
  obtain rfl : x5 = bb := (harg6.read_unread x5).symm.trans hbb
  try rw [band_eq x1 x2]
  try rw [band_eq x3 x4]
  try rw [valid_eq2 i]
  try rw [valid_eq i]
  try rw [stack_0 x0]
  try rw [stack_0 x7]
  try rw [dup_0 (band x1 x2)]
  try rw [dup_0 (band x3 x4)]
  try rw [lseg_0 x8]
  try rw [sink_0 x6]
  try rw [bias_0 x5]
  try rw [stack_1 x0]
  try rw [stack_1 x7]
  try rw [dup_1 (band x1 x2)]
  try rw [dup_1 (band x3 x4)]
  try rw [lseg_1 x8]
  try rw [sink_1 x6]
  try rw [bias_1 x5]
  try rw [stack_2 x0]
  try rw [stack_2 x7]
  try rw [dup_2 (band x1 x2)]
  try rw [dup_2 (band x3 x4)]
  try rw [lseg_2 x8]
  try rw [sink_2 x6]
  try rw [bias_2 x5]
  try rw [stack_3 x0]
  try rw [stack_3 x7]
  try rw [dup_3 (band x1 x2)]
  try rw [dup_3 (band x3 x4)]
  try rw [lseg_3 x8]
  try rw [sink_3 x6]
  try rw [bias_3 x5]
  rfl

end Cert.Proof.K
end
-- ==== Proof.KOut11.lean ====
module
public import proofs.«01_k».proof.Proof.KFold
import Idealize.ShloMosaic.Lib.Pipeline.ValueKit
import Idealize.ShloMosaic.Lib.Pipeline.ReadBack
@[expose] public section
set_option maxRecDepth 16384
set_option maxHeartbeats 1000000
noncomputable section
namespace Cert.Proof.K
open Cert.KernelIdeal Cert.KernelIdeal.Gen Cert.KernelIdeal.Value Idealize.ShloMosaic Idealize.ShloMosaic.TcCoe Idealize.SL.Sem
variable {F : FTy → Type} [FloatOps F] [Named F]

/-! The rows of the value gradient a grid point adds to. -/

theorem out_A_11 (c : Dev nD) (i : grid0.Coords) (arg1 : Memref sig .tc .vmem S128x2048 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S32x128x256 .f32) (harg6 : arg6.IsWhole) (arg7 : Memref sig .tc .smem S32 .f32) (harg7 : arg7.IsWhole) (arg8 : Memref sig .tc .vmem S128x2048 .bf16) (harg8 : arg8.IsWhole) (arg9 : Memref sig .tc .vmem S128x128 .f32) (harg9 : arg9.IsWhole) (arg11 : Memref sig .tc .vmem S128x2048 .bf16) (harg11 : arg11.IsWhole) (arg12 : Memref sig .tc .vmem S4224x256 .f32) (harg12 : arg12.IsWhole) (arg13 : Memref sig .tc .vmem S4224x256 .f32) (harg13 : arg13.IsWhole) (arg14 : Memref sig .tc .vmem S32x128x256 .f32) (harg14 : arg14.IsWhole) (arg15 : Memref sig .tc .vmem S8x128 .f32) (harg15 : arg15.IsWhole) (hc0 : cond0_0 i)
    (x0 : Vec F S128x2048 .bf16) (x1 : Vec F S128x256 .bf16) (x2 : Vec F S128x256 .bf16) (x3 : Vec F S128x256 .bf16) (x4 : Vec F S128x256 .bf16) (x5 : Vec F S32x128x256 .f32) (x6 : Vec F S32 .f32) (x7 : Vec F S128x2048 .bf16) (x8 : Vec F S128x128 .f32) :
    out0_A_11 c i arg1 harg1 arg2 harg2 arg3 harg3 arg4 harg4 arg5 harg5 arg6 harg6 arg7 harg7 arg8 harg8 arg9 harg9 arg11 harg11 arg12 harg12 arg13 harg13 arg14 harg14 arg15 harg15 hc0 x0 x1 x2 x3 x4 x5 x6 x7 x8 = View.canon (Val := Elt F) [⟨(Rect.unit (s := S4224x256) (k0_off1 i) ![256, 256] (k0_off1_inb i)), addTo (View.ld (Val := Elt F) (e' := .f32) (zero10 (F := F)) (Rect.unit (s := S4224x256) (k0_off1 i) ![256, 256] (k0_off1_inb i))) (dvAll i x0 x1 x2 x5 x7 x8)⟩, ⟨Rect.unit (s := S4224x256) ![0, 0] ![4224, 256] inb_S4224x256_S4224x256_0_0, (zero10 (F := F))⟩] := by
  frame_out
  generalize hq : (View.ld (View.read (Elt F) arg1.view (harg1.unread x0)) (Rect.unit (s := S128x2048) ![0, 0] ![128, 2048] inb_S128x2048_S128x2048_0_0) : Vec F S128x2048 .bf16) = q
  obtain rfl : x0 = q := by rw [← hq, harg1.read_unread]; exact (ld_q x0).symm
  generalize hk1 : (View.ld (View.read (Elt F) arg2.view (harg2.unread x1)) (Rect.unit (s := S128x256) ![0, 0] ![128, 256] inb_S128x256_S128x256_0_0) : Vec F S128x256 .bf16) = k1
  obtain rfl : x1 = k1 := by rw [← hk1, harg2.read_unread]; exact (ld_k x1).symm
  generalize hk2 : (View.ld (View.read (Elt F) arg3.view (harg3.unread x2)) (Rect.unit (s := S128x256) ![0, 0] ![128, 256] inb_S128x256_S128x256_0_0) : Vec F S128x256 .bf16) = k2
  obtain rfl : x2 = k2 := by rw [← hk2, harg3.read_unread]; exact (ld_k x2).symm
  generalize hv1 : (View.ld (View.read (Elt F) arg4.view (harg4.unread x3)) (Rect.unit (s := S128x256) ![0, 0] ![128, 256] inb_S128x256_S128x256_0_0) : Vec F S128x256 .bf16) = v1
  obtain rfl : x3 = v1 := by rw [← hv1, harg4.read_unread]; exact (ld_k x3).symm
  generalize hv2 : (View.ld (View.read (Elt F) arg5.view (harg5.unread x4)) (Rect.unit (s := S128x256) ![0, 0] ![128, 256] inb_S128x256_S128x256_0_0) : Vec F S128x256 .bf16) = v2
  obtain rfl : x4 = v2 := by rw [← hv2, harg5.read_unread]; exact (ld_k x4).symm
  generalize hg : (View.ld (View.read (Elt F) arg8.view (harg8.unread x7)) (Rect.unit (s := S128x2048) ![0, 0] ![128, 2048] inb_S128x2048_S128x2048_0_0) : Vec F S128x2048 .bf16) = g
  obtain rfl : x7 = g := by rw [← hg, harg8.read_unread]; exact (ld_q x7).symm
  generalize hl : (View.ld (View.read (Elt F) arg9.view (harg9.unread x8)) (Rect.unit (s := S128x128) ![0, 0] ![128, 128] inb_S128x128_S128x128_0_0) : Vec F S128x128 .f32) = l
  obtain rfl : x8 = l := by rw [← hl, harg9.read_unread]; exact (ld_l x8).symm
  generalize hsk : View.read (Elt F) arg7.view (harg7.unread x6) = sk
  obtain rfl : x6 = sk := (harg7.read_unread x6).symm.trans hsk
  generalize hbb : View.read (Elt F) arg6.view (harg6.unread x5) = bb
  obtain rfl : x5 = bb := (harg6.read_unread x5).symm.trans hbb
  try rw [band_eq x1 x2]
  try rw [band_eq x3 x4]
  try rw [valid_eq2 i]
  try rw [valid_eq i]
  try rw [stack_0 x0]
  try rw [stack_0 x7]
  try rw [dup_0 (band x1 x2)]
  try rw [dup_0 (band x3 x4)]
  try rw [lseg_0 x8]
  try rw [sink_0 x6]
  try rw [bias_0 x5]
  try rw [stack_1 x0]
  try rw [stack_1 x7]
  try rw [dup_1 (band x1 x2)]
  try rw [dup_1 (band x3 x4)]
  try rw [lseg_1 x8]
  try rw [sink_1 x6]
  try rw [bias_1 x5]
  try rw [stack_2 x0]
  try rw [stack_2 x7]
  try rw [dup_2 (band x1 x2)]
  try rw [dup_2 (band x3 x4)]
  try rw [lseg_2 x8]
  try rw [sink_2 x6]
  try rw [bias_2 x5]
  try rw [stack_3 x0]
  try rw [stack_3 x7]
  try rw [dup_3 (band x1 x2)]
  try rw [dup_3 (band x3 x4)]
  try rw [lseg_3 x8]
  try rw [sink_3 x6]
  try rw [bias_3 x5]
  rfl

theorem out_B_11 (c : Dev nD) (i : grid0.Coords) (arg1 : Memref sig .tc .vmem S128x2048 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S32x128x256 .f32) (harg6 : arg6.IsWhole) (arg7 : Memref sig .tc .smem S32 .f32) (harg7 : arg7.IsWhole) (arg8 : Memref sig .tc .vmem S128x2048 .bf16) (harg8 : arg8.IsWhole) (arg9 : Memref sig .tc .vmem S128x128 .f32) (harg9 : arg9.IsWhole) (arg11 : Memref sig .tc .vmem S128x2048 .bf16) (harg11 : arg11.IsWhole) (arg12 : Memref sig .tc .vmem S4224x256 .f32) (harg12 : arg12.IsWhole) (arg13 : Memref sig .tc .vmem S4224x256 .f32) (harg13 : arg13.IsWhole) (arg14 : Memref sig .tc .vmem S32x128x256 .f32) (harg14 : arg14.IsWhole) (arg15 : Memref sig .tc .vmem S8x128 .f32) (harg15 : arg15.IsWhole) (hc0 : ¬cond0_0 i)
    (x0 : Vec F S128x2048 .bf16) (x1 : Vec F S128x256 .bf16) (x2 : Vec F S128x256 .bf16) (x3 : Vec F S128x256 .bf16) (x4 : Vec F S128x256 .bf16) (x5 : Vec F S32x128x256 .f32) (x6 : Vec F S32 .f32) (x7 : Vec F S128x2048 .bf16) (x8 : Vec F S128x128 .f32) (xo10 : Vec F S4224x256 .f32) (xo11 : Vec F S4224x256 .f32) (xo12 : Vec F S32x128x256 .f32) (xo13 : Vec F S8x128 .f32) :
    out0_B_11 c i arg1 harg1 arg2 harg2 arg3 harg3 arg4 harg4 arg5 harg5 arg6 harg6 arg7 harg7 arg8 harg8 arg9 harg9 arg11 harg11 arg12 harg12 arg13 harg13 arg14 harg14 arg15 harg15 hc0 x0 x1 x2 x3 x4 x5 x6 x7 x8 xo10 xo11 xo12 xo13 = View.read (Elt F) arg13.view (arg13.view.writes (Elt F) (harg13.unread xo11) [⟨(Rect.unit (s := S4224x256) (k0_off1 i) ![256, 256] (k0_off1_inb i)), addTo (View.ld (Val := Elt F) (e' := .f32) xo11 (Rect.unit (s := S4224x256) (k0_off1 i) ![256, 256] (k0_off1_inb i))) (dvAll i x0 x1 x2 x5 x7 x8)⟩]) := by
  frame_out
  generalize hq : (View.ld (View.read (Elt F) arg1.view (harg1.unread x0)) (Rect.unit (s := S128x2048) ![0, 0] ![128, 2048] inb_S128x2048_S128x2048_0_0) : Vec F S128x2048 .bf16) = q
  obtain rfl : x0 = q := by rw [← hq, harg1.read_unread]; exact (ld_q x0).symm
  generalize hk1 : (View.ld (View.read (Elt F) arg2.view (harg2.unread x1)) (Rect.unit (s := S128x256) ![0, 0] ![128, 256] inb_S128x256_S128x256_0_0) : Vec F S128x256 .bf16) = k1
  obtain rfl : x1 = k1 := by rw [← hk1, harg2.read_unread]; exact (ld_k x1).symm
  generalize hk2 : (View.ld (View.read (Elt F) arg3.view (harg3.unread x2)) (Rect.unit (s := S128x256) ![0, 0] ![128, 256] inb_S128x256_S128x256_0_0) : Vec F S128x256 .bf16) = k2
  obtain rfl : x2 = k2 := by rw [← hk2, harg3.read_unread]; exact (ld_k x2).symm
  generalize hv1 : (View.ld (View.read (Elt F) arg4.view (harg4.unread x3)) (Rect.unit (s := S128x256) ![0, 0] ![128, 256] inb_S128x256_S128x256_0_0) : Vec F S128x256 .bf16) = v1
  obtain rfl : x3 = v1 := by rw [← hv1, harg4.read_unread]; exact (ld_k x3).symm
  generalize hv2 : (View.ld (View.read (Elt F) arg5.view (harg5.unread x4)) (Rect.unit (s := S128x256) ![0, 0] ![128, 256] inb_S128x256_S128x256_0_0) : Vec F S128x256 .bf16) = v2
  obtain rfl : x4 = v2 := by rw [← hv2, harg5.read_unread]; exact (ld_k x4).symm
  generalize hg : (View.ld (View.read (Elt F) arg8.view (harg8.unread x7)) (Rect.unit (s := S128x2048) ![0, 0] ![128, 2048] inb_S128x2048_S128x2048_0_0) : Vec F S128x2048 .bf16) = g
  obtain rfl : x7 = g := by rw [← hg, harg8.read_unread]; exact (ld_q x7).symm
  generalize hl : (View.ld (View.read (Elt F) arg9.view (harg9.unread x8)) (Rect.unit (s := S128x128) ![0, 0] ![128, 128] inb_S128x128_S128x128_0_0) : Vec F S128x128 .f32) = l
  obtain rfl : x8 = l := by rw [← hl, harg9.read_unread]; exact (ld_l x8).symm
  generalize hsk : View.read (Elt F) arg7.view (harg7.unread x6) = sk
  obtain rfl : x6 = sk := (harg7.read_unread x6).symm.trans hsk
  generalize hbb : View.read (Elt F) arg6.view (harg6.unread x5) = bb
  obtain rfl : x5 = bb := (harg6.read_unread x5).symm.trans hbb
  try rw [band_eq x1 x2]
  try rw [band_eq x3 x4]
  try rw [valid_eq2 i]
  try rw [valid_eq i]
  try rw [stack_0 x0]
  try rw [stack_0 x7]
  try rw [dup_0 (band x1 x2)]
  try rw [dup_0 (band x3 x4)]
  try rw [lseg_0 x8]
  try rw [sink_0 x6]
  try rw [bias_0 x5]
  try rw [stack_1 x0]
  try rw [stack_1 x7]
  try rw [dup_1 (band x1 x2)]
  try rw [dup_1 (band x3 x4)]
  try rw [lseg_1 x8]
  try rw [sink_1 x6]
  try rw [bias_1 x5]
  try rw [stack_2 x0]
  try rw [stack_2 x7]
  try rw [dup_2 (band x1 x2)]
  try rw [dup_2 (band x3 x4)]
  try rw [lseg_2 x8]
  try rw [sink_2 x6]
  try rw [bias_2 x5]
  try rw [stack_3 x0]
  try rw [stack_3 x7]
  try rw [dup_3 (band x1 x2)]
  try rw [dup_3 (band x3 x4)]
  try rw [lseg_3 x8]
  try rw [sink_3 x6]
  try rw [bias_3 x5]
  rfl

end Cert.Proof.K
end
-- ==== Proof.KOut12.lean ====
module
public import proofs.«01_k».proof.Proof.KFold
import Idealize.ShloMosaic.Lib.Pipeline.ValueKit
import Idealize.ShloMosaic.Lib.Pipeline.ReadBack
@[expose] public section
set_option maxRecDepth 16384
set_option maxHeartbeats 1000000
noncomputable section
namespace Cert.Proof.K
open Cert.KernelIdeal Cert.KernelIdeal.Gen Cert.KernelIdeal.Value Idealize.ShloMosaic Idealize.ShloMosaic.TcCoe Idealize.SL.Sem
variable {F : FTy → Type} [FloatOps F] [Named F]

/-! The bias gradient after a grid point. -/

theorem fill12_0 {sp : Space} (v : View sig .tc sp S32x128x256 .f32) : v.readCov (Val := Elt F) [⟨Rect.unit (s := S32x128x256) ![0, 0, 0] ![32, 128, 256] inb_S32x128x256_S32x128x256_0_0_0, broadcast S32x128x256 (FloatOps.ofBits (F := F) .f32 0x00000000#32)⟩] (Rect.unit (s := S32x128x256) ![0, 0, 0] ![8, 128, 256] inb_S32x128x256_S8x128x256_0_0_0).toLoadRect = View.ld (Val := Elt F) (zero12 (F := F)) (Rect.unit (s := S32x128x256) ![0, 0, 0] ![8, 128, 256] inb_S32x128x256_S8x128x256_0_0_0) :=
  View.readCov_fill v _ _ _ _ (by decide)
theorem skip12_01 {sp : Space} (v : View sig .tc sp S32x128x256 .f32) (w) (L : List (View.Piece (Elt F) S32x128x256 .f32)) : v.readCov (Val := Elt F) (⟨(Rect.unit (s := S32x128x256) ![0, 0, 0] ![8, 128, 256] inb_S32x128x256_S8x128x256_0_0_0), w⟩ :: L) (Rect.unit (s := S32x128x256) ![8, 0, 0] ![8, 128, 256] inb_S32x128x256_S8x128x256_8_0_0).toLoadRect = v.readCov L (Rect.unit (s := S32x128x256) ![8, 0, 0] ![8, 128, 256] inb_S32x128x256_S8x128x256_8_0_0).toLoadRect :=
  View.readCov_skip v _ _ _ _ (by decide)
theorem skip12_02 {sp : Space} (v : View sig .tc sp S32x128x256 .f32) (w) (L : List (View.Piece (Elt F) S32x128x256 .f32)) : v.readCov (Val := Elt F) (⟨(Rect.unit (s := S32x128x256) ![0, 0, 0] ![8, 128, 256] inb_S32x128x256_S8x128x256_0_0_0), w⟩ :: L) (Rect.unit (s := S32x128x256) ![16, 0, 0] ![8, 128, 256] inb_S32x128x256_S8x128x256_16_0_0).toLoadRect = v.readCov L (Rect.unit (s := S32x128x256) ![16, 0, 0] ![8, 128, 256] inb_S32x128x256_S8x128x256_16_0_0).toLoadRect :=
  View.readCov_skip v _ _ _ _ (by decide)
theorem skip12_03 {sp : Space} (v : View sig .tc sp S32x128x256 .f32) (w) (L : List (View.Piece (Elt F) S32x128x256 .f32)) : v.readCov (Val := Elt F) (⟨(Rect.unit (s := S32x128x256) ![0, 0, 0] ![8, 128, 256] inb_S32x128x256_S8x128x256_0_0_0), w⟩ :: L) (Rect.unit (s := S32x128x256) ![24, 0, 0] ![8, 128, 256] inb_S32x128x256_S8x128x256_24_0_0).toLoadRect = v.readCov L (Rect.unit (s := S32x128x256) ![24, 0, 0] ![8, 128, 256] inb_S32x128x256_S8x128x256_24_0_0).toLoadRect :=
  View.readCov_skip v _ _ _ _ (by decide)
theorem fill12_1 {sp : Space} (v : View sig .tc sp S32x128x256 .f32) : v.readCov (Val := Elt F) [⟨Rect.unit (s := S32x128x256) ![0, 0, 0] ![32, 128, 256] inb_S32x128x256_S32x128x256_0_0_0, broadcast S32x128x256 (FloatOps.ofBits (F := F) .f32 0x00000000#32)⟩] (Rect.unit (s := S32x128x256) ![8, 0, 0] ![8, 128, 256] inb_S32x128x256_S8x128x256_8_0_0).toLoadRect = View.ld (Val := Elt F) (zero12 (F := F)) (Rect.unit (s := S32x128x256) ![8, 0, 0] ![8, 128, 256] inb_S32x128x256_S8x128x256_8_0_0) :=
  View.readCov_fill v _ _ _ _ (by decide)
theorem skip12_12 {sp : Space} (v : View sig .tc sp S32x128x256 .f32) (w) (L : List (View.Piece (Elt F) S32x128x256 .f32)) : v.readCov (Val := Elt F) (⟨(Rect.unit (s := S32x128x256) ![8, 0, 0] ![8, 128, 256] inb_S32x128x256_S8x128x256_8_0_0), w⟩ :: L) (Rect.unit (s := S32x128x256) ![16, 0, 0] ![8, 128, 256] inb_S32x128x256_S8x128x256_16_0_0).toLoadRect = v.readCov L (Rect.unit (s := S32x128x256) ![16, 0, 0] ![8, 128, 256] inb_S32x128x256_S8x128x256_16_0_0).toLoadRect :=
  View.readCov_skip v _ _ _ _ (by decide)
theorem skip12_13 {sp : Space} (v : View sig .tc sp S32x128x256 .f32) (w) (L : List (View.Piece (Elt F) S32x128x256 .f32)) : v.readCov (Val := Elt F) (⟨(Rect.unit (s := S32x128x256) ![8, 0, 0] ![8, 128, 256] inb_S32x128x256_S8x128x256_8_0_0), w⟩ :: L) (Rect.unit (s := S32x128x256) ![24, 0, 0] ![8, 128, 256] inb_S32x128x256_S8x128x256_24_0_0).toLoadRect = v.readCov L (Rect.unit (s := S32x128x256) ![24, 0, 0] ![8, 128, 256] inb_S32x128x256_S8x128x256_24_0_0).toLoadRect :=
  View.readCov_skip v _ _ _ _ (by decide)
theorem fill12_2 {sp : Space} (v : View sig .tc sp S32x128x256 .f32) : v.readCov (Val := Elt F) [⟨Rect.unit (s := S32x128x256) ![0, 0, 0] ![32, 128, 256] inb_S32x128x256_S32x128x256_0_0_0, broadcast S32x128x256 (FloatOps.ofBits (F := F) .f32 0x00000000#32)⟩] (Rect.unit (s := S32x128x256) ![16, 0, 0] ![8, 128, 256] inb_S32x128x256_S8x128x256_16_0_0).toLoadRect = View.ld (Val := Elt F) (zero12 (F := F)) (Rect.unit (s := S32x128x256) ![16, 0, 0] ![8, 128, 256] inb_S32x128x256_S8x128x256_16_0_0) :=
  View.readCov_fill v _ _ _ _ (by decide)
theorem skip12_23 {sp : Space} (v : View sig .tc sp S32x128x256 .f32) (w) (L : List (View.Piece (Elt F) S32x128x256 .f32)) : v.readCov (Val := Elt F) (⟨(Rect.unit (s := S32x128x256) ![16, 0, 0] ![8, 128, 256] inb_S32x128x256_S8x128x256_16_0_0), w⟩ :: L) (Rect.unit (s := S32x128x256) ![24, 0, 0] ![8, 128, 256] inb_S32x128x256_S8x128x256_24_0_0).toLoadRect = v.readCov L (Rect.unit (s := S32x128x256) ![24, 0, 0] ![8, 128, 256] inb_S32x128x256_S8x128x256_24_0_0).toLoadRect :=
  View.readCov_skip v _ _ _ _ (by decide)
theorem fill12_3 {sp : Space} (v : View sig .tc sp S32x128x256 .f32) : v.readCov (Val := Elt F) [⟨Rect.unit (s := S32x128x256) ![0, 0, 0] ![32, 128, 256] inb_S32x128x256_S32x128x256_0_0_0, broadcast S32x128x256 (FloatOps.ofBits (F := F) .f32 0x00000000#32)⟩] (Rect.unit (s := S32x128x256) ![24, 0, 0] ![8, 128, 256] inb_S32x128x256_S8x128x256_24_0_0).toLoadRect = View.ld (Val := Elt F) (zero12 (F := F)) (Rect.unit (s := S32x128x256) ![24, 0, 0] ![8, 128, 256] inb_S32x128x256_S8x128x256_24_0_0) :=
  View.readCov_fill v _ _ _ _ (by decide)

theorem out_A_12 (c : Dev nD) (i : grid0.Coords) (arg1 : Memref sig .tc .vmem S128x2048 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S32x128x256 .f32) (harg6 : arg6.IsWhole) (arg7 : Memref sig .tc .smem S32 .f32) (harg7 : arg7.IsWhole) (arg8 : Memref sig .tc .vmem S128x2048 .bf16) (harg8 : arg8.IsWhole) (arg9 : Memref sig .tc .vmem S128x128 .f32) (harg9 : arg9.IsWhole) (arg11 : Memref sig .tc .vmem S128x2048 .bf16) (harg11 : arg11.IsWhole) (arg12 : Memref sig .tc .vmem S4224x256 .f32) (harg12 : arg12.IsWhole) (arg13 : Memref sig .tc .vmem S4224x256 .f32) (harg13 : arg13.IsWhole) (arg14 : Memref sig .tc .vmem S32x128x256 .f32) (harg14 : arg14.IsWhole) (arg15 : Memref sig .tc .vmem S8x128 .f32) (harg15 : arg15.IsWhole) (hc0 : cond0_0 i)
    (x0 : Vec F S128x2048 .bf16) (x1 : Vec F S128x256 .bf16) (x2 : Vec F S128x256 .bf16) (x3 : Vec F S128x256 .bf16) (x4 : Vec F S128x256 .bf16) (x5 : Vec F S32x128x256 .f32) (x6 : Vec F S32 .f32) (x7 : Vec F S128x2048 .bf16) (x8 : Vec F S128x128 .f32) :
    out0_A_12 c i arg1 harg1 arg2 harg2 arg3 harg3 arg4 harg4 arg5 harg5 arg6 harg6 arg7 harg7 arg8 harg8 arg9 harg9 arg11 harg11 arg12 harg12 arg13 harg13 arg14 harg14 arg15 harg15 hc0 x0 x1 x2 x3 x4 x5 x6 x7 x8 = View.canon (Val := Elt F) [⟨(Rect.unit (s := S32x128x256) ![24, 0, 0] ![8, 128, 256] inb_S32x128x256_S8x128x256_24_0_0), addB (View.ld (Val := Elt F) (e' := .f32) (zero12 (F := F)) (Rect.unit (s := S32x128x256) ![24, 0, 0] ![8, 128, 256] inb_S32x128x256_S8x128x256_24_0_0)) (DS i x0 x1 x2 x3 x4 x5 x7 x8 3)⟩,
    ⟨(Rect.unit (s := S32x128x256) ![16, 0, 0] ![8, 128, 256] inb_S32x128x256_S8x128x256_16_0_0), addB (View.ld (Val := Elt F) (e' := .f32) (zero12 (F := F)) (Rect.unit (s := S32x128x256) ![16, 0, 0] ![8, 128, 256] inb_S32x128x256_S8x128x256_16_0_0)) (DS i x0 x1 x2 x3 x4 x5 x7 x8 2)⟩,
    ⟨(Rect.unit (s := S32x128x256) ![8, 0, 0] ![8, 128, 256] inb_S32x128x256_S8x128x256_8_0_0), addB (View.ld (Val := Elt F) (e' := .f32) (zero12 (F := F)) (Rect.unit (s := S32x128x256) ![8, 0, 0] ![8, 128, 256] inb_S32x128x256_S8x128x256_8_0_0)) (DS i x0 x1 x2 x3 x4 x5 x7 x8 1)⟩,
    ⟨(Rect.unit (s := S32x128x256) ![0, 0, 0] ![8, 128, 256] inb_S32x128x256_S8x128x256_0_0_0), addB (View.ld (Val := Elt F) (e' := .f32) (zero12 (F := F)) (Rect.unit (s := S32x128x256) ![0, 0, 0] ![8, 128, 256] inb_S32x128x256_S8x128x256_0_0_0)) (DS i x0 x1 x2 x3 x4 x5 x7 x8 0)⟩,
    ⟨Rect.unit (s := S32x128x256) ![0, 0, 0] ![32, 128, 256] inb_S32x128x256_S32x128x256_0_0_0, (zero12 (F := F))⟩] := by
  frame_out
  generalize hq : (View.ld (View.read (Elt F) arg1.view (harg1.unread x0)) (Rect.unit (s := S128x2048) ![0, 0] ![128, 2048] inb_S128x2048_S128x2048_0_0) : Vec F S128x2048 .bf16) = q
  obtain rfl : x0 = q := by rw [← hq, harg1.read_unread]; exact (ld_q x0).symm
  generalize hk1 : (View.ld (View.read (Elt F) arg2.view (harg2.unread x1)) (Rect.unit (s := S128x256) ![0, 0] ![128, 256] inb_S128x256_S128x256_0_0) : Vec F S128x256 .bf16) = k1
  obtain rfl : x1 = k1 := by rw [← hk1, harg2.read_unread]; exact (ld_k x1).symm
  generalize hk2 : (View.ld (View.read (Elt F) arg3.view (harg3.unread x2)) (Rect.unit (s := S128x256) ![0, 0] ![128, 256] inb_S128x256_S128x256_0_0) : Vec F S128x256 .bf16) = k2
  obtain rfl : x2 = k2 := by rw [← hk2, harg3.read_unread]; exact (ld_k x2).symm
  generalize hv1 : (View.ld (View.read (Elt F) arg4.view (harg4.unread x3)) (Rect.unit (s := S128x256) ![0, 0] ![128, 256] inb_S128x256_S128x256_0_0) : Vec F S128x256 .bf16) = v1
  obtain rfl : x3 = v1 := by rw [← hv1, harg4.read_unread]; exact (ld_k x3).symm
  generalize hv2 : (View.ld (View.read (Elt F) arg5.view (harg5.unread x4)) (Rect.unit (s := S128x256) ![0, 0] ![128, 256] inb_S128x256_S128x256_0_0) : Vec F S128x256 .bf16) = v2
  obtain rfl : x4 = v2 := by rw [← hv2, harg5.read_unread]; exact (ld_k x4).symm
  generalize hg : (View.ld (View.read (Elt F) arg8.view (harg8.unread x7)) (Rect.unit (s := S128x2048) ![0, 0] ![128, 2048] inb_S128x2048_S128x2048_0_0) : Vec F S128x2048 .bf16) = g
  obtain rfl : x7 = g := by rw [← hg, harg8.read_unread]; exact (ld_q x7).symm
  generalize hl : (View.ld (View.read (Elt F) arg9.view (harg9.unread x8)) (Rect.unit (s := S128x128) ![0, 0] ![128, 128] inb_S128x128_S128x128_0_0) : Vec F S128x128 .f32) = l
  obtain rfl : x8 = l := by rw [← hl, harg9.read_unread]; exact (ld_l x8).symm
  generalize hsk : View.read (Elt F) arg7.view (harg7.unread x6) = sk
  obtain rfl : x6 = sk := (harg7.read_unread x6).symm.trans hsk
  generalize hbb : View.read (Elt F) arg6.view (harg6.unread x5) = bb
  obtain rfl : x5 = bb := (harg6.read_unread x5).symm.trans hbb
  try rw [band_eq x1 x2]
  try rw [band_eq x3 x4]
  try rw [valid_eq2 i]
  try rw [valid_eq i]
  try rw [stack_0 x0]
  try rw [stack_0 x7]
  try rw [dup_0 (band x1 x2)]
  try rw [dup_0 (band x3 x4)]
  try rw [lseg_0 x8]
  try rw [sink_0 x6]
  try rw [bias_0 x5]
  try rw [stack_1 x0]
  try rw [stack_1 x7]
  try rw [dup_1 (band x1 x2)]
  try rw [dup_1 (band x3 x4)]
  try rw [lseg_1 x8]
  try rw [sink_1 x6]
  try rw [bias_1 x5]
  try rw [stack_2 x0]
  try rw [stack_2 x7]
  try rw [dup_2 (band x1 x2)]
  try rw [dup_2 (band x3 x4)]
  try rw [lseg_2 x8]
  try rw [sink_2 x6]
  try rw [bias_2 x5]
  try rw [stack_3 x0]
  try rw [stack_3 x7]
  try rw [dup_3 (band x1 x2)]
  try rw [dup_3 (band x3 x4)]
  try rw [lseg_3 x8]
  try rw [sink_3 x6]
  try rw [bias_3 x5]
  simp only [skip12_01, skip12_02, skip12_03, skip12_12, skip12_13, skip12_23]
  rw [fill12_0 arg14.view]
  rw [fill12_1 arg14.view]
  rw [fill12_2 arg14.view]
  rw [fill12_3 arg14.view]
  rfl

theorem out_B_12 (c : Dev nD) (i : grid0.Coords) (arg1 : Memref sig .tc .vmem S128x2048 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S32x128x256 .f32) (harg6 : arg6.IsWhole) (arg7 : Memref sig .tc .smem S32 .f32) (harg7 : arg7.IsWhole) (arg8 : Memref sig .tc .vmem S128x2048 .bf16) (harg8 : arg8.IsWhole) (arg9 : Memref sig .tc .vmem S128x128 .f32) (harg9 : arg9.IsWhole) (arg11 : Memref sig .tc .vmem S128x2048 .bf16) (harg11 : arg11.IsWhole) (arg12 : Memref sig .tc .vmem S4224x256 .f32) (harg12 : arg12.IsWhole) (arg13 : Memref sig .tc .vmem S4224x256 .f32) (harg13 : arg13.IsWhole) (arg14 : Memref sig .tc .vmem S32x128x256 .f32) (harg14 : arg14.IsWhole) (arg15 : Memref sig .tc .vmem S8x128 .f32) (harg15 : arg15.IsWhole) (hc0 : ¬cond0_0 i)
    (x0 : Vec F S128x2048 .bf16) (x1 : Vec F S128x256 .bf16) (x2 : Vec F S128x256 .bf16) (x3 : Vec F S128x256 .bf16) (x4 : Vec F S128x256 .bf16) (x5 : Vec F S32x128x256 .f32) (x6 : Vec F S32 .f32) (x7 : Vec F S128x2048 .bf16) (x8 : Vec F S128x128 .f32) (xo10 : Vec F S4224x256 .f32) (xo11 : Vec F S4224x256 .f32) (xo12 : Vec F S32x128x256 .f32) (xo13 : Vec F S8x128 .f32) :
    out0_B_12 c i arg1 harg1 arg2 harg2 arg3 harg3 arg4 harg4 arg5 harg5 arg6 harg6 arg7 harg7 arg8 harg8 arg9 harg9 arg11 harg11 arg12 harg12 arg13 harg13 arg14 harg14 arg15 harg15 hc0 x0 x1 x2 x3 x4 x5 x6 x7 x8 xo10 xo11 xo12 xo13 = View.canon (Val := Elt F) [⟨(Rect.unit (s := S32x128x256) ![24, 0, 0] ![8, 128, 256] inb_S32x128x256_S8x128x256_24_0_0), addB (View.ld (Val := Elt F) (e' := .f32) xo12 (Rect.unit (s := S32x128x256) ![24, 0, 0] ![8, 128, 256] inb_S32x128x256_S8x128x256_24_0_0)) (DS i x0 x1 x2 x3 x4 x5 x7 x8 3)⟩,
    ⟨(Rect.unit (s := S32x128x256) ![16, 0, 0] ![8, 128, 256] inb_S32x128x256_S8x128x256_16_0_0), addB (View.ld (Val := Elt F) (e' := .f32) xo12 (Rect.unit (s := S32x128x256) ![16, 0, 0] ![8, 128, 256] inb_S32x128x256_S8x128x256_16_0_0)) (DS i x0 x1 x2 x3 x4 x5 x7 x8 2)⟩,
    ⟨(Rect.unit (s := S32x128x256) ![8, 0, 0] ![8, 128, 256] inb_S32x128x256_S8x128x256_8_0_0), addB (View.ld (Val := Elt F) (e' := .f32) xo12 (Rect.unit (s := S32x128x256) ![8, 0, 0] ![8, 128, 256] inb_S32x128x256_S8x128x256_8_0_0)) (DS i x0 x1 x2 x3 x4 x5 x7 x8 1)⟩,
    ⟨(Rect.unit (s := S32x128x256) ![0, 0, 0] ![8, 128, 256] inb_S32x128x256_S8x128x256_0_0_0), addB (View.ld (Val := Elt F) (e' := .f32) xo12 (Rect.unit (s := S32x128x256) ![0, 0, 0] ![8, 128, 256] inb_S32x128x256_S8x128x256_0_0_0)) (DS i x0 x1 x2 x3 x4 x5 x7 x8 0)⟩] := by
  frame_out
  generalize hq : (View.ld (View.read (Elt F) arg1.view (harg1.unread x0)) (Rect.unit (s := S128x2048) ![0, 0] ![128, 2048] inb_S128x2048_S128x2048_0_0) : Vec F S128x2048 .bf16) = q
  obtain rfl : x0 = q := by rw [← hq, harg1.read_unread]; exact (ld_q x0).symm
  generalize hk1 : (View.ld (View.read (Elt F) arg2.view (harg2.unread x1)) (Rect.unit (s := S128x256) ![0, 0] ![128, 256] inb_S128x256_S128x256_0_0) : Vec F S128x256 .bf16) = k1
  obtain rfl : x1 = k1 := by rw [← hk1, harg2.read_unread]; exact (ld_k x1).symm
  generalize hk2 : (View.ld (View.read (Elt F) arg3.view (harg3.unread x2)) (Rect.unit (s := S128x256) ![0, 0] ![128, 256] inb_S128x256_S128x256_0_0) : Vec F S128x256 .bf16) = k2
  obtain rfl : x2 = k2 := by rw [← hk2, harg3.read_unread]; exact (ld_k x2).symm
  generalize hv1 : (View.ld (View.read (Elt F) arg4.view (harg4.unread x3)) (Rect.unit (s := S128x256) ![0, 0] ![128, 256] inb_S128x256_S128x256_0_0) : Vec F S128x256 .bf16) = v1
  obtain rfl : x3 = v1 := by rw [← hv1, harg4.read_unread]; exact (ld_k x3).symm
  generalize hv2 : (View.ld (View.read (Elt F) arg5.view (harg5.unread x4)) (Rect.unit (s := S128x256) ![0, 0] ![128, 256] inb_S128x256_S128x256_0_0) : Vec F S128x256 .bf16) = v2
  obtain rfl : x4 = v2 := by rw [← hv2, harg5.read_unread]; exact (ld_k x4).symm
  generalize hg : (View.ld (View.read (Elt F) arg8.view (harg8.unread x7)) (Rect.unit (s := S128x2048) ![0, 0] ![128, 2048] inb_S128x2048_S128x2048_0_0) : Vec F S128x2048 .bf16) = g
  obtain rfl : x7 = g := by rw [← hg, harg8.read_unread]; exact (ld_q x7).symm
  generalize hl : (View.ld (View.read (Elt F) arg9.view (harg9.unread x8)) (Rect.unit (s := S128x128) ![0, 0] ![128, 128] inb_S128x128_S128x128_0_0) : Vec F S128x128 .f32) = l
  obtain rfl : x8 = l := by rw [← hl, harg9.read_unread]; exact (ld_l x8).symm
  generalize hsk : View.read (Elt F) arg7.view (harg7.unread x6) = sk
  obtain rfl : x6 = sk := (harg7.read_unread x6).symm.trans hsk
  generalize hbb : View.read (Elt F) arg6.view (harg6.unread x5) = bb
  obtain rfl : x5 = bb := (harg6.read_unread x5).symm.trans hbb
  try rw [band_eq x1 x2]
  try rw [band_eq x3 x4]
  try rw [valid_eq2 i]
  try rw [valid_eq i]
  try rw [stack_0 x0]
  try rw [stack_0 x7]
  try rw [dup_0 (band x1 x2)]
  try rw [dup_0 (band x3 x4)]
  try rw [lseg_0 x8]
  try rw [sink_0 x6]
  try rw [bias_0 x5]
  try rw [stack_1 x0]
  try rw [stack_1 x7]
  try rw [dup_1 (band x1 x2)]
  try rw [dup_1 (band x3 x4)]
  try rw [lseg_1 x8]
  try rw [sink_1 x6]
  try rw [bias_1 x5]
  try rw [stack_2 x0]
  try rw [stack_2 x7]
  try rw [dup_2 (band x1 x2)]
  try rw [dup_2 (band x3 x4)]
  try rw [lseg_2 x8]
  try rw [sink_2 x6]
  try rw [bias_2 x5]
  try rw [stack_3 x0]
  try rw [stack_3 x7]
  try rw [dup_3 (band x1 x2)]
  try rw [dup_3 (band x3 x4)]
  try rw [lseg_3 x8]
  try rw [sink_3 x6]
  try rw [bias_3 x5]
  rfl

end Cert.Proof.K
end
-- ==== Proof.KOut13.lean ====
module
public import proofs.«01_k».proof.Proof.KFold
import Idealize.ShloMosaic.Lib.Pipeline.ValueKit
import Idealize.ShloMosaic.Lib.Pipeline.ReadBack
@[expose] public section
set_option maxRecDepth 16384
set_option maxHeartbeats 1000000
noncomputable section
namespace Cert.Proof.K
open Cert.KernelIdeal Cert.KernelIdeal.Gen Cert.KernelIdeal.Value Idealize.ShloMosaic Idealize.ShloMosaic.TcCoe Idealize.SL.Sem
variable {F : FTy → Type} [FloatOps F] [Named F]

/-! The sink gradient after a grid point. -/

theorem fill13 {sp : Space} (v : View sig .tc sp S8x128 .f32) : v.readCov (Val := Elt F) [⟨Rect.unit (s := S8x128) ![0, 0] ![8, 128] inb_S8x128_S8x128_0_0, broadcast S8x128 (FloatOps.ofBits (F := F) .f32 0x00000000#32)⟩] (Rect.unit (s := S8x128) ![0, 0] ![1, 128] inb_S8x128_S1x128_0_0).toLoadRect = View.ld (Val := Elt F) (zero13 (F := F)) (Rect.unit (s := S8x128) ![0, 0] ![1, 128] inb_S8x128_S1x128_0_0) :=
  View.readCov_fill v _ _ _ _ (by decide)

theorem out_A_13 (c : Dev nD) (i : grid0.Coords) (arg1 : Memref sig .tc .vmem S128x2048 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S32x128x256 .f32) (harg6 : arg6.IsWhole) (arg7 : Memref sig .tc .smem S32 .f32) (harg7 : arg7.IsWhole) (arg8 : Memref sig .tc .vmem S128x2048 .bf16) (harg8 : arg8.IsWhole) (arg9 : Memref sig .tc .vmem S128x128 .f32) (harg9 : arg9.IsWhole) (arg11 : Memref sig .tc .vmem S128x2048 .bf16) (harg11 : arg11.IsWhole) (arg12 : Memref sig .tc .vmem S4224x256 .f32) (harg12 : arg12.IsWhole) (arg13 : Memref sig .tc .vmem S4224x256 .f32) (harg13 : arg13.IsWhole) (arg14 : Memref sig .tc .vmem S32x128x256 .f32) (harg14 : arg14.IsWhole) (arg15 : Memref sig .tc .vmem S8x128 .f32) (harg15 : arg15.IsWhole) (hc0 : cond0_0 i)
    (x0 : Vec F S128x2048 .bf16) (x1 : Vec F S128x256 .bf16) (x2 : Vec F S128x256 .bf16) (x3 : Vec F S128x256 .bf16) (x4 : Vec F S128x256 .bf16) (x5 : Vec F S32x128x256 .f32) (x6 : Vec F S32 .f32) (x7 : Vec F S128x2048 .bf16) (x8 : Vec F S128x128 .f32) :
    out0_A_13 c i arg1 harg1 arg2 harg2 arg3 harg3 arg4 harg4 arg5 harg5 arg6 harg6 arg7 harg7 arg8 harg8 arg9 harg9 arg11 harg11 arg12 harg12 arg13 harg13 arg14 harg14 arg15 harg15 hc0 x0 x1 x2 x3 x4 x5 x6 x7 x8 = View.canon (Val := Elt F) [⟨(Rect.unit (s := S8x128) ![0, 0] ![1, 128] inb_S8x128_S1x128_0_0), addS (View.ld (Val := Elt F) (e' := .f32) (zero13 (F := F)) (Rect.unit (s := S8x128) ![0, 0] ![1, 128] inb_S8x128_S1x128_0_0)) (dsAll i x0 x1 x2 x3 x4 x5 x6 x7 x8)⟩, ⟨Rect.unit (s := S8x128) ![0, 0] ![8, 128] inb_S8x128_S8x128_0_0, (zero13 (F := F))⟩] := by
  frame_out
  generalize hq : (View.ld (View.read (Elt F) arg1.view (harg1.unread x0)) (Rect.unit (s := S128x2048) ![0, 0] ![128, 2048] inb_S128x2048_S128x2048_0_0) : Vec F S128x2048 .bf16) = q
  obtain rfl : x0 = q := by rw [← hq, harg1.read_unread]; exact (ld_q x0).symm
  generalize hk1 : (View.ld (View.read (Elt F) arg2.view (harg2.unread x1)) (Rect.unit (s := S128x256) ![0, 0] ![128, 256] inb_S128x256_S128x256_0_0) : Vec F S128x256 .bf16) = k1
  obtain rfl : x1 = k1 := by rw [← hk1, harg2.read_unread]; exact (ld_k x1).symm
  generalize hk2 : (View.ld (View.read (Elt F) arg3.view (harg3.unread x2)) (Rect.unit (s := S128x256) ![0, 0] ![128, 256] inb_S128x256_S128x256_0_0) : Vec F S128x256 .bf16) = k2
  obtain rfl : x2 = k2 := by rw [← hk2, harg3.read_unread]; exact (ld_k x2).symm
  generalize hv1 : (View.ld (View.read (Elt F) arg4.view (harg4.unread x3)) (Rect.unit (s := S128x256) ![0, 0] ![128, 256] inb_S128x256_S128x256_0_0) : Vec F S128x256 .bf16) = v1
  obtain rfl : x3 = v1 := by rw [← hv1, harg4.read_unread]; exact (ld_k x3).symm
  generalize hv2 : (View.ld (View.read (Elt F) arg5.view (harg5.unread x4)) (Rect.unit (s := S128x256) ![0, 0] ![128, 256] inb_S128x256_S128x256_0_0) : Vec F S128x256 .bf16) = v2
  obtain rfl : x4 = v2 := by rw [← hv2, harg5.read_unread]; exact (ld_k x4).symm
  generalize hg : (View.ld (View.read (Elt F) arg8.view (harg8.unread x7)) (Rect.unit (s := S128x2048) ![0, 0] ![128, 2048] inb_S128x2048_S128x2048_0_0) : Vec F S128x2048 .bf16) = g
  obtain rfl : x7 = g := by rw [← hg, harg8.read_unread]; exact (ld_q x7).symm
  generalize hl : (View.ld (View.read (Elt F) arg9.view (harg9.unread x8)) (Rect.unit (s := S128x128) ![0, 0] ![128, 128] inb_S128x128_S128x128_0_0) : Vec F S128x128 .f32) = l
  obtain rfl : x8 = l := by rw [← hl, harg9.read_unread]; exact (ld_l x8).symm
  generalize hsk : View.read (Elt F) arg7.view (harg7.unread x6) = sk
  obtain rfl : x6 = sk := (harg7.read_unread x6).symm.trans hsk
  generalize hbb : View.read (Elt F) arg6.view (harg6.unread x5) = bb
  obtain rfl : x5 = bb := (harg6.read_unread x5).symm.trans hbb
  try rw [band_eq x1 x2]
  try rw [band_eq x3 x4]
  try rw [valid_eq2 i]
  try rw [valid_eq i]
  try rw [stack_0 x0]
  try rw [stack_0 x7]
  try rw [dup_0 (band x1 x2)]
  try rw [dup_0 (band x3 x4)]
  try rw [lseg_0 x8]
  try rw [sink_0 x6]
  try rw [bias_0 x5]
  try rw [stack_1 x0]
  try rw [stack_1 x7]
  try rw [dup_1 (band x1 x2)]
  try rw [dup_1 (band x3 x4)]
  try rw [lseg_1 x8]
  try rw [sink_1 x6]
  try rw [bias_1 x5]
  try rw [stack_2 x0]
  try rw [stack_2 x7]
  try rw [dup_2 (band x1 x2)]
  try rw [dup_2 (band x3 x4)]
  try rw [lseg_2 x8]
  try rw [sink_2 x6]
  try rw [bias_2 x5]
  try rw [stack_3 x0]
  try rw [stack_3 x7]
  try rw [dup_3 (band x1 x2)]
  try rw [dup_3 (band x3 x4)]
  try rw [lseg_3 x8]
  try rw [sink_3 x6]
  try rw [bias_3 x5]
  erw [fill13 arg15.view]
  rfl

theorem out_B_13 (c : Dev nD) (i : grid0.Coords) (arg1 : Memref sig .tc .vmem S128x2048 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S32x128x256 .f32) (harg6 : arg6.IsWhole) (arg7 : Memref sig .tc .smem S32 .f32) (harg7 : arg7.IsWhole) (arg8 : Memref sig .tc .vmem S128x2048 .bf16) (harg8 : arg8.IsWhole) (arg9 : Memref sig .tc .vmem S128x128 .f32) (harg9 : arg9.IsWhole) (arg11 : Memref sig .tc .vmem S128x2048 .bf16) (harg11 : arg11.IsWhole) (arg12 : Memref sig .tc .vmem S4224x256 .f32) (harg12 : arg12.IsWhole) (arg13 : Memref sig .tc .vmem S4224x256 .f32) (harg13 : arg13.IsWhole) (arg14 : Memref sig .tc .vmem S32x128x256 .f32) (harg14 : arg14.IsWhole) (arg15 : Memref sig .tc .vmem S8x128 .f32) (harg15 : arg15.IsWhole) (hc0 : ¬cond0_0 i)
    (x0 : Vec F S128x2048 .bf16) (x1 : Vec F S128x256 .bf16) (x2 : Vec F S128x256 .bf16) (x3 : Vec F S128x256 .bf16) (x4 : Vec F S128x256 .bf16) (x5 : Vec F S32x128x256 .f32) (x6 : Vec F S32 .f32) (x7 : Vec F S128x2048 .bf16) (x8 : Vec F S128x128 .f32) (xo10 : Vec F S4224x256 .f32) (xo11 : Vec F S4224x256 .f32) (xo12 : Vec F S32x128x256 .f32) (xo13 : Vec F S8x128 .f32) :
    out0_B_13 c i arg1 harg1 arg2 harg2 arg3 harg3 arg4 harg4 arg5 harg5 arg6 harg6 arg7 harg7 arg8 harg8 arg9 harg9 arg11 harg11 arg12 harg12 arg13 harg13 arg14 harg14 arg15 harg15 hc0 x0 x1 x2 x3 x4 x5 x6 x7 x8 xo10 xo11 xo12 xo13 = View.read (Elt F) arg15.view (arg15.view.writes (Elt F) (harg15.unread xo13) [⟨(Rect.unit (s := S8x128) ![0, 0] ![1, 128] inb_S8x128_S1x128_0_0), addS (View.ld (Val := Elt F) (e' := .f32) xo13 (Rect.unit (s := S8x128) ![0, 0] ![1, 128] inb_S8x128_S1x128_0_0)) (dsAll i x0 x1 x2 x3 x4 x5 x6 x7 x8)⟩]) := by
  frame_out
  generalize hq : (View.ld (View.read (Elt F) arg1.view (harg1.unread x0)) (Rect.unit (s := S128x2048) ![0, 0] ![128, 2048] inb_S128x2048_S128x2048_0_0) : Vec F S128x2048 .bf16) = q
  obtain rfl : x0 = q := by rw [← hq, harg1.read_unread]; exact (ld_q x0).symm
  generalize hk1 : (View.ld (View.read (Elt F) arg2.view (harg2.unread x1)) (Rect.unit (s := S128x256) ![0, 0] ![128, 256] inb_S128x256_S128x256_0_0) : Vec F S128x256 .bf16) = k1
  obtain rfl : x1 = k1 := by rw [← hk1, harg2.read_unread]; exact (ld_k x1).symm
  generalize hk2 : (View.ld (View.read (Elt F) arg3.view (harg3.unread x2)) (Rect.unit (s := S128x256) ![0, 0] ![128, 256] inb_S128x256_S128x256_0_0) : Vec F S128x256 .bf16) = k2
  obtain rfl : x2 = k2 := by rw [← hk2, harg3.read_unread]; exact (ld_k x2).symm
  generalize hv1 : (View.ld (View.read (Elt F) arg4.view (harg4.unread x3)) (Rect.unit (s := S128x256) ![0, 0] ![128, 256] inb_S128x256_S128x256_0_0) : Vec F S128x256 .bf16) = v1
  obtain rfl : x3 = v1 := by rw [← hv1, harg4.read_unread]; exact (ld_k x3).symm
  generalize hv2 : (View.ld (View.read (Elt F) arg5.view (harg5.unread x4)) (Rect.unit (s := S128x256) ![0, 0] ![128, 256] inb_S128x256_S128x256_0_0) : Vec F S128x256 .bf16) = v2
  obtain rfl : x4 = v2 := by rw [← hv2, harg5.read_unread]; exact (ld_k x4).symm
  generalize hg : (View.ld (View.read (Elt F) arg8.view (harg8.unread x7)) (Rect.unit (s := S128x2048) ![0, 0] ![128, 2048] inb_S128x2048_S128x2048_0_0) : Vec F S128x2048 .bf16) = g
  obtain rfl : x7 = g := by rw [← hg, harg8.read_unread]; exact (ld_q x7).symm
  generalize hl : (View.ld (View.read (Elt F) arg9.view (harg9.unread x8)) (Rect.unit (s := S128x128) ![0, 0] ![128, 128] inb_S128x128_S128x128_0_0) : Vec F S128x128 .f32) = l
  obtain rfl : x8 = l := by rw [← hl, harg9.read_unread]; exact (ld_l x8).symm
  generalize hsk : View.read (Elt F) arg7.view (harg7.unread x6) = sk
  obtain rfl : x6 = sk := (harg7.read_unread x6).symm.trans hsk
  generalize hbb : View.read (Elt F) arg6.view (harg6.unread x5) = bb
  obtain rfl : x5 = bb := (harg6.read_unread x5).symm.trans hbb
  try rw [band_eq x1 x2]
  try rw [band_eq x3 x4]
  try rw [valid_eq2 i]
  try rw [valid_eq i]
  try rw [stack_0 x0]
  try rw [stack_0 x7]
  try rw [dup_0 (band x1 x2)]
  try rw [dup_0 (band x3 x4)]
  try rw [lseg_0 x8]
  try rw [sink_0 x6]
  try rw [bias_0 x5]
  try rw [stack_1 x0]
  try rw [stack_1 x7]
  try rw [dup_1 (band x1 x2)]
  try rw [dup_1 (band x3 x4)]
  try rw [lseg_1 x8]
  try rw [sink_1 x6]
  try rw [bias_1 x5]
  try rw [stack_2 x0]
  try rw [stack_2 x7]
  try rw [dup_2 (band x1 x2)]
  try rw [dup_2 (band x3 x4)]
  try rw [lseg_2 x8]
  try rw [sink_2 x6]
  try rw [bias_2 x5]
  try rw [stack_3 x0]
  try rw [stack_3 x7]
  try rw [dup_3 (band x1 x2)]
  try rw [dup_3 (band x3 x4)]
  try rw [lseg_3 x8]
  try rw [sink_3 x6]
  try rw [bias_3 x5]
  rfl

end Cert.Proof.K
end
-- ==== Proof.KAcc.lean ====
module
public import proofs.«01_k».proof.Proof.KUpd
public import proofs.«01_k».proof.Proof.KBlk
public import proofs.«01_k».proof.Proof.KOut9
public import proofs.«01_k».proof.Proof.KOut10
public import proofs.«01_k».proof.Proof.KOut11
public import proofs.«01_k».proof.Proof.KOut12
public import proofs.«01_k».proof.Proof.KOut13
@[expose] public section
set_option maxRecDepth 16384
noncomputable section
namespace Cert.Proof.K
open Cert.KernelIdeal Cert.KernelIdeal.Gen Cert.KernelIdeal.Value Idealize.ShloMosaic Idealize.ShloMosaic.TcCoe Idealize.SL.Sem

/-! What the grid has accumulated after a point: what it had before, and what the point adds. -/

variable (m : (ℓ : Loc nD τ sig) → Buf (Elt Ideal) ℓ) (c : Dev nD)

abbrev dqAt (t : Fin cfg0.N) : FVec Ideal S128x2048 .bf16 := dqAll (grid0.coords t) (X0_0 m c t) (iblk m c 1 t) (iblk m c 2 t) (iblk m c 3 t) (iblk m c 4 t) (iblk m c 5 t) (iblk m c 7 t) (iblk m c 8 t)
abbrev dkAt (t : Fin cfg0.N) : FVec Ideal S256x256 .f32 := dkAll (grid0.coords t) (X0_0 m c t) (iblk m c 1 t) (iblk m c 2 t) (iblk m c 3 t) (iblk m c 4 t) (iblk m c 5 t) (iblk m c 7 t) (iblk m c 8 t)
abbrev dvAt (t : Fin cfg0.N) : FVec Ideal S256x256 .f32 := dvAll (grid0.coords t) (X0_0 m c t) (iblk m c 1 t) (iblk m c 2 t) (iblk m c 5 t) (iblk m c 7 t) (iblk m c 8 t)
abbrev dbAt (t : Fin cfg0.N) (kv : Fin 4) : FVec Ideal S8x128x256 .f32 := DS (grid0.coords t) (X0_0 m c t) (iblk m c 1 t) (iblk m c 2 t) (iblk m c 3 t) (iblk m c 4 t) (iblk m c 5 t) (iblk m c 7 t) (iblk m c 8 t) kv
abbrev dsAt (t : Fin cfg0.N) : FVec Ideal S1x128 .f32 := dsAll (grid0.coords t) (X0_0 m c t) (iblk m c 1 t) (iblk m c 2 t) (iblk m c 3 t) (iblk m c 4 t) (iblk m c 5 t) (iblk m c 6 t) (iblk m c 7 t) (iblk m c 8 t)

theorem out9 (t : Fin cfg0.N) : (outsAt0 m c t.val t.isLt).1 = dqAt m c t := by
  by_cases h0 : t.val % 32 = 0
  · rw [outsAt0_A m c t h0]; dsimp only; rw [out_A_9]
  · rw [outsAt0_B m c t h0]; dsimp only; rw [out_B_9]

theorem z10 (a : S4224x256.Idx) : zero10 (F := Ideal) a = 0 := Ideal.ofBits_zero_f32
theorem z12 (a : S32x128x256.Idx) : zero12 (F := Ideal) a = 0 := Ideal.ofBits_zero_f32
theorem z13 (a : S8x128.Idx) : zero13 (F := Ideal) a = 0 := Ideal.ofBits_zero_f32

theorem acc10_A (t : Fin cfg0.N) (h0 : t.val % 32 = 0) (a : Fin 4224) (x : Fin 256) :
    (outsAt0 m c t.val t.isLt).2.1 (ix2 a x) = ctr t.val (dkAt m c t) a x := by
  rw [outsAt0_A m c t h0]
  dsimp only
  rw [out_A_10]
  refine (canon_rows (grid0.coords t) zero10 (dkAt m c t) a x).trans ?_
  rw [z10, zero_add, coord]
theorem acc10_B (t : Fin cfg0.N) (h0 : ¬t.val % 32 = 0) (a : Fin 4224) (x : Fin 256) :
    (outsAt0 m c t.val t.isLt).2.1 (ix2 a x) = (outsAt0 m c (t.val - 1) (Nat.lt_of_le_of_lt (Nat.sub_le _ _) t.isLt)).2.1 (ix2 a x) + ctr t.val (dkAt m c t) a x := by
  rw [outsAt0_B m c t h0]
  dsimp only
  rw [out_B_10]
  refine (read_rows (grid0.coords t) _ _ _ (dkAt m c t) a x).trans ?_
  rw [coord]

theorem acc11_A (t : Fin cfg0.N) (h0 : t.val % 32 = 0) (a : Fin 4224) (x : Fin 256) :
    (outsAt0 m c t.val t.isLt).2.2.1 (ix2 a x) = ctr t.val (dvAt m c t) a x := by
  rw [outsAt0_A m c t h0]
  dsimp only
  rw [out_A_11]
  refine (canon_rows (grid0.coords t) zero10 (dvAt m c t) a x).trans ?_
  rw [z10, zero_add, coord]
theorem acc11_B (t : Fin cfg0.N) (h0 : ¬t.val % 32 = 0) (a : Fin 4224) (x : Fin 256) :
    (outsAt0 m c t.val t.isLt).2.2.1 (ix2 a x) = (outsAt0 m c (t.val - 1) (Nat.lt_of_le_of_lt (Nat.sub_le _ _) t.isLt)).2.2.1 (ix2 a x) + ctr t.val (dvAt m c t) a x := by
  rw [outsAt0_B m c t h0]
  dsimp only
  rw [out_B_11]
  refine (read_rows (grid0.coords t) _ _ _ (dvAt m c t) a x).trans ?_
  rw [coord]

theorem acc12_A (t : Fin cfg0.N) (h0 : t.val % 32 = 0) (kv : Fin 4) (e : Fin 8) (r : Fin 128) (j : Fin 256) :
    (outsAt0 m c t.val t.isLt).2.2.2.1 (ix3 (hd kv e) r j) = dbAt m c t kv (ix3 e r j) := by
  rw [outsAt0_A m c t h0]
  dsimp only
  rw [out_A_12]
  refine (canon_bias zero12 (dbAt m c t) _ kv e r j).trans ?_
  rw [z12, zero_add]
theorem acc12_B (t : Fin cfg0.N) (h0 : ¬t.val % 32 = 0) (kv : Fin 4) (e : Fin 8) (r : Fin 128) (j : Fin 256) :
    (outsAt0 m c t.val t.isLt).2.2.2.1 (ix3 (hd kv e) r j)
      = (outsAt0 m c (t.val - 1) (Nat.lt_of_le_of_lt (Nat.sub_le _ _) t.isLt)).2.2.2.1 (ix3 (hd kv e) r j) + dbAt m c t kv (ix3 e r j) := by
  rw [outsAt0_B m c t h0]
  dsimp only
  rw [out_B_12]
  exact (canon_bias _ (dbAt m c t) _ kv e r j)

theorem acc13_A (t : Fin cfg0.N) (h0 : t.val % 32 = 0) (a : Fin 8) (x : Fin 128) :
    (outsAt0 m c t.val t.isLt).2.2.2.2 (ix2 a x) = ctrS (dsAt m c t) a x := by
  rw [outsAt0_A m c t h0]
  dsimp only
  rw [out_A_13]
  refine (canon_sinks zero13 (dsAt m c t) a x).trans ?_
  rw [z13, zero_add]
theorem acc13_B (t : Fin cfg0.N) (h0 : ¬t.val % 32 = 0) (a : Fin 8) (x : Fin 128) :
    (outsAt0 m c t.val t.isLt).2.2.2.2 (ix2 a x) = (outsAt0 m c (t.val - 1) (Nat.lt_of_le_of_lt (Nat.sub_le _ _) t.isLt)).2.2.2.2 (ix2 a x) + ctrS (dsAt m c t) a x := by
  rw [outsAt0_B m c t h0]
  dsimp only
  rw [out_B_13]
  exact (read_sinks _ _ _ (dsAt m c t) a x)
end Cert.Proof.K
end
-- ==== Proof.KSum.lean ====
module
public import proofs.«01_k».proof.Proof.KAcc
@[expose] public section
set_option maxRecDepth 16384
noncomputable section
namespace Cert.Proof.K
open Cert.KernelIdeal Cert.KernelIdeal.Gen Cert.KernelIdeal.Value Idealize.ShloMosaic Idealize.ShloMosaic.TcCoe Idealize.SL.Sem

/-! What the grid has accumulated after a point, in real numbers. -/

variable (m : (ℓ : Loc nD τ sig) → Buf (Elt Ideal) ℓ) (c : Dev nD) (D : Arrays)

/-- A device's arrays hold these real numbers. -/
structure Holds : Prop where
  q : ∀ r j, m ((c : Thread nD τ).loc main_arg0) (ix2 r ⟨4096 + j.val, by omega⟩) = (D.q r j : EReal)
  k : ∀ r j, m ((c : Thread nD τ).loc main_arg0) (ix2 r ⟨6144 + j.val, by omega⟩) = (D.k r j : EReal)
  v : ∀ r j, m ((c : Thread nD τ).loc main_arg0) (ix2 r ⟨6400 + j.val, by omega⟩) = (D.v r j : EReal)
  g : ∀ r j, m ((c : Thread nD τ).loc main_arg1) (ix2 r j) = (D.g r j : EReal)
  b : ∀ h r j, m ((c : Thread nD τ).loc main_arg2) (ix3 h r j) = (D.b h r j : EReal)
  s : ∀ h, m ((c : Thread nD τ).loc main_arg3) (ix1 h) = (D.s h : EReal)
  l : ∀ r (h : Fin 32), Cert.KernelIdeal.Gen.V m c main_v69 (ix2 r ⟨h.val, by omega⟩) = (D.l r h : EReal)

theorem band_real (x : Fin 4096 → Fin 256 → ℝ) (a b : Vec Ideal S128x256 .bf16) (t : Fin 32)
    (ha : ∀ r j, a (ix2 r j) = (x (row (prev t) r) j : EReal)) (hb : ∀ r j, b (ix2 r j) = (x (row t r) j : EReal)) (j : Fin 256) (w : Fin 256) :
    band a b (ix2 j w) = (Arrays.bandOf x t j w : EReal) := by
  unfold Arrays.bandOf
  by_cases h : j.val < 128
  · rw [dif_pos h, ← ha]; exact band_lo a b ⟨j.val, h⟩ w
  · rw [dif_neg h, ← hb, ← band_hi a b]; congr 2; exact Fin.ext (by simp; omega)

variable {m c D} (H : Holds m c D)
include H

section point
variable (t : Fin 32)

theorem Holds.hq (r : Fin 128) (j : Fin 2048) : X0_0 m c t (ix2 r j) = (Arrays.blk D.q t r j : EReal) := (X0_apply m c t r j).trans (H.q _ _)
theorem Holds.hk (j : Fin 256) (w : Fin 256) : band (iblk m c 1 t) (iblk m c 2 t) (ix2 j w) = (Arrays.bandOf D.k t j w : EReal) :=
  band_real D.k _ _ t (fun r j => (blk1_apply m c t r j).trans (H.k _ _)) (fun r j => (blk2_apply m c t r j).trans (H.k _ _)) j w
theorem Holds.hv (j : Fin 256) (w : Fin 256) : band (iblk m c 3 t) (iblk m c 4 t) (ix2 j w) = (Arrays.bandOf D.v t j w : EReal) :=
  band_real D.v _ _ t (fun r j => (blk3_apply m c t r j).trans (H.v _ _)) (fun r j => (blk4_apply m c t r j).trans (H.v _ _)) j w
theorem Holds.hg (r : Fin 128) (j : Fin 2048) : iblk m c 7 t (ix2 r j) = (Arrays.blk D.g t r j : EReal) := (blk7_apply m c t r j).trans (H.g _ _)
theorem Holds.hb (h : Fin 32) (r : Fin 128) (j : Fin 256) : iblk m c 5 t (ix3 h r j) = (D.b h r j : EReal) := (blk5_apply m c t h r j).trans (H.b _ _ _)
theorem Holds.hs (h : Fin 32) : iblk m c 6 t (ix1 h) = (D.s h : EReal) := (blk6_apply m c t h).trans (H.s _)
theorem Holds.hl (r : Fin 128) (h : Fin 32) : iblk m c 8 t (ix2 r ⟨h.val, by omega⟩) = (Arrays.blk D.l t r h : EReal) := (blk8_apply m c t r _).trans (H.l _ _)

theorem dqAt_real (r : Fin 128) (h : Fin 32) (d : Fin 64) : dqAt m c t (ix2 r (qcol h d)) = (D.dq t r h d : EReal) := by
  have e := dqAll_real (grid0.coords t) _ _ _ _ _ _ _ _ (H.hq t) (H.hk t) (H.hg t) (H.hv t) (H.hb t) (H.hl t) r h d
  have hc : ((grid0.coords t) 0).val = t.val := coord t
  rw [hc] at e; exact e
theorem dkAt_real (j : Fin 256) (w : Fin 4) (d : Fin 64) : dkAt m c t (ix2 j (kcol w d)) = (D.dk t j w d : EReal) := by
  have e := dkAll_real (grid0.coords t) _ _ _ _ _ _ _ _ (H.hq t) (H.hk t) (H.hg t) (H.hv t) (H.hb t) (H.hl t) j w d
  have hc : ((grid0.coords t) 0).val = t.val := coord t
  rw [hc] at e; exact e
theorem dvAt_real (j : Fin 256) (w : Fin 4) (d : Fin 64) : dvAt m c t (ix2 j (kcol w d)) = (D.dv t j w d : EReal) := by
  have e := dvAll_real (grid0.coords t) _ _ _ _ _ _ _ _ (H.hq t) (H.hk t) (H.hg t) (H.hv t) (H.hb t) (H.hl t) j w d
  have hc : ((grid0.coords t) 0).val = t.val := coord t
  rw [hc] at e; exact e
theorem dbAt_real (kv : Fin 4) (x : Fin 8) (r : Fin 128) (j : Fin 256) : dbAt m c t kv (ix3 x r j) = (D.ds t (hd kv x) r j : EReal) := by
  have e := DS_real (grid0.coords t) _ _ _ _ _ _ _ _ (H.hq t) (H.hk t) (H.hg t) (H.hv t) (H.hb t) (H.hl t) kv x r j
  have hc : ((grid0.coords t) 0).val = t.val := coord t
  rw [hc] at e; exact e
theorem dsAt_real (u : Fin 1) (h : Fin 32) : dsAt m c t (ix2 u ⟨h.val, by omega⟩) = (D.dsk t h : EReal) := by
  have e := dsAll_real (grid0.coords t) _ _ _ _ _ _ _ _ _ (H.hq t) (H.hk t) (H.hg t) (H.hv t) (H.hb t) (H.hs t) (H.hl t) u h
  have hc : ((grid0.coords t) 0).val = t.val := coord t
  rw [hc] at e; exact e
end point

omit H in
theorem ctr_real (t : Fin 32) (d : FVec Ideal S256x256 .f32) (f : Fin 256 → ℝ) (x : Fin 256) (hf : ∀ j, d (ix2 j x) = (f j : EReal)) (b : Fin 33) (r : Fin 128) :
    ctr t.val d (prow b r) x = (((if b.val = t.val then f ⟨r.val, by omega⟩ else 0) + (if b.val = t.val + 1 then f ⟨128 + r.val, by omega⟩ else 0) : ℝ) : EReal) := by
  unfold ctr
  by_cases h1 : b.val = t.val
  · rw [dif_pos ⟨by simp; omega, by simp; omega⟩, if_pos h1, if_neg (by omega), add_zero, hf]
    congr 2; exact Fin.ext (by simp; omega)
  · by_cases h2 : b.val = t.val + 1
    · rw [dif_pos ⟨by simp; omega, by simp; omega⟩, if_neg h1, if_pos h2, zero_add, hf]
      congr 2; exact Fin.ext (by simp; omega)
    · rw [dif_neg (by simp; omega), if_neg h1, if_neg h2, add_zero]; rfl

omit H in
theorem halves_zero (f : Fin 32 → Fin 256 → ℝ) (b : Fin 33) (r : Fin 128) :
    halves f 0 b r = (if b.val = 0 then f 0 ⟨r.val, by omega⟩ else 0) + (if b.val = 0 + 1 then f 0 ⟨128 + r.val, by omega⟩ else 0) := by
  unfold halves
  congr 1
  · by_cases h : b.val = 0
    · rw [dif_pos (by omega), if_pos h]; congr 1; exact Fin.ext h
    · rw [dif_neg (by omega), if_neg h]
  · by_cases h : b.val = 0 + 1
    · rw [dif_pos (by omega), if_pos h]; congr 1; exact Fin.ext (by simp; omega)
    · rw [dif_neg (by omega), if_neg h]

omit H in
theorem halves_succ (f : Fin 32 → Fin 256 → ℝ) (t : ℕ) (ht : t + 1 < 32) (b : Fin 33) (r : Fin 128) :
    halves f (t + 1) b r = halves f t b r
      + ((if b.val = t + 1 then f ⟨t + 1, ht⟩ ⟨r.val, by omega⟩ else 0) + (if b.val = t + 1 + 1 then f ⟨t + 1, ht⟩ ⟨128 + r.val, by omega⟩ else 0)) := by
  unfold halves
  rw [add_add_add_comm]
  congr 1
  · by_cases h : b.val = t + 1
    · rw [dif_pos (by omega), dif_neg (by omega), if_pos h, zero_add]; congr 1; exact Fin.ext h
    · rw [if_neg h, add_zero]
      by_cases h' : b.val < 32 ∧ b.val ≤ t
      · rw [dif_pos (by omega), dif_pos h']
      · rw [dif_neg (by omega), dif_neg h']
  · by_cases h : b.val = t + 1 + 1
    · rw [dif_pos (by omega), dif_neg (by omega), if_pos h, zero_add]; congr 1; exact Fin.ext (by simp; omega)
    · rw [if_neg h, add_zero]
      by_cases h' : 0 < b.val ∧ b.val - 1 ≤ t
      · rw [dif_pos (by omega), dif_pos h']
      · rw [dif_neg (by omega), dif_neg h']

theorem sum10 (w : Fin 4) (d : Fin 64) (b : Fin 33) (r : Fin 128) : ∀ (t : ℕ) (ht : t < 32),
    (outsAt0 m c t ht).2.1 (ix2 (prow b r) (kcol w d)) = (halves (fun n j => D.dk n j w d) t b r : EReal)
  | 0, ht => by
    refine (acc10_A m c ⟨0, ht⟩ rfl _ _).trans ((ctr_real ⟨0, ht⟩ _ _ _ (fun j => dkAt_real H ⟨0, ht⟩ j w d) b r).trans ?_)
    rw [halves_zero]; rfl
  | t + 1, ht => by
    refine (acc10_B m c ⟨t + 1, ht⟩ (show ¬(t + 1) % 32 = 0 by omega) _ _).trans
      ((congrArg₂ (· + ·) (sum10 w d b r t (by omega)) (ctr_real ⟨t + 1, ht⟩ _ _ _ (fun j => dkAt_real H ⟨t + 1, ht⟩ j w d) b r)).trans ?_)
    rw [halves_succ _ t ht]
    exact (EReal.coe_add _ _).symm

theorem sum11 (w : Fin 4) (d : Fin 64) (b : Fin 33) (r : Fin 128) : ∀ (t : ℕ) (ht : t < 32),
    (outsAt0 m c t ht).2.2.1 (ix2 (prow b r) (kcol w d)) = (halves (fun n j => D.dv n j w d) t b r : EReal)
  | 0, ht => by
    refine (acc11_A m c ⟨0, ht⟩ rfl _ _).trans ((ctr_real ⟨0, ht⟩ _ _ _ (fun j => dvAt_real H ⟨0, ht⟩ j w d) b r).trans ?_)
    rw [halves_zero]; rfl
  | t + 1, ht => by
    refine (acc11_B m c ⟨t + 1, ht⟩ (show ¬(t + 1) % 32 = 0 by omega) _ _).trans
      ((congrArg₂ (· + ·) (sum11 w d b r t (by omega)) (ctr_real ⟨t + 1, ht⟩ _ _ _ (fun j => dvAt_real H ⟨t + 1, ht⟩ j w d) b r)).trans ?_)
    rw [halves_succ _ t ht]
    exact (EReal.coe_add _ _).symm

theorem sum12 (kv : Fin 4) (e : Fin 8) (r : Fin 128) (j : Fin 256) : ∀ (t : ℕ) (ht : t < 32),
    (outsAt0 m c t ht).2.2.2.1 (ix3 (hd kv e) r j) = (upto (fun n => D.ds n (hd kv e) r j) t : EReal)
  | 0, ht => by
    refine (acc12_A m c ⟨0, ht⟩ rfl kv e r j).trans ((dbAt_real H ⟨0, ht⟩ kv e r j).trans ?_)
    rw [upto_zero]; rfl
  | t + 1, ht => by
    refine (acc12_B m c ⟨t + 1, ht⟩ (show ¬(t + 1) % 32 = 0 by omega) kv e r j).trans
      ((congrArg₂ (· + ·) (sum12 kv e r j t (by omega)) (dbAt_real H ⟨t + 1, ht⟩ kv e r j)).trans ?_)
    rw [upto_succ _ t ht, EReal.coe_add]

theorem ctrS_zero (t : Fin 32) (h : Fin 32) : ctrS (dsAt m c t) 0 ⟨h.val, by omega⟩ = (D.dsk t h : EReal) := (if_pos rfl).trans (dsAt_real H t 0 h)

theorem sum13 (h : Fin 32) : ∀ (t : ℕ) (ht : t < 32),
    (outsAt0 m c t ht).2.2.2.2 (ix2 0 ⟨h.val, by omega⟩) = (upto (fun n => D.dsk n h) t : EReal)
  | 0, ht => by
    refine (acc13_A m c ⟨0, ht⟩ rfl _ _).trans ((ctrS_zero H ⟨0, ht⟩ h).trans ?_)
    rw [upto_zero]; rfl
  | t + 1, ht => by
    refine (acc13_B m c ⟨t + 1, ht⟩ (show ¬(t + 1) % 32 = 0 by omega) _ _).trans
      ((congrArg₂ (· + ·) (sum13 h t (by omega)) (ctrS_zero H ⟨t + 1, ht⟩ h)).trans ?_)
    rw [upto_succ _ t ht, EReal.coe_add]

omit H in
theorem ctrS_rest (t : Fin 32) (a : Fin 8) (x : Fin 128) (hx : a.val ≠ 0 ∨ 32 ≤ x.val) : ctrS (dsAt m c t) a x = 0 := by
  unfold ctrS
  by_cases h : a.val = 0
  · exact (if_pos h).trans (dsAll_rest _ _ _ _ _ _ _ _ _ _ _ _ (hx.resolve_left (fun g => g h)))
  · exact if_neg h

omit H in
variable (m c) in
theorem rest13 (a : Fin 8) (x : Fin 128) (hx : a.val ≠ 0 ∨ 32 ≤ x.val) : ∀ (t : ℕ) (ht : t < 32), (outsAt0 m c t ht).2.2.2.2 (ix2 a x) = 0
  | 0, ht => (acc13_A m c ⟨0, ht⟩ rfl _ _).trans (ctrS_rest ⟨0, ht⟩ a x hx)
  | t + 1, ht =>
    (acc13_B m c ⟨t + 1, ht⟩ (show ¬(t + 1) % 32 = 0 by omega) _ _).trans
      ((congrArg₂ (· + ·) (rest13 a x hx t (by omega)) (ctrS_rest ⟨t + 1, ht⟩ a x hx)).trans (add_zero _))
end Cert.Proof.K
end
-- ==== Proof.KFinal.lean ====
module
public import proofs.«01_k».proof.Proof.KSum
@[expose] public section
set_option maxRecDepth 16384
noncomputable section
namespace Cert.Proof.K
open Cert.KernelIdeal Cert.KernelIdeal.Gen Cert.KernelIdeal.Value Idealize.ShloMosaic Idealize.ShloMosaic.TcCoe Idealize.SL.Sem

/-! The five results of the kernel in real numbers. -/

variable (m : (ℓ : Loc nD τ sig) → Buf (Elt Ideal) ℓ) (c : Dev nD)

/-- The last grid point. -/
def tLast : Fin cfg0.N := ⟨31, by decide +kernel⟩
theorem whole10 : (cfg0.win 10).WholeAt tLast := by decide +kernel
theorem whole11 : (cfg0.win 11).WholeAt tLast := by decide +kernel
theorem whole12 : (cfg0.win 12).WholeAt tLast := by decide +kernel
theorem whole13 : (cfg0.win 13).WholeAt tLast := by decide +kernel

theorem arr10 : (dats m 0 c).arrAt 10 cfg0.N = (outsAt0 m c tLast.val tLast.isLt).2.1 := by
  refine (dats m 0 c).arrAt_eq_of_after_last 10 tLast whole10 _ fun j => ?_
  rw [after0_10]
  blk_simp
  rfl
theorem arr11 : (dats m 0 c).arrAt 11 cfg0.N = (outsAt0 m c tLast.val tLast.isLt).2.2.1 := by
  refine (dats m 0 c).arrAt_eq_of_after_last 11 tLast whole11 _ fun j => ?_
  rw [after0_11]
  blk_simp
  rfl
theorem arr12 : (dats m 0 c).arrAt 12 cfg0.N = (outsAt0 m c tLast.val tLast.isLt).2.2.2.1 := by
  refine (dats m 0 c).arrAt_eq_of_after_last 12 tLast whole12 _ fun j => ?_
  rw [after0_12]
  blk_simp
  rfl
theorem arr13 : (dats m 0 c).arrAt 13 cfg0.N = (outsAt0 m c tLast.val tLast.isLt).2.2.2.2 := by
  refine (dats m 0 c).arrAt_eq_of_after_last 13 tLast whole13 _ fun j => ?_
  rw [after0_13]
  blk_simp
  rfl

theorem xsize9 : ∀ (t : Fin cfg0.N) (a : Fin 2), (cfg0.win 9).xsize (cfg0.grid.coords t) a = (![128, 2048] : Fin 2 → ℕ) a := by decide +kernel

/-- An entry of a block of queries, all of which is moved. -/
def at9 (t : Fin 32) (r : Fin 128) (j : Fin 2048) : ((cfg0.win 9).xblock (cfg0.grid.coords t)).Idx :=
  fun a => ⟨((ix2 r j : S128x2048.Idx) a).val, by have h := ((ix2 r j : S128x2048.Idx) a).isLt; have e := xsize9 t a; exact h.trans_eq e.symm⟩

theorem at9_0 (t : Fin 32) (r : Fin 128) (j : Fin 2048) : (at9 t r j 0).val = r.val := rfl
theorem at9_1 (t : Fin 32) (r : Fin 128) (j : Fin 2048) : (at9 t r j 1).val = j.val := rfl

theorem read9 (A : Vec Ideal S4096x10752 .bf16) (t : Fin 32) (r : Fin 128) (j : Fin 2048) :
    ((cfg0.win 9).blk t).view.read (Elt Ideal) A (at9 t r j) = A (ix2 (row t r) ⟨4096 + j.val, by omega⟩) := by
  blk_ext [idx9 t, at9_0, at9_1]

theorem flush9 : ∀ t : Fin cfg0.N, (cfg0.win 9).flush t = true := by decide +kernel

theorem cut9 (x : Vec Ideal S128x2048 .bf16) (t : Fin 32) (r : Fin 128) (j : Fin 2048) : (cfg0.win 9).cut (grid0.coords t) x (at9 t r j) = x (ix2 r j) := rfl

theorem arr9 (t : Fin 32) (r : Fin 128) (j : Fin 2048) :
    (dats m 0 c).arrAt 9 cfg0.N (ix2 (row t r) ⟨4096 + j.val, by omega⟩) = dqAt m c t (ix2 r j) := by
  refine (read9 _ t r j).symm.trans ((congrFun (blocks9 m c t (flush9 t)) (at9 t r j)).trans ?_)
  refine (congrFun (flushed9 m c t) _).trans ((cut9 _ t r j).trans ?_)
  exact congrFun (out9 m c t) _

theorem arr9_rest (a : Fin 4096) (j : Fin 10752) (hj : j.val < 4096 ∨ 6144 ≤ j.val) :
    (dats m 0 c).arrAt 9 cfg0.N (ix2 a j) = m ((c : Thread nD τ).loc main_arg4) (ix2 a j) := by
  refine (entry9 m c (ix2 a j) fun t _ hm => ?_).trans (congrFun (V_main_arg4 m c) _)
  mem_blk [idx9 t] at hm
  have h1 : 2 * 2048 ≤ j.val ∧ j.val < 2 * 2048 + 2048 := hm.2
  omega

variable {m c} {D : Arrays} (H : Holds m c D)
include H

theorem res9 (t : Fin 32) (r : Fin 128) (h : Fin 32) (d : Fin 64) :
    (dats m 0 c).arrAt 9 cfg0.N (ix2 (row t r) ⟨4096 + (64 * h.val + d.val), by omega⟩) = (D.dq t r h d : EReal) :=
  (arr9 m c t r (qcol h d)).trans (dqAt_real H t r h d)
theorem res10 (b : Fin 33) (r : Fin 128) (w : Fin 4) (d : Fin 64) :
    (dats m 0 c).arrAt 10 cfg0.N (ix2 (prow b r) (kcol w d)) = (halves (fun n j => D.dk n j w d) 31 b r : EReal) :=
  (congrFun (arr10 m c) _).trans (sum10 H w d b r 31 (by omega))
theorem res11 (b : Fin 33) (r : Fin 128) (w : Fin 4) (d : Fin 64) :
    (dats m 0 c).arrAt 11 cfg0.N (ix2 (prow b r) (kcol w d)) = (halves (fun n j => D.dv n j w d) 31 b r : EReal) :=
  (congrFun (arr11 m c) _).trans (sum11 H w d b r 31 (by omega))
theorem res12 (h : Fin 32) (r : Fin 128) (j : Fin 256) :
    (dats m 0 c).arrAt 12 cfg0.N (ix3 h r j) = ((∑ n, D.ds n h r j : ℝ) : EReal) := by
  obtain ⟨kv, e, rfl⟩ : ∃ kv e, h = hd kv e := ⟨grp h, ⟨h.val % 8, by omega⟩, Fin.ext (by simp; omega)⟩
  rw [← upto_all]
  exact (congrFun (arr12 m c) _).trans (sum12 H kv e r j 31 (by omega))
theorem res13 (h : Fin 32) :
    (dats m 0 c).arrAt 13 cfg0.N (ix2 0 ⟨h.val, by omega⟩) = ((∑ n, D.dsk n h : ℝ) : EReal) := by
  rw [← upto_all]
  exact (congrFun (arr13 m c) _).trans (sum13 H h 31 (by omega))
omit H in
variable (m c) in
theorem res13_rest (a : Fin 8) (x : Fin 128) (hx : a.val ≠ 0 ∨ 32 ≤ x.val) : (dats m 0 c).arrAt 13 cfg0.N (ix2 a x) = (0 : EReal) :=
  (congrFun (arr13 m c) _).trans (rest13 m c a x hx 31 (by omega))
end Cert.Proof.K
end
-- ==== Proof.Band.lean ====
module
public import proofs.«01_k».proof.Proof.KVal
public import proofs.«01_k».proof.Proof.KData
@[expose] public section
set_option maxRecDepth 16384
noncomputable section
namespace Cert.Proof.K
open Idealize.ShloMosaic

/-! The band with zeros before the first block, the mask of the host, and one row's softmax over the reals. -/

theorem at1 {m : ℕ} {T : Type} (x : Shape.Idx ⟨1, ![m]⟩ → T) {a a' : Fin m} (h : a.val = a'.val) : x (ix1 a) = x (ix1 a') := by rw [Fin.ext h]

theorem at4 {m n p q : ℕ} {T : Type} (x : Shape.Idx ⟨4, ![m, n, p, q]⟩ → T) {a a' : Fin m} {b b' : Fin n} {c c' : Fin p} {d d' : Fin q}
    (h1 : a.val = a'.val) (h2 : b.val = b'.val) (h3 : c.val = c'.val) (h4 : d.val = d'.val) : x (ix4 a b c d) = x (ix4 a' b' c' d') := by
  rw [Fin.ext h1, Fin.ext h2, Fin.ext h3, Fin.ext h4]
theorem bit_one : (FloatOps.uitofp (F := Ideal) .f32 (BitVec.ofBool true) : EReal) = 1 := by
  show (((BitVec.ofBool true).toNat : ℝ) : EReal) = 1
  simp
theorem bit_zero : (FloatOps.uitofp (F := Ideal) .f32 (BitVec.ofBool false) : EReal) = 0 := by
  show (((BitVec.ofBool false).toNat : ℝ) : EReal) = 0
  simp
theorem ofBits_bot : Ideal.ofBits .f32 0xFF800000#32 = (⊥ : EReal) := by
  simp [Ideal.ofBits, Ideal.ieee]

/-- The band of block `n`, with zeros before the first block. -/
def zband (x : Fin 4096 → Fin 256 → ℝ) (n : Fin 32) (j : Fin 256) (c : Fin 256) : ℝ :=
  if h : j.val < 128 then (if n.val = 0 then 0 else x (row (prev n) ⟨j.val, h⟩) c) else x (row n ⟨j.val - 128, by omega⟩) c

theorem zband_eq (x : Fin 4096 → Fin 256 → ℝ) (n : Fin 32) (i : ℕ) (j : Fin 256) (c : Fin 256) (h : V n.val i j.val) :
    zband x n j c = Arrays.bandOf x n j c := by
  unfold zband Arrays.bandOf
  by_cases hj : j.val < 128
  · rw [dif_pos hj, dif_pos hj, if_neg]
    have := h.2; omega
  · rw [dif_neg hj, dif_neg hj]

theorem mask_word (n : Fin 32) (i : Fin 128) (j : Fin 256) :
    IntOp.andi
      (IntOp.andi
        (IntOp.cmpi CmpIPredicate.sge
          (IntOp.addi (IntOp.subi (IntOp.muli (BitVec.ofNat 32 n.val) 128#32) 128#32) (BitVec.ofNat 32 j.val)) 0#32)
        (IntOp.cmpi CmpIPredicate.sge (IntOp.subi (IntOp.addi (BitVec.ofNat 32 i.val) 128#32) (BitVec.ofNat 32 j.val)) 0#32))
      (IntOp.cmpi CmpIPredicate.slt (IntOp.subi (IntOp.addi (BitVec.ofNat 32 i.val) 128#32) (BitVec.ofNat 32 j.val)) 128#32)
     = BitVec.ofBool (decide (V n.val i.val j.val)) := by
  have e1 : (IntOp.subi (IntOp.addi (BitVec.ofNat 32 i.val) 128#32) (BitVec.ofNat 32 j.val)).toInt = (i.val : ℤ) + 128 - j.val := by
    have ha : (BitVec.ofNat 32 i.val + 128#32).toInt = (i.val : ℤ) + 128 := by
      rw [WordArith.toInt_add_of_bounds] <;> rw [WordArith.toInt_ofNat_small _ (by omega)] <;> simp <;> omega
    show (BitVec.ofNat 32 i.val + 128#32 - BitVec.ofNat 32 j.val).toInt = _
    rw [WordArith.toInt_sub_of_bounds] <;> rw [ha, WordArith.toInt_ofNat_small _ (by omega)] <;> omega
  have e5 : (IntOp.subi (IntOp.muli (BitVec.ofNat 32 n.val) 128#32) 128#32).toInt = 128 * (n.val : ℤ) - 128 := by
    revert n; decide +kernel
  have e6 : (IntOp.addi (IntOp.subi (IntOp.muli (BitVec.ofNat 32 n.val) 128#32) 128#32) (BitVec.ofNat 32 j.val)).toInt
      = 128 * (n.val : ℤ) - 128 + j.val := by
    rw [← e5]
    show (_ + _ : BitVec 32).toInt = _
    rw [WordArith.toInt_add_of_bounds] <;> rw [e5, WordArith.toInt_ofNat_small _ (by omega)] <;> omega
  have e2 : (128#32).toInt = 128 := rfl
  have e3 : (0#32).toInt = 0 := rfl
  simp only [IntOp.cmpi, BitVec.sle_eq_decide, BitVec.slt_eq_decide, e1, e2, e3, e6, WordArith.andi_ofBool]
  congr 1
  rw [Bool.eq_iff_iff]
  simp only [Bool.and_eq_true, decide_eq_true_eq]
  unfold V
  omega

section row
variable (p : Fin 256 → Prop) [DecidablePred p] (x : Fin 256 → ℝ) (s : ℝ)

/-- The greatest logit that the mask keeps is a real number, and one of the logits. -/
theorem fold_max_real (hp : ∃ j, p j) :
    ∃ M : ℝ, Finset.univ.fold max (⊥ : EReal) (fun j => if p j then (x j : EReal) else ⊥) = (M : EReal) ∧ ∃ j, p j ∧ x j = M := by
  obtain ⟨j0, h0⟩ := hp
  have key : ∀ t : Finset (Fin 256), t.fold max (⊥ : EReal) (fun j => if p j then (x j : EReal) else ⊥) = ⊥ ∧ (∀ j ∈ t, ¬ p j)
      ∨ ∃ j, p j ∧ t.fold max (⊥ : EReal) (fun j => if p j then (x j : EReal) else ⊥) = (x j : EReal) := by
    intro t
    induction t using Finset.induction_on with
    | empty => left; simp
    | insert a t ha ih =>
      rw [Finset.fold_insert ha]
      by_cases hpa : p a
      · right
        rw [if_pos hpa]
        rcases ih with ⟨h, _⟩ | ⟨j, hj, h⟩
        · exact ⟨a, hpa, by rw [h]; exact max_eq_left bot_le⟩
        · rw [h]
          rcases le_total (x a : EReal) (x j : EReal) with hl | hl
          · exact ⟨j, hj, max_eq_right hl⟩
          · exact ⟨a, hpa, max_eq_left hl⟩
      · rw [if_neg hpa, max_eq_right bot_le]
        rcases ih with ⟨h, h'⟩ | h
        · left
          refine ⟨h, fun j hj => ?_⟩
          rcases Finset.mem_insert.mp hj with rfl | hj
          · exact hpa
          · exact h' j hj
        · exact Or.inr h
  rcases key Finset.univ with ⟨_, h⟩ | ⟨j, hj, h⟩
  · exact absurd h0 (h j0 (Finset.mem_univ _))
  · exact ⟨x j, h, j, hj, rfl⟩

/-- The weights of a row and its sink, shifted by `m`, added. -/
def tot (m : ℝ) : ℝ := (∑ j, if p j then Real.exp (x j - m) else 0) + Real.exp (s - m)

theorem tot_pos (m : ℝ) : 0 < tot p x s m :=
  add_pos_of_nonneg_of_pos (Finset.sum_nonneg fun j _ => by split; exact (Real.exp_pos _).le; exact le_refl _) (Real.exp_pos _)

theorem tot_shift (m : ℝ) : tot p x s m = tot p x s 0 * Real.exp (-m) := by
  unfold tot
  rw [add_mul, Finset.sum_mul, ← Real.exp_add, sub_zero, ← sub_eq_add_neg]
  congr 1
  refine Finset.sum_congr rfl fun j _ => ?_
  split
  · rw [← Real.exp_add, sub_zero, ← sub_eq_add_neg]
  · rw [zero_mul]

theorem log_tot (m : ℝ) : m + Real.log (tot p x s m) = Real.log (tot p x s 0) := by
  rw [tot_shift, Real.log_mul (tot_pos p x s 0).ne' (Real.exp_pos _).ne', Real.log_exp]; ring

theorem exp_tot (m y : ℝ) : Real.exp (y - m) / tot p x s m = Real.exp (y - Real.log (tot p x s 0)) := by
  rw [← log_tot p x s m, ← sub_sub, Real.exp_sub (y - m), Real.exp_log (tot_pos p x s m)]

/-- The weights of a row and its sink, normalised, add up to one. -/
theorem row_one : (∑ j, if p j then Real.exp (x j - Real.log (tot p x s 0)) else 0) + Real.exp (s - Real.log (tot p x s 0)) = 1 := by
  have h : ∀ y : ℝ, Real.exp (y - Real.log (tot p x s 0)) = Real.exp (y - 0) / tot p x s 0 := fun y => (exp_tot p x s 0 y).symm
  simp only [h]
  have h2 : (∑ j, if p j then Real.exp (x j - 0) / tot p x s 0 else 0) = (∑ j, if p j then Real.exp (x j - 0) else 0) / tot p x s 0 := by
    rw [Finset.sum_div]
    refine Finset.sum_congr rfl fun j _ => ?_
    split
    · rfl
    · rw [zero_div]
  rw [h2, ← add_div]
  exact div_self (tot_pos p x s 0).ne'
end row
end Cert.Proof.K
end
-- ==== Proof.RVal.lean ====
module
public import proofs.«01_k».proof.Proof.Gen.ReferenceIdeal.Run
public import proofs.«01_k».proof.Proof.Band
public import Idealize.ShloMosaic.Lib.Pointwise
public import Idealize.ShloMosaic.Lib.WordArith
@[expose] public section
set_option maxRecDepth 16384
noncomputable section
namespace Cert.Proof.R
open Cert.ReferenceIdeal Cert.ReferenceIdeal.Gen Cert.ReferenceIdeal.Value Idealize.ShloMosaic Idealize.ShloMosaic.TcCoe Idealize.SL.Sem
open Cert.Proof.K (row prev Arrays V hd qcol kcol grp coe_sum)

/-! The reference's values read at an index, over the extended reals. -/

variable (L : Valuation τ sig (Elt Ideal))

abbrev A0 (L : Valuation τ sig (Elt Ideal)) : Vec Ideal S4096x10752 .bf16 := L (Proc.devRef .tc main_arg0)
abbrev A1 (L : Valuation τ sig (Elt Ideal)) : Vec Ideal S4096x2048 .bf16 := L (Proc.devRef .tc main_arg1)
abbrev A2 (L : Valuation τ sig (Elt Ideal)) : Vec Ideal S32x128x256 .f32 := L (Proc.devRef .tc main_arg2)
abbrev A3 (L : Valuation τ sig (Elt Ideal)) : Vec Ideal S32 .f32 := L (Proc.devRef .tc main_arg3)

abbrev v4 (L : Valuation τ sig (Elt Ideal)) : FVec Ideal S32x128x4x8x64 .f32 := res_main_v4 L
abbrev v7 (L : Valuation τ sig (Elt Ideal)) : FVec Ideal S33x128x4x64 .f32 := res_main_v7 L
abbrev v11 (L : Valuation τ sig (Elt Ideal)) : FVec Ideal S32x256x4x64 .f32 := res_main_v11 L
abbrev v14 (L : Valuation τ sig (Elt Ideal)) : FVec Ideal S33x128x4x64 .f32 := res_main_v14 L
abbrev v18 (L : Valuation τ sig (Elt Ideal)) : FVec Ideal S32x256x4x64 .f32 := res_main_v18 L
abbrev v60_0 (L : Valuation τ sig (Elt Ideal)) : FVec Ideal S32x4x8x128x256 .f32 := res_main_v60_0 L
abbrev v62 (L : Valuation τ sig (Elt Ideal)) : FVec Ideal S1x4x8x1 .f32 := res_main_v62 L
abbrev v63 (L : Valuation τ sig (Elt Ideal)) : FVec Ideal S32x4x8x128 .f32 := res_main_v63 L
abbrev v67 (L : Valuation τ sig (Elt Ideal)) : FVec Ideal S32x4x8x128x256 .f32 := res_main_v67 L
abbrev v70 (L : Valuation τ sig (Elt Ideal)) : FVec Ideal S32x4x8x128 .f32 := res_main_v70 L
abbrev v92 (L : Valuation τ sig (Elt Ideal)) : FVec Ideal S32x4x8x128x256 .f32 := res_main_v92 L
abbrev v96 (L : Valuation τ sig (Elt Ideal)) : FVec Ideal S32x4x8x128 .f32 := res_main_v96 L
abbrev v98 (L : Valuation τ sig (Elt Ideal)) : FVec Ideal S32x4x8x128x1 .f32 := res_main_v98 L
abbrev v100 (L : Valuation τ sig (Elt Ideal)) : FVec Ideal S32x4x8x128x256 .f32 := res_main_v100 L
abbrev v109 (L : Valuation τ sig (Elt Ideal)) : FVec Ideal S32x4x64x8x128 .f32 := res_main_v109 L
abbrev v110 (L : Valuation τ sig (Elt Ideal)) : FVec Ideal S32x4x8x128x256 .f32 := res_main_v110 L
abbrev v112 (L : Valuation τ sig (Elt Ideal)) : FVec Ideal S32x256x4x64 .f32 := res_main_v112 L
abbrev v121 (L : Valuation τ sig (Elt Ideal)) : FVec Ideal S32x4x8x128 .f32 := res_main_v121 L
abbrev v122 (L : Valuation τ sig (Elt Ideal)) : FVec Ideal S32x4x8x128 .f32 := res_main_v122 L
abbrev v128 (L : Valuation τ sig (Elt Ideal)) : FVec Ideal S32x4x8x128x256 .f32 := res_main_v128 L
abbrev v133 (L : Valuation τ sig (Elt Ideal)) : FVec Ideal S32x4x8x128 .f32 := res_main_v133 L
abbrev v145 (L : Valuation τ sig (Elt Ideal)) : FVec Ideal S32x4x8x128x256 .f32 := res_main_v145 L
abbrev v152 (L : Valuation τ sig (Elt Ideal)) : FVec Ideal S32x4x256x128x8 .f32 := res_main_v152 L
abbrev v156 (L : Valuation τ sig (Elt Ideal)) : FVec Ideal S32x256x4x64 .f32 := res_main_v156 L
abbrev v161 (L : Valuation τ sig (Elt Ideal)) : FVec Ideal S33x128x4x64 .f32 := res_main_v161 L
abbrev v169 (L : Valuation τ sig (Elt Ideal)) : FVec Ideal S33x128x4x64 .f32 := res_main_v169 L

theorem v4_apply (n : Fin 32) (i : Fin 128) (w : Fin 4) (e : Fin 8) (d : Fin 64) :
    v4 L (ix5 n i w e d) = A0 L (ix2 (row n i) ⟨4096 + (qcol (hd w e) d).val, by simp; omega⟩) := by
  pointwise [res_main_v4, res_main_v0]
  exact K.at2 (A0 L) (by simp; try omega) (by simp; try omega)

theorem v7_zero (i : Fin 128) (w : Fin 4) (d : Fin 64) : v7 L (ix4 0 i w d) = (0 : EReal) := by
  pointwise [res_main_v7]
theorem v7_apply (n : Fin 32) (i : Fin 128) (w : Fin 4) (d : Fin 64) :
    v7 L (ix4 n.succ i w d) = A0 L (ix2 (row n i) ⟨6144 + (kcol w d).val, by simp; omega⟩) := by
  pointwise [res_main_v7, res_main_v0]
  rw [dif_neg (by simp)]
  exact K.at2 (A0 L) (by simp; try omega) (by simp; try omega)
theorem v14_zero (i : Fin 128) (w : Fin 4) (d : Fin 64) : v14 L (ix4 0 i w d) = (0 : EReal) := by
  pointwise [res_main_v14]
theorem v14_apply (n : Fin 32) (i : Fin 128) (w : Fin 4) (d : Fin 64) :
    v14 L (ix4 n.succ i w d) = A0 L (ix2 (row n i) ⟨6400 + (kcol w d).val, by simp; omega⟩) := by
  pointwise [res_main_v14, res_main_v0]
  rw [dif_neg (by simp)]
  exact K.at2 (A0 L) (by simp; try omega) (by simp; try omega)
theorem v11_lo (n : Fin 32) (j : Fin 128) (w : Fin 4) (d : Fin 64) :
    v11 L (ix4 n ⟨j.val, by omega⟩ w d) = v7 L (ix4 ⟨n.val, by omega⟩ j w d) := by
  pointwise [res_main_v11]
theorem v11_hi (n : Fin 32) (j : Fin 128) (w : Fin 4) (d : Fin 64) :
    v11 L (ix4 n ⟨128 + j.val, by omega⟩ w d) = v7 L (ix4 n.succ j w d) := by
  pointwise [res_main_v11]
  exact K.at4 (v7 L) (by simp; omega) rfl rfl rfl
theorem v18_lo (n : Fin 32) (j : Fin 128) (w : Fin 4) (d : Fin 64) :
    v18 L (ix4 n ⟨j.val, by omega⟩ w d) = v14 L (ix4 ⟨n.val, by omega⟩ j w d) := by
  pointwise [res_main_v18]
theorem v18_hi (n : Fin 32) (j : Fin 128) (w : Fin 4) (d : Fin 64) :
    v18 L (ix4 n ⟨128 + j.val, by omega⟩ w d) = v14 L (ix4 n.succ j w d) := by
  pointwise [res_main_v18]
  exact K.at4 (v14 L) (by simp; omega) rfl rfl rfl
theorem v62_apply (w : Fin 4) (e : Fin 8) (u x : Fin 1) : v62 L (ix4 u w e x) = A3 L (ix1 (hd w e)) := by
  pointwise [res_main_v62]
  exact K.at1 (A3 L) (by simp; try omega)
theorem v109_apply (n : Fin 32) (w : Fin 4) (d : Fin 64) (e : Fin 8) (i : Fin 128) :
    v109 L (ix5 n w d e i) = A1 L (ix2 (row n i) (qcol (hd w e) d)) := by
  pointwise [res_main_v109]
  exact K.at2 (A1 L) (by simp; try omega) (by simp; try omega)
theorem v60_1_apply (n : Fin 32) (w : Fin 4) (e : Fin 8) (i : Fin 128) (j : Fin 256) :
    res_main_v60_1 L (ix5 n w e i j) = BitVec.ofBool (decide (V n.val i.val j.val)) := by
  pointwise [res_main_v60_1, res_main_v31, res_main_v26]
  exact K.mask_word n i j
theorem v60_0_apply (n : Fin 32) (w : Fin 4) (e : Fin 8) (i : Fin 128) (j : Fin 256) :
    v60_0 L (ix5 n w e i j) = if V n.val i.val j.val then
      (∑ d : Fin 64, v11 L (ix4 n j w d) * v4 L (ix5 n i w e d)) * ((1 / 8 : ℝ) : EReal) + A2 L (ix3 (hd w e) i j) else ⊥ := by
  pointwise [res_main_v60_0]
  rw [v60_1_apply, K.select_ofBool, K.ofBits_eighth]
  by_cases h : V n.val i.val j.val
  · rw [if_pos h, if_pos h]
    exact congrArg (_ + ·) (K.at3 (A2 L) (by simp; try omega) rfl rfl)
  · rw [if_neg h, if_neg h]
    exact K.ofBits_bot
end Cert.Proof.R
end
-- ==== Proof.RVal3.lean ====
module
public import proofs.«01_k».proof.Proof.Gen.ReferenceIdeal.Run
public import proofs.«01_k».proof.Proof.RVal
public import Idealize.ShloMosaic.Lib.Pointwise
public import Idealize.ShloMosaic.Lib.WordArith
@[expose] public section
set_option maxRecDepth 16384
noncomputable section
namespace Cert.Proof.R
open Cert.ReferenceIdeal Cert.ReferenceIdeal.Gen Cert.ReferenceIdeal.Value Idealize.ShloMosaic Idealize.ShloMosaic.TcCoe Idealize.SL.Sem
open Cert.Proof.K (row prev Arrays V hd qcol kcol grp coe_sum)

/-! The reference's gradients read at an index. -/

variable (L : Valuation τ sig (Elt Ideal))

theorem v133_apply (n : Fin 32) (w : Fin 4) (e : Fin 8) (i : Fin 128) :
    v133 L (ix4 n w e i) = -v122 L (ix4 n w e i) + ∑ j : Fin 256, -v128 L (ix5 n w e i j) := by
  pointwise [res_main_v133]
  exact congrArg (_ + ·) (Fin.sum_univ_one _)
theorem v67_apply (n : Fin 32) (w : Fin 4) (e : Fin 8) (i : Fin 128) (j : Fin 256) :
    v67 L (ix5 n w e i j) = if v60_0 L (ix5 n w e i j) = v63 L (ix4 n w e i) then (1 : EReal) else 0 := by
  pointwise [res_main_v67]
  by_cases h : v60_0 L (ix5 n w e i j) = v63 L (ix4 n w e i)
  · rw [if_pos h, decide_eq_true h]; exact K.bit_one
  · rw [if_neg h, decide_eq_false h]; exact K.bit_zero
/-- The masked sum of a gradient and the part that goes through the maximum. -/
theorem masked_apply (m : IVec S32x4x8x128x256 1) (a c : FVec Ideal S32x4x8x128x256 .f32) (b s r : FVec Ideal S32x4x8x128 .f32)
    (n : Fin 32) (w : Fin 4) (e : Fin 8) (i : Fin 128) (j : Fin 256) :
    select m (addf a (mulf (broadcastInDim S32x4x8x128x256 ![0, 1, 2, 3] bcast_S32x4x8x128_S32x4x8x128x256_0_1_2_3 (Host.divf (mulf b s) r)) c))
      (broadcastInDim S32x4x8x128x256 ![] bcast_S_S32x4x8x128x256 (constant S_ .f32 0x00000000#32)) (ix5 n w e i j)
      = Scalar.select (m (ix5 n w e i j)) (a (ix5 n w e i j) + Ideal.div (b (ix4 n w e i) * s (ix4 n w e i)) (r (ix4 n w e i)) * c (ix5 n w e i j)) 0 := by
  pointwise []
theorem count_apply (x : FVec Ideal S32x4x8x128x256 .f32) (n : Fin 32) (w : Fin 4) (e : Fin 8) (i : Fin 128) :
    Host.reduceAdd x (constant S_ .f32 0x00000000#32) reducesTo_S32x4x8x128x256_S32x4x8x128_d4 h_S_ (ix4 n w e i) = ∑ j : Fin 256, x (ix5 n w e i j) := by
  pointwise []
theorem v145_apply (n : Fin 32) (w : Fin 4) (e : Fin 8) (i : Fin 128) (j : Fin 256) (h : v133 L (ix4 n w e i) = 0) :
    v145 L (ix5 n w e i j) = if V n.val i.val j.val then v128 L (ix5 n w e i j)
      + Ideal.div 0 (∑ j : Fin 256, v67 L (ix5 n w e i j)) * v67 L (ix5 n w e i j) else 0 := by
  show res_main_v145 L _ = _
  unfold res_main_v145
  refine (masked_apply (res_main_v60_1 L) (v128 L) (v67 L) (v133 L) _ _ n w e i j).trans ?_
  rw [count_apply, v60_1_apply, K.select_ofBool, h, zero_mul]
theorem v152_apply (n : Fin 32) (w : Fin 4) (e : Fin 8) (i : Fin 128) (j : Fin 256) :
    v152 L (ix5 n w j i e) = v145 L (ix5 n w e i j) * ((1 / 8 : ℝ) : EReal) := by
  pointwise [res_main_v152]
  rw [K.ofBits_eighth]
theorem v156_apply (n : Fin 32) (w : Fin 4) (d : Fin 64) (j : Fin 256) :
    v156 L (ix4 n j w d) = ∑ i : Fin 128, ∑ e : Fin 8, v152 L (ix5 n w j i e) * v4 L (ix5 n i w e d) := by
  pointwise [res_main_v156]
theorem halves_cond (x : FVec Ideal S32x256x4x64 .f32) (b : Fin 33) (r : Fin 128) (w : Fin 4) (d : Fin 64) :
    (if h : 1 ≤ b.val ∧ b.val - 1 < 32 then x (ix4 ⟨b.val - 1, h.2⟩ ⟨128 + r.val, by omega⟩ w d) else 0)
      + (if h : b.val < 32 then x (ix4 ⟨b.val, h⟩ ⟨r.val, by omega⟩ w d) else 0)
     = (if h : 0 < b.val then x (ix4 ⟨b.val - 1, by omega⟩ ⟨128 + r.val, by omega⟩ w d) else 0)
      + (if h : b.val < 32 then x (ix4 ⟨b.val, h⟩ ⟨r.val, by omega⟩ w d) else 0) := by
  congr 1
  by_cases h : 0 < b.val
  · rw [dif_pos h, dif_pos ⟨h, by omega⟩]
  · rw [dif_neg h, dif_neg (by omega)]
theorem v161_apply (b : Fin 33) (r : Fin 128) (w : Fin 4) (d : Fin 64) :
    v161 L (ix4 b r w d) = (if h : 0 < b.val then v112 L (ix4 ⟨b.val - 1, by omega⟩ ⟨128 + r.val, by omega⟩ w d) else 0)
      + (if h : b.val < 32 then v112 L (ix4 ⟨b.val, h⟩ ⟨r.val, by omega⟩ w d) else 0) := by
  pointwise [res_main_v161]
  exact halves_cond (v112 L) b r w d
theorem v169_apply (b : Fin 33) (r : Fin 128) (w : Fin 4) (d : Fin 64) :
    v169 L (ix4 b r w d) = (if h : 0 < b.val then v156 L (ix4 ⟨b.val - 1, by omega⟩ ⟨128 + r.val, by omega⟩ w d) else 0)
      + (if h : b.val < 32 then v156 L (ix4 ⟨b.val, h⟩ ⟨r.val, by omega⟩ w d) else 0) := by
  pointwise [res_main_v169]
  exact halves_cond (v156 L) b r w d
end Cert.Proof.R
end
-- ==== Proof.RVal2.lean ====
module
public import proofs.«01_k».proof.Proof.Gen.ReferenceIdeal.Run
public import proofs.«01_k».proof.Proof.RVal
public import Idealize.ShloMosaic.Lib.Pointwise
public import Idealize.ShloMosaic.Lib.WordArith
@[expose] public section
set_option maxRecDepth 16384
noncomputable section
namespace Cert.Proof.R
open Cert.ReferenceIdeal Cert.ReferenceIdeal.Gen Cert.ReferenceIdeal.Value Idealize.ShloMosaic Idealize.ShloMosaic.TcCoe Idealize.SL.Sem
open Cert.Proof.K (row prev Arrays V hd qcol kcol grp coe_sum)

/-! The reference's softmax and its gradient read at an index. -/

variable (L : Valuation τ sig (Elt Ideal))

theorem v63_apply (n : Fin 32) (w : Fin 4) (e : Fin 8) (i : Fin 128) :
    v63 L (ix4 n w e i) = Finset.univ.fold max (⊥ : EReal) (fun j : Fin 256 => v60_0 L (ix5 n w e i j)) := by
  pointwise [res_main_v63]
  rw [K.ofBits_bot]
  exact Shape.ReducesTo.fold_fiber_r5_a4 reducesTo_S32x4x8x128x256_S32x4x8x128_d4 (ix4 n w e i) max ⊥ (v60_0 L)
theorem larger_apply (x : FVec Ideal S32x4x8x128 .f32) (y : FVec Ideal S1x4x8x1 .f32) (n : Fin 32) (w : Fin 4) (e : Fin 8) (i : Fin 128) :
    maximumf x (broadcastInDim S32x4x8x128 ![0, 1, 2, 3] bcast_S1x4x8x1_S32x4x8x128_0_1_2_3 y) (ix4 n w e i) = max (x (ix4 n w e i)) (y (ix4 0 w e 0)) := by
  pointwise []
theorem v70_apply (n : Fin 32) (w : Fin 4) (e : Fin 8) (i : Fin 128) :
    v70 L (ix4 n w e i) = max (v63 L (ix4 n w e i)) (v62 L (ix4 0 w e 0)) :=
  larger_apply (v63 L) (v62 L) n w e i
theorem v92_apply (n : Fin 32) (w : Fin 4) (e : Fin 8) (i : Fin 128) (j : Fin 256) :
    v92 L (ix5 n w e i j) = Ideal.exp (v60_0 L (ix5 n w e i j) - v70 L (ix4 n w e i)) := by
  pointwise [res_main_v92]
theorem v96_apply (n : Fin 32) (w : Fin 4) (e : Fin 8) (i : Fin 128) :
    v96 L (ix4 n w e i) = Ideal.exp (v62 L (ix4 0 w e 0) - v70 L (ix4 n w e i)) := by
  pointwise [res_main_v96]
theorem v98_apply (n : Fin 32) (w : Fin 4) (e : Fin 8) (i : Fin 128) (u : Fin 1) :
    v98 L (ix5 n w e i u) = (∑ j : Fin 256, v92 L (ix5 n w e i j)) + v96 L (ix4 n w e i) := by
  pointwise [res_main_v98]
theorem v100_apply (n : Fin 32) (w : Fin 4) (e : Fin 8) (i : Fin 128) (j : Fin 256) :
    v100 L (ix5 n w e i j) = Ideal.div (v92 L (ix5 n w e i j)) (v98 L (ix5 n w e i 0)) := by
  pointwise [res_main_v100]
theorem v110_apply (n : Fin 32) (w : Fin 4) (e : Fin 8) (i : Fin 128) (j : Fin 256) :
    v110 L (ix5 n w e i j) = ∑ d : Fin 64, v109 L (ix5 n w d e i) * v18 L (ix4 n j w d) := by
  pointwise [res_main_v110]
theorem v112_apply (n : Fin 32) (w : Fin 4) (d : Fin 64) (j : Fin 256) :
    v112 L (ix4 n j w d) = ∑ e : Fin 8, ∑ i : Fin 128, v109 L (ix5 n w d e i) * v100 L (ix5 n w e i j) := by
  pointwise [res_main_v112]
theorem v121_apply (n : Fin 32) (w : Fin 4) (e : Fin 8) (i : Fin 128) :
    v121 L (ix4 n w e i) = -∑ j : Fin 256, v110 L (ix5 n w e i j)
      * Ideal.div 1 (v98 L (ix5 n w e i 0) * v98 L (ix5 n w e i 0)) * v92 L (ix5 n w e i j) := by
  pointwise [res_main_v121]
  exact Fin.sum_univ_one _
theorem v122_apply (n : Fin 32) (w : Fin 4) (e : Fin 8) (i : Fin 128) :
    v122 L (ix4 n w e i) = v121 L (ix4 n w e i) * v96 L (ix4 n w e i) := by
  pointwise [res_main_v122]
theorem v128_apply (n : Fin 32) (w : Fin 4) (e : Fin 8) (i : Fin 128) (j : Fin 256) :
    v128 L (ix5 n w e i j) = (Ideal.div (v110 L (ix5 n w e i j)) (v98 L (ix5 n w e i 0)) + v121 L (ix4 n w e i))
      * v92 L (ix5 n w e i j) := by
  pointwise [res_main_v128]
end Cert.Proof.R
end
-- ==== Proof.RReal.lean ====
module
public import proofs.«01_k».proof.Proof.RVal3
public import proofs.«01_k».proof.Proof.RVal2
@[expose] public section
set_option maxRecDepth 16384
noncomputable section

namespace Cert.Proof.K
namespace Arrays
variable (D : Arrays)

/-- A logit: a product of a query with a key, scaled, plus its bias. -/
def lg (n h : Fin 32) (i : Fin 128) (j : Fin 256) : ℝ := sc (blk D.q n) (bandOf D.k n) h i j * (1 / 8) + D.b h i j
/-- The logarithm of a row's weights added. -/
def lse (n h : Fin 32) (i : Fin 128) : ℝ := Real.log (tot (fun j : Fin 256 => V n.val i.val j.val) (D.lg n h i) (D.s h) 0)
/-- A row's probabilities. -/
def pr (n h : Fin 32) (i : Fin 128) (j : Fin 256) : ℝ := K.pr n.val (blk D.q n) (bandOf D.k n) D.b (blk D.l n) h i j
/-- The gradient of a probability. -/
def dp (n h : Fin 32) (i : Fin 128) (j : Fin 256) : ℝ := sc (blk D.g n) (bandOf D.v n) h i j
/-- The gradient of a row's probabilities, contracted with them. -/
def dl (n h : Fin 32) (i : Fin 128) : ℝ := ∑ j, D.pr n h i j * D.dp n h i j
end Arrays
/-- Some band row is attended to. -/
theorem V_some (n : Fin 32) (i : Fin 128) : ∃ j : Fin 256, V n.val i.val j.val :=
  ⟨⟨i.val + 128, by omega⟩, by unfold V; dsimp only; omega⟩
end Cert.Proof.K

namespace Cert.Proof.R
open Cert.ReferenceIdeal Cert.ReferenceIdeal.Gen Cert.ReferenceIdeal.Value Idealize.ShloMosaic Idealize.ShloMosaic.TcCoe Idealize.SL.Sem
open Cert.Proof.K (row prev Arrays V hd qcol kcol grp coe_sum zband zband_eq tot tot_pos V_some)

/-! The reference's values are the real numbers of the mathematics. -/

variable {L : Valuation τ sig (Elt Ideal)} {D : Arrays}

/-- The reference's arguments hold these real numbers, and the shift is the logarithm of a row's weights added. -/
structure Held (L : Valuation τ sig (Elt Ideal)) (D : Arrays) : Prop where
  q : ∀ r j, A0 L (ix2 r ⟨4096 + j.val, by omega⟩) = (D.q r j : EReal)
  k : ∀ r j, A0 L (ix2 r ⟨6144 + j.val, by omega⟩) = (D.k r j : EReal)
  v : ∀ r j, A0 L (ix2 r ⟨6400 + j.val, by omega⟩) = (D.v r j : EReal)
  g : ∀ r j, A1 L (ix2 r j) = (D.g r j : EReal)
  b : ∀ h r j, A2 L (ix3 h r j) = (D.b h r j : EReal)
  s : ∀ h, A3 L (ix1 h) = (D.s h : EReal)
  l : ∀ n i h, D.l (row n i) h = D.lse n h i

/-- A row is in a half of the band. -/
theorem half_cases (j : Fin 256) : (∃ a : Fin 128, j = ⟨a.val, by omega⟩) ∨ ∃ a : Fin 128, j = ⟨128 + a.val, by omega⟩ := by
  by_cases h : j.val < 128
  · exact Or.inl ⟨⟨j.val, h⟩, rfl⟩
  · exact Or.inr ⟨⟨j.val - 128, by omega⟩, Fin.ext (by simp; omega)⟩

theorem zlo (x : Fin 4096 → Fin 256 → ℝ) (n : Fin 32) (a : Fin 128) (c : Fin 256) :
    zband x n ⟨a.val, by omega⟩ c = if n.val = 0 then 0 else x (row (prev n) a) c := by
  unfold zband; rw [dif_pos a.isLt]
theorem zhi (x : Fin 4096 → Fin 256 → ℝ) (n : Fin 32) (a : Fin 128) (c : Fin 256) :
    zband x n ⟨128 + a.val, by omega⟩ c = x (row n a) c := by
  unfold zband; rw [dif_neg (by simp)]; congr 2; exact Fin.ext (by simp)
theorem pred_cases (n : Fin 32) : (n.val = 0 ∧ (⟨n.val, by omega⟩ : Fin 33) = 0) ∨ (n.val ≠ 0 ∧ (⟨n.val, by omega⟩ : Fin 33) = (prev n).succ) := by
  by_cases h : n.val = 0
  · exact Or.inl ⟨h, Fin.ext h⟩
  · exact Or.inr ⟨h, Fin.ext (by simp; omega)⟩

variable (H : Held L D)
include H

theorem v11_real (n : Fin 32) (j : Fin 256) (w : Fin 4) (d : Fin 64) : v11 L (ix4 n j w d) = (zband D.k n j (kcol w d) : EReal) := by
  rcases half_cases j with ⟨a, rfl⟩ | ⟨a, rfl⟩
  · rw [v11_lo, zlo]
    rcases pred_cases n with ⟨h, e⟩ | ⟨h, e⟩
    · rw [e, v7_zero, if_pos h]; rfl
    · rw [e, v7_apply, if_neg h]; exact H.k _ _
  · rw [v11_hi, zhi, v7_apply]; exact H.k _ _
theorem v18_real (n : Fin 32) (j : Fin 256) (w : Fin 4) (d : Fin 64) : v18 L (ix4 n j w d) = (zband D.v n j (kcol w d) : EReal) := by
  rcases half_cases j with ⟨a, rfl⟩ | ⟨a, rfl⟩
  · rw [v18_lo, zlo]
    rcases pred_cases n with ⟨h, e⟩ | ⟨h, e⟩
    · rw [e, v14_zero, if_pos h]; rfl
    · rw [e, v14_apply, if_neg h]; exact H.v _ _
  · rw [v18_hi, zhi, v14_apply]; exact H.v _ _
theorem v4_real (n : Fin 32) (i : Fin 128) (w : Fin 4) (e : Fin 8) (d : Fin 64) :
    v4 L (ix5 n i w e d) = (D.q (row n i) (qcol (hd w e) d) : EReal) := (v4_apply L n i w e d).trans (H.q _ _)
theorem v109_real (n : Fin 32) (w : Fin 4) (d : Fin 64) (e : Fin 8) (i : Fin 128) :
    v109 L (ix5 n w d e i) = (D.g (row n i) (qcol (hd w e) d) : EReal) := (v109_apply L n w d e i).trans (H.g _ _)
theorem v62_real (w : Fin 4) (e : Fin 8) (u x : Fin 1) : v62 L (ix4 u w e x) = (D.s (hd w e) : EReal) := (v62_apply L w e u x).trans (H.s _)

section
variable (n : Fin 32) (w : Fin 4) (e : Fin 8) (i : Fin 128)

theorem v60_0_real (j : Fin 256) : v60_0 L (ix5 n w e i j) = if V n.val i.val j.val then (D.lg n (hd w e) i j : EReal) else ⊥ := by
  rw [v60_0_apply]
  by_cases h : V n.val i.val j.val
  · rw [if_pos h, if_pos h, H.b]
    simp only [v11_real H, v4_real H, ← EReal.coe_mul, ← coe_sum, ← EReal.coe_add]
    congr 2
    unfold K.sc
    rw [K.grp_hd]
    congr 1
    refine Finset.sum_congr rfl fun d _ => ?_
    rw [zband_eq _ _ _ _ _ h, mul_comm]
  · rw [if_neg h, if_neg h]

theorem v63_real : ∃ M : ℝ, v63 L (ix4 n w e i) = (M : EReal) ∧ ∃ j : Fin 256, V n.val i.val j.val ∧ D.lg n (hd w e) i j = M := by
  obtain ⟨M, hM, hj⟩ := K.fold_max_real (fun j : Fin 256 => V n.val i.val j.val) (D.lg n (hd w e) i) (V_some n i)
  refine ⟨M, ?_, hj⟩
  rw [v63_apply, ← hM]
  exact congrArg (fun f => Finset.univ.fold max ⊥ f) (funext fun j => v60_0_real H n w e i j)

theorem v70_real : ∃ m : ℝ, v70 L (ix4 n w e i) = (m : EReal) := by
  obtain ⟨M, hM, _⟩ := v63_real H n w e i
  refine ⟨max M (D.s (hd w e)), ?_⟩
  rw [v70_apply, hM, v62_real H]
  exact (EReal.coe_strictMono.monotone.map_max).symm

theorem v92_real {m : ℝ} (hm : v70 L (ix4 n w e i) = (m : EReal)) (j : Fin 256) :
    v92 L (ix5 n w e i j) = ((if V n.val i.val j.val then Real.exp (D.lg n (hd w e) i j - m) else 0 : ℝ) : EReal) := by
  rw [v92_apply, v60_0_real H, hm]
  by_cases h : V n.val i.val j.val
  · rw [if_pos h, if_pos h, ← EReal.coe_sub, Ideal.exp_coe]
  · rw [if_neg h, if_neg h, EReal.bot_sub, Ideal.exp_bot]; rfl
theorem v96_real {m : ℝ} (hm : v70 L (ix4 n w e i) = (m : EReal)) : v96 L (ix4 n w e i) = (Real.exp (D.s (hd w e) - m) : EReal) := by
  rw [v96_apply, v62_real H, hm, ← EReal.coe_sub, Ideal.exp_coe]
theorem v98_real {m : ℝ} (hm : v70 L (ix4 n w e i) = (m : EReal)) (u : Fin 1) :
    v98 L (ix5 n w e i u) = (tot (fun j : Fin 256 => V n.val i.val j.val) (D.lg n (hd w e) i) (D.s (hd w e)) m : EReal) := by
  rw [v98_apply, v96_real H n w e i hm]
  simp only [v92_real H n w e i hm]
  rw [← coe_sum, ← EReal.coe_add]
  rfl

/-- A weight over the weights added is a probability. -/
theorem ratio {m : ℝ} (j : Fin 256) :
    (if V n.val i.val j.val then Real.exp (D.lg n (hd w e) i j - m) else 0)
      / tot (fun j : Fin 256 => V n.val i.val j.val) (D.lg n (hd w e) i) (D.s (hd w e)) m = D.pr n (hd w e) i j := by
  unfold Arrays.pr K.pr
  by_cases h : V n.val i.val j.val
  · rw [if_pos h, if_pos h, K.exp_tot]
    show _ = Real.exp (_ - D.l (row n i) (hd w e))
    rw [H.l]
    rfl
  · rw [if_neg h, if_neg h, zero_div]
theorem ratio_s {m : ℝ} :
    Real.exp (D.s (hd w e) - m) / tot (fun j : Fin 256 => V n.val i.val j.val) (D.lg n (hd w e) i) (D.s (hd w e)) m
      = Real.exp (D.s (hd w e) - D.l (row n i) (hd w e)) := by
  rw [K.exp_tot, H.l]; rfl
theorem pr_one : (∑ j, D.pr n (hd w e) i j) + Real.exp (D.s (hd w e) - D.l (row n i) (hd w e)) = 1 := by
  rw [← ratio_s H n w e i (m := 0)]
  simp only [← ratio H n w e i (m := 0)]
  rw [← Finset.sum_div, ← add_div]
  exact div_self (tot_pos _ _ _ _).ne'

theorem v100_real (j : Fin 256) : v100 L (ix5 n w e i j) = (D.pr n (hd w e) i j : EReal) := by
  obtain ⟨m, hm⟩ := v70_real H n w e i
  rw [v100_apply, v92_real H n w e i hm, v98_real H n w e i hm, Ideal.div_coe (tot_pos _ _ _ _).ne', ← EReal.coe_mul, ← ratio H n w e i (m := m), mul_one_div]
theorem v110_real (j : Fin 256) : v110 L (ix5 n w e i j) = (K.sc (Arrays.blk D.g n) (zband D.v n) (hd w e) i j : EReal) := by
  rw [v110_apply]
  simp only [v109_real H, v18_real H, ← EReal.coe_mul, ← coe_sum]
  unfold K.sc
  rw [K.grp_hd]
omit H in
/-- Where a probability is not zero, the two bands agree. -/
theorem dp_eq (j : Fin 256) (h : V n.val i.val j.val) : K.sc (Arrays.blk D.g n) (zband D.v n) (hd w e) i j = D.dp n (hd w e) i j := by
  unfold Arrays.dp K.sc
  exact Finset.sum_congr rfl fun d _ => by rw [zband_eq _ _ _ _ _ h]
omit H in
theorem pr_zero (j : Fin 256) (h : ¬ V n.val i.val j.val) : D.pr n (hd w e) i j = 0 := if_neg h
theorem v121_real {m : ℝ} (hm : v70 L (ix4 n w e i) = (m : EReal)) :
    v121 L (ix4 n w e i) = ((-(D.dl n (hd w e) i) / tot (fun j : Fin 256 => V n.val i.val j.val) (D.lg n (hd w e) i) (D.s (hd w e)) m : ℝ) : EReal) := by
  have hT := tot_pos (fun j : Fin 256 => V n.val i.val j.val) (D.lg n (hd w e) i) (D.s (hd w e)) m
  rw [v121_apply, v98_real H n w e i hm, ← EReal.coe_mul, Ideal.div_coe (mul_pos hT hT).ne', ← EReal.coe_one]
  simp only [v110_real H, v92_real H n w e i hm, ← EReal.coe_mul, ← coe_sum, ← EReal.coe_neg]
  refine congrArg (fun x : ℝ => (x : EReal)) ((congrArg (fun x : ℝ => -x) ?_).trans (neg_div _ _).symm)
  unfold Arrays.dl
  rw [Finset.sum_div]
  refine Finset.sum_congr rfl fun j _ => ?_
  by_cases h : V n.val i.val j.val
  · rw [dp_eq n w e i j h, ← ratio H n w e i (m := m) j]
    field_simp
  · rw [pr_zero n w e i j h, if_neg h]; simp
theorem v122_real : v122 L (ix4 n w e i) = ((-(Real.exp (D.s (hd w e) - D.l (row n i) (hd w e)) * D.dl n (hd w e) i) : ℝ) : EReal) := by
  obtain ⟨m, hm⟩ := v70_real H n w e i
  rw [v122_apply, v121_real H n w e i hm, v96_real H n w e i hm, ← EReal.coe_mul, ← ratio_s H n w e i (m := m)]
  refine congrArg (fun x : ℝ => (x : EReal)) ?_
  ring
omit H in
theorem ds_eq (j : Fin 256) : D.ds n (hd w e) i j = D.pr n (hd w e) i j * (D.dp n (hd w e) i j - D.dl n (hd w e) i) := rfl
theorem v128_real (j : Fin 256) : v128 L (ix5 n w e i j) = (D.ds n (hd w e) i j : EReal) := by
  obtain ⟨m, hm⟩ := v70_real H n w e i
  have hT := tot_pos (fun j : Fin 256 => V n.val i.val j.val) (D.lg n (hd w e) i) (D.s (hd w e)) m
  rw [v128_apply, v110_real H, v98_real H n w e i hm, Ideal.div_coe hT.ne', v121_real H n w e i hm, v92_real H n w e i hm, ← EReal.coe_mul,
    ← EReal.coe_add, ← EReal.coe_mul]
  refine congrArg (fun x : ℝ => (x : EReal)) ?_
  by_cases h : V n.val i.val j.val
  · rw [dp_eq n w e i j h, ds_eq, ← ratio H n w e i (m := m) j]
    ring
  · rw [ds_eq, pr_zero n w e i j h, if_neg h]; ring
theorem v133_real : v133 L (ix4 n w e i) = 0 := by
  rw [v133_apply, v122_real H]
  simp only [v128_real H, ← EReal.coe_neg, ← coe_sum, ← EReal.coe_add]
  rw [← EReal.coe_zero]
  congr 1
  have h1 : ∑ j, -D.ds n (hd w e) i j = -D.dl n (hd w e) i + (∑ j, D.pr n (hd w e) i j) * D.dl n (hd w e) i := by
    simp only [ds_eq]
    rw [Finset.sum_mul, Arrays.dl, ← Finset.sum_neg_distrib, ← Finset.sum_add_distrib]
    exact Finset.sum_congr rfl fun j _ => by ring
  have h2 := pr_one H n w e i
  rw [h1]
  linear_combination D.dl n (hd w e) i * h2
theorem v67_sum : ∃ c : ℝ, c ≠ 0 ∧ ∑ j : Fin 256, v67 L (ix5 n w e i j) = (c : EReal) := by
  obtain ⟨M, hM, j0, h0, hj0⟩ := v63_real H n w e i
  have key : ∀ j, v67 L (ix5 n w e i j) = ((if (v60_0 L (ix5 n w e i j) : EReal) = v63 L (ix4 n w e i) then (1 : ℝ) else 0 : ℝ) : EReal) := by
    intro j
    rw [v67_apply]
    split
    · exact EReal.coe_one.symm
    · exact EReal.coe_zero.symm
  refine ⟨_, ?_, (Finset.sum_congr rfl fun j _ => key j).trans (coe_sum _ _).symm⟩
  refine (Finset.sum_pos' (fun j _ => by split <;> norm_num) ⟨j0, Finset.mem_univ _, ?_⟩).ne'
  rw [if_pos]
  · norm_num
  · rw [v60_0_real H, if_pos h0, hM, hj0]
theorem v145_real (j : Fin 256) : v145 L (ix5 n w e i j) = (D.ds n (hd w e) i j : EReal) := by
  rw [v145_apply L n w e i j (v133_real H n w e i)]
  obtain ⟨c, hc, hs⟩ := v67_sum H n w e i
  by_cases h : V n.val i.val j.val
  · rw [if_pos h, hs, Ideal.div_coe hc, zero_mul, zero_mul, add_zero, v128_real H]
  · rw [if_neg h, ds_eq, pr_zero n w e i j h, zero_mul]; rfl
end

theorem v152_real (n : Fin 32) (w : Fin 4) (e : Fin 8) (i : Fin 128) (j : Fin 256) :
    v152 L (ix5 n w j i e) = ((D.ds n (hd w e) i j * (1 / 8) : ℝ) : EReal) := by
  rw [v152_apply, v145_real H, ← EReal.coe_mul]
theorem v156_real (n : Fin 32) (j : Fin 256) (w : Fin 4) (d : Fin 64) : v156 L (ix4 n j w d) = (D.dk n j w d : EReal) := by
  rw [v156_apply]
  simp only [v152_real H, v4_real H, ← EReal.coe_mul, ← coe_sum]
  congr 1
  rw [Finset.sum_comm]
  unfold Arrays.dk K.dk
  rw [Finset.sum_mul]
  refine Finset.sum_congr rfl fun e _ => ?_
  rw [Finset.sum_mul]
  refine Finset.sum_congr rfl fun i _ => ?_
  show D.ds n (hd w e) i j * (1 / 8) * _ = D.ds n (hd w e) i j * D.q (row n i) _ * (1 / 8)
  ring
theorem v112_real (n : Fin 32) (j : Fin 256) (w : Fin 4) (d : Fin 64) : v112 L (ix4 n j w d) = (D.dv n j w d : EReal) := by
  rw [v112_apply]
  simp only [v109_real H, v100_real H, ← EReal.coe_mul, ← coe_sum]
  congr 1
  unfold Arrays.dv K.dv
  refine Finset.sum_congr rfl fun e _ => Finset.sum_congr rfl fun i _ => ?_
  show _ = D.pr n (hd w e) i j * D.g (row n i) _
  ring
theorem v169_real (b : Fin 33) (r : Fin 128) (w : Fin 4) (d : Fin 64) :
    v169 L (ix4 b r w d) = (K.halves (fun n j => D.dk n j w d) 31 b r : EReal) := by
  rw [v169_apply]
  unfold K.halves
  rw [add_comm, EReal.coe_add]
  congr 1
  · by_cases h : b.val < 32
    · rw [dif_pos h, dif_pos ⟨h, by omega⟩, v156_real H]
    · rw [dif_neg h, dif_neg (by omega)]; rfl
  · by_cases h : 0 < b.val
    · rw [dif_pos h, dif_pos ⟨h, by omega⟩, v156_real H]
    · rw [dif_neg h, dif_neg (by omega)]; rfl
theorem v161_real (b : Fin 33) (r : Fin 128) (w : Fin 4) (d : Fin 64) :
    v161 L (ix4 b r w d) = (K.halves (fun n j => D.dv n j w d) 31 b r : EReal) := by
  rw [v161_apply]
  unfold K.halves
  rw [add_comm, EReal.coe_add]
  congr 1
  · by_cases h : b.val < 32
    · rw [dif_pos h, dif_pos ⟨h, by omega⟩, v112_real H]
    · rw [dif_neg h, dif_neg (by omega)]; rfl
  · by_cases h : 0 < b.val
    · rw [dif_pos h, dif_pos ⟨h, by omega⟩, v112_real H]
    · rw [dif_neg h, dif_neg (by omega)]; rfl
end Cert.Proof.R
end
-- ==== Proof.LseDef.lean ====
module
public import proofs.«01_k».proof.Proof.KFinal
public import proofs.«01_k».proof.Proof.RReal
public import Idealize.ShloMosaic.Lib.Pointwise
public import Idealize.ShloMosaic.Lib.WordArith
@[expose] public section
set_option maxRecDepth 16384
noncomputable section
namespace Cert.Proof.K
open Cert.KernelIdeal Cert.KernelIdeal.Gen Cert.KernelIdeal.Value Idealize.ShloMosaic Idealize.ShloMosaic.TcCoe Idealize.SL.Sem

/-! The logarithm of each row's added weights that the host hands to the kernel. -/

variable (a0 : Vec Ideal S4096x10752 .bf16) (a2 : Vec Ideal S32x128x256 .f32) (a3 : Vec Ideal S32 .f32)

def h2 : FVec Ideal S32x128x4x8x64 .f32 :=
  shapeCast _ (extractStridedSlice S4096x2048 ![0, 4096] (extf .f32 a0 bitsLt_bf16_f32) slices_S4096x10752_S4096x2048_0_4096)
    shapeCasts_S4096x2048_S32x128x4x8x64
def h5 : FVec Ideal S33x128x4x64 .f32 :=
  shapeCast _ (pad S4224x256 ![128, 0] ![0, 0] ![0, 0]
    (extractStridedSlice S4096x256 ![0, 6144] (extf .f32 a0 bitsLt_bf16_f32) slices_S4096x10752_S4096x256_0_6144)
    (sitofp .f32 (constantI S_ 32 0#32)) pads_S4096x256_S4224x256_12800_000 h_S_) shapeCasts_S4224x256_S33x128x4x64
def h8 : FVec Ideal S32x256x4x64 .f32 :=
  concatenate S32x256x4x64 1 [⟨S32x128x4x64, extractStridedSlice S32x128x4x64 ![0, 0, 0, 0] (h5 a0) slices_S33x128x4x64_S32x128x4x64_0_0_0_0⟩,
    ⟨S32x128x4x64, extractStridedSlice S32x128x4x64 ![1, 0, 0, 0] (h5 a0) slices_S33x128x4x64_S32x128x4x64_1_0_0_0⟩]
    concatenates_S32x128x4x64_S32x128x4x64_S32x256x4x64_d1
def h16 : IVec S1x256 32 := broadcastInDim S1x256 ![1] bcast_S256_S1x256_1 (iotaInDim S256 32 0)
def h21 : IVec S128x256 32 :=
  subi (broadcastInDim S128x256 ![0, 1] bcast_S128x1_S128x256_0_1 (addi (broadcastInDim S128x1 ![0] bcast_S128_S128x1_0 (iotaInDim S128 32 0))
      (broadcastInDim S128x1 ![] bcast_S_S128x1 (constantI S_ 32 128#32))))
    (broadcastInDim S128x256 ![0, 1] bcast_S1x256_S128x256_0_1 h16)
def h44 : IVec S32x128x256 1 :=
  andi (andi
    (broadcastInDim S32x128x256 ![0, 1, 2] bcast_S32x1x256_S32x128x256_0_1_2 (cmpi .sge
      (addi (broadcastInDim S32x1x256 ![0, 1, 2] bcast_S32x1x1_S32x1x256_0_1_2
          (subi (muli (broadcastInDim S32x1x1 ![0] bcast_S32_S32x1x1_0 (iotaInDim S32 32 0)) (broadcastInDim S32x1x1 ![] bcast_S_S32x1x1 (constantI S_ 32 128#32)))
            (broadcastInDim S32x1x1 ![] bcast_S_S32x1x1 (constantI S_ 32 128#32))))
        (broadcastInDim S32x1x256 ![0, 1, 2] bcast_S1x1x256_S32x1x256_0_1_2 (broadcastInDim S1x1x256 ![1, 2] bcast_S1x256_S1x1x256_1_2 h16)))
      (broadcastInDim S32x1x256 ![] bcast_S_S32x1x256 (constantI S_ 32 0#32))))
    (broadcastInDim S32x128x256 ![0, 1, 2] bcast_S1x128x256_S32x128x256_0_1_2 (cmpi .sge
      (broadcastInDim S1x128x256 ![1, 2] bcast_S128x256_S1x128x256_1_2 h21) (broadcastInDim S1x128x256 ![] bcast_S_S1x128x256 (constantI S_ 32 0#32)))))
    (broadcastInDim S32x128x256 ![0, 1, 2] bcast_S1x128x256_S32x128x256_0_1_2 (cmpi .slt
      (broadcastInDim S1x128x256 ![1, 2] bcast_S128x256_S1x128x256_1_2 h21) (broadcastInDim S1x128x256 ![] bcast_S_S1x128x256 (constantI S_ 32 128#32))))
def h46 : IVec S32x4x8x128x256 1 :=
  broadcastInDim S32x4x8x128x256 ![0, 1, 2, 3, 4] bcast_S32x1x1x128x256_S32x4x8x128x256_0_1_2_3_4
    (broadcastInDim S32x1x1x128x256 ![0, 3, 4] bcast_S32x128x256_S32x1x1x128x256_0_3_4 h44)
def h49 : FVec Ideal S32x4x8x128x256 .f32 :=
  addf (mulf (transpose S32x4x8x128x256 [0, 1, 4, 3, 2]
      (Host.dotGeneral dot_S32x256x4x64_S32x128x4x8x64_S32x4x256x128x8_3_4_1_13_02_02 none (h8 a0) (h2 a0))
      transposes_S32x4x256x128x8_S32x4x8x128x256_0_1_4_3_2)
    (broadcastInDim S32x4x8x128x256 ![] bcast_S_S32x4x8x128x256 (constant S_ .f32 0x3E000000#32)))
    (broadcastInDim S32x4x8x128x256 ![0, 1, 2, 3, 4] bcast_S1x4x8x128x256_S32x4x8x128x256_0_1_2_3_4
      (broadcastInDim S1x4x8x128x256 ![1, 2, 3, 4] bcast_S4x8x128x256_S1x4x8x128x256_1_2_3_4 (shapeCast _ a2 shapeCasts_S32x128x256_S4x8x128x256)))
def h50 : FVec Ideal S32x4x8x128x256 .f32 :=
  select h46 (h49 a0 a2) (broadcastInDim S32x4x8x128x256 ![] bcast_S_S32x4x8x128x256 (id (constant S_ .f32 0xFF800000#32)))
def h52 : FVec Ideal S1x4x8x1 .f32 := broadcastInDim S1x4x8x1 ![1, 2] bcast_S4x8_S1x4x8x1_1_2 (shapeCast _ a3 shapeCasts_S32_S4x8)
def h53 : FVec Ideal S32x4x8x128 .f32 :=
  Host.reduce FloatOps.maximumf (h50 a0 a2) (constant S_ .f32 0xFF800000#32) reducesTo_S32x4x8x128x256_S32x4x8x128_d4 h_S_
def h55 : FVec Ideal S32x4x8x128 .f32 :=
  maximumf (h53 a0 a2) (broadcastInDim S32x4x8x128 ![0, 1, 2, 3] bcast_S1x4x8x1_S32x4x8x128_0_1_2_3 (h52 a3))
def h59 : FVec Ideal S32x4x8x128x256 .f32 :=
  Host.exp (subf (h50 a0 a2) (broadcastInDim S32x4x8x128x256 ![0, 1, 2, 3, 4] bcast_S32x4x8x128x1_S32x4x8x128x256_0_1_2_3_4
    (broadcastInDim S32x4x8x128x1 ![0, 1, 2, 3] bcast_S32x4x8x128_S32x4x8x128x1_0_1_2_3 (h55 a0 a2 a3))))
def h63 : FVec Ideal S32x4x8x128 .f32 :=
  Host.exp (subf (broadcastInDim S32x4x8x128 ![0, 1, 2, 3] bcast_S1x4x8x1_S32x4x8x128_0_1_2_3 (h52 a3)) (h55 a0 a2 a3))
def h64 : FVec Ideal S32x4x8x128 .f32 :=
  addf (Host.reduceAdd (h59 a0 a2 a3) (constant S_ .f32 0x00000000#32) reducesTo_S32x4x8x128x256_S32x4x8x128_d4 h_S_) (h63 a0 a2 a3)
def h66 : FVec Ideal S32x4x8x128 .f32 := addf (h55 a0 a2 a3) (Host.log (h64 a0 a2 a3))
def h69 : FVec Ideal S4096x128 .f32 :=
  pad S4096x128 ![0, 0] ![0, 96] ![0, 0]
    (shapeCast S4096x32 (transpose S32x128x4x8 [0, 3, 1, 2] (h66 a0 a2 a3) transposes_S32x4x8x128_S32x128x4x8_0_3_1_2) shapeCasts_S32x128x4x8_S4096x32)
    (sitofp .f32 (constantI S_ 32 0#32)) pads_S4096x32_S4096x128_000_0960 h_S_

end Cert.Proof.K
end
-- ==== Proof.LseVal.lean ====
module
public import proofs.«01_k».proof.Proof.LseDef
@[expose] public section
set_option maxRecDepth 16384
noncomputable section
namespace Cert.Proof.K
open Cert.KernelIdeal Cert.KernelIdeal.Gen Cert.KernelIdeal.Value Idealize.ShloMosaic Idealize.ShloMosaic.TcCoe Idealize.SL.Sem

/-! The host's values read at an index, over the extended reals. -/

variable (a0 : Vec Ideal S4096x10752 .bf16) (a2 : Vec Ideal S32x128x256 .f32) (a3 : Vec Ideal S32 .f32)
theorem h2_apply (n : Fin 32) (i : Fin 128) (w : Fin 4) (e : Fin 8) (d : Fin 64) :
    h2 a0 (ix5 n i w e d) = a0 (ix2 (row n i) ⟨4096 + (qcol (hd w e) d).val, by simp; omega⟩) := by
  pointwise [h2]
  exact at2 a0 (by simp; try omega) (by simp; try omega)
theorem h8_lo (n : Fin 32) (j : Fin 128) (w : Fin 4) (d : Fin 64) : h8 a0 (ix4 n ⟨j.val, by omega⟩ w d) = h5 a0 (ix4 ⟨n.val, by omega⟩ j w d) := by
  pointwise [h8]
theorem h8_hi (n : Fin 32) (j : Fin 128) (w : Fin 4) (d : Fin 64) : h8 a0 (ix4 n ⟨128 + j.val, by omega⟩ w d) = h5 a0 (ix4 n.succ j w d) := by
  pointwise [h8]
  exact at4 (h5 a0) (by simp; omega) rfl rfl rfl
theorem pad_word : (FloatOps.sitofp (F := Ideal) .f32 0#32 : EReal) = 0 := by
  show ((((0#32 : BitVec 32).toInt : ℤ) : ℝ) : EReal) = 0
  simp
theorem h5_zero (i : Fin 128) (w : Fin 4) (d : Fin 64) : h5 a0 (ix4 0 i w d) = (0 : EReal) := by
  pointwise [h5]
  exact (dif_neg (fun h => h.1.1)).trans pad_word
theorem h5_apply (n : Fin 32) (i : Fin 128) (w : Fin 4) (d : Fin 64) :
    h5 a0 (ix4 n.succ i w d) = a0 (ix2 (row n i) ⟨6144 + (kcol w d).val, by simp; omega⟩) := by
  pointwise [h5]
  exact (dif_pos ⟨⟨by simp; omega, by simp; omega⟩, by omega⟩).trans (at2 a0 (by simp; try omega) (by simp; try omega))
theorem h46_apply (n : Fin 32) (w : Fin 4) (e : Fin 8) (i : Fin 128) (j : Fin 256) :
    h46 (ix5 n w e i j) = BitVec.ofBool (decide (V n.val i.val j.val)) := by
  pointwise [h46, h44, h21, h16]
  exact mask_word n i j
theorem h49_apply (n : Fin 32) (w : Fin 4) (e : Fin 8) (i : Fin 128) (j : Fin 256) :
    h49 a0 a2 (ix5 n w e i j) = (∑ d : Fin 64, h8 a0 (ix4 n j w d) * h2 a0 (ix5 n i w e d)) * ((1 / 8 : ℝ) : EReal) + a2 (ix3 (hd w e) i j) := by
  pointwise [h49]
  rw [ofBits_eighth]
  exact congrArg (_ + ·) (at3 a2 (by simp; try omega) rfl rfl)
theorem h52_apply (w : Fin 4) (e : Fin 8) (u x : Fin 1) : h52 a3 (ix4 u w e x) = a3 (ix1 (hd w e)) := by
  pointwise [h52]
  exact at1 a3 (by simp; try omega)
theorem h50_apply (n : Fin 32) (w : Fin 4) (e : Fin 8) (i : Fin 128) (j : Fin 256) :
    h50 a0 a2 (ix5 n w e i j) = if V n.val i.val j.val then h49 a0 a2 (ix5 n w e i j) else ⊥ := by
  pointwise [h50]
  rw [h46_apply, select_ofBool]
  by_cases h : V n.val i.val j.val
  · rw [if_pos h, if_pos h]
  · rw [if_neg h, if_neg h]
    exact ofBits_bot
theorem h53_apply (n : Fin 32) (w : Fin 4) (e : Fin 8) (i : Fin 128) :
    h53 a0 a2 (ix4 n w e i) = Finset.univ.fold max (⊥ : EReal) (fun j : Fin 256 => h50 a0 a2 (ix5 n w e i j)) := by
  pointwise [h53]
  rw [ofBits_bot]
theorem hlarger (x : FVec Ideal S32x4x8x128 .f32) (y : FVec Ideal S1x4x8x1 .f32) (n : Fin 32) (w : Fin 4) (e : Fin 8) (i : Fin 128) :
    maximumf x (broadcastInDim S32x4x8x128 ![0, 1, 2, 3] bcast_S1x4x8x1_S32x4x8x128_0_1_2_3 y) (ix4 n w e i) = max (x (ix4 n w e i)) (y (ix4 0 w e 0)) := by
  pointwise []
theorem h55_apply (n : Fin 32) (w : Fin 4) (e : Fin 8) (i : Fin 128) :
    h55 a0 a2 a3 (ix4 n w e i) = max (h53 a0 a2 (ix4 n w e i)) (h52 a3 (ix4 0 w e 0)) := hlarger (h53 a0 a2) (h52 a3) n w e i
theorem hshift (x : FVec Ideal S32x4x8x128x256 .f32) (y : FVec Ideal S32x4x8x128 .f32) (n : Fin 32) (w : Fin 4) (e : Fin 8) (i : Fin 128) (j : Fin 256) :
    Host.exp (subf x (broadcastInDim S32x4x8x128x256 ![0, 1, 2, 3, 4] bcast_S32x4x8x128x1_S32x4x8x128x256_0_1_2_3_4
    (broadcastInDim S32x4x8x128x1 ![0, 1, 2, 3] bcast_S32x4x8x128_S32x4x8x128x1_0_1_2_3 y))) (ix5 n w e i j)
      = Ideal.exp (x (ix5 n w e i j) - y (ix4 n w e i)) := by
  pointwise []
theorem hshift_s (x : FVec Ideal S1x4x8x1 .f32) (y : FVec Ideal S32x4x8x128 .f32) (n : Fin 32) (w : Fin 4) (e : Fin 8) (i : Fin 128) :
    Host.exp (subf (broadcastInDim S32x4x8x128 ![0, 1, 2, 3] bcast_S1x4x8x1_S32x4x8x128_0_1_2_3 x) y) (ix4 n w e i)
      = Ideal.exp (x (ix4 0 w e 0) - y (ix4 n w e i)) := by
  pointwise []
theorem hadded (x : FVec Ideal S32x4x8x128x256 .f32) (y : FVec Ideal S32x4x8x128 .f32) (n : Fin 32) (w : Fin 4) (e : Fin 8) (i : Fin 128) :
    addf (Host.reduceAdd x (constant S_ .f32 0x00000000#32) reducesTo_S32x4x8x128x256_S32x4x8x128_d4 h_S_) y (ix4 n w e i)
      = (∑ j : Fin 256, x (ix5 n w e i j)) + y (ix4 n w e i) := by
  pointwise []
theorem hlogged (x y : FVec Ideal S32x4x8x128 .f32) (n : Fin 32) (w : Fin 4) (e : Fin 8) (i : Fin 128) :
    addf x (Host.log y) (ix4 n w e i) = x (ix4 n w e i) + Ideal.log (y (ix4 n w e i)) := by
  pointwise []
theorem h59_apply (n : Fin 32) (w : Fin 4) (e : Fin 8) (i : Fin 128) (j : Fin 256) :
    h59 a0 a2 a3 (ix5 n w e i j) = Ideal.exp (h50 a0 a2 (ix5 n w e i j) - h55 a0 a2 a3 (ix4 n w e i)) :=
  hshift (h50 a0 a2) (h55 a0 a2 a3) n w e i j
theorem h63_apply (n : Fin 32) (w : Fin 4) (e : Fin 8) (i : Fin 128) :
    h63 a0 a2 a3 (ix4 n w e i) = Ideal.exp (h52 a3 (ix4 0 w e 0) - h55 a0 a2 a3 (ix4 n w e i)) :=
  hshift_s (h52 a3) (h55 a0 a2 a3) n w e i
theorem h64_apply (n : Fin 32) (w : Fin 4) (e : Fin 8) (i : Fin 128) :
    h64 a0 a2 a3 (ix4 n w e i) = (∑ j : Fin 256, h59 a0 a2 a3 (ix5 n w e i j)) + h63 a0 a2 a3 (ix4 n w e i) :=
  hadded (h59 a0 a2 a3) (h63 a0 a2 a3) n w e i
theorem h66_apply (n : Fin 32) (w : Fin 4) (e : Fin 8) (i : Fin 128) :
    h66 a0 a2 a3 (ix4 n w e i) = h55 a0 a2 a3 (ix4 n w e i) + Ideal.log (h64 a0 a2 a3 (ix4 n w e i)) :=
  hlogged (h55 a0 a2 a3) (h64 a0 a2 a3) n w e i
theorem hout (x : FVec Ideal S32x4x8x128 .f32) (n : Fin 32) (w : Fin 4) (e : Fin 8) (i : Fin 128) :
    pad S4096x128 ![0, 0] ![0, 96] ![0, 0]
      (shapeCast S4096x32 (transpose S32x128x4x8 [0, 3, 1, 2] x transposes_S32x4x8x128_S32x128x4x8_0_3_1_2) shapeCasts_S32x128x4x8_S4096x32)
      (sitofp .f32 (constantI S_ 32 0#32)) pads_S4096x32_S4096x128_000_0960 h_S_ (ix2 (row n i) ⟨(hd w e).val, by omega⟩) = x (ix4 n w e i) := by
  pointwise []
  exact dif_pos ⟨by omega, by omega⟩
theorem h69_apply (n : Fin 32) (w : Fin 4) (e : Fin 8) (i : Fin 128) :
    h69 a0 a2 a3 (ix2 (row n i) ⟨(hd w e).val, by omega⟩) = h66 a0 a2 a3 (ix4 n w e i) := hout (h66 a0 a2 a3) n w e i
end Cert.Proof.K
end
-- ==== Proof.LseReal.lean ====
module
public import proofs.«01_k».proof.Proof.LseVal
public import proofs.«01_k».proof.Proof.RReal
@[expose] public section
set_option maxRecDepth 16384
noncomputable section
namespace Cert.Proof.K
open Cert.KernelIdeal Cert.KernelIdeal.Gen Cert.KernelIdeal.Value Idealize.ShloMosaic Idealize.ShloMosaic.TcCoe Idealize.SL.Sem

/-! The padded logarithms over real arguments. -/

/-- The arrays that the host's logits read hold these real numbers. -/
structure HostHolds (a0 : Vec Ideal S4096x10752 .bf16) (a2 : Vec Ideal S32x128x256 .f32) (a3 : Vec Ideal S32 .f32) (D : Arrays) : Prop where
  q : ∀ r j, a0 (ix2 r ⟨4096 + j.val, by omega⟩) = (D.q r j : EReal)
  k : ∀ r j, a0 (ix2 r ⟨6144 + j.val, by omega⟩) = (D.k r j : EReal)
  b : ∀ h r j, a2 (ix3 h r j) = (D.b h r j : EReal)
  s : ∀ h, a3 (ix1 h) = (D.s h : EReal)

variable {a0 : Vec Ideal S4096x10752 .bf16} {a2 : Vec Ideal S32x128x256 .f32} {a3 : Vec Ideal S32 .f32} {D : Arrays} (H : HostHolds a0 a2 a3 D)
include H

theorem h8_real (n : Fin 32) (j : Fin 256) (w : Fin 4) (d : Fin 64) : h8 a0 (ix4 n j w d) = (zband D.k n j (kcol w d) : EReal) := by
  rcases R.half_cases j with ⟨a, rfl⟩ | ⟨a, rfl⟩
  · rw [h8_lo, R.zlo]
    rcases R.pred_cases n with ⟨h, e⟩ | ⟨h, e⟩
    · rw [e, h5_zero, if_pos h]; rfl
    · rw [e, h5_apply, if_neg h]; exact H.k _ _
  · rw [h8_hi, R.zhi, h5_apply]; exact H.k _ _

theorem h2_real (n : Fin 32) (i : Fin 128) (w : Fin 4) (e : Fin 8) (d : Fin 64) :
    h2 a0 (ix5 n i w e d) = (D.q (row n i) (qcol (hd w e) d) : EReal) := (h2_apply a0 n i w e d).trans (H.q _ _)

section
variable (n : Fin 32) (w : Fin 4) (e : Fin 8) (i : Fin 128)

theorem h50_real (j : Fin 256) : h50 a0 a2 (ix5 n w e i j) = if V n.val i.val j.val then (D.lg n (hd w e) i j : EReal) else ⊥ := by
  rw [h50_apply]
  by_cases h : V n.val i.val j.val
  · rw [if_pos h, if_pos h, h49_apply, H.b]
    simp only [h8_real H, h2_real H, ← EReal.coe_mul, ← coe_sum, ← EReal.coe_add]
    congr 2
    unfold sc
    rw [grp_hd]
    congr 1
    refine Finset.sum_congr rfl fun d _ => ?_
    rw [zband_eq _ _ _ _ _ h, mul_comm]
  · rw [if_neg h, if_neg h]

theorem h55_real : ∃ M : ℝ, h55 a0 a2 a3 (ix4 n w e i) = (M : EReal) := by
  obtain ⟨M, hM, _⟩ := fold_max_real (fun j : Fin 256 => V n.val i.val j.val) (D.lg n (hd w e) i) (V_some n i)
  refine ⟨max M (D.s (hd w e)), ?_⟩
  have h : h53 a0 a2 (ix4 n w e i) = (M : EReal) := by
    rw [h53_apply, ← hM]
    exact congrArg (fun f => Finset.univ.fold max ⊥ f) (funext fun j => h50_real H n w e i j)
  rw [h55_apply, h, h52_apply, H.s]
  exact (EReal.coe_strictMono.monotone.map_max).symm

theorem h69_real : h69 a0 a2 a3 (ix2 (row n i) ⟨(hd w e).val, by omega⟩) = (D.lse n (hd w e) i : EReal) := by
  obtain ⟨M, hM⟩ := h55_real H n w e i
  have h59 : ∀ j, h59 a0 a2 a3 (ix5 n w e i j) = ((if V n.val i.val j.val then Real.exp (D.lg n (hd w e) i j - M) else 0 : ℝ) : EReal) := by
    intro j
    rw [h59_apply, h50_real H, hM]
    by_cases h : V n.val i.val j.val
    · rw [if_pos h, if_pos h, ← EReal.coe_sub, Ideal.exp_coe]
    · rw [if_neg h, if_neg h, EReal.bot_sub, Ideal.exp_bot]; rfl
  have h63 : h63 a0 a2 a3 (ix4 n w e i) = (Real.exp (D.s (hd w e) - M) : EReal) := by
    rw [h63_apply, h52_apply, H.s, hM, ← EReal.coe_sub, Ideal.exp_coe]
  have h64 : h64 a0 a2 a3 (ix4 n w e i) = (tot (fun j : Fin 256 => V n.val i.val j.val) (D.lg n (hd w e) i) (D.s (hd w e)) M : EReal) := by
    rw [h64_apply, h63]
    simp only [h59]
    rw [← coe_sum, ← EReal.coe_add]
    rfl
  rw [h69_apply, h66_apply, h64, hM, Ideal.log_coe, if_neg (tot_pos _ _ _ _).not_ge, ← EReal.coe_add]
  refine congrArg (fun x : ℝ => (x : EReal)) ?_
  exact log_tot _ _ _ _
end
end Cert.Proof.K
end
-- ==== Proof.LseRun.lean ====
module
public import proofs.«01_k».proof.Proof.LseDef
public import Idealize.ShloMosaic.Lib.StableHlo.ReadAt
@[expose] public section
set_option maxRecDepth 16384
noncomputable section
namespace Cert.Proof.K
open Cert.KernelIdeal Cert.KernelIdeal.Gen Cert.KernelIdeal.Value Idealize.ShloMosaic Idealize.ShloMosaic.TcCoe Idealize.SL.Sem

/-! What the host has written of the padded logarithms when the kernel starts. -/

variable (m : (ℓ : Loc nD τ sig) → Buf (Elt Ideal) ℓ) (c : Dev nD)
theorem up6 : StableHlo.upto (List.flatten [hostOps0, hostOps0_1, hostOps0_2, hostOps0_3, hostOps0_4, hostOps0_5, hostOps0_6])
    (fun b => m (c, b)) 10 (Proc.devRef .tc main_v6)
    = extractStridedSlice S32x128x4x64 ![0, 0, 0, 0] (h5 (m ((c : Thread nD τ).loc main_arg0))) slices_S33x128x4x64_S32x128x4x64_0_0_0_0 := by
  after_reads_simp
  simp -implicitDefEqProofs only [StableHlo.TRef.toBuf, StableHlo.TRef.ofBuf, cast_eq]
  rfl
theorem up7 : StableHlo.upto (List.flatten [hostOps0, hostOps0_1, hostOps0_2, hostOps0_3, hostOps0_4, hostOps0_5, hostOps0_6])
    (fun b => m (c, b)) 10 (Proc.devRef .tc main_v7)
    = extractStridedSlice S32x128x4x64 ![1, 0, 0, 0] (h5 (m ((c : Thread nD τ).loc main_arg0))) slices_S33x128x4x64_S32x128x4x64_1_0_0_0 := by
  after_reads_simp
  simp -implicitDefEqProofs only [StableHlo.TRef.toBuf, StableHlo.TRef.ofBuf, cast_eq]
  rfl
theorem v69_eq : Cert.KernelIdeal.Gen.V m c main_v69
    = h69 (m ((c : Thread nD τ).loc main_arg0)) (m ((c : Thread nD τ).loc main_arg2)) (m ((c : Thread nD τ).loc main_arg3)) := by
  unfold Cert.KernelIdeal.Gen.V
  after_reads_simp
  simp -implicitDefEqProofs only [StableHlo.TRef.toBuf, StableHlo.TRef.ofBuf, cast_eq]
  rw [up6, up7]
  rfl
end Cert.Proof.K
end
-- ==== Proof.Pre.lean ====
module
public import proofs.«01_k».proof.Defs
public import proofs.«01_k».proof.Proof.Gen.Pre_finite
public import proofs.«01_k».proof.Proof.LseReal
public import proofs.«01_k».proof.Proof.LseRun
public import Idealize.ShloMosaic.Lib.ReduceAll
@[expose] public section
set_option maxRecDepth 16384
noncomputable section
namespace Cert.Proof.K
open Cert.KernelIdeal Cert.KernelIdeal.Gen Cert.KernelIdeal.Value Idealize.ShloMosaic Idealize.ShloMosaic.TcCoe Idealize.SL.Sem

/-! What the precondition says: every entry that the kernel reads is a real number. -/

theorem real_of_lt (x : EReal) (h : FloatOps.cmpf (F := Ideal) .olt (FloatOps.hostAbsf (F := Ideal) (φ := .f32) x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  have h' : max x (-x) < Ideal.ofBits .f32 0x7F800000#32 := (Ideal.cmp_olt_eq_one _ _).1 h
  rw [htop, max_lt_iff] at h'
  induction x using EReal.rec with
  | bot => simp at h'
  | top => simp at h'
  | coe r => exact ⟨r, rfl⟩

theorem and_words {x y : BitVec 1} (h : IntOp.andi x y = 1#1) : x = 1#1 ∧ y = 1#1 := by revert x y; decide

instance : Subsingleton (Shape.Idx Cert.Pre_finite.S_) := ⟨fun a b => funext fun i => i.elim0⟩

section
variable (a0 : FVec Ideal Cert.Pre_finite.S4096x10752 .bf16) (a1 : FVec Ideal Cert.Pre_finite.S4096x2048 .bf16)
  (a2 : FVec Ideal Cert.Pre_finite.S32x128x256 .f32) (a3 : FVec Ideal Cert.Pre_finite.S32 .f32) (a4 : FVec Ideal Cert.Pre_finite.S4096x10752 .bf16)
  (h : Cert.Pre_finite.fn (F := Ideal) a0 a1 a2 a3 a4 = fun _ => 1#1)
include h

theorem pre_all : (∀ r j, ∃ y : ℝ, a0 (ix2 r ⟨4096 + (j : Fin 2560).val, by omega⟩) = (y : EReal)) ∧ (∀ r j, ∃ y : ℝ, a1 (ix2 r j) = (y : EReal))
    ∧ (∀ e r j, ∃ y : ℝ, a2 (ix3 e r j) = (y : EReal)) ∧ ∀ e, ∃ y : ℝ, a3 (ix1 e) = (y : EReal) := by
  have h0 := congrFun h (fun i => i.elim0)
  obtain ⟨h1, h4⟩ := and_words h0
  obtain ⟨h1, h3⟩ := and_words h1
  obtain ⟨h1, h2⟩ := and_words h1
  refine ⟨fun r j => real_of_lt _ ?_, fun r j => real_of_lt _ ?_, fun e r j => real_of_lt _ ?_, fun e => real_of_lt _ ?_⟩
  · have e : extractStridedSlice Cert.Pre_finite.S4096x2560 ![0, 4096] a0 Cert.Pre_finite.Facts.slices_S4096x10752_S4096x2560_0_4096 (ix2 r j)
        = a0 (ix2 r ⟨4096 + j.val, by omega⟩) := by pointwise []
    rw [← e]
    exact Host.reduce_andi_all _ _ _ _ _ h1 (ix2 r j)
  · exact Host.reduce_andi_all _ _ _ _ _ h2 (ix2 r j)
  · exact Host.reduce_andi_all _ _ _ _ _ h3 (ix3 e r j)
  · exact Host.reduce_andi_all _ _ _ _ _ h4 (ix1 e)
end

/-- The real numbers that a device's arrays hold. -/
def dataOf (a0 : Vec Ideal S4096x10752 .bf16) (a1 : Vec Ideal S4096x2048 .bf16) (a2 : Vec Ideal S32x128x256 .f32) (a3 : Vec Ideal S32 .f32) : Arrays where
  q r j := (a0 (ix2 r ⟨4096 + j.val, by omega⟩) : EReal).toReal
  k r j := (a0 (ix2 r ⟨6144 + j.val, by omega⟩) : EReal).toReal
  v r j := (a0 (ix2 r ⟨6400 + j.val, by omega⟩) : EReal).toReal
  g r j := (a1 (ix2 r j) : EReal).toReal
  b h r j := (a2 (ix3 h r j) : EReal).toReal
  s h := (a3 (ix1 h) : EReal).toReal
  l _ _ := 0
/-- The same with each row's logarithm. -/
def Arrays.fill (D : Arrays) : Arrays := { D with l := fun r h => D.lse ⟨r.val / 128, by omega⟩ h ⟨r.val % 128, by omega⟩ }

theorem fill_l (D : Arrays) (n : Fin 32) (i : Fin 128) (h : Fin 32) : D.fill.l (row n i) h = D.fill.lse n h i := by
  show D.lse ⟨(128 * n.val + i.val) / 128, _⟩ h ⟨(128 * n.val + i.val) % 128, _⟩ = D.lse n h i
  congr 1
  · exact Fin.ext (by simp; try omega)
  · exact Fin.ext (by simp; try omega)

theorem toReal_of {x : EReal} (h : ∃ y : ℝ, x = (y : EReal)) : x = (x.toReal : EReal) := by
  obtain ⟨y, rfl⟩ := h
  rfl

section
variable (m : (ℓ : Loc nD τ sig) → Buf (Elt Ideal) ℓ) (c : Dev nD)
/-- The real numbers of device `c`. -/
def data : Arrays := (dataOf (m ((c : Thread nD τ).loc main_arg0)) (m ((c : Thread nD τ).loc main_arg1)) (m ((c : Thread nD τ).loc main_arg2))
  (m ((c : Thread nD τ).loc main_arg3))).fill

variable (h : Cert.Pre_KernelIdeal_finite m)
include h

theorem holds : Holds m c (data m c) := by
  obtain ⟨h0, h1, h2, h3⟩ := pre_all _ _ _ _ _ (h c)
  have hq : ∀ r (j : Fin 2048), m ((c : Thread nD τ).loc main_arg0) (ix2 r ⟨4096 + j.val, by omega⟩) = ((data m c).q r j : EReal) :=
    fun r j => toReal_of (h0 r ⟨j.val, by omega⟩)
  have hk : ∀ r (j : Fin 256), m ((c : Thread nD τ).loc main_arg0) (ix2 r ⟨6144 + j.val, by omega⟩) = ((data m c).k r j : EReal) := fun r j => by
    refine toReal_of ?_
    obtain ⟨y, hy⟩ := h0 r ⟨2048 + j.val, by omega⟩
    exact ⟨y, (at2 (m ((c : Thread nD τ).loc main_arg0)) rfl (by simp; omega)).trans hy⟩
  have hv : ∀ r (j : Fin 256), m ((c : Thread nD τ).loc main_arg0) (ix2 r ⟨6400 + j.val, by omega⟩) = ((data m c).v r j : EReal) := fun r j => by
    refine toReal_of ?_
    obtain ⟨y, hy⟩ := h0 r ⟨2304 + j.val, by omega⟩
    exact ⟨y, (at2 (m ((c : Thread nD τ).loc main_arg0)) rfl (by simp; omega)).trans hy⟩
  have hb : ∀ e r j, m ((c : Thread nD τ).loc main_arg2) (ix3 e r j) = ((data m c).b e r j : EReal) := fun e r j => toReal_of (h2 e r j)
  have hs : ∀ e, m ((c : Thread nD τ).loc main_arg3) (ix1 e) = ((data m c).s e : EReal) := fun e => toReal_of (h3 e)
  refine ⟨hq, hk, hv, fun r j => toReal_of (h1 r j), hb, hs, fun r e => ?_⟩
  obtain ⟨n, i, rfl⟩ : ∃ n i, r = row n i := ⟨⟨r.val / 128, by omega⟩, ⟨r.val % 128, by omega⟩, Fin.ext (by simp; try omega)⟩
  obtain ⟨w, u, rfl⟩ : ∃ w u, e = hd w u := ⟨⟨e.val / 8, by omega⟩, ⟨e.val % 8, by omega⟩, Fin.ext (by simp; omega)⟩
  rw [v69_eq]
  refine (h69_real ⟨hq, hk, hb, hs⟩ n w u i).trans ?_
  refine congrArg (fun x : ℝ => (x : EReal)) ?_
  exact (fill_l _ n i (hd w u)).symm
end
end Cert.Proof.K
end
-- ==== Proof.RFinal.lean ====
module
public import proofs.«01_k».proof.Proof.RReal
@[expose] public section
set_option maxRecDepth 16384
noncomputable section
namespace Cert.Proof.R
open Cert.ReferenceIdeal Cert.ReferenceIdeal.Gen Cert.ReferenceIdeal.Value Idealize.ShloMosaic Idealize.ShloMosaic.TcCoe Idealize.SL.Sem
open Cert.Proof.K (row prev prow Arrays V hd qcol kcol grp coe_sum)

/-! The reference's five results read at an index. -/

def out0 (z : Vec Ideal S4096x10752 .bf16) (a : FVec Ideal S32x4x256x128x8 .f32) (b : FVec Ideal S32x256x4x64 .f32) : Vec Ideal S4096x10752 .bf16 :=
  concatenate S4096x10752 1 [⟨S4096x4096, ((extractStridedSlice S4096x4096 ![0, 0] z slices_S4096x10752_S4096x4096_0_0) : (⟨S4096x4096, .bf16⟩ : BufTy).Contents (Elt Ideal))⟩, ⟨S4096x2048, ((truncf .bf16 (shapeCast _ (transpose S32x128x4x8x64 [0, 2, 1, 3, 4] (Host.dotGeneral dot_S32x4x256x128x8_S32x256x4x64_S32x4x128x8x64_2_1_34_3_01_02 none a b) transposes_S32x4x128x8x64_S32x128x4x8x64_0_2_1_3_4) shapeCasts_S32x128x4x8x64_S4096x2048) bitsLt_bf16_f32) : (⟨S4096x2048, .bf16⟩ : BufTy).Contents (Elt Ideal))⟩, ⟨S4096x4608, ((extractStridedSlice S4096x4608 ![0, 6144] z slices_S4096x10752_S4096x4608_0_6144) : (⟨S4096x4608, .bf16⟩ : BufTy).Contents (Elt Ideal))⟩] concatenates_S4096x4096_S4096x2048_S4096x4608_S4096x10752_d1
def out1 (x : FVec Ideal S33x128x4x64 .f32) : FVec Ideal S4224x256 .f32 :=
  pad S4224x256 ![128, 0] ![0, 0] ![0, 0] (shapeCast _ (extractStridedSlice S32x128x4x64 ![1, 0, 0, 0] x slices_S33x128x4x64_S32x128x4x64_1_0_0_0) shapeCasts_S32x128x4x64_S4096x256) (sitofp .f32 (constantI S_ 32 0#32)) pads_S4096x256_S4224x256_12800_000 h_S_
def out3 (x : FVec Ideal S32x4x8x128x256 .f32) : FVec Ideal S32x128x256 .f32 :=
  shapeCast _ (Host.reduceAdd (shapeCast _ (Host.reduceAdd x (constant S_ .f32 0x00000000#32) reducesTo_S32x4x8x128x256_S4x8x128x256_d0 h_S_) shapeCasts_S4x8x128x256_S1x4x8x128x256) (constant S_ .f32 0x00000000#32) reducesTo_S1x4x8x128x256_S4x8x128x256_d0 h_S_) shapeCasts_S4x8x128x256_S32x128x256
def out4 (x y z : FVec Ideal S32x4x8x128 .f32) : FVec Ideal S8x128 .f32 :=
  pad S8x128 ![0, 0] ![7, 96] ![0, 0] (broadcastInDim S1x32 ![1] bcast_S32_S1x32_1 (shapeCast _ (Host.reduceAdd (addf (shapeCast _ (Host.reduceAdd x (constant S_ .f32 0x00000000#32) reducesTo_S32x4x8x128_S4x8_d0_3 h_S_) shapeCasts_S4x8_S1x4x8x1) (shapeCast _ (Host.reduceAdd (mulf y z) (constant S_ .f32 0x00000000#32) reducesTo_S32x4x8x128_S4x8_d0_3 h_S_) shapeCasts_S4x8_S1x4x8x1)) (constant S_ .f32 0x00000000#32) reducesTo_S1x4x8x1_S4x8_d0_3 h_S_) shapeCasts_S4x8_S32)) (sitofp .f32 (constantI S_ 32 0#32)) pads_S1x32_S8x128_070_0960 h_S_

/-- A sum over the indices that keep the two middle coordinates. -/
theorem red03 {n0 n1 n2 n3 : ℕ} (h : (⟨4, ![n0, n1, n2, n3]⟩ : Shape).ReducesTo [0, 3] ⟨2, ![n1, n2]⟩)
    (x : (⟨4, ![n0, n1, n2, n3]⟩ : Shape).Idx → EReal) (w : Fin n1) (e : Fin n2) :
    Ideal.hostReduceAdd h x 0 (ix2 w e) = ∑ n, ∑ i, x (ix4 n w e i) := by
  have hf : ∀ i : (⟨4, ![n0, n1, n2, n3]⟩ : Shape).Idx, h.drop i = ix2 w e ↔ ∃ k : Fin n0 × Fin n3, ix4 k.1 w e k.2 = i := by
    intro i
    constructor
    · intro q
      refine ⟨(i 0, i 3), ?_⟩
      funext a; apply Fin.ext
      match a with
      | ⟨0, _⟩ => rfl
      | ⟨1, _⟩ => exact (congrArg Fin.val (congrFun q 0)).symm
      | ⟨2, _⟩ => exact (congrArg Fin.val (congrFun q 1)).symm
      | ⟨3, _⟩ => rfl
    · rintro ⟨k, rfl⟩
      funext b
      apply Fin.ext
      match b with
      | ⟨0, _⟩ => rfl
      | ⟨1, _⟩ => rfl
  refine (zero_add _).trans ?_
  refine (Finset.sum_filter_eq_sum_of_fiber _ (fun k : Fin n0 × Fin n3 => (ix4 k.1 w e k.2 : (⟨4, ![n0, n1, n2, n3]⟩ : Shape).Idx))
    (fun _ _ q => Prod.ext (congrFun q 0) (congrFun q 3)) hf x).trans ?_
  simp only [Fintype.sum_prod_type]

theorem pad_word : (FloatOps.sitofp (F := Ideal) .f32 0#32 : EReal) = 0 := by
  show ((((0#32 : BitVec 32).toInt : ℤ) : ℝ) : EReal) = 0
  simp

theorem out0_mid (z : Vec Ideal S4096x10752 .bf16) (a : FVec Ideal S32x4x256x128x8 .f32) (b : FVec Ideal S32x256x4x64 .f32)
    (n : Fin 32) (i : Fin 128) (w : Fin 4) (e : Fin 8) (d : Fin 64) :
    out0 z a b (ix2 (row n i) ⟨4096 + (64 * (hd w e).val + d.val), by simp; omega⟩) = ∑ j : Fin 256, a (ix5 n w j i e) * b (ix4 n j w d) := by
  pointwise [out0]
  exact dif_pos (by omega)
theorem out0_lo (z : Vec Ideal S4096x10752 .bf16) (a : FVec Ideal S32x4x256x128x8 .f32) (b : FVec Ideal S32x256x4x64 .f32)
    (r : Fin 4096) (j : Fin 4096) : out0 z a b (ix2 r ⟨j.val, by omega⟩) = z (ix2 r ⟨j.val, by omega⟩) := by
  pointwise [out0]
theorem out0_hi (z : Vec Ideal S4096x10752 .bf16) (a : FVec Ideal S32x4x256x128x8 .f32) (b : FVec Ideal S32x256x4x64 .f32)
    (r : Fin 4096) (j : Fin 4608) : out0 z a b (ix2 r ⟨4096 + (2048 + j.val), by omega⟩) = z (ix2 r ⟨6144 + j.val, by omega⟩) := by
  pointwise [out0]
theorem out1_zero (x : FVec Ideal S33x128x4x64 .f32) (r : Fin 128) (w : Fin 4) (d : Fin 64) : out1 x (ix2 (prow 0 r) (kcol w d)) = (0 : EReal) := by
  pointwise [out1]
  exact (dif_neg (fun h => h.1.1)).trans pad_word
theorem out1_succ (x : FVec Ideal S33x128x4x64 .f32) (n : Fin 32) (r : Fin 128) (w : Fin 4) (d : Fin 64) :
    out1 x (ix2 (prow n.succ r) (kcol w d)) = x (ix4 n.succ r w d) := by
  pointwise [out1]
  exact (dif_pos ⟨⟨by simp; omega, by simp; omega⟩, by omega⟩).trans (K.at4 x (by simp; omega) (by simp; omega) rfl rfl)
theorem out3_apply (x : FVec Ideal S32x4x8x128x256 .f32) (w : Fin 4) (e : Fin 8) (i : Fin 128) (j : Fin 256) :
    out3 x (ix3 (hd w e) i j) = ∑ n : Fin 32, x (ix5 n w e i j) := by
  pointwise [out3]
  rw [Fin.sum_univ_one]
  have h1 : (⟨(8 * w.val + e.val) / 8, by omega⟩ : Fin 4) = w := Fin.ext (by simp; try omega)
  have h2 : (⟨(8 * w.val + e.val) % 8, by omega⟩ : Fin 8) = e := Fin.ext (by simp; try omega)
  rw [h1, h2]
theorem sums_apply (x y : FVec Ideal S4x8 .f32) (w : Fin 4) (e : Fin 8) :
    addf (shapeCast S1x4x8x1 x shapeCasts_S4x8_S1x4x8x1) (shapeCast S1x4x8x1 y shapeCasts_S4x8_S1x4x8x1) (ix4 0 w e 0) = x (ix2 w e) + y (ix2 w e) := by
  pointwise []
theorem inner_apply (x : FVec Ideal S32x4x8x128 .f32) (w : Fin 4) (e : Fin 8) :
    Host.reduceAdd x (constant S_ .f32 0x00000000#32) reducesTo_S32x4x8x128_S4x8_d0_3 h_S_ (ix2 w e) = ∑ n, ∑ i, x (ix4 n w e i) := by
  pointwise []
  exact red03 _ x w e
theorem out4_apply (x y z : FVec Ideal S32x4x8x128 .f32) (w : Fin 4) (e : Fin 8) :
    out4 x y z (ix2 0 ⟨(hd w e).val, by omega⟩) = (∑ n, ∑ i, x (ix4 n w e i)) + ∑ n, ∑ i, y (ix4 n w e i) * z (ix4 n w e i) := by
  pointwise [out4]
  refine (dif_pos (by omega)).trans ?_
  refine (red03 reducesTo_S1x4x8x1_S4x8_d0_3 _ w e).trans ?_
  refine (Fin.sum_univ_one _).trans ((Fin.sum_univ_one _).trans ?_)
  refine (sums_apply _ _ w e).trans ?_
  rw [inner_apply, inner_apply]
  rfl
theorem out4_rest (x y z : FVec Ideal S32x4x8x128 .f32) (a : Fin 8) (c : Fin 128) (hx : a.val ≠ 0 ∨ 32 ≤ c.val) : out4 x y z (ix2 a c) = (0 : EReal) := by
  pointwise [out4]
  exact (dif_neg (by omega)).trans pad_word

variable {L : Valuation τ sig (Elt Ideal)} {D : Arrays} (H : Held L D)
include H

theorem fin0 (z : Vec Ideal S4096x10752 .bf16) (n : Fin 32) (i : Fin 128) (h : Fin 32) (d : Fin 64) :
    out0 z (v152 L) (v11 L) (ix2 (row n i) ⟨4096 + (64 * h.val + d.val), by omega⟩) = (D.dq n i h d : EReal) := by
  obtain ⟨w, e, rfl⟩ : ∃ w e, h = hd w e := ⟨⟨h.val / 8, by omega⟩, ⟨h.val % 8, by omega⟩, Fin.ext (by simp; omega)⟩
  rw [out0_mid]
  simp only [v152_real H, v11_real H, ← EReal.coe_mul, ← coe_sum]
  refine congrArg (fun x : ℝ => (x : EReal)) ?_
  show _ = (∑ j, D.ds n (hd w e) i j * Arrays.bandOf D.k n j (kcol (grp (hd w e)) d)) * (1 / 8)
  rw [Finset.sum_mul]
  refine Finset.sum_congr rfl fun j _ => ?_
  rw [K.grp_hd]
  by_cases hv : V n.val i.val j.val
  · rw [K.zband_eq _ _ _ _ _ hv]; ring
  · rw [ds_eq, pr_zero n w e i j hv]; ring

omit H in
theorem halves_zero (f : Fin 32 → Fin 256 → ℝ) (r : Fin 128) (h : f 0 ⟨r.val, by omega⟩ = 0) : K.halves f 31 0 r = 0 := by
  unfold K.halves
  rw [dif_pos ⟨by simp, by simp⟩, dif_neg (by simp), add_zero]
  exact h
omit H in
theorem first_zero (D : Arrays) (w : Fin 4) (e : Fin 8) (i r : Fin 128) : D.pr 0 (hd w e) i ⟨r.val, by omega⟩ = 0 := by
  refine pr_zero 0 w e i _ ?_
  unfold V
  simp
omit H in
theorem dk_first (D : Arrays) (r : Fin 128) (w : Fin 4) (d : Fin 64) : D.dk 0 ⟨r.val, by omega⟩ w d = 0 := by
  show (∑ e : Fin 8, ∑ i, D.ds 0 (hd w e) i ⟨r.val, by omega⟩ * Arrays.blk D.q 0 i (qcol (hd w e) d)) * (1 / 8) = 0
  simp [ds_eq, first_zero]
omit H in
theorem dv_first (D : Arrays) (r : Fin 128) (w : Fin 4) (d : Fin 64) : D.dv 0 ⟨r.val, by omega⟩ w d = 0 := by
  show ∑ e : Fin 8, ∑ i, D.pr 0 (hd w e) i ⟨r.val, by omega⟩ * Arrays.blk D.g 0 i (qcol (hd w e) d) = 0
  simp [first_zero]

theorem fin1 (b : Fin 33) (r : Fin 128) (w : Fin 4) (d : Fin 64) :
    out1 (v169 L) (ix2 (prow b r) (kcol w d)) = (K.halves (fun n j => D.dk n j w d) 31 b r : EReal) := by
  rcases Fin.eq_zero_or_eq_succ b with rfl | ⟨n, rfl⟩
  · rw [out1_zero, halves_zero _ _ (dk_first D r w d)]; rfl
  · rw [out1_succ, v169_real H]
theorem fin2 (b : Fin 33) (r : Fin 128) (w : Fin 4) (d : Fin 64) :
    out1 (v161 L) (ix2 (prow b r) (kcol w d)) = (K.halves (fun n j => D.dv n j w d) 31 b r : EReal) := by
  rcases Fin.eq_zero_or_eq_succ b with rfl | ⟨n, rfl⟩
  · rw [out1_zero, halves_zero _ _ (dv_first D r w d)]; rfl
  · rw [out1_succ, v161_real H]
theorem fin3 (h : Fin 32) (i : Fin 128) (j : Fin 256) : out3 (v145 L) (ix3 h i j) = ((∑ n, D.ds n h i j : ℝ) : EReal) := by
  obtain ⟨w, e, rfl⟩ : ∃ w e, h = hd w e := ⟨⟨h.val / 8, by omega⟩, ⟨h.val % 8, by omega⟩, Fin.ext (by simp; omega)⟩
  rw [out3_apply]
  simp only [v145_real H]
  rw [← coe_sum]
theorem fin4 (z : FVec Ideal S32x4x8x128 .f32) (h : Fin 32) :
    out4 (v122 L) (v133 L) z (ix2 0 ⟨h.val, by omega⟩) = ((∑ n, D.dsk n h : ℝ) : EReal) := by
  obtain ⟨w, e, rfl⟩ : ∃ w e, h = hd w e := ⟨⟨h.val / 8, by omega⟩, ⟨h.val % 8, by omega⟩, Fin.ext (by simp; omega)⟩
  rw [out4_apply]
  simp only [v122_real H, v133_real H, zero_mul, Finset.sum_const_zero, add_zero, ← coe_sum]
  refine congrArg (fun x : ℝ => (x : EReal)) ?_
  refine Finset.sum_congr rfl fun n _ => ?_
  rw [Finset.sum_neg_distrib]
  rfl
end Cert.Proof.R
end
-- ==== Proof.Nums.lean ====
module
public import Idealize.ShloMosaic.Lib.Pipeline.ValueKit
@[expose] public section
set_option maxRecDepth 16384
noncomputable section
namespace Cert.Proof
open Idealize.ShloMosaic

/-! The literals of the calls, and the logistic function written with a hyperbolic tangent. -/

theorem ofBits_two : Ideal.ofBits .f32 0x40000000#32 = (2 : EReal) := by
  have : Ideal.ofBits .f32 0x40000000#32 = ((2 : ℝ) : EReal) := by simp [Ideal.ofBits, Ideal.ieee, -EReal.coe_mul]; norm_num
  rw [this]; rfl
theorem ofBits_half : Ideal.ofBits .f32 0x3F000000#32 = ((1 / 2 : ℝ) : EReal) := by
  simp [Ideal.ofBits, Ideal.ieee, -EReal.coe_mul]; norm_num
theorem ofBits_one : Ideal.ofBits .f32 0x3F800000#32 = (1 : EReal) := by
  have : Ideal.ofBits .f32 0x3F800000#32 = ((1 : ℝ) : EReal) := by simp [Ideal.ofBits, Ideal.ieee, -EReal.coe_mul]; norm_num
  rw [this]; rfl

theorem real_sigmoid (r : ℝ) : 1 / 2 * Real.tanh (1 / 2 * r) + 1 / 2 = 1 / (1 + Real.exp (-r)) := by
  have e : Real.exp (-r) = Real.exp (-(1 / 2 * r)) * Real.exp (-(1 / 2 * r)) := by rw [← Real.exp_add]; congr 1; ring
  have h : Real.exp (1 / 2 * r) * Real.exp (-(1 / 2 * r)) = 1 := by rw [← Real.exp_add]; simp
  have p := Real.exp_pos (1 / 2 * r)
  have q := Real.exp_pos (-(1 / 2 * r))
  rw [Real.tanh_eq_sinh_div_cosh, Real.sinh_eq, Real.cosh_eq, e]
  generalize Real.exp (1 / 2 * r) = a at *
  generalize Real.exp (-(1 / 2 * r)) = b at *
  have ha : a = 1 / b := by field_simp; linarith
  subst ha
  field_simp
  ring

/-- The logistic function, on the extended reals. -/
def sg (x : EReal) : EReal := Ideal.div 1 (1 + Ideal.exp (-x))

theorem tanh_sg (x : EReal) : ((1 / 2 : ℝ) : EReal) * Ideal.tanh (((1 / 2 : ℝ) : EReal) * x) + ((1 / 2 : ℝ) : EReal) = sg x := by
  show _ = Ideal.logistic x
  induction x using EReal.rec with
  | bot =>
    rw [EReal.coe_mul_bot_of_pos (by norm_num)]
    simp only [Ideal.tanh_bot, Ideal.logistic_bot]
    rw [show (-1 : EReal) = ((-1 : ℝ) : EReal) from rfl, ← EReal.coe_mul, ← EReal.coe_add]; norm_num
  | coe r =>
    rw [← EReal.coe_mul, Ideal.tanh_coe, ← EReal.coe_mul, ← EReal.coe_add, Ideal.logistic_coe, real_sigmoid]
    try (congr 1; norm_num)
  | top =>
    rw [EReal.coe_mul_top_of_pos (by norm_num)]
    simp only [Ideal.tanh_top, Ideal.logistic_top, mul_one]
    rw [← EReal.coe_add]; norm_num

theorem ext2 {a b : ℕ} {T : Type} {x y : Shape.Idx ⟨2, ![a, b]⟩ → T} (h : ∀ r j, x (ix2 r j) = y (ix2 r j)) : x = y := by
  funext i
  rw [eq_ix2 i]
  exact h _ _
theorem ext3 {a b c : ℕ} {T : Type} {x y : Shape.Idx ⟨3, ![a, b, c]⟩ → T} (h : ∀ r j k, x (ix3 r j k) = y (ix3 r j k)) : x = y := by
  funext i
  have e : i = ix3 (i 0) (i 1) (i 2) := by
    funext k
    match k with
    | ⟨0, _⟩ => rfl
    | ⟨1, _⟩ => rfl
    | ⟨2, _⟩ => rfl
  rw [e]; exact h _ _ _

/-- A column of a branch's gate among the input projection's columns. -/
def col (o : ℕ) (h : o ≤ 8704) (j : Fin 2048) : Fin 10752 := ⟨o + j.val, by omega⟩

/-- A sum over the 4096 tokens, as the two halves' sums. -/
theorem sum_halves (f : Fin 4096 → EReal) :
    ∑ r : Fin 4096, f r = (∑ r : Fin 2048, f ⟨r.val, by omega⟩) + ∑ r : Fin 2048, f ⟨2048 + r.val, by omega⟩ :=
  Fin.sum_univ_add (a := 2048) (b := 2048) f

end Cert.Proof
end
-- ==== Proof.Final.lean ====
module
public import proofs.«01_k».proof.Proof.Pre
public import proofs.«01_k».proof.Proof.RFinal
public import proofs.«01_k».proof.Proof.Nums
@[expose] public section
set_option maxRecDepth 16384
noncomputable section
namespace Cert.Proof
open Idealize.ShloMosaic Idealize.ShloMosaic.TcCoe Idealize.SL.Sem
open Cert.Proof.K (row prow hd qcol kcol Arrays)

/-! The kernel's five results are the reference's. -/

abbrev mcol (h : Fin 32) (d : Fin 64) : Fin 10752 := ⟨4096 + (64 * h.val + d.val), by omega⟩
abbrev hcol (u : Fin 4608) : Fin 10752 := ⟨4096 + (2048 + u.val), by omega⟩
abbrev lane (h : Fin 32) : Fin 128 := ⟨h.val, by omega⟩
theorem mid_col (j : Fin 10752) (ha : 4096 ≤ j.val) (hb : j.val < 6144) : ∃ h d, j = mcol h d :=
  ⟨⟨(j.val - 4096) / 64, by omega⟩, ⟨(j.val - 4096) % 64, by omega⟩, Fin.ext (by simp; omega)⟩
theorem high_col (j : Fin 10752) (hb : 6144 ≤ j.val) : ∃ u, j = hcol u := ⟨⟨j.val - 6144, by omega⟩, Fin.ext (by simp; omega)⟩
theorem low_lane (x : Fin 128) (hx : x.val < 32) : ∃ h, x = lane h := ⟨⟨x.val, hx⟩, rfl⟩

section
variable (m : (ℓ : Loc Cert.KernelIdeal.nD Cert.KernelIdeal.τ Cert.KernelIdeal.sig) → Buf (Elt Ideal) ℓ) (c : Dev Cert.KernelIdeal.nD)
  (L : Valuation Cert.ReferenceIdeal.τ Cert.ReferenceIdeal.sig (Elt Ideal))
  (h0 : R.A0 L = m ((c : Thread Cert.KernelIdeal.nD Cert.KernelIdeal.τ).loc Cert.KernelIdeal.main_arg0))
  (h1 : R.A1 L = m ((c : Thread Cert.KernelIdeal.nD Cert.KernelIdeal.τ).loc Cert.KernelIdeal.main_arg1))
  (h2 : R.A2 L = m ((c : Thread Cert.KernelIdeal.nD Cert.KernelIdeal.τ).loc Cert.KernelIdeal.main_arg2))
  (h3 : R.A3 L = m ((c : Thread Cert.KernelIdeal.nD Cert.KernelIdeal.τ).loc Cert.KernelIdeal.main_arg3))
  (z : Vec Ideal Cert.ReferenceIdeal.S4096x10752 .bf16)
  (h4 : z = m ((c : Thread Cert.KernelIdeal.nD Cert.KernelIdeal.τ).loc Cert.KernelIdeal.main_arg4))
  (H : Cert.Pre_KernelIdeal_finite m)
include h0 h1 h2 h3 H

theorem held : R.Held L (K.data m c) := by
  have hh := K.holds m c H
  refine ⟨fun r j => ?_, fun r j => ?_, fun r j => ?_, fun r j => ?_, fun e r j => ?_, fun e => ?_, fun n i h => K.fill_l _ n i h⟩
  · rw [h0]; exact hh.q r j
  · rw [h0]; exact hh.k r j
  · rw [h0]; exact hh.v r j
  · rw [h1]; exact hh.g r j
  · rw [h2]; exact hh.b e r j
  · rw [h3]; exact hh.s e

include h4 in
theorem same0 : (Cert.KernelIdeal.Gen.dats m 0 c).arrAt 9 Cert.KernelIdeal.cfg0.N = R.out0 z (R.v152 L) (R.v11 L) := by
  have hk := K.holds m c H
  have hr := held m c L h0 h1 h2 h3 H
  refine ext2 (a := 4096) (b := 10752) fun r j => ?_
  by_cases ha : j.val < 4096
  · refine (K.arr9_rest m c r j (Or.inl ha)).trans ?_
    refine Eq.trans ?_ (R.out0_lo z (R.v152 L) (R.v11 L) r ⟨j.val, ha⟩).symm
    rw [h4]
  · by_cases hb : 6144 ≤ j.val
    · refine (K.arr9_rest m c r j (Or.inr hb)).trans ?_
      obtain ⟨u, rfl⟩ := high_col j hb
      refine Eq.trans ?_ (R.out0_hi z (R.v152 L) (R.v11 L) r u).symm
      rw [h4]
      exact K.at2 (m ((c : Thread Cert.KernelIdeal.nD Cert.KernelIdeal.τ).loc Cert.KernelIdeal.main_arg4)) rfl (by simp; omega)
    · obtain ⟨n, i, rfl⟩ : ∃ n i, r = row n i := ⟨⟨r.val / 128, by omega⟩, ⟨r.val % 128, by omega⟩, Fin.ext (by simp; omega)⟩
      obtain ⟨h, d, rfl⟩ := mid_col j (by omega) (by omega)
      exact (K.res9 hk n i h d).trans (R.fin0 hr z n i h d).symm

theorem same1 : (Cert.KernelIdeal.Gen.dats m 0 c).arrAt 10 Cert.KernelIdeal.cfg0.N = R.out1 (R.v169 L) := by
  have hk := K.holds m c H
  have hr := held m c L h0 h1 h2 h3 H
  refine ext2 (a := 4224) (b := 256) fun r j => ?_
  obtain ⟨n, i, rfl⟩ : ∃ n i, r = prow n i := ⟨⟨r.val / 128, by omega⟩, ⟨r.val % 128, by omega⟩, Fin.ext (by simp; omega)⟩
  obtain ⟨w, d, rfl⟩ : ∃ w d, j = kcol w d := ⟨⟨j.val / 64, by omega⟩, ⟨j.val % 64, by omega⟩, Fin.ext (by simp; omega)⟩
  exact (K.res10 hk n i w d).trans (R.fin1 hr n i w d).symm
theorem same2 : (Cert.KernelIdeal.Gen.dats m 0 c).arrAt 11 Cert.KernelIdeal.cfg0.N = R.out1 (R.v161 L) := by
  have hk := K.holds m c H
  have hr := held m c L h0 h1 h2 h3 H
  refine ext2 (a := 4224) (b := 256) fun r j => ?_
  obtain ⟨n, i, rfl⟩ : ∃ n i, r = prow n i := ⟨⟨r.val / 128, by omega⟩, ⟨r.val % 128, by omega⟩, Fin.ext (by simp; omega)⟩
  obtain ⟨w, d, rfl⟩ : ∃ w d, j = kcol w d := ⟨⟨j.val / 64, by omega⟩, ⟨j.val % 64, by omega⟩, Fin.ext (by simp; omega)⟩
  exact (K.res11 hk n i w d).trans (R.fin2 hr n i w d).symm
theorem same3 : (Cert.KernelIdeal.Gen.dats m 0 c).arrAt 12 Cert.KernelIdeal.cfg0.N = R.out3 (R.v145 L) := by
  have hk := K.holds m c H
  have hr := held m c L h0 h1 h2 h3 H
  refine ext3 (a := 32) (b := 128) (c := 256) fun h i j => ?_
  exact (K.res12 hk h i j).trans (R.fin3 hr h i j).symm
theorem same4 (y : FVec Ideal Cert.ReferenceIdeal.S32x4x8x128 .f32) :
    (Cert.KernelIdeal.Gen.dats m 0 c).arrAt 13 Cert.KernelIdeal.cfg0.N = R.out4 (R.v122 L) (R.v133 L) y := by
  have hk := K.holds m c H
  have hr := held m c L h0 h1 h2 h3 H
  refine ext2 (a := 8) (b := 128) fun a x => ?_
  by_cases hx : a.val ≠ 0 ∨ 32 ≤ x.val
  · exact (K.res13_rest m c a x hx).trans (R.out4_rest _ _ y a x hx).symm
  · obtain rfl : a = 0 := Fin.ext (by simp; omega)
    obtain ⟨h, rfl⟩ := low_lane x (by omega)
    exact (K.res13 hk h).trans (R.fin4 hr y h).symm
end
end Cert.Proof
end
-- ==== Proof.FfDx.lean ====
module
public import proofs.«01_k».proof.Defs
public import proofs.«01_k».proof.Proof.Gen.Kernel2Ideal.Value
public import proofs.«01_k».proof.Proof.Gen.Reference2Ideal.Run
public import Idealize.ShloMosaic.Lib.Pipeline.ValueKit
public import proofs.«01_k».proof.Proof.Nums
@[expose] public section
set_option maxRecDepth 16384
noncomputable section
namespace Cert.Proof.FfDx
open Idealize.ShloMosaic Idealize.ShloMosaic.TcCoe Idealize.SL.Sem

/-! The gradient of the squared-ReLU's input: the product of the output's gradient with the weights, times twice the positive part. -/

/-- One entry of a result. -/
def G3 (a0 : Vec Ideal ⟨2, ![4096, 2048]⟩ .bf16) (a1 : Vec Ideal ⟨2, ![8192, 2048]⟩ .bf16) (a2 : Vec Ideal ⟨2, ![4096, 8192]⟩ .bf16) : Vec Ideal ⟨2, ![4096, 8192]⟩ .bf16 :=
  fun i => (∑ k : Fin 2048, (a0 (ix2 (i 0) k) : EReal) * a1 (ix2 (i 1) k)) * (2 * max (a2 (ix2 (i 0) (i 1)) : EReal) 0)

section
open Cert.Kernel2Ideal Cert.Kernel2Ideal.Gen Cert.Kernel2Ideal.Value
variable (m : (ℓ : Loc nD τ sig) → Buf (Elt Ideal) ℓ) (c : Dev nD)

theorem idx : ∀ t : Fin cfg0.N, win0_0.index t = ![t.val / 8, 0] ∧ win0_1.index t = ![t.val % 8, 0] ∧ win0_2.index t = ![t.val / 8, t.val % 8] ∧ win0_3.index t = ![t.val / 8, t.val % 8] := by decide +kernel

theorem pay3 (x0 : Vec Ideal ⟨2, ![1024, 2048]⟩ .bf16) (x1 : Vec Ideal ⟨2, ![1024, 2048]⟩ .bf16) (x2 : Vec Ideal ⟨2, ![1024, 1024]⟩ .bf16) (r : Fin 1024) (j : Fin 1024) :
    k0_pay1 x0 x1 x2 (ix2 r j) = (∑ k : Fin 2048, (x0 (ix2 r k) : EReal) * x1 (ix2 j k)) * (2 * max (x2 (ix2 r j) : EReal) 0) := by
  pointwise [k0_pay1]
  rw [ofBits_two]

theorem arr3 : (dats m 0 c).arrAt 3 cfg0.N = G3 (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  obtain ⟨r, j, rfl⟩ : ∃ (r : Fin 1024) (j : Fin 1024), y = ix2 r j := ⟨y 0, y 1, by funext a; fin_cases a <;> rfl⟩
  refine (pay3 (iblk m c 0 t) (iblk m c 1 t) (iblk m c 2 t) r j).trans ?_
  unfold G3
  blk_point [iblk, V, idx t]

end

section
open Cert.Reference2Ideal Cert.Reference2Ideal.Gen Cert.Reference2Ideal.Value
theorem ref3 (a0 : Vec Ideal ⟨2, ![4096, 2048]⟩ .bf16) (a1 : Vec Ideal ⟨2, ![8192, 2048]⟩ .bf16) (a2 : Vec Ideal ⟨2, ![4096, 8192]⟩ .bf16) (r : Fin 4096) (j : Fin 8192) :
    (truncf .bf16 (select (cmpf .ogt (extf .f32 a2 bitsLt_bf16_f32) (broadcastInDim S4096x8192 ![] bcast_S_S4096x8192 (constant (F := Ideal) S_ .f32 0x00000000#32))) (mulf (Host.dotGeneral dot_S4096x2048_S8192x2048_S4096x8192_1_1_0_0_n_n none (extf .f32 a0 bitsLt_bf16_f32) (extf .f32 a1 bitsLt_bf16_f32)) (mulf (broadcastInDim S4096x8192 ![] bcast_S_S4096x8192 (constant (F := Ideal) S_ .f32 0x40000000#32)) (maximumf (extf .f32 a2 bitsLt_bf16_f32) (broadcastInDim S4096x8192 ![] bcast_S_S4096x8192 (constant (F := Ideal) S_ .f32 0x00000000#32))))) (broadcastInDim S4096x8192 ![] bcast_S_S4096x8192 (constant (F := Ideal) S_ .f32 0x00000000#32))) bitsLt_bf16_f32 : FVec Ideal S4096x8192 .bf16) (ix2 r j) = G3 a0 a1 a2 (ix2 r j) := by
  pointwise [G3]
  rw [ofBits_two]
  split
  · rfl
  · rename_i h
    rw [max_eq_right (not_lt.mp h), mul_zero, mul_zero]

end

/-- The reference's run leaves its arguments and every counter as they were. -/
theorem frame_reference : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- The call and the reference end with equal results. -/
theorem agree : Cert.algebraic_Kernel2Ideal_Reference2Ideal := by
  intro m g m' g' hp he
  refine ⟨fun c => (Cert.Kernel2Ideal.Gen.dats m 0 c).arrAt 3 Cert.Kernel2Ideal.cfg0.N, Cert.Kernel2Ideal.Value.run_blocks m g, ?_⟩
  refine (θ_run Cert.Reference2Ideal.defs _ _).mono (fun r h c => ?_) (Cert.Reference2Ideal.Value.run (F := Ideal) m' g')
  obtain ⟨e0, e1, e2⟩ := he c
  obtain ⟨r0, ha⟩ := h c
  exact ⟨r0.trans ((ext2 fun r j => ref3 (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) r j).trans (by simp only [arr3 m c, e0, e1, e2])), ha⟩

end Cert.Proof.FfDx
end
-- ==== Proof.FfDw.lean ====
module
public import proofs.«01_k».proof.Defs
public import proofs.«01_k».proof.Proof.Gen.Kernel3Ideal.Value
public import proofs.«01_k».proof.Proof.Gen.Reference3Ideal.Run
public import Idealize.ShloMosaic.Lib.Pipeline.ValueKit
public import proofs.«01_k».proof.Proof.Nums
public import Idealize.ShloMosaic.Lib.Pipeline.ReadBack
public import Idealize.ShloMosaic.Lib.StableHlo.ReadAt
@[expose] public section
set_option maxRecDepth 16384
noncomputable section
namespace Cert.Proof.FfDw
open Idealize.ShloMosaic Idealize.ShloMosaic.TcCoe Idealize.SL.Sem

/-! The gradient of the second feed-forward weights: a product over all tokens, in two halves with an accumulator. -/

/-- The squared positive part. -/
def relu2 (a : Vec Ideal ⟨2, ![4096, 8192]⟩ .bf16) : Vec Ideal ⟨2, ![4096, 8192]⟩ .bf16 :=
  fun i => max (a i : EReal) 0 * max (a i : EReal) 0

/-- One entry of the result: a sum over all tokens. -/
def G2 (a0 : Vec Ideal ⟨2, ![4096, 2048]⟩ .bf16) (a1 : Vec Ideal ⟨2, ![8192, 2048]⟩ .bf16) (a2 : Vec Ideal ⟨2, ![4096, 8192]⟩ .bf16) : Vec Ideal ⟨2, ![8192, 2048]⟩ .bf16 :=
  fun i => ∑ r : Fin 4096, (relu2 a2 (ix2 r (i 0)) : EReal) * a0 (ix2 r (i 1))

section
open Cert.Kernel3Ideal Cert.Kernel3Ideal.Gen Cert.Kernel3Ideal.Value
variable (m : (ℓ : Loc nD τ sig) → Buf (Elt Ideal) ℓ) (c : Dev nD)

theorem idx : ∀ t : Fin cfg0.N, win0_0.index t = ![t.val % 2, t.val / 2] ∧ win0_1.index t = ![t.val % 2, 0] ∧ win0_2.index t = ![t.val / 2, 0] := by decide +kernel
theorem size : ∀ t : Fin cfg0.N, t.val < 32 := by decide +kernel

/-- A block's product, at an entry. -/
def P (x0 : Vec Ideal S2048x512 .bf16) (x1 : Vec Ideal S2048x2048 .bf16) (p : Fin 512) (q : Fin 2048) : EReal :=
  ∑ r : Fin 2048, (x0 (ix2 r p) : EReal) * x1 (ix2 r q)

theorem pay2 (x0 : Vec Ideal S2048x512 .bf16) (x1 : Vec Ideal S2048x2048 .bf16) (p : Fin 512) (q : Fin 2048) :
    k0_pay2 x0 x1 (ix2 p q) = P x0 x1 p q := by
  pointwise [k0_pay2, k0_pay1, P]
theorem pay4 (x0 : Vec Ideal S2048x512 .bf16) (x1 : Vec Ideal S2048x2048 .bf16) (z : Vec Ideal S512x2048 .f32) (p : Fin 512) (q : Fin 2048) :
    k0_pay4 (k0_pay3 x0 x1 z) (ix2 p q) = (z (ix2 p q) : EReal) + P x0 x1 p q := by
  pointwise [k0_pay4, k0_pay3, k0_pay1, P]

/-- After the first half of the tokens the accumulator holds that half's product. -/
theorem acc (t : Fin cfg0.N) (h : t.val % 2 = 0) (p : Fin 512) (q : Fin 2048) :
    (outsAt0 m c t.val t.isLt).2 (ix2 p q) = P (iblk m c 0 t) (iblk m c 1 t) p q := by
  rw [outsAt0_A m c t h (by omega) (by omega)]
  frame_out
  exact pay2 _ _ p q

/-- After the second half the block written back holds both halves' sum. -/
theorem out (t : Fin cfg0.N) (h : t.val % 2 = 1) (p : Fin 512) (q : Fin 2048) :
    (outsAt0 m c t.val t.isLt).1 (ix2 p q)
      = P (iblk m c 0 ⟨t.val - 1, by omega⟩) (iblk m c 1 ⟨t.val - 1, by omega⟩) p q + P (iblk m c 0 t) (iblk m c 1 t) p q := by
  rw [outsAt0_B m c t (by omega) h h]
  frame_out
  simp only [read_unread_whole]
  refine (pay4 _ _ _ p q).trans ?_
  rw [← acc m c ⟨t.val - 1, by omega⟩ (show (t.val - 1) % 2 = 0 by omega) p q]

/-- The host's lines hand the call the squared positive part. -/
theorem hV : V m c main_v3 = relu2 (m ((c : Thread nD τ).loc main_arg2)) := by
  unfold V
  after_reads_simp
  simp -implicitDefEqProofs only [StableHlo.TRef.toBuf, StableHlo.TRef.ofBuf, cast_eq]
  refine ext2 (a := 4096) (b := 8192) fun r j => ?_
  pointwise [relu2]

theorem arr2 : (dats m 0 c).arrAt 2 cfg0.N = G2 (m ((c : Thread nD τ).loc main_arg0)) (m ((c : Thread nD τ).loc main_arg1)) (m ((c : Thread nD τ).loc main_arg2)) := by
  refine (dats m 0 c).arrAt_eq_of_covers 2 _ (by decide +kernel) fun t hf y => ?_
  have ht : t.val % 2 = 1 := (flush0_2 t).mp hf
  have hs := size t
  blk_simp
  rw [after0_2]
  obtain ⟨p, q, rfl⟩ : ∃ (p : Fin 512) (q : Fin 2048), y = ix2 p q := ⟨y 0, y 1, by funext a; fin_cases a <;> rfl⟩
  refine (out m c t ht p q).trans ?_
  unfold G2
  rw [sum_halves]
  unfold P
  have i1 := idx t
  have i0 := idx ⟨t.val - 1, Nat.lt_of_le_of_lt (Nat.sub_le _ _) t.isLt⟩
  have d0 : (t.val - 1) / 2 = t.val / 2 := by omega
  have d1 : (t.val - 1) % 2 = 0 := by omega
  simp only [d0, d1] at i0
  simp only [ht] at i1
  have hb : ∀ (t' : Fin cfg0.N) (r : Fin 2048), iblk m c 0 t' (ix2 r p) = relu2 (m ((c : Thread nD τ).loc main_arg2)) (((cfg0.win 0).blk t').view.emb (ix2 r p)) :=
    fun t' r => by rw [← hV m c]; rfl
  simp only [hb]
  congr 1 <;> refine Finset.sum_congr rfl fun r _ => ?_ <;> congr 1
  · refine congrArg (relu2 _) ?_; blk_ext [i0, i1]
  · blk_ext [iblk, V, i0, i1]
  · refine congrArg (relu2 _) ?_; blk_ext [i0, i1]
  · blk_ext [iblk, V, i0, i1]
end

section
open Cert.Reference3Ideal Cert.Reference3Ideal.Gen Cert.Reference3Ideal.Value
theorem ref2 (a0 : Vec Ideal ⟨2, ![4096, 2048]⟩ .bf16) (a1 : Vec Ideal ⟨2, ![8192, 2048]⟩ .bf16) (a2 : Vec Ideal ⟨2, ![4096, 8192]⟩ .bf16) (r : Fin 8192) (j : Fin 2048) :
    (truncf .bf16 (transpose S8192x2048 [1, 0] (Host.dotGeneral dot_S4096x2048_S4096x8192_S2048x8192_0_0_1_1_n_n none (extf .f32 a0 bitsLt_bf16_f32) (mulf (maximumf (extf .f32 a2 bitsLt_bf16_f32) (broadcastInDim S4096x8192 ![] bcast_S_S4096x8192 (constant (F := Ideal) S_ .f32 0x00000000#32))) (maximumf (extf .f32 a2 bitsLt_bf16_f32) (broadcastInDim S4096x8192 ![] bcast_S_S4096x8192 (constant (F := Ideal) S_ .f32 0x00000000#32))))) transposes_S2048x8192_S8192x2048_1_0) bitsLt_bf16_f32 : FVec Ideal S8192x2048 .bf16) (ix2 r j) = G2 a0 a1 a2 (ix2 r j) := by
  pointwise [G2, relu2]
  exact Finset.sum_congr rfl fun r _ => mul_comm _ _
end

/-- The reference's run leaves its arguments and every counter as they were. -/
theorem frame_reference : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

/-- The call and the reference end with equal results. -/
theorem agree : Cert.algebraic_Kernel3Ideal_Reference3Ideal := by
  intro m g m' g' hp he
  refine ⟨fun c => (Cert.Kernel3Ideal.Gen.dats m 0 c).arrAt 2 Cert.Kernel3Ideal.cfg0.N, Cert.Kernel3Ideal.Value.run_blocks m g, ?_⟩
  refine (θ_run Cert.Reference3Ideal.defs _ _).mono (fun r h c => ?_) (Cert.Reference3Ideal.Value.run (F := Ideal) m' g')
  obtain ⟨e0, e1, e2⟩ := he c
  obtain ⟨r0, ha⟩ := h c
  exact ⟨r0.trans ((ext2 fun r j => ref2 (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) r j).trans (by simp only [arr2 m c, e0, e1, e2])), ha⟩

end Cert.Proof.FfDw
end
-- ==== Proof.OutProjDx.lean ====
module
public import proofs.«01_k».proof.Defs
public import proofs.«01_k».proof.Proof.Gen.Kernel4Ideal.Value
public import proofs.«01_k».proof.Proof.Gen.Reference4Ideal.Run
public import Idealize.ShloMosaic.Lib.Pipeline.ValueKit
public import proofs.«01_k».proof.Proof.Nums
@[expose] public section
set_option maxRecDepth 16384
noncomputable section
namespace Cert.Proof.OutProjDx
open Idealize.ShloMosaic Idealize.ShloMosaic.TcCoe Idealize.SL.Sem

/-! The gradients of the two branches and of the second gate, through the gated sum and its projection. -/

/-- One entry of a result. -/
def G6 (a0 : Vec Ideal ⟨2, ![4096, 2048]⟩ .bf16) (a1 : Vec Ideal ⟨2, ![2048, 2048]⟩ .bf16) (a2 : Vec Ideal ⟨2, ![4096, 10752]⟩ .bf16) (a3 : Vec Ideal ⟨2, ![4096, 2048]⟩ .bf16) (a4 : Vec Ideal ⟨2, ![4096, 2048]⟩ .bf16) : Vec Ideal ⟨2, ![4096, 2048]⟩ .bf16 :=
  fun i => sg (a2 (ix2 (i 0) (col 6656 (by decide) (i 1))) : EReal) * (∑ k : Fin 2048, (a0 (ix2 (i 0) k) : EReal) * a1 (ix2 (i 1) k))

/-- One entry of a result. -/
def G7 (a0 : Vec Ideal ⟨2, ![4096, 2048]⟩ .bf16) (a1 : Vec Ideal ⟨2, ![2048, 2048]⟩ .bf16) (a2 : Vec Ideal ⟨2, ![4096, 10752]⟩ .bf16) (a3 : Vec Ideal ⟨2, ![4096, 2048]⟩ .bf16) (a4 : Vec Ideal ⟨2, ![4096, 2048]⟩ .bf16) : Vec Ideal ⟨2, ![4096, 2048]⟩ .bf16 :=
  fun i => sg (a2 (ix2 (i 0) (col 8704 (by decide) (i 1))) : EReal) * (∑ k : Fin 2048, (a0 (ix2 (i 0) k) : EReal) * a1 (ix2 (i 1) k))

/-- One entry of a result. -/
def G9 (a0 : Vec Ideal ⟨2, ![4096, 2048]⟩ .bf16) (a1 : Vec Ideal ⟨2, ![2048, 2048]⟩ .bf16) (a2 : Vec Ideal ⟨2, ![4096, 10752]⟩ .bf16) (a3 : Vec Ideal ⟨2, ![4096, 2048]⟩ .bf16) (a4 : Vec Ideal ⟨2, ![4096, 2048]⟩ .bf16) : Vec Ideal ⟨2, ![4096, 2048]⟩ .bf16 :=
  fun i => ((∑ k : Fin 2048, (a0 (ix2 (i 0) k) : EReal) * a1 (ix2 (i 1) k)) * a4 (ix2 (i 0) (i 1))) * (sg (a2 (ix2 (i 0) (col 8704 (by decide) (i 1))) : EReal) * (1 - sg (a2 (ix2 (i 0) (col 8704 (by decide) (i 1))) : EReal)))

section
open Cert.Kernel4Ideal Cert.Kernel4Ideal.Gen Cert.Kernel4Ideal.Value
variable (m : (ℓ : Loc nD τ sig) → Buf (Elt Ideal) ℓ) (c : Dev nD)

theorem idx : ∀ t : Fin cfg0.N, win0_0.index t = ![t.val / 4, 0] ∧ win0_1.index t = ![t.val % 4, 0] ∧ win0_2.index t = ![t.val / 4, t.val % 4 + 13] ∧ win0_3.index t = ![t.val / 4, t.val % 4 + 17] ∧ win0_4.index t = ![t.val / 4, t.val % 4] ∧ win0_5.index t = ![t.val / 4, t.val % 4] ∧ win0_6.index t = ![t.val / 4, t.val % 4] ∧ win0_7.index t = ![t.val / 4, t.val % 4] ∧ win0_9.index t = ![t.val / 4, t.val % 4] := by decide +kernel

theorem pay6 (x0 : Vec Ideal ⟨2, ![1024, 2048]⟩ .bf16) (x1 : Vec Ideal ⟨2, ![512, 2048]⟩ .bf16) (x2 : Vec Ideal ⟨2, ![1024, 512]⟩ .bf16) (x3 : Vec Ideal ⟨2, ![1024, 512]⟩ .bf16) (x4 : Vec Ideal ⟨2, ![1024, 512]⟩ .bf16) (x5 : Vec Ideal ⟨2, ![1024, 512]⟩ .bf16) (r : Fin 1024) (j : Fin 512) :
    k0_pay1 (k0_pay8 x0 x1 x2) (ix2 r j) = sg (x2 (ix2 r j) : EReal) * (∑ k : Fin 2048, (x0 (ix2 r k) : EReal) * x1 (ix2 j k)) := by
  pointwise [k0_pay1, k0_pay8, k0_pay5, k0_pay6]
  rw [ofBits_half, tanh_sg, mul_comm]

theorem arr6 : (dats m 0 c).arrAt 6 cfg0.N = G6 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  frame_out
  obtain ⟨r, j, rfl⟩ : ∃ (r : Fin 1024) (j : Fin 512), y = ix2 r j := ⟨y 0, y 1, by funext a; fin_cases a <;> rfl⟩
  refine (pay6 (iblk m c 0 t) (iblk m c 1 t) (iblk m c 2 t) (iblk m c 3 t) (iblk m c 4 t) (iblk m c 5 t) r j).trans ?_
  unfold G6
  blk_point [iblk, V, idx t, col]

theorem pay7 (x0 : Vec Ideal ⟨2, ![1024, 2048]⟩ .bf16) (x1 : Vec Ideal ⟨2, ![512, 2048]⟩ .bf16) (x2 : Vec Ideal ⟨2, ![1024, 512]⟩ .bf16) (x3 : Vec Ideal ⟨2, ![1024, 512]⟩ .bf16) (x4 : Vec Ideal ⟨2, ![1024, 512]⟩ .bf16) (x5 : Vec Ideal ⟨2, ![1024, 512]⟩ .bf16) (r : Fin 1024) (j : Fin 512) :
    k0_pay2 (k0_pay9 x0 x1 x3) (ix2 r j) = sg (x3 (ix2 r j) : EReal) * (∑ k : Fin 2048, (x0 (ix2 r k) : EReal) * x1 (ix2 j k)) := by
  pointwise [k0_pay2, k0_pay9, k0_pay5, k0_pay7]
  rw [ofBits_half, tanh_sg, mul_comm]

theorem arr7 : (dats m 0 c).arrAt 7 cfg0.N = G7 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7]
  frame_out
  obtain ⟨r, j, rfl⟩ : ∃ (r : Fin 1024) (j : Fin 512), y = ix2 r j := ⟨y 0, y 1, by funext a; fin_cases a <;> rfl⟩
  refine (pay7 (iblk m c 0 t) (iblk m c 1 t) (iblk m c 2 t) (iblk m c 3 t) (iblk m c 4 t) (iblk m c 5 t) r j).trans ?_
  unfold G7
  blk_point [iblk, V, idx t, col]

theorem pay9 (x0 : Vec Ideal ⟨2, ![1024, 2048]⟩ .bf16) (x1 : Vec Ideal ⟨2, ![512, 2048]⟩ .bf16) (x2 : Vec Ideal ⟨2, ![1024, 512]⟩ .bf16) (x3 : Vec Ideal ⟨2, ![1024, 512]⟩ .bf16) (x4 : Vec Ideal ⟨2, ![1024, 512]⟩ .bf16) (x5 : Vec Ideal ⟨2, ![1024, 512]⟩ .bf16) (r : Fin 1024) (j : Fin 512) :
    k0_pay4 (k0_pay11 x0 x1 x3 x5) (k0_pay12 x3) (ix2 r j) = ((∑ k : Fin 2048, (x0 (ix2 r k) : EReal) * x1 (ix2 j k)) * x5 (ix2 r j)) * (sg (x3 (ix2 r j) : EReal) * (1 - sg (x3 (ix2 r j) : EReal))) := by
  pointwise [k0_pay4, k0_pay11, k0_pay12, k0_pay5, k0_pay7]
  rw [ofBits_half, tanh_sg, mul_assoc]

theorem arr9 : (dats m 0 c).arrAt 9 cfg0.N = G9 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t hf y => ?_
  blk_simp
  rw [after0_9]
  frame_out
  obtain ⟨r, j, rfl⟩ : ∃ (r : Fin 1024) (j : Fin 512), y = ix2 r j := ⟨y 0, y 1, by funext a; fin_cases a <;> rfl⟩
  refine (pay9 (iblk m c 0 t) (iblk m c 1 t) (iblk m c 2 t) (iblk m c 3 t) (iblk m c 4 t) (iblk m c 5 t) r j).trans ?_
  unfold G9
  blk_point [iblk, V, idx t, col]

end

section
open Cert.Reference4Ideal Cert.Reference4Ideal.Gen Cert.Reference4Ideal.Value
theorem ref6 (a0 : Vec Ideal ⟨2, ![4096, 2048]⟩ .bf16) (a1 : Vec Ideal ⟨2, ![2048, 2048]⟩ .bf16) (a2 : Vec Ideal ⟨2, ![4096, 10752]⟩ .bf16) (a3 : Vec Ideal ⟨2, ![4096, 2048]⟩ .bf16) (a4 : Vec Ideal ⟨2, ![4096, 2048]⟩ .bf16) (r : Fin 4096) (j : Fin 2048) :
    (truncf .bf16 (mulf (Host.divf (broadcastInDim S4096x2048 ![] bcast_S_S4096x2048 (constant (F := Ideal) S_ .f32 0x3F800000#32)) (addf (broadcastInDim S4096x2048 ![] bcast_S_S4096x2048 (constant (F := Ideal) S_ .f32 0x3F800000#32)) (Host.exp (Host.negf (extractStridedSlice S4096x2048 ![0, 6656] (extf .f32 a2 bitsLt_bf16_f32) slices_S4096x10752_S4096x2048_0_6656))))) (Host.dotGeneral dot_S4096x2048_S2048x2048_S4096x2048_1_1_0_0_n_n none (extf .f32 a0 bitsLt_bf16_f32) (extf .f32 a1 bitsLt_bf16_f32))) bitsLt_bf16_f32 : FVec Ideal S4096x2048 .bf16) (ix2 r j) = G6 a0 a1 a2 a3 a4 (ix2 r j) := by
  pointwise [G6]
  rfl

theorem ref7 (a0 : Vec Ideal ⟨2, ![4096, 2048]⟩ .bf16) (a1 : Vec Ideal ⟨2, ![2048, 2048]⟩ .bf16) (a2 : Vec Ideal ⟨2, ![4096, 10752]⟩ .bf16) (a3 : Vec Ideal ⟨2, ![4096, 2048]⟩ .bf16) (a4 : Vec Ideal ⟨2, ![4096, 2048]⟩ .bf16) (r : Fin 4096) (j : Fin 2048) :
    (truncf .bf16 (mulf (Host.divf (broadcastInDim S4096x2048 ![] bcast_S_S4096x2048 (constant (F := Ideal) S_ .f32 0x3F800000#32)) (addf (broadcastInDim S4096x2048 ![] bcast_S_S4096x2048 (constant (F := Ideal) S_ .f32 0x3F800000#32)) (Host.exp (Host.negf (extractStridedSlice S4096x2048 ![0, 8704] (extf .f32 a2 bitsLt_bf16_f32) slices_S4096x10752_S4096x2048_0_8704))))) (Host.dotGeneral dot_S4096x2048_S2048x2048_S4096x2048_1_1_0_0_n_n none (extf .f32 a0 bitsLt_bf16_f32) (extf .f32 a1 bitsLt_bf16_f32))) bitsLt_bf16_f32 : FVec Ideal S4096x2048 .bf16) (ix2 r j) = G7 a0 a1 a2 a3 a4 (ix2 r j) := by
  pointwise [G7]
  rfl

theorem ref9 (a0 : Vec Ideal ⟨2, ![4096, 2048]⟩ .bf16) (a1 : Vec Ideal ⟨2, ![2048, 2048]⟩ .bf16) (a2 : Vec Ideal ⟨2, ![4096, 10752]⟩ .bf16) (a3 : Vec Ideal ⟨2, ![4096, 2048]⟩ .bf16) (a4 : Vec Ideal ⟨2, ![4096, 2048]⟩ .bf16) (r : Fin 4096) (j : Fin 2048) :
    (truncf .bf16 (mulf (mulf (Host.dotGeneral dot_S4096x2048_S2048x2048_S4096x2048_1_1_0_0_n_n none (extf .f32 a0 bitsLt_bf16_f32) (extf .f32 a1 bitsLt_bf16_f32)) (extf .f32 a4 bitsLt_bf16_f32)) (mulf (Host.divf (broadcastInDim S4096x2048 ![] bcast_S_S4096x2048 (constant (F := Ideal) S_ .f32 0x3F800000#32)) (addf (broadcastInDim S4096x2048 ![] bcast_S_S4096x2048 (constant (F := Ideal) S_ .f32 0x3F800000#32)) (Host.exp (Host.negf (extractStridedSlice S4096x2048 ![0, 8704] (extf .f32 a2 bitsLt_bf16_f32) slices_S4096x10752_S4096x2048_0_8704))))) (subf (broadcastInDim S4096x2048 ![] bcast_S_S4096x2048 (constant (F := Ideal) S_ .f32 0x3F800000#32)) (Host.divf (broadcastInDim S4096x2048 ![] bcast_S_S4096x2048 (constant (F := Ideal) S_ .f32 0x3F800000#32)) (addf (broadcastInDim S4096x2048 ![] bcast_S_S4096x2048 (constant (F := Ideal) S_ .f32 0x3F800000#32)) (Host.exp (Host.negf (extractStridedSlice S4096x2048 ![0, 8704] (extf .f32 a2 bitsLt_bf16_f32) slices_S4096x10752_S4096x2048_0_8704)))))))) bitsLt_bf16_f32 : FVec Ideal S4096x2048 .bf16) (ix2 r j) = G9 a0 a1 a2 a3 a4 (ix2 r j) := by
  pointwise [G9]
  rfl

end

/-- The reference's run leaves its arguments and every counter as they were. -/
theorem frame_reference : Cert.quiescent_Reference4Ideal := fun m g _ =>
  (θ_run Cert.Reference4Ideal.defs _ _).mono (fun r h => ⟨fun c => (h c).2.2.2, sem_eq_zero_of_no_sems (by decide) r.2⟩)
    (Cert.Reference4Ideal.Value.run (F := Ideal) m g)

/-- The call and the reference end with equal results. -/
theorem agree : Cert.algebraic_Kernel4Ideal_Reference4Ideal := by
  intro m g m' g' hp he
  refine ⟨fun c => (Cert.Kernel4Ideal.Gen.dats m 0 c).arrAt 6 Cert.Kernel4Ideal.cfg0.N, fun c => (Cert.Kernel4Ideal.Gen.dats m 0 c).arrAt 7 Cert.Kernel4Ideal.cfg0.N, fun c => (Cert.Kernel4Ideal.Gen.dats m 0 c).arrAt 9 Cert.Kernel4Ideal.cfg0.N, (θ_run Cert.Kernel4Ideal.defs _ _).mono (fun r h c => ⟨(h c).1, (h c).2.1, (h c).2.2.2⟩) (Cert.Kernel4Ideal.Value.run_blocks m g), ?_⟩
  refine (θ_run Cert.Reference4Ideal.defs _ _).mono (fun r h c => ?_) (Cert.Reference4Ideal.Value.run (F := Ideal) m' g')
  obtain ⟨e0, e1, e2, e3, e4⟩ := he c
  obtain ⟨r0, r1, r2, ha⟩ := h c
  exact ⟨r0.trans ((ext2 fun r j => ref6 (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) r j).trans (by simp only [arr6 m c, e0, e1, e2, e3, e4])), r1.trans ((ext2 fun r j => ref7 (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) r j).trans (by simp only [arr7 m c, e0, e1, e2, e3, e4])), r2.trans ((ext2 fun r j => ref9 (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) r j).trans (by simp only [arr9 m c, e0, e1, e2, e3, e4])), ha⟩

end Cert.Proof.OutProjDx
end
-- ==== Proof.OutProjDw.lean ====
module
public import proofs.«01_k».proof.Defs
public import proofs.«01_k».proof.Proof.Gen.Kernel5Ideal.Value
public import proofs.«01_k».proof.Proof.Gen.Reference5Ideal.Run
public import Idealize.ShloMosaic.Lib.Pipeline.ValueKit
public import proofs.«01_k».proof.Proof.Nums
public import Idealize.ShloMosaic.Lib.Pipeline.ReadBack
@[expose] public section
set_option maxRecDepth 16384
noncomputable section
namespace Cert.Proof.OutProjDw
open Idealize.ShloMosaic Idealize.ShloMosaic.TcCoe Idealize.SL.Sem

/-! The gradient of the output projection's weights: a product over all tokens, in two halves with an accumulator. -/

/-- One entry of the result: a sum over all tokens. -/
def G2 (a0 : Vec Ideal ⟨2, ![4096, 2048]⟩ .bf16) (a1 : Vec Ideal ⟨2, ![4096, 2048]⟩ .bf16) (a2 : Vec Ideal ⟨2, ![2048, 2048]⟩ .bf16) : Vec Ideal ⟨2, ![2048, 2048]⟩ .bf16 :=
  fun i => ∑ r : Fin 4096, (a1 (ix2 r (i 0)) : EReal) * a0 (ix2 r (i 1))

section
open Cert.Kernel5Ideal Cert.Kernel5Ideal.Gen Cert.Kernel5Ideal.Value
variable (m : (ℓ : Loc nD τ sig) → Buf (Elt Ideal) ℓ) (c : Dev nD)

theorem idx : ∀ t : Fin cfg0.N, win0_0.index t = ![t.val % 2, t.val / 2] ∧ win0_1.index t = ![t.val % 2, 0] ∧ win0_2.index t = ![t.val / 2, 0] := by decide +kernel
theorem size : ∀ t : Fin cfg0.N, t.val < 8 := by decide +kernel

/-- A block's product, at an entry. -/
def P (x0 : Vec Ideal S2048x512 .bf16) (x1 : Vec Ideal S2048x2048 .bf16) (p : Fin 512) (q : Fin 2048) : EReal :=
  ∑ r : Fin 2048, (x0 (ix2 r p) : EReal) * x1 (ix2 r q)

theorem pay2 (x0 : Vec Ideal S2048x512 .bf16) (x1 : Vec Ideal S2048x2048 .bf16) (p : Fin 512) (q : Fin 2048) :
    k0_pay2 x0 x1 (ix2 p q) = P x0 x1 p q := by
  pointwise [k0_pay2, k0_pay1, P]
theorem pay4 (x0 : Vec Ideal S2048x512 .bf16) (x1 : Vec Ideal S2048x2048 .bf16) (z : Vec Ideal S512x2048 .f32) (p : Fin 512) (q : Fin 2048) :
    k0_pay4 (k0_pay3 x0 x1 z) (ix2 p q) = (z (ix2 p q) : EReal) + P x0 x1 p q := by
  pointwise [k0_pay4, k0_pay3, k0_pay1, P]

/-- After the first half of the tokens the accumulator holds that half's product. -/
theorem acc (t : Fin cfg0.N) (h : t.val % 2 = 0) (p : Fin 512) (q : Fin 2048) :
    (outsAt0 m c t.val t.isLt).2 (ix2 p q) = P (iblk m c 0 t) (iblk m c 1 t) p q := by
  rw [outsAt0_A m c t h (by omega) (by omega)]
  frame_out
  exact pay2 _ _ p q

/-- After the second half the block written back holds both halves' sum. -/
theorem out (t : Fin cfg0.N) (h : t.val % 2 = 1) (p : Fin 512) (q : Fin 2048) :
    (outsAt0 m c t.val t.isLt).1 (ix2 p q)
      = P (iblk m c 0 ⟨t.val - 1, by omega⟩) (iblk m c 1 ⟨t.val - 1, by omega⟩) p q + P (iblk m c 0 t) (iblk m c 1 t) p q := by
  rw [outsAt0_B m c t (by omega) h h]
  frame_out
  simp only [read_unread_whole]
  refine (pay4 _ _ _ p q).trans ?_
  rw [← acc m c ⟨t.val - 1, by omega⟩ (show (t.val - 1) % 2 = 0 by omega) p q]

theorem arr2 : (dats m 0 c).arrAt 2 cfg0.N = G2 (m ((c : Thread nD τ).loc main_arg0)) (m ((c : Thread nD τ).loc main_arg1)) (m ((c : Thread nD τ).loc main_arg2)) := by
  refine (dats m 0 c).arrAt_eq_of_covers 2 _ (by decide +kernel) fun t hf y => ?_
  have ht : t.val % 2 = 1 := (flush0_2 t).mp hf
  have hs := size t
  blk_simp
  rw [after0_2]
  obtain ⟨p, q, rfl⟩ : ∃ (p : Fin 512) (q : Fin 2048), y = ix2 p q := ⟨y 0, y 1, by funext a; fin_cases a <;> rfl⟩
  refine (out m c t ht p q).trans ?_
  unfold G2
  rw [sum_halves]
  unfold P
  have i1 := idx t
  have i0 := idx ⟨t.val - 1, Nat.lt_of_le_of_lt (Nat.sub_le _ _) t.isLt⟩
  have d0 : (t.val - 1) / 2 = t.val / 2 := by omega
  have d1 : (t.val - 1) % 2 = 0 := by omega
  simp only [d0, d1] at i0
  simp only [ht] at i1
  congr 1 <;> refine Finset.sum_congr rfl fun r _ => ?_ <;> congr 1 <;> blk_ext [iblk, V, i0, i1]
end

section
open Cert.Reference5Ideal Cert.Reference5Ideal.Gen Cert.Reference5Ideal.Value
theorem ref2 (a0 : Vec Ideal ⟨2, ![4096, 2048]⟩ .bf16) (a1 : Vec Ideal ⟨2, ![4096, 2048]⟩ .bf16) (a2 : Vec Ideal ⟨2, ![2048, 2048]⟩ .bf16) (r : Fin 2048) (j : Fin 2048) :
    (truncf .bf16 (transpose S2048x2048 [1, 0] (Host.dotGeneral dot_S4096x2048_S4096x2048_S2048x2048_0_0_1_1_n_n none (extf .f32 a0 bitsLt_bf16_f32) (extf .f32 a1 bitsLt_bf16_f32)) transposes_S2048x2048_S2048x2048_1_0) bitsLt_bf16_f32 : FVec Ideal S2048x2048 .bf16) (ix2 r j) = G2 a0 a1 a2 (ix2 r j) := by
  pointwise [G2]
  exact Finset.sum_congr rfl fun r _ => mul_comm _ _
end

/-- The reference's run leaves its arguments and every counter as they were. -/
theorem frame_reference : Cert.quiescent_Reference5Ideal := fun m g _ =>
  (θ_run Cert.Reference5Ideal.defs _ _).mono (fun r h => ⟨fun c => (h c).2, sem_eq_zero_of_no_sems (by decide) r.2⟩)
    (Cert.Reference5Ideal.Value.run (F := Ideal) m g)

/-- The call and the reference end with equal results. -/
theorem agree : Cert.algebraic_Kernel5Ideal_Reference5Ideal := by
  intro m g m' g' hp he
  refine ⟨fun c => (Cert.Kernel5Ideal.Gen.dats m 0 c).arrAt 2 Cert.Kernel5Ideal.cfg0.N, Cert.Kernel5Ideal.Value.run_blocks m g, ?_⟩
  refine (θ_run Cert.Reference5Ideal.defs _ _).mono (fun r h c => ?_) (Cert.Reference5Ideal.Value.run (F := Ideal) m' g')
  obtain ⟨e0, e1, e2⟩ := he c
  obtain ⟨r0, ha⟩ := h c
  exact ⟨r0.trans ((ext2 fun r j => ref2 (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) r j).trans (by simp only [arr2 m c, e0, e1, e2])), ha⟩

end Cert.Proof.OutProjDw
end
-- ==== Proof.AttnOutDx.lean ====
module
public import proofs.«01_k».proof.Defs
public import proofs.«01_k».proof.Proof.Gen.Kernel6Ideal.Value
public import proofs.«01_k».proof.Proof.Gen.Reference6Ideal.Run
public import Idealize.ShloMosaic.Lib.Pipeline.ValueKit
public import proofs.«01_k».proof.Proof.Nums
@[expose] public section
set_option maxRecDepth 16384
noncomputable section
namespace Cert.Proof.AttnOutDx
open Idealize.ShloMosaic Idealize.ShloMosaic.TcCoe Idealize.SL.Sem

/-! The gradient of the left operand of the attention's output projection. -/

/-- One entry of a result. -/
def G2 (a0 : Vec Ideal ⟨2, ![4096, 2048]⟩ .bf16) (a1 : Vec Ideal ⟨2, ![4096, 2048]⟩ .bf16) (a2 : Vec Ideal ⟨2, ![2048, 2048]⟩ .bf16) : Vec Ideal ⟨2, ![4096, 2048]⟩ .bf16 :=
  fun i => (∑ k : Fin 2048, (a0 (ix2 (i 0) k) : EReal) * a2 (ix2 (i 1) k))

section
open Cert.Kernel6Ideal Cert.Kernel6Ideal.Gen Cert.Kernel6Ideal.Value
variable (m : (ℓ : Loc nD τ sig) → Buf (Elt Ideal) ℓ) (c : Dev nD)

theorem idx : ∀ t : Fin cfg0.N, win0_0.index t = ![t.val / 2, 0] ∧ win0_1.index t = ![t.val % 2, 0] ∧ win0_2.index t = ![t.val / 2, t.val % 2] := by decide +kernel

theorem pay2 (x0 : Vec Ideal ⟨2, ![1024, 2048]⟩ .bf16) (x1 : Vec Ideal ⟨2, ![1024, 2048]⟩ .bf16) (r : Fin 1024) (j : Fin 1024) :
    k0_pay1 x0 x1 (ix2 r j) = (∑ k : Fin 2048, (x0 (ix2 r k) : EReal) * x1 (ix2 j k)) := by
  pointwise [k0_pay1]

theorem arr2 : (dats m 0 c).arrAt 2 cfg0.N = G2 (m ((c : Thread nD τ).loc main_arg0)) (m ((c : Thread nD τ).loc main_arg1)) (m ((c : Thread nD τ).loc main_arg2)) := by
  refine (dats m 0 c).arrAt_eq_of_covers 2 _ (by decide +kernel) fun t hf y => ?_
  blk_simp
  rw [after0_2]
  frame_out
  obtain ⟨r, j, rfl⟩ : ∃ (r : Fin 1024) (j : Fin 1024), y = ix2 r j := ⟨y 0, y 1, by funext a; fin_cases a <;> rfl⟩
  refine (pay2 (iblk m c 0 t) (iblk m c 1 t) r j).trans ?_
  unfold G2
  blk_point [iblk, V, idx t]

end

section
open Cert.Reference6Ideal Cert.Reference6Ideal.Gen Cert.Reference6Ideal.Value
theorem ref2 (a0 : Vec Ideal ⟨2, ![4096, 2048]⟩ .bf16) (a1 : Vec Ideal ⟨2, ![4096, 2048]⟩ .bf16) (a2 : Vec Ideal ⟨2, ![2048, 2048]⟩ .bf16) (r : Fin 4096) (j : Fin 2048) :
    (truncf .bf16 (Host.dotGeneral dot_S4096x2048_S2048x2048_S4096x2048_1_1_0_0_n_n none (extf .f32 a0 bitsLt_bf16_f32) (extf .f32 a2 bitsLt_bf16_f32)) bitsLt_bf16_f32 : FVec Ideal S4096x2048 .bf16) (ix2 r j) = G2 a0 a1 a2 (ix2 r j) := by
  pointwise [G2]

end

/-- The reference's run leaves its arguments and every counter as they were. -/
theorem frame_reference : Cert.quiescent_Reference6Ideal := fun m g _ =>
  (θ_run Cert.Reference6Ideal.defs _ _).mono (fun r h => ⟨fun c => (h c).2, sem_eq_zero_of_no_sems (by decide) r.2⟩)
    (Cert.Reference6Ideal.Value.run (F := Ideal) m g)

/-- The call and the reference end with equal results. -/
theorem agree : Cert.algebraic_Kernel6Ideal_Reference6Ideal := by
  intro m g m' g' hp he
  refine ⟨fun c => (Cert.Kernel6Ideal.Gen.dats m 0 c).arrAt 2 Cert.Kernel6Ideal.cfg0.N, Cert.Kernel6Ideal.Value.run_blocks m g, ?_⟩
  refine (θ_run Cert.Reference6Ideal.defs _ _).mono (fun r h c => ?_) (Cert.Reference6Ideal.Value.run (F := Ideal) m' g')
  obtain ⟨e0, e1, e2⟩ := he c
  obtain ⟨r0, ha⟩ := h c
  exact ⟨r0.trans ((ext2 fun r j => ref2 (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) r j).trans (by simp only [arr2 m c, e0, e1, e2])), ha⟩

end Cert.Proof.AttnOutDx
end
-- ==== Proof.AttnOutDw.lean ====
module
public import proofs.«01_k».proof.Defs
public import proofs.«01_k».proof.Proof.Gen.Kernel7Ideal.Value
public import proofs.«01_k».proof.Proof.Gen.Reference7Ideal.Run
public import Idealize.ShloMosaic.Lib.Pipeline.ValueKit
public import proofs.«01_k».proof.Proof.Nums
public import Idealize.ShloMosaic.Lib.Pipeline.ReadBack
@[expose] public section
set_option maxRecDepth 16384
noncomputable section
namespace Cert.Proof.AttnOutDw
open Idealize.ShloMosaic Idealize.ShloMosaic.TcCoe Idealize.SL.Sem

/-! The gradient of the weights of the attention's output projection: a product over all tokens, in two halves with an accumulator. -/

/-- One entry of the result: a sum over all tokens. -/
def G2 (a0 : Vec Ideal ⟨2, ![4096, 2048]⟩ .bf16) (a1 : Vec Ideal ⟨2, ![4096, 2048]⟩ .bf16) (a2 : Vec Ideal ⟨2, ![2048, 2048]⟩ .bf16) : Vec Ideal ⟨2, ![2048, 2048]⟩ .bf16 :=
  fun i => ∑ r : Fin 4096, (a1 (ix2 r (i 0)) : EReal) * a0 (ix2 r (i 1))

section
open Cert.Kernel7Ideal Cert.Kernel7Ideal.Gen Cert.Kernel7Ideal.Value
variable (m : (ℓ : Loc nD τ sig) → Buf (Elt Ideal) ℓ) (c : Dev nD)

theorem idx : ∀ t : Fin cfg0.N, win0_0.index t = ![t.val % 2, t.val / 2] ∧ win0_1.index t = ![t.val % 2, 0] ∧ win0_2.index t = ![t.val / 2, 0] := by decide +kernel
theorem size : ∀ t : Fin cfg0.N, t.val < 8 := by decide +kernel

/-- A block's product, at an entry. -/
def P (x0 : Vec Ideal S2048x512 .bf16) (x1 : Vec Ideal S2048x2048 .bf16) (p : Fin 512) (q : Fin 2048) : EReal :=
  ∑ r : Fin 2048, (x0 (ix2 r p) : EReal) * x1 (ix2 r q)

theorem pay2 (x0 : Vec Ideal S2048x512 .bf16) (x1 : Vec Ideal S2048x2048 .bf16) (p : Fin 512) (q : Fin 2048) :
    k0_pay2 x0 x1 (ix2 p q) = P x0 x1 p q := by
  pointwise [k0_pay2, k0_pay1, P]
theorem pay4 (x0 : Vec Ideal S2048x512 .bf16) (x1 : Vec Ideal S2048x2048 .bf16) (z : Vec Ideal S512x2048 .f32) (p : Fin 512) (q : Fin 2048) :
    k0_pay4 (k0_pay3 x0 x1 z) (ix2 p q) = (z (ix2 p q) : EReal) + P x0 x1 p q := by
  pointwise [k0_pay4, k0_pay3, k0_pay1, P]

/-- After the first half of the tokens the accumulator holds that half's product. -/
theorem acc (t : Fin cfg0.N) (h : t.val % 2 = 0) (p : Fin 512) (q : Fin 2048) :
    (outsAt0 m c t.val t.isLt).2 (ix2 p q) = P (iblk m c 0 t) (iblk m c 1 t) p q := by
  rw [outsAt0_A m c t h (by omega) (by omega)]
  frame_out
  exact pay2 _ _ p q

/-- After the second half the block written back holds both halves' sum. -/
theorem out (t : Fin cfg0.N) (h : t.val % 2 = 1) (p : Fin 512) (q : Fin 2048) :
    (outsAt0 m c t.val t.isLt).1 (ix2 p q)
      = P (iblk m c 0 ⟨t.val - 1, by omega⟩) (iblk m c 1 ⟨t.val - 1, by omega⟩) p q + P (iblk m c 0 t) (iblk m c 1 t) p q := by
  rw [outsAt0_B m c t (by omega) h h]
  frame_out
  simp only [read_unread_whole]
  refine (pay4 _ _ _ p q).trans ?_
  rw [← acc m c ⟨t.val - 1, by omega⟩ (show (t.val - 1) % 2 = 0 by omega) p q]

theorem arr2 : (dats m 0 c).arrAt 2 cfg0.N = G2 (m ((c : Thread nD τ).loc main_arg0)) (m ((c : Thread nD τ).loc main_arg1)) (m ((c : Thread nD τ).loc main_arg2)) := by
  refine (dats m 0 c).arrAt_eq_of_covers 2 _ (by decide +kernel) fun t hf y => ?_
  have ht : t.val % 2 = 1 := (flush0_2 t).mp hf
  have hs := size t
  blk_simp
  rw [after0_2]
  obtain ⟨p, q, rfl⟩ : ∃ (p : Fin 512) (q : Fin 2048), y = ix2 p q := ⟨y 0, y 1, by funext a; fin_cases a <;> rfl⟩
  refine (out m c t ht p q).trans ?_
  unfold G2
  rw [sum_halves]
  unfold P
  have i1 := idx t
  have i0 := idx ⟨t.val - 1, Nat.lt_of_le_of_lt (Nat.sub_le _ _) t.isLt⟩
  have d0 : (t.val - 1) / 2 = t.val / 2 := by omega
  have d1 : (t.val - 1) % 2 = 0 := by omega
  simp only [d0, d1] at i0
  simp only [ht] at i1
  congr 1 <;> refine Finset.sum_congr rfl fun r _ => ?_ <;> congr 1 <;> blk_ext [iblk, V, i0, i1]
end

section
open Cert.Reference7Ideal Cert.Reference7Ideal.Gen Cert.Reference7Ideal.Value
theorem ref2 (a0 : Vec Ideal ⟨2, ![4096, 2048]⟩ .bf16) (a1 : Vec Ideal ⟨2, ![4096, 2048]⟩ .bf16) (a2 : Vec Ideal ⟨2, ![2048, 2048]⟩ .bf16) (r : Fin 2048) (j : Fin 2048) :
    (truncf .bf16 (transpose S2048x2048 [1, 0] (Host.dotGeneral dot_S4096x2048_S4096x2048_S2048x2048_0_0_1_1_n_n none (extf .f32 a0 bitsLt_bf16_f32) (extf .f32 a1 bitsLt_bf16_f32)) transposes_S2048x2048_S2048x2048_1_0) bitsLt_bf16_f32 : FVec Ideal S2048x2048 .bf16) (ix2 r j) = G2 a0 a1 a2 (ix2 r j) := by
  pointwise [G2]
  exact Finset.sum_congr rfl fun r _ => mul_comm _ _
end

/-- The reference's run leaves its arguments and every counter as they were. -/
theorem frame_reference : Cert.quiescent_Reference7Ideal := fun m g _ =>
  (θ_run Cert.Reference7Ideal.defs _ _).mono (fun r h => ⟨fun c => (h c).2, sem_eq_zero_of_no_sems (by decide) r.2⟩)
    (Cert.Reference7Ideal.Value.run (F := Ideal) m g)

/-- The call and the reference end with equal results. -/
theorem agree : Cert.algebraic_Kernel7Ideal_Reference7Ideal := by
  intro m g m' g' hp he
  refine ⟨fun c => (Cert.Kernel7Ideal.Gen.dats m 0 c).arrAt 2 Cert.Kernel7Ideal.cfg0.N, Cert.Kernel7Ideal.Value.run_blocks m g, ?_⟩
  refine (θ_run Cert.Reference7Ideal.defs _ _).mono (fun r h c => ?_) (Cert.Reference7Ideal.Value.run (F := Ideal) m' g')
  obtain ⟨e0, e1, e2⟩ := he c
  obtain ⟨r0, ha⟩ := h c
  exact ⟨r0.trans ((ext2 fun r j => ref2 (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) r j).trans (by simp only [arr2 m c, e0, e1, e2])), ha⟩

end Cert.Proof.AttnOutDw
end
-- ==== Proof.LruOutDx.lean ====
module
public import proofs.«01_k».proof.Defs
public import proofs.«01_k».proof.Proof.Gen.Kernel8Ideal.Value
public import proofs.«01_k».proof.Proof.Gen.Reference8Ideal.Run
public import Idealize.ShloMosaic.Lib.Pipeline.ValueKit
public import proofs.«01_k».proof.Proof.Nums
@[expose] public section
set_option maxRecDepth 16384
noncomputable section
namespace Cert.Proof.LruOutDx
open Idealize.ShloMosaic Idealize.ShloMosaic.TcCoe Idealize.SL.Sem

/-! The gradient of the left operand of the recurrence's output projection. -/

/-- One entry of a result. -/
def G2 (a0 : Vec Ideal ⟨2, ![4096, 2048]⟩ .bf16) (a1 : Vec Ideal ⟨2, ![4096, 2048]⟩ .bf16) (a2 : Vec Ideal ⟨2, ![2048, 2048]⟩ .bf16) : Vec Ideal ⟨2, ![4096, 2048]⟩ .bf16 :=
  fun i => (∑ k : Fin 2048, (a0 (ix2 (i 0) k) : EReal) * a2 (ix2 (i 1) k))

section
open Cert.Kernel8Ideal Cert.Kernel8Ideal.Gen Cert.Kernel8Ideal.Value
variable (m : (ℓ : Loc nD τ sig) → Buf (Elt Ideal) ℓ) (c : Dev nD)

theorem idx : ∀ t : Fin cfg0.N, win0_0.index t = ![t.val / 2, 0] ∧ win0_1.index t = ![t.val % 2, 0] ∧ win0_2.index t = ![t.val / 2, t.val % 2] := by decide +kernel

theorem pay2 (x0 : Vec Ideal ⟨2, ![1024, 2048]⟩ .bf16) (x1 : Vec Ideal ⟨2, ![1024, 2048]⟩ .bf16) (r : Fin 1024) (j : Fin 1024) :
    k0_pay1 x0 x1 (ix2 r j) = (∑ k : Fin 2048, (x0 (ix2 r k) : EReal) * x1 (ix2 j k)) := by
  pointwise [k0_pay1]

theorem arr2 : (dats m 0 c).arrAt 2 cfg0.N = G2 (m ((c : Thread nD τ).loc main_arg0)) (m ((c : Thread nD τ).loc main_arg1)) (m ((c : Thread nD τ).loc main_arg2)) := by
  refine (dats m 0 c).arrAt_eq_of_covers 2 _ (by decide +kernel) fun t hf y => ?_
  blk_simp
  rw [after0_2]
  frame_out
  obtain ⟨r, j, rfl⟩ : ∃ (r : Fin 1024) (j : Fin 1024), y = ix2 r j := ⟨y 0, y 1, by funext a; fin_cases a <;> rfl⟩
  refine (pay2 (iblk m c 0 t) (iblk m c 1 t) r j).trans ?_
  unfold G2
  blk_point [iblk, V, idx t]

end

section
open Cert.Reference8Ideal Cert.Reference8Ideal.Gen Cert.Reference8Ideal.Value
theorem ref2 (a0 : Vec Ideal ⟨2, ![4096, 2048]⟩ .bf16) (a1 : Vec Ideal ⟨2, ![4096, 2048]⟩ .bf16) (a2 : Vec Ideal ⟨2, ![2048, 2048]⟩ .bf16) (r : Fin 4096) (j : Fin 2048) :
    (truncf .bf16 (Host.dotGeneral dot_S4096x2048_S2048x2048_S4096x2048_1_1_0_0_n_n none (extf .f32 a0 bitsLt_bf16_f32) (extf .f32 a2 bitsLt_bf16_f32)) bitsLt_bf16_f32 : FVec Ideal S4096x2048 .bf16) (ix2 r j) = G2 a0 a1 a2 (ix2 r j) := by
  pointwise [G2]

end

/-- The reference's run leaves its arguments and every counter as they were. -/
theorem frame_reference : Cert.quiescent_Reference8Ideal := fun m g _ =>
  (θ_run Cert.Reference8Ideal.defs _ _).mono (fun r h => ⟨fun c => (h c).2, sem_eq_zero_of_no_sems (by decide) r.2⟩)
    (Cert.Reference8Ideal.Value.run (F := Ideal) m g)

/-- The call and the reference end with equal results. -/
theorem agree : Cert.algebraic_Kernel8Ideal_Reference8Ideal := by
  intro m g m' g' hp he
  refine ⟨fun c => (Cert.Kernel8Ideal.Gen.dats m 0 c).arrAt 2 Cert.Kernel8Ideal.cfg0.N, Cert.Kernel8Ideal.Value.run_blocks m g, ?_⟩
  refine (θ_run Cert.Reference8Ideal.defs _ _).mono (fun r h c => ?_) (Cert.Reference8Ideal.Value.run (F := Ideal) m' g')
  obtain ⟨e0, e1, e2⟩ := he c
  obtain ⟨r0, ha⟩ := h c
  exact ⟨r0.trans ((ext2 fun r j => ref2 (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2)) r j).trans (by simp only [arr2 m c, e0, e1, e2])), ha⟩

end Cert.Proof.LruOutDx
end
-- ==== Proof.LruOutDw.lean ====
module
public import proofs.«01_k».proof.Defs
public import proofs.«01_k».proof.Proof.Gen.Kernel9Ideal.Value
public import proofs.«01_k».proof.Proof.Gen.Reference9Ideal.Run
public import Idealize.ShloMosaic.Lib.Pipeline.ValueKit
public import proofs.«01_k».proof.Proof.Nums
public import Idealize.ShloMosaic.Lib.Pipeline.ReadBack
@[expose] public section
set_option maxRecDepth 16384
noncomputable section
namespace Cert.Proof.LruOutDw
open Idealize.ShloMosaic Idealize.ShloMosaic.TcCoe Idealize.SL.Sem

/-! The gradient of the weights of the recurrence's output projection: a product over all tokens, in two halves with an accumulator. -/

/-- One entry of the result: a sum over all tokens. -/
def G2 (a0 : Vec Ideal ⟨2, ![4096, 2048]⟩ .bf16) (a1 : Vec Ideal ⟨2, ![4096, 2048]⟩ .bf16) (a2 : Vec Ideal ⟨2, ![2048, 2048]⟩ .bf16) : Vec Ideal ⟨2, ![2048, 2048]⟩ .bf16 :=
  fun i => ∑ r : Fin 4096, (a1 (ix2 r (i 0)) : EReal) * a0 (ix2 r (i 1))

section
open Cert.Kernel9Ideal Cert.Kernel9Ideal.Gen Cert.Kernel9Ideal.Value
variable (m : (ℓ : Loc nD τ sig) → Buf (Elt Ideal) ℓ) (c : Dev nD)

theorem idx : ∀ t : Fin cfg0.N, win0_0.index t = ![t.val % 2, t.val / 2] ∧ win0_1.index t = ![t.val % 2, 0] ∧ win0_2.index t = ![t.val / 2, 0] := by decide +kernel
theorem size : ∀ t : Fin cfg0.N, t.val < 8 := by decide +kernel

/-- A block's product, at an entry. -/
def P (x0 : Vec Ideal S2048x512 .bf16) (x1 : Vec Ideal S2048x2048 .bf16) (p : Fin 512) (q : Fin 2048) : EReal :=
  ∑ r : Fin 2048, (x0 (ix2 r p) : EReal) * x1 (ix2 r q)

theorem pay2 (x0 : Vec Ideal S2048x512 .bf16) (x1 : Vec Ideal S2048x2048 .bf16) (p : Fin 512) (q : Fin 2048) :
    k0_pay2 x0 x1 (ix2 p q) = P x0 x1 p q := by
  pointwise [k0_pay2, k0_pay1, P]
theorem pay4 (x0 : Vec Ideal S2048x512 .bf16) (x1 : Vec Ideal S2048x2048 .bf16) (z : Vec Ideal S512x2048 .f32) (p : Fin 512) (q : Fin 2048) :
    k0_pay4 (k0_pay3 x0 x1 z) (ix2 p q) = (z (ix2 p q) : EReal) + P x0 x1 p q := by
  pointwise [k0_pay4, k0_pay3, k0_pay1, P]

/-- After the first half of the tokens the accumulator holds that half's product. -/
theorem acc (t : Fin cfg0.N) (h : t.val % 2 = 0) (p : Fin 512) (q : Fin 2048) :
    (outsAt0 m c t.val t.isLt).2 (ix2 p q) = P (iblk m c 0 t) (iblk m c 1 t) p q := by
  rw [outsAt0_A m c t h (by omega) (by omega)]
  frame_out
  exact pay2 _ _ p q

/-- After the second half the block written back holds both halves' sum. -/
theorem out (t : Fin cfg0.N) (h : t.val % 2 = 1) (p : Fin 512) (q : Fin 2048) :
    (outsAt0 m c t.val t.isLt).1 (ix2 p q)
      = P (iblk m c 0 ⟨t.val - 1, by omega⟩) (iblk m c 1 ⟨t.val - 1, by omega⟩) p q + P (iblk m c 0 t) (iblk m c 1 t) p q := by
  rw [outsAt0_B m c t (by omega) h h]
  frame_out
  simp only [read_unread_whole]
  refine (pay4 _ _ _ p q).trans ?_
  rw [← acc m c ⟨t.val - 1, by omega⟩ (show (t.val - 1) % 2 = 0 by omega) p q]

theorem arr2 : (dats m 0 c).arrAt 2 cfg0.N = G2 (m ((c : Thread nD τ).loc main_arg0)) (m ((c : Thread nD τ).loc main_arg1)) (m ((c : Thread nD τ).loc main_arg2)) := by
  refine (dats m 0 c).arrAt_eq_of_covers 2 _ (by decide +kernel) fun t hf y => ?_
  have ht : t.val % 2 = 1 := (flush0_2 t).mp hf
  have hs := size t
  blk_simp
  rw [after0_2]
  obtain ⟨p, q, rfl⟩ : ∃ (p : Fin 512) (q : Fin 2048), y = ix2 p q := ⟨y 0, y 1, by funext a; fin_cases a <;> rfl⟩
  refine (out m c t ht p q).trans ?_
  unfold G2
  rw [sum_halves]
  unfold P
  have i1 := idx t
  have i0 := idx ⟨t.val - 1, Nat.lt_of_le_of_lt (Nat.sub_le _ _) t.isLt⟩
  have d0 : (t.val - 1) / 2 = t.val / 2 := by omega
  have d1 : (t.val - 1) % 2 = 0 := by omega
  simp only [d0, d1] at i0
  simp only [ht] at i1
  congr 1 <;> refine Finset.sum_congr rfl fun r _ => ?_ <;> congr 1 <;> blk_ext [iblk, V, i0, i1]
end

section
open Cert.Reference9Ideal Cert.Reference9Ideal.Gen Cert.Reference9Ideal.Value
theorem ref2 (a0 : Vec Ideal ⟨2, ![4096, 2048]⟩ .bf16) (a1 : Vec Ideal ⟨2, ![4096, 2048]⟩ .bf16) (a2 : Vec Ideal ⟨2, ![2048, 2048]⟩ .bf16) (r : Fin 2048) (j : Fin 2048) :
    (truncf .bf16 (transpose S2048x2048 [1, 0] (Host.dotGeneral dot_S4096x2048_S4096x2048_S2048x2048_0_0_1_1_n_n none (extf .f32 a0 bitsLt_bf16_f32) (extf .f32 a1 bitsLt_bf16_f32)) transposes_S2048x2048_S2048x2048_1_0) bitsLt_bf16_f32 : FVec Ideal S2048x2048 .bf16) (ix2 r j) = G2 a0 a1 a2 (ix2 r j) := by
  pointwise [G2]
  exact Finset.sum_congr rfl fun r _ => mul_comm _ _
end

/-- The reference's run leaves its arguments and every counter as they were. -/
theorem frame_reference : Cert.quiescent_Reference9Ideal := fun m g _ =>
  (θ_run Cert.Reference9Ideal.defs _ _).mono (fun r h => ⟨fun c => (h c).2, sem_eq_zero_of_no_sems (by decide) r.2⟩)
    (Cert.Reference9Ideal.Value.run (F := Ideal) m g)

/-- The call and the reference end with equal results. -/
theorem agree : Cert.algebraic_Kernel9Ideal_Reference9Ideal := by
  intro m g m' g' hp he
  refine ⟨fun c => (Cert.Kernel9Ideal.Gen.dats m 0 c).arrAt 2 Cert.Kernel9Ideal.cfg0.N, Cert.Kernel9Ideal.Value.run_blocks m g, ?_⟩
  refine (θ_run Cert.Reference9Ideal.defs _ _).mono (fun r h c => ?_) (Cert.Reference9Ideal.Value.run (F := Ideal) m' g')
  obtain ⟨e0, e1, e2⟩ := he c
  obtain ⟨r0, ha⟩ := h c
  exact ⟨r0.trans ((ext2 fun r j => ref2 (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) r j).trans (by simp only [arr2 m c, e0, e1, e2])), ha⟩

end Cert.Proof.LruOutDw
end
-- ==== Proof.LruOut.lean ====
module
public import proofs.«01_k».proof.Defs
public import proofs.«01_k».proof.Proof.Gen.Kernel10Ideal.Value
public import proofs.«01_k».proof.Proof.Gen.Reference10Ideal.Run
public import Idealize.ShloMosaic.Lib.Pipeline.ValueKit
public import proofs.«01_k».proof.Proof.Nums
@[expose] public section
set_option maxRecDepth 16384
noncomputable section
namespace Cert.Proof.LruOut
open Idealize.ShloMosaic Idealize.ShloMosaic.TcCoe Idealize.SL.Sem

/-! The recurrence's output projection. -/

/-- One entry of a result. -/
def G2 (a0 : Vec Ideal ⟨2, ![4096, 2048]⟩ .bf16) (a1 : Vec Ideal ⟨2, ![2048, 2048]⟩ .bf16) : Vec Ideal ⟨2, ![4096, 2048]⟩ .bf16 :=
  fun i => (∑ k : Fin 2048, (a0 (ix2 (i 0) k) : EReal) * a1 (ix2 k (i 1)))

section
open Cert.Kernel10Ideal Cert.Kernel10Ideal.Gen Cert.Kernel10Ideal.Value
variable (m : (ℓ : Loc nD τ sig) → Buf (Elt Ideal) ℓ) (c : Dev nD)

theorem idx : ∀ t : Fin cfg0.N, win0_0.index t = ![t.val / 2, 0] ∧ win0_1.index t = ![0, t.val % 2] ∧ win0_2.index t = ![t.val / 2, t.val % 2] := by decide +kernel

theorem pay2 (x0 : Vec Ideal ⟨2, ![1024, 2048]⟩ .bf16) (x1 : Vec Ideal ⟨2, ![2048, 1024]⟩ .bf16) (r : Fin 1024) (j : Fin 1024) :
    k0_pay1 x0 x1 (ix2 r j) = (∑ k : Fin 2048, (x0 (ix2 r k) : EReal) * x1 (ix2 k j)) := by
  pointwise [k0_pay1]

theorem arr2 : (dats m 0 c).arrAt 2 cfg0.N = G2 (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨r, j, rfl⟩ : ∃ (r : Fin 1024) (j : Fin 1024), y = ix2 r j := ⟨y 0, y 1, by funext a; fin_cases a <;> rfl⟩
  refine (pay2 (iblk m c 0 t) (iblk m c 1 t) r j).trans ?_
  unfold G2
  blk_point [iblk, V, idx t]

end

section
open Cert.Reference10Ideal Cert.Reference10Ideal.Gen Cert.Reference10Ideal.Value
theorem ref2 (a0 : Vec Ideal ⟨2, ![4096, 2048]⟩ .bf16) (a1 : Vec Ideal ⟨2, ![2048, 2048]⟩ .bf16) (r : Fin 4096) (j : Fin 2048) :
    (truncf .bf16 (Host.dotGeneral dot_S4096x2048_S2048x2048_S4096x2048_1_0_0_1_n_n none (extf .f32 a0 bitsLt_bf16_f32) (extf .f32 a1 bitsLt_bf16_f32)) bitsLt_bf16_f32 : FVec Ideal S4096x2048 .bf16) (ix2 r j) = G2 a0 a1 (ix2 r j) := by
  pointwise [G2]

end

/-- The reference's run leaves its arguments and every counter as they were. -/
theorem frame_reference : Cert.quiescent_Reference10Ideal := fun m g _ =>
  (θ_run Cert.Reference10Ideal.defs _ _).mono (fun r h => ⟨fun c => (h c).2, sem_eq_zero_of_no_sems (by decide) r.2⟩)
    (Cert.Reference10Ideal.Value.run (F := Ideal) m g)

/-- The call and the reference end with equal results. -/
theorem agree : Cert.algebraic_Kernel10Ideal_Reference10Ideal := by
  intro m g m' g' hp he
  refine ⟨fun c => (Cert.Kernel10Ideal.Gen.dats m 0 c).arrAt 2 Cert.Kernel10Ideal.cfg0.N, Cert.Kernel10Ideal.Value.run_blocks m g, ?_⟩
  refine (θ_run Cert.Reference10Ideal.defs _ _).mono (fun r h c => ?_) (Cert.Reference10Ideal.Value.run (F := Ideal) m' g')
  obtain ⟨e0, e1⟩ := he c
  obtain ⟨r0, ha⟩ := h c
  exact ⟨r0.trans ((ext2 fun r j => ref2 (m' ((c.tc : Thread Cert.Reference10Ideal.nD Cert.Reference10Ideal.τ).loc Cert.Reference10Ideal.main_arg0)) (m' ((c.tc : Thread Cert.Reference10Ideal.nD Cert.Reference10Ideal.τ).loc Cert.Reference10Ideal.main_arg1)) r j).trans (by simp only [arr2 m c, e0, e1])), ha⟩

end Cert.Proof.LruOut
end
-- ==== Proof.AttnMerge.lean ====
module
public import proofs.«01_k».proof.Defs
public import proofs.«01_k».proof.Proof.Gen.Kernel11Ideal.Value
public import proofs.«01_k».proof.Proof.Gen.Reference11Ideal.Run
public import Idealize.ShloMosaic.Lib.Pipeline.ValueKit
public import proofs.«01_k».proof.Proof.Nums
@[expose] public section
set_option maxRecDepth 16384
noncomputable section
namespace Cert.Proof.AttnMerge
open Idealize.ShloMosaic Idealize.ShloMosaic.TcCoe Idealize.SL.Sem

/-! The attention's output projection, and its gated sum with the recurrence's. -/

/-- One entry of a result. -/
def G5 (a0 : Vec Ideal ⟨2, ![4096, 2048]⟩ .bf16) (a1 : Vec Ideal ⟨2, ![2048, 2048]⟩ .bf16) (a2 : Vec Ideal ⟨2, ![4096, 2048]⟩ .bf16) (a3 : Vec Ideal ⟨2, ![4096, 10752]⟩ .bf16) : Vec Ideal ⟨2, ![4096, 2048]⟩ .bf16 :=
  fun i => (∑ k : Fin 2048, (a0 (ix2 (i 0) k) : EReal) * a1 (ix2 k (i 1)))

/-- One entry of a result. -/
def G6 (a0 : Vec Ideal ⟨2, ![4096, 2048]⟩ .bf16) (a1 : Vec Ideal ⟨2, ![2048, 2048]⟩ .bf16) (a2 : Vec Ideal ⟨2, ![4096, 2048]⟩ .bf16) (a3 : Vec Ideal ⟨2, ![4096, 10752]⟩ .bf16) : Vec Ideal ⟨2, ![4096, 2048]⟩ .bf16 :=
  fun i => sg (a3 (ix2 (i 0) (col 6656 (by decide) (i 1))) : EReal) * a2 (ix2 (i 0) (i 1)) + sg (a3 (ix2 (i 0) (col 8704 (by decide) (i 1))) : EReal) * (∑ k : Fin 2048, (a0 (ix2 (i 0) k) : EReal) * a1 (ix2 k (i 1)))

section
open Cert.Kernel11Ideal Cert.Kernel11Ideal.Gen Cert.Kernel11Ideal.Value
variable (m : (ℓ : Loc nD τ sig) → Buf (Elt Ideal) ℓ) (c : Dev nD)

theorem idx : ∀ t : Fin cfg0.N, win0_0.index t = ![t.val / 4, 0] ∧ win0_1.index t = ![0, t.val % 4] ∧ win0_2.index t = ![t.val / 4, t.val % 4] ∧ win0_3.index t = ![t.val / 4, t.val % 4 + 13] ∧ win0_4.index t = ![t.val / 4, t.val % 4 + 17] ∧ win0_5.index t = ![t.val / 4, t.val % 4] ∧ win0_6.index t = ![t.val / 4, t.val % 4] := by decide +kernel

theorem pay5 (x0 : Vec Ideal ⟨2, ![1024, 2048]⟩ .bf16) (x1 : Vec Ideal ⟨2, ![2048, 512]⟩ .bf16) (x2 : Vec Ideal ⟨2, ![1024, 512]⟩ .bf16) (x3 : Vec Ideal ⟨2, ![1024, 512]⟩ .bf16) (x4 : Vec Ideal ⟨2, ![1024, 512]⟩ .bf16) (r : Fin 1024) (j : Fin 512) :
    k0_pay2 x0 x1 (ix2 r j) = (∑ k : Fin 2048, (x0 (ix2 r k) : EReal) * x1 (ix2 k j)) := by
  pointwise [k0_pay2, k0_pay1]

theorem arr5 : (dats m 0 c).arrAt 5 cfg0.N = G5 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  obtain ⟨r, j, rfl⟩ : ∃ (r : Fin 1024) (j : Fin 512), y = ix2 r j := ⟨y 0, y 1, by funext a; fin_cases a <;> rfl⟩
  refine (pay5 (iblk m c 0 t) (iblk m c 1 t) (iblk m c 2 t) (iblk m c 3 t) (iblk m c 4 t) r j).trans ?_
  unfold G5
  blk_point [iblk, V, idx t]

theorem pay6 (x0 : Vec Ideal ⟨2, ![1024, 2048]⟩ .bf16) (x1 : Vec Ideal ⟨2, ![2048, 512]⟩ .bf16) (x2 : Vec Ideal ⟨2, ![1024, 512]⟩ .bf16) (x3 : Vec Ideal ⟨2, ![1024, 512]⟩ .bf16) (x4 : Vec Ideal ⟨2, ![1024, 512]⟩ .bf16) (r : Fin 1024) (j : Fin 512) :
    k0_pay3 x0 x1 x2 x3 x4 (ix2 r j) = sg (x3 (ix2 r j) : EReal) * x2 (ix2 r j) + sg (x4 (ix2 r j) : EReal) * (∑ k : Fin 2048, (x0 (ix2 r k) : EReal) * x1 (ix2 k j)) := by
  pointwise [k0_pay3, k0_pay1]
  rw [ofBits_half, tanh_sg, tanh_sg]

theorem arr6 : (dats m 0 c).arrAt 6 cfg0.N = G6 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  frame_out
  obtain ⟨r, j, rfl⟩ : ∃ (r : Fin 1024) (j : Fin 512), y = ix2 r j := ⟨y 0, y 1, by funext a; fin_cases a <;> rfl⟩
  refine (pay6 (iblk m c 0 t) (iblk m c 1 t) (iblk m c 2 t) (iblk m c 3 t) (iblk m c 4 t) r j).trans ?_
  unfold G6
  blk_point [iblk, V, idx t, col]

end

section
open Cert.Reference11Ideal Cert.Reference11Ideal.Gen Cert.Reference11Ideal.Value
theorem ref5 (a0 : Vec Ideal ⟨2, ![4096, 2048]⟩ .bf16) (a1 : Vec Ideal ⟨2, ![2048, 2048]⟩ .bf16) (a2 : Vec Ideal ⟨2, ![4096, 2048]⟩ .bf16) (a3 : Vec Ideal ⟨2, ![4096, 10752]⟩ .bf16) (r : Fin 4096) (j : Fin 2048) :
    (truncf .bf16 (Host.dotGeneral dot_S4096x2048_S2048x2048_S4096x2048_1_0_0_1_n_n none (extf .f32 a0 bitsLt_bf16_f32) (extf .f32 a1 bitsLt_bf16_f32)) bitsLt_bf16_f32 : FVec Ideal S4096x2048 .bf16) (ix2 r j) = G5 a0 a1 a2 a3 (ix2 r j) := by
  pointwise [G5]

theorem ref6 (a0 : Vec Ideal ⟨2, ![4096, 2048]⟩ .bf16) (a1 : Vec Ideal ⟨2, ![2048, 2048]⟩ .bf16) (a2 : Vec Ideal ⟨2, ![4096, 2048]⟩ .bf16) (a3 : Vec Ideal ⟨2, ![4096, 10752]⟩ .bf16) (r : Fin 4096) (j : Fin 2048) :
    (truncf .bf16 (addf (mulf (Host.divf (broadcastInDim S4096x2048 ![] bcast_S_S4096x2048 (constant (F := Ideal) S_ .f32 0x3F800000#32)) (addf (broadcastInDim S4096x2048 ![] bcast_S_S4096x2048 (constant (F := Ideal) S_ .f32 0x3F800000#32)) (Host.exp (Host.negf (extractStridedSlice S4096x2048 ![0, 6656] (extf .f32 a3 bitsLt_bf16_f32) slices_S4096x10752_S4096x2048_0_6656))))) (extf .f32 a2 bitsLt_bf16_f32)) (mulf (Host.divf (broadcastInDim S4096x2048 ![] bcast_S_S4096x2048 (constant (F := Ideal) S_ .f32 0x3F800000#32)) (addf (broadcastInDim S4096x2048 ![] bcast_S_S4096x2048 (constant (F := Ideal) S_ .f32 0x3F800000#32)) (Host.exp (Host.negf (extractStridedSlice S4096x2048 ![0, 8704] (extf .f32 a3 bitsLt_bf16_f32) slices_S4096x10752_S4096x2048_0_8704))))) (Host.dotGeneral dot_S4096x2048_S2048x2048_S4096x2048_1_0_0_1_n_n none (extf .f32 a0 bitsLt_bf16_f32) (extf .f32 a1 bitsLt_bf16_f32)))) bitsLt_bf16_f32 : FVec Ideal S4096x2048 .bf16) (ix2 r j) = G6 a0 a1 a2 a3 (ix2 r j) := by
  pointwise [G6]
  rfl

end

/-- The reference's run leaves its arguments and every counter as they were. -/
theorem frame_reference : Cert.quiescent_Reference11Ideal := fun m g _ =>
  (θ_run Cert.Reference11Ideal.defs _ _).mono (fun r h => ⟨fun c => (h c).2.2, sem_eq_zero_of_no_sems (by decide) r.2⟩)
    (Cert.Reference11Ideal.Value.run (F := Ideal) m g)

/-- The call and the reference end with equal results. -/
theorem agree : Cert.algebraic_Kernel11Ideal_Reference11Ideal := by
  intro m g m' g' hp he
  refine ⟨fun c => (Cert.Kernel11Ideal.Gen.dats m 0 c).arrAt 5 Cert.Kernel11Ideal.cfg0.N, fun c => (Cert.Kernel11Ideal.Gen.dats m 0 c).arrAt 6 Cert.Kernel11Ideal.cfg0.N, Cert.Kernel11Ideal.Value.run_blocks m g, ?_⟩
  refine (θ_run Cert.Reference11Ideal.defs _ _).mono (fun r h c => ?_) (Cert.Reference11Ideal.Value.run (F := Ideal) m' g')
  obtain ⟨e0, e1, e2, e3⟩ := he c
  obtain ⟨r0, r1, ha⟩ := h c
  exact ⟨r0.trans ((ext2 fun r j => ref5 (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1)) (m' ((c.tc : Thread Cert.Reference11Ideal.nD Cert.Reference11Ideal.τ).loc Cert.Reference11Ideal.main_arg2)) (m' ((c.tc : Thread Cert.Reference11Ideal.nD Cert.Reference11Ideal.τ).loc Cert.Reference11Ideal.main_arg3)) r j).trans (by simp only [arr5 m c, e0, e1, e2, e3])), r1.trans ((ext2 fun r j => ref6 (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1)) (m' ((c.tc : Thread Cert.Reference11Ideal.nD Cert.Reference11Ideal.τ).loc Cert.Reference11Ideal.main_arg2)) (m' ((c.tc : Thread Cert.Reference11Ideal.nD Cert.Reference11Ideal.τ).loc Cert.Reference11Ideal.main_arg3)) r j).trans (by simp only [arr6 m c, e0, e1, e2, e3])), ha⟩

end Cert.Proof.AttnMerge
end
-- ==== Proof.OutProj.lean ====
module
public import proofs.«01_k».proof.Defs
public import proofs.«01_k».proof.Proof.Gen.Kernel12Ideal.Value
public import proofs.«01_k».proof.Proof.Gen.Reference12Ideal.Run
public import Idealize.ShloMosaic.Lib.Pipeline.ValueKit
public import proofs.«01_k».proof.Proof.Nums
@[expose] public section
set_option maxRecDepth 16384
noncomputable section
namespace Cert.Proof.OutProj
open Idealize.ShloMosaic Idealize.ShloMosaic.TcCoe Idealize.SL.Sem

/-! The output projection and the residual sum after it. -/

/-- One entry of a result. -/
def G4 (a0 : Vec Ideal ⟨2, ![4096, 2048]⟩ .bf16) (a1 : Vec Ideal ⟨2, ![2048, 2048]⟩ .bf16) (a2 : Vec Ideal ⟨2, ![4096, 2048]⟩ .f32) (a3 : Vec Ideal ⟨2, ![8, 2048]⟩ .f32) : Vec Ideal ⟨2, ![4096, 2048]⟩ .bf16 :=
  fun i => (∑ k : Fin 2048, (a0 (ix2 (i 0) k) : EReal) * a1 (ix2 k (i 1)))

/-- One entry of a result. -/
def G5 (a0 : Vec Ideal ⟨2, ![4096, 2048]⟩ .bf16) (a1 : Vec Ideal ⟨2, ![2048, 2048]⟩ .bf16) (a2 : Vec Ideal ⟨2, ![4096, 2048]⟩ .f32) (a3 : Vec Ideal ⟨2, ![8, 2048]⟩ .f32) : Vec Ideal ⟨2, ![4096, 2048]⟩ .f32 :=
  fun i => (a2 (ix2 (i 0) (i 1)) : EReal) + a3 (ix2 2 (i 1)) * (∑ k : Fin 2048, (a0 (ix2 (i 0) k) : EReal) * a1 (ix2 k (i 1)))

section
open Cert.Kernel12Ideal Cert.Kernel12Ideal.Gen Cert.Kernel12Ideal.Value
variable (m : (ℓ : Loc nD τ sig) → Buf (Elt Ideal) ℓ) (c : Dev nD)

theorem idx : ∀ t : Fin cfg0.N, win0_0.index t = ![t.val / 2, 0] ∧ win0_1.index t = ![0, t.val % 2] ∧ win0_2.index t = ![t.val / 2, t.val % 2] ∧ win0_3.index t = ![0, t.val % 2] ∧ win0_4.index t = ![t.val / 2, t.val % 2] ∧ win0_5.index t = ![t.val / 2, t.val % 2] := by decide +kernel

theorem pay4 (x0 : Vec Ideal ⟨2, ![1024, 2048]⟩ .bf16) (x1 : Vec Ideal ⟨2, ![2048, 1024]⟩ .bf16) (x2 : Vec Ideal ⟨2, ![1024, 1024]⟩ .f32) (x3 : Vec Ideal ⟨2, ![8, 1024]⟩ .f32) (r : Fin 1024) (j : Fin 1024) :
    k0_pay3 x0 x1 (ix2 r j) = (∑ k : Fin 2048, (x0 (ix2 r k) : EReal) * x1 (ix2 k j)) := by
  pointwise [k0_pay3, k0_pay1]

theorem arr4 : (dats m 0 c).arrAt 4 cfg0.N = G4 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  obtain ⟨r, j, rfl⟩ : ∃ (r : Fin 1024) (j : Fin 1024), y = ix2 r j := ⟨y 0, y 1, by funext a; fin_cases a <;> rfl⟩
  refine (pay4 (iblk m c 0 t) (iblk m c 1 t) (iblk m c 2 t) (iblk m c 3 t) r j).trans ?_
  unfold G4
  blk_point [iblk, V, idx t]

theorem pay5 (x0 : Vec Ideal ⟨2, ![1024, 2048]⟩ .bf16) (x1 : Vec Ideal ⟨2, ![2048, 1024]⟩ .bf16) (x2 : Vec Ideal ⟨2, ![1024, 1024]⟩ .f32) (x3 : Vec Ideal ⟨2, ![8, 1024]⟩ .f32) (r : Fin 1024) (j : Fin 1024) :
    k0_pay2 x0 x1 x2 x3 (ix2 r j) = (x2 (ix2 r j) : EReal) + x3 (ix2 2 j) * (∑ k : Fin 2048, (x0 (ix2 r k) : EReal) * x1 (ix2 k j)) := by
  pointwise [k0_pay2, k0_pay1]

theorem arr5 : (dats m 0 c).arrAt 5 cfg0.N = G5 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  obtain ⟨r, j, rfl⟩ : ∃ (r : Fin 1024) (j : Fin 1024), y = ix2 r j := ⟨y 0, y 1, by funext a; fin_cases a <;> rfl⟩
  refine (pay5 (iblk m c 0 t) (iblk m c 1 t) (iblk m c 2 t) (iblk m c 3 t) r j).trans ?_
  unfold G5
  blk_point [iblk, V, idx t]

end

section
open Cert.Reference12Ideal Cert.Reference12Ideal.Gen Cert.Reference12Ideal.Value
theorem ref4 (a0 : Vec Ideal ⟨2, ![4096, 2048]⟩ .bf16) (a1 : Vec Ideal ⟨2, ![2048, 2048]⟩ .bf16) (a2 : Vec Ideal ⟨2, ![4096, 2048]⟩ .f32) (a3 : Vec Ideal ⟨2, ![8, 2048]⟩ .f32) (r : Fin 4096) (j : Fin 2048) :
    (truncf .bf16 (Host.dotGeneral dot_S4096x2048_S2048x2048_S4096x2048_1_0_0_1_n_n none (extf .f32 a0 bitsLt_bf16_f32) (extf .f32 a1 bitsLt_bf16_f32)) bitsLt_bf16_f32 : FVec Ideal S4096x2048 .bf16) (ix2 r j) = G4 a0 a1 a2 a3 (ix2 r j) := by
  pointwise [G4]

theorem ref5 (a0 : Vec Ideal ⟨2, ![4096, 2048]⟩ .bf16) (a1 : Vec Ideal ⟨2, ![2048, 2048]⟩ .bf16) (a2 : Vec Ideal ⟨2, ![4096, 2048]⟩ .f32) (a3 : Vec Ideal ⟨2, ![8, 2048]⟩ .f32) (r : Fin 4096) (j : Fin 2048) :
    (addf a2 (mulf (broadcastInDim S4096x2048 ![0, 1] bcast_S1x2048_S4096x2048_0_1 (broadcastInDim S1x2048 ![1] bcast_S2048_S1x2048_1 (shapeCast _ (extractStridedSlice S1x2048 ![2, 0] a3 slices_S8x2048_S1x2048_2_0) shapeCasts_S1x2048_S2048))) (Host.dotGeneral dot_S4096x2048_S2048x2048_S4096x2048_1_0_0_1_n_n none (extf .f32 a0 bitsLt_bf16_f32) (extf .f32 a1 bitsLt_bf16_f32))) : FVec Ideal S4096x2048 .f32) (ix2 r j) = G5 a0 a1 a2 a3 (ix2 r j) := by
  pointwise [G5]

end

/-- The reference's run leaves its arguments and every counter as they were. -/
theorem frame_reference : Cert.quiescent_Reference12Ideal := fun m g _ =>
  (θ_run Cert.Reference12Ideal.defs _ _).mono (fun r h => ⟨fun c => (h c).2.2, sem_eq_zero_of_no_sems (by decide) r.2⟩)
    (Cert.Reference12Ideal.Value.run (F := Ideal) m g)

/-- The call and the reference end with equal results. -/
theorem agree : Cert.algebraic_Kernel12Ideal_Reference12Ideal := by
  intro m g m' g' hp he
  refine ⟨fun c => (Cert.Kernel12Ideal.Gen.dats m 0 c).arrAt 4 Cert.Kernel12Ideal.cfg0.N, fun c => (Cert.Kernel12Ideal.Gen.dats m 0 c).arrAt 5 Cert.Kernel12Ideal.cfg0.N, Cert.Kernel12Ideal.Value.run_blocks m g, ?_⟩
  refine (θ_run Cert.Reference12Ideal.defs _ _).mono (fun r h c => ?_) (Cert.Reference12Ideal.Value.run (F := Ideal) m' g')
  obtain ⟨e0, e1, e2, e3⟩ := he c
  obtain ⟨r0, r1, ha⟩ := h c
  exact ⟨r0.trans ((ext2 fun r j => ref4 (m' ((c.tc : Thread Cert.Reference12Ideal.nD Cert.Reference12Ideal.τ).loc Cert.Reference12Ideal.main_arg0)) (m' ((c.tc : Thread Cert.Reference12Ideal.nD Cert.Reference12Ideal.τ).loc Cert.Reference12Ideal.main_arg1)) (m' ((c.tc : Thread Cert.Reference12Ideal.nD Cert.Reference12Ideal.τ).loc Cert.Reference12Ideal.main_arg2)) (m' ((c.tc : Thread Cert.Reference12Ideal.nD Cert.Reference12Ideal.τ).loc Cert.Reference12Ideal.main_arg3)) r j).trans (by simp only [arr4 m c, e0, e1, e2, e3])), r1.trans ((ext2 fun r j => ref5 (m' ((c.tc : Thread Cert.Reference12Ideal.nD Cert.Reference12Ideal.τ).loc Cert.Reference12Ideal.main_arg0)) (m' ((c.tc : Thread Cert.Reference12Ideal.nD Cert.Reference12Ideal.τ).loc Cert.Reference12Ideal.main_arg1)) (m' ((c.tc : Thread Cert.Reference12Ideal.nD Cert.Reference12Ideal.τ).loc Cert.Reference12Ideal.main_arg2)) (m' ((c.tc : Thread Cert.Reference12Ideal.nD Cert.Reference12Ideal.τ).loc Cert.Reference12Ideal.main_arg3)) r j).trans (by simp only [arr5 m c, e0, e1, e2, e3])), ha⟩

end Cert.Proof.OutProj
end
-- ==== Proof.Ff1.lean ====
module
public import proofs.«01_k».proof.Defs
public import proofs.«01_k».proof.Proof.Gen.Kernel13Ideal.Value
public import proofs.«01_k».proof.Proof.Gen.Reference13Ideal.Run
public import Idealize.ShloMosaic.Lib.Pipeline.ValueKit
public import proofs.«01_k».proof.Proof.Nums
@[expose] public section
set_option maxRecDepth 16384
noncomputable section
namespace Cert.Proof.Ff1
open Idealize.ShloMosaic Idealize.ShloMosaic.TcCoe Idealize.SL.Sem

/-! The first feed-forward product, and its squared positive part. -/

/-- One entry of a result. -/
def G2 (a0 : Vec Ideal ⟨2, ![4096, 2048]⟩ .bf16) (a1 : Vec Ideal ⟨2, ![8192, 2048]⟩ .bf16) : Vec Ideal ⟨2, ![4096, 8192]⟩ .bf16 :=
  fun i => (∑ k : Fin 2048, (a0 (ix2 (i 0) k) : EReal) * a1 (ix2 (i 1) k))

/-- One entry of a result. -/
def G3 (a0 : Vec Ideal ⟨2, ![4096, 2048]⟩ .bf16) (a1 : Vec Ideal ⟨2, ![8192, 2048]⟩ .bf16) : Vec Ideal ⟨2, ![4096, 8192]⟩ .bf16 :=
  fun i => max (∑ k : Fin 2048, (a0 (ix2 (i 0) k) : EReal) * a1 (ix2 (i 1) k)) 0 * max (∑ k : Fin 2048, (a0 (ix2 (i 0) k) : EReal) * a1 (ix2 (i 1) k)) 0

section
open Cert.Kernel13Ideal Cert.Kernel13Ideal.Gen Cert.Kernel13Ideal.Value
variable (m : (ℓ : Loc nD τ sig) → Buf (Elt Ideal) ℓ) (c : Dev nD)

theorem idx : ∀ t : Fin cfg0.N, win0_0.index t = ![t.val / 8, 0] ∧ win0_1.index t = ![t.val % 8, 0] ∧ win0_2.index t = ![t.val / 8, t.val % 8] ∧ win0_3.index t = ![t.val / 8, t.val % 8] := by decide +kernel

theorem pay2 (x0 : Vec Ideal ⟨2, ![1024, 2048]⟩ .bf16) (x1 : Vec Ideal ⟨2, ![1024, 2048]⟩ .bf16) (r : Fin 1024) (j : Fin 1024) :
    k0_pay2 x0 x1 (ix2 r j) = (∑ k : Fin 2048, (x0 (ix2 r k) : EReal) * x1 (ix2 j k)) := by
  pointwise [k0_pay2, k0_pay1]

theorem arr2 : (dats m 0 c).arrAt 2 cfg0.N = G2 (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨r, j, rfl⟩ : ∃ (r : Fin 1024) (j : Fin 1024), y = ix2 r j := ⟨y 0, y 1, by funext a; fin_cases a <;> rfl⟩
  refine (pay2 (iblk m c 0 t) (iblk m c 1 t) r j).trans ?_
  unfold G2
  blk_point [iblk, V, idx t]

theorem pay3 (x0 : Vec Ideal ⟨2, ![1024, 2048]⟩ .bf16) (x1 : Vec Ideal ⟨2, ![1024, 2048]⟩ .bf16) (r : Fin 1024) (j : Fin 1024) :
    k0_pay3 x0 x1 (ix2 r j) = max (∑ k : Fin 2048, (x0 (ix2 r k) : EReal) * x1 (ix2 j k)) 0 * max (∑ k : Fin 2048, (x0 (ix2 r k) : EReal) * x1 (ix2 j k)) 0 := by
  pointwise [k0_pay3, k0_pay1]

theorem arr3 : (dats m 0 c).arrAt 3 cfg0.N = G3 (m ((c : Thread nD τ).loc main_arg0)) (m ((c : Thread nD τ).loc main_arg1)) := by
  refine (dats m 0 c).arrAt_eq_of_covers 3 _ (by decide +kernel) fun t hf y => ?_
  blk_simp
  rw [after0_3]
  frame_out
  obtain ⟨r, j, rfl⟩ : ∃ (r : Fin 1024) (j : Fin 1024), y = ix2 r j := ⟨y 0, y 1, by funext a; fin_cases a <;> rfl⟩
  refine (pay3 (iblk m c 0 t) (iblk m c 1 t) r j).trans ?_
  unfold G3
  blk_point [iblk, V, idx t]

end

section
open Cert.Reference13Ideal Cert.Reference13Ideal.Gen Cert.Reference13Ideal.Value
theorem ref2 (a0 : Vec Ideal ⟨2, ![4096, 2048]⟩ .bf16) (a1 : Vec Ideal ⟨2, ![8192, 2048]⟩ .bf16) (r : Fin 4096) (j : Fin 8192) :
    (truncf .bf16 (Host.dotGeneral dot_S4096x2048_S8192x2048_S4096x8192_1_1_0_0_n_n none (extf .f32 a0 bitsLt_bf16_f32) (extf .f32 a1 bitsLt_bf16_f32)) bitsLt_bf16_f32 : FVec Ideal S4096x8192 .bf16) (ix2 r j) = G2 a0 a1 (ix2 r j) := by
  pointwise [G2]

theorem ref3 (a0 : Vec Ideal ⟨2, ![4096, 2048]⟩ .bf16) (a1 : Vec Ideal ⟨2, ![8192, 2048]⟩ .bf16) (r : Fin 4096) (j : Fin 8192) :
    (truncf .bf16 (mulf (maximumf (Host.dotGeneral dot_S4096x2048_S8192x2048_S4096x8192_1_1_0_0_n_n none (extf .f32 a0 bitsLt_bf16_f32) (extf .f32 a1 bitsLt_bf16_f32)) (broadcastInDim S4096x8192 ![] bcast_S_S4096x8192 (constant (F := Ideal) S_ .f32 0x00000000#32))) (maximumf (Host.dotGeneral dot_S4096x2048_S8192x2048_S4096x8192_1_1_0_0_n_n none (extf .f32 a0 bitsLt_bf16_f32) (extf .f32 a1 bitsLt_bf16_f32)) (broadcastInDim S4096x8192 ![] bcast_S_S4096x8192 (constant (F := Ideal) S_ .f32 0x00000000#32)))) bitsLt_bf16_f32 : FVec Ideal S4096x8192 .bf16) (ix2 r j) = G3 a0 a1 (ix2 r j) := by
  pointwise [G3]

end

/-- The reference's run leaves its arguments and every counter as they were. -/
theorem frame_reference : Cert.quiescent_Reference13Ideal := fun m g _ =>
  (θ_run Cert.Reference13Ideal.defs _ _).mono (fun r h => ⟨fun c => (h c).2.2, sem_eq_zero_of_no_sems (by decide) r.2⟩)
    (Cert.Reference13Ideal.Value.run (F := Ideal) m g)

/-- The call and the reference end with equal results. -/
theorem agree : Cert.algebraic_Kernel13Ideal_Reference13Ideal := by
  intro m g m' g' hp he
  refine ⟨fun c => (Cert.Kernel13Ideal.Gen.dats m 0 c).arrAt 2 Cert.Kernel13Ideal.cfg0.N, fun c => (Cert.Kernel13Ideal.Gen.dats m 0 c).arrAt 3 Cert.Kernel13Ideal.cfg0.N, Cert.Kernel13Ideal.Value.run_blocks m g, ?_⟩
  refine (θ_run Cert.Reference13Ideal.defs _ _).mono (fun r h c => ?_) (Cert.Reference13Ideal.Value.run (F := Ideal) m' g')
  obtain ⟨e0, e1⟩ := he c
  obtain ⟨r0, r1, ha⟩ := h c
  exact ⟨r0.trans ((ext2 fun r j => ref2 (m' ((c.tc : Thread Cert.Reference13Ideal.nD Cert.Reference13Ideal.τ).loc Cert.Reference13Ideal.main_arg0)) (m' ((c.tc : Thread Cert.Reference13Ideal.nD Cert.Reference13Ideal.τ).loc Cert.Reference13Ideal.main_arg1)) r j).trans (by simp only [arr2 m c, e0, e1])), r1.trans ((ext2 fun r j => ref3 (m' ((c.tc : Thread Cert.Reference13Ideal.nD Cert.Reference13Ideal.τ).loc Cert.Reference13Ideal.main_arg0)) (m' ((c.tc : Thread Cert.Reference13Ideal.nD Cert.Reference13Ideal.τ).loc Cert.Reference13Ideal.main_arg1)) r j).trans (by simp only [arr3 m c, e0, e1])), ha⟩

end Cert.Proof.Ff1
end
-- ==== Proof.Ff1Dw.lean ====
module
public import proofs.«01_k».proof.Defs
public import proofs.«01_k».proof.Proof.Gen.Kernel14Ideal.Value
public import proofs.«01_k».proof.Proof.Gen.Reference14Ideal.Run
public import Idealize.ShloMosaic.Lib.Pipeline.ValueKit
public import proofs.«01_k».proof.Proof.Nums
public import Idealize.ShloMosaic.Lib.Pipeline.ReadBack
@[expose] public section
set_option maxRecDepth 16384
noncomputable section
namespace Cert.Proof.Ff1Dw
open Idealize.ShloMosaic Idealize.ShloMosaic.TcCoe Idealize.SL.Sem

/-! The gradient of the first feed-forward weights: a product over all tokens, in two halves with an accumulator. -/

/-- One entry of the result: a sum over all tokens. -/
def G2 (a0 : Vec Ideal ⟨2, ![4096, 8192]⟩ .bf16) (a1 : Vec Ideal ⟨2, ![4096, 2048]⟩ .bf16) (a2 : Vec Ideal ⟨2, ![8192, 2048]⟩ .bf16) : Vec Ideal ⟨2, ![8192, 2048]⟩ .bf16 :=
  fun i => ∑ r : Fin 4096, (a0 (ix2 r (i 0)) : EReal) * a1 (ix2 r (i 1))

section
open Cert.Kernel14Ideal Cert.Kernel14Ideal.Gen Cert.Kernel14Ideal.Value
variable (m : (ℓ : Loc nD τ sig) → Buf (Elt Ideal) ℓ) (c : Dev nD)

theorem idx : ∀ t : Fin cfg0.N, win0_0.index t = ![t.val % 2, t.val / 2] ∧ win0_1.index t = ![t.val % 2, 0] ∧ win0_2.index t = ![t.val / 2, 0] := by decide +kernel
theorem size : ∀ t : Fin cfg0.N, t.val < 32 := by decide +kernel

/-- A block's product, at an entry. -/
def P (x0 : Vec Ideal S2048x512 .bf16) (x1 : Vec Ideal S2048x2048 .bf16) (p : Fin 512) (q : Fin 2048) : EReal :=
  ∑ r : Fin 2048, (x0 (ix2 r p) : EReal) * x1 (ix2 r q)

theorem pay2 (x0 : Vec Ideal S2048x512 .bf16) (x1 : Vec Ideal S2048x2048 .bf16) (p : Fin 512) (q : Fin 2048) :
    k0_pay2 x0 x1 (ix2 p q) = P x0 x1 p q := by
  pointwise [k0_pay2, k0_pay1, P]
theorem pay4 (x0 : Vec Ideal S2048x512 .bf16) (x1 : Vec Ideal S2048x2048 .bf16) (z : Vec Ideal S512x2048 .f32) (p : Fin 512) (q : Fin 2048) :
    k0_pay4 (k0_pay3 x0 x1 z) (ix2 p q) = (z (ix2 p q) : EReal) + P x0 x1 p q := by
  pointwise [k0_pay4, k0_pay3, k0_pay1, P]

/-- After the first half of the tokens the accumulator holds that half's product. -/
theorem acc (t : Fin cfg0.N) (h : t.val % 2 = 0) (p : Fin 512) (q : Fin 2048) :
    (outsAt0 m c t.val t.isLt).2 (ix2 p q) = P (iblk m c 0 t) (iblk m c 1 t) p q := by
  rw [outsAt0_A m c t h (by omega) (by omega)]
  frame_out
  exact pay2 _ _ p q

/-- After the second half the block written back holds both halves' sum. -/
theorem out (t : Fin cfg0.N) (h : t.val % 2 = 1) (p : Fin 512) (q : Fin 2048) :
    (outsAt0 m c t.val t.isLt).1 (ix2 p q)
      = P (iblk m c 0 ⟨t.val - 1, by omega⟩) (iblk m c 1 ⟨t.val - 1, by omega⟩) p q + P (iblk m c 0 t) (iblk m c 1 t) p q := by
  rw [outsAt0_B m c t (by omega) h h]
  frame_out
  simp only [read_unread_whole]
  refine (pay4 _ _ _ p q).trans ?_
  rw [← acc m c ⟨t.val - 1, by omega⟩ (show (t.val - 1) % 2 = 0 by omega) p q]

theorem arr2 : (dats m 0 c).arrAt 2 cfg0.N = G2 (m ((c : Thread nD τ).loc main_arg0)) (m ((c : Thread nD τ).loc main_arg1)) (m ((c : Thread nD τ).loc main_arg2)) := by
  refine (dats m 0 c).arrAt_eq_of_covers 2 _ (by decide +kernel) fun t hf y => ?_
  have ht : t.val % 2 = 1 := (flush0_2 t).mp hf
  have hs := size t
  blk_simp
  rw [after0_2]
  obtain ⟨p, q, rfl⟩ : ∃ (p : Fin 512) (q : Fin 2048), y = ix2 p q := ⟨y 0, y 1, by funext a; fin_cases a <;> rfl⟩
  refine (out m c t ht p q).trans ?_
  unfold G2
  rw [sum_halves]
  unfold P
  have i1 := idx t
  have i0 := idx ⟨t.val - 1, Nat.lt_of_le_of_lt (Nat.sub_le _ _) t.isLt⟩
  have d0 : (t.val - 1) / 2 = t.val / 2 := by omega
  have d1 : (t.val - 1) % 2 = 0 := by omega
  simp only [d0, d1] at i0
  simp only [ht] at i1
  congr 1 <;> refine Finset.sum_congr rfl fun r _ => ?_ <;> congr 1 <;> blk_ext [iblk, V, i0, i1]
end

section
open Cert.Reference14Ideal Cert.Reference14Ideal.Gen Cert.Reference14Ideal.Value
theorem ref2 (a0 : Vec Ideal ⟨2, ![4096, 8192]⟩ .bf16) (a1 : Vec Ideal ⟨2, ![4096, 2048]⟩ .bf16) (a2 : Vec Ideal ⟨2, ![8192, 2048]⟩ .bf16) (r : Fin 8192) (j : Fin 2048) :
    (truncf .bf16 (Host.dotGeneral dot_S4096x8192_S4096x2048_S8192x2048_0_0_1_1_n_n none (extf .f32 a0 bitsLt_bf16_f32) (extf .f32 a1 bitsLt_bf16_f32)) bitsLt_bf16_f32 : FVec Ideal S8192x2048 .bf16) (ix2 r j) = G2 a0 a1 a2 (ix2 r j) := by
  pointwise [G2]
end

/-- The reference's run leaves its arguments and every counter as they were. -/
theorem frame_reference : Cert.quiescent_Reference14Ideal := fun m g _ =>
  (θ_run Cert.Reference14Ideal.defs _ _).mono (fun r h => ⟨fun c => (h c).2, sem_eq_zero_of_no_sems (by decide) r.2⟩)
    (Cert.Reference14Ideal.Value.run (F := Ideal) m g)

/-- The call and the reference end with equal results. -/
theorem agree : Cert.algebraic_Kernel14Ideal_Reference14Ideal := by
  intro m g m' g' hp he
  refine ⟨fun c => (Cert.Kernel14Ideal.Gen.dats m 0 c).arrAt 2 Cert.Kernel14Ideal.cfg0.N, Cert.Kernel14Ideal.Value.run_blocks m g, ?_⟩
  refine (θ_run Cert.Reference14Ideal.defs _ _).mono (fun r h c => ?_) (Cert.Reference14Ideal.Value.run (F := Ideal) m' g')
  obtain ⟨e0, e1, e2⟩ := he c
  obtain ⟨r0, ha⟩ := h c
  exact ⟨r0.trans ((ext2 fun r j => ref2 (m' ((c.tc : Thread Cert.Reference14Ideal.nD Cert.Reference14Ideal.τ).loc Cert.Reference14Ideal.main_arg0)) (m' ((c.tc : Thread Cert.Reference14Ideal.nD Cert.Reference14Ideal.τ).loc Cert.Reference14Ideal.main_arg1)) (m' ((c.tc : Thread Cert.Reference14Ideal.nD Cert.Reference14Ideal.τ).loc Cert.Reference14Ideal.main_arg2)) r j).trans (by simp only [arr2 m c, e0, e1, e2])), ha⟩

end Cert.Proof.Ff1Dw
end
-- ==== Proof.InProjDw.lean ====
module
public import proofs.«01_k».proof.Defs
public import proofs.«01_k».proof.Proof.Gen.Kernel15Ideal.Value
public import proofs.«01_k».proof.Proof.Gen.Reference15Ideal.Run
public import Idealize.ShloMosaic.Lib.Pipeline.ValueKit
public import proofs.«01_k».proof.Proof.Nums
public import Idealize.ShloMosaic.Lib.Pipeline.ReadBack
@[expose] public section
set_option maxRecDepth 16384
noncomputable section
namespace Cert.Proof.InProjDw
open Idealize.ShloMosaic Idealize.ShloMosaic.TcCoe Idealize.SL.Sem

/-! The gradient of the input projection's weights: a product over all tokens, in two halves with an accumulator. -/

/-- One entry of the result: a sum over all tokens. -/
def G2 (a0 : Vec Ideal ⟨2, ![4096, 10752]⟩ .bf16) (a1 : Vec Ideal ⟨2, ![4096, 2048]⟩ .bf16) (a2 : Vec Ideal ⟨2, ![10752, 2048]⟩ .bf16) : Vec Ideal ⟨2, ![10752, 2048]⟩ .bf16 :=
  fun i => ∑ r : Fin 4096, (a0 (ix2 r (i 0)) : EReal) * a1 (ix2 r (i 1))

section
open Cert.Kernel15Ideal Cert.Kernel15Ideal.Gen Cert.Kernel15Ideal.Value
variable (m : (ℓ : Loc nD τ sig) → Buf (Elt Ideal) ℓ) (c : Dev nD)

theorem idx : ∀ t : Fin cfg0.N, win0_0.index t = ![t.val % 2, t.val / 2] ∧ win0_1.index t = ![t.val % 2, 0] ∧ win0_2.index t = ![t.val / 2, 0] := by decide +kernel
theorem size : ∀ t : Fin cfg0.N, t.val < 28 := by decide +kernel

/-- A block's product, at an entry. -/
def P (x0 : Vec Ideal S2048x768 .bf16) (x1 : Vec Ideal S2048x2048 .bf16) (p : Fin 768) (q : Fin 2048) : EReal :=
  ∑ r : Fin 2048, (x0 (ix2 r p) : EReal) * x1 (ix2 r q)

theorem pay2 (x0 : Vec Ideal S2048x768 .bf16) (x1 : Vec Ideal S2048x2048 .bf16) (p : Fin 768) (q : Fin 2048) :
    k0_pay2 x0 x1 (ix2 p q) = P x0 x1 p q := by
  pointwise [k0_pay2, k0_pay1, P]
theorem pay4 (x0 : Vec Ideal S2048x768 .bf16) (x1 : Vec Ideal S2048x2048 .bf16) (z : Vec Ideal S768x2048 .f32) (p : Fin 768) (q : Fin 2048) :
    k0_pay4 (k0_pay3 x0 x1 z) (ix2 p q) = (z (ix2 p q) : EReal) + P x0 x1 p q := by
  pointwise [k0_pay4, k0_pay3, k0_pay1, P]

/-- After the first half of the tokens the accumulator holds that half's product. -/
theorem acc (t : Fin cfg0.N) (h : t.val % 2 = 0) (p : Fin 768) (q : Fin 2048) :
    (outsAt0 m c t.val t.isLt).2 (ix2 p q) = P (iblk m c 0 t) (iblk m c 1 t) p q := by
  rw [outsAt0_A m c t h (by omega) (by omega)]
  frame_out
  exact pay2 _ _ p q

/-- After the second half the block written back holds both halves' sum. -/
theorem out (t : Fin cfg0.N) (h : t.val % 2 = 1) (p : Fin 768) (q : Fin 2048) :
    (outsAt0 m c t.val t.isLt).1 (ix2 p q)
      = P (iblk m c 0 ⟨t.val - 1, by omega⟩) (iblk m c 1 ⟨t.val - 1, by omega⟩) p q + P (iblk m c 0 t) (iblk m c 1 t) p q := by
  rw [outsAt0_B m c t (by omega) h h]
  frame_out
  simp only [read_unread_whole]
  refine (pay4 _ _ _ p q).trans ?_
  rw [← acc m c ⟨t.val - 1, by omega⟩ (show (t.val - 1) % 2 = 0 by omega) p q]

theorem arr2 : (dats m 0 c).arrAt 2 cfg0.N = G2 (m ((c : Thread nD τ).loc main_arg0)) (m ((c : Thread nD τ).loc main_arg1)) (m ((c : Thread nD τ).loc main_arg2)) := by
  refine (dats m 0 c).arrAt_eq_of_covers 2 _ (by decide +kernel) fun t hf y => ?_
  have ht : t.val % 2 = 1 := (flush0_2 t).mp hf
  have hs := size t
  blk_simp
  rw [after0_2]
  obtain ⟨p, q, rfl⟩ : ∃ (p : Fin 768) (q : Fin 2048), y = ix2 p q := ⟨y 0, y 1, by funext a; fin_cases a <;> rfl⟩
  refine (out m c t ht p q).trans ?_
  unfold G2
  rw [sum_halves]
  unfold P
  have i1 := idx t
  have i0 := idx ⟨t.val - 1, Nat.lt_of_le_of_lt (Nat.sub_le _ _) t.isLt⟩
  have d0 : (t.val - 1) / 2 = t.val / 2 := by omega
  have d1 : (t.val - 1) % 2 = 0 := by omega
  simp only [d0, d1] at i0
  simp only [ht] at i1
  congr 1 <;> refine Finset.sum_congr rfl fun r _ => ?_ <;> congr 1 <;> blk_ext [iblk, V, i0, i1]
end

section
open Cert.Reference15Ideal Cert.Reference15Ideal.Gen Cert.Reference15Ideal.Value
theorem ref2 (a0 : Vec Ideal ⟨2, ![4096, 10752]⟩ .bf16) (a1 : Vec Ideal ⟨2, ![4096, 2048]⟩ .bf16) (a2 : Vec Ideal ⟨2, ![10752, 2048]⟩ .bf16) (r : Fin 10752) (j : Fin 2048) :
    (truncf .bf16 (Host.dotGeneral dot_S4096x10752_S4096x2048_S10752x2048_0_0_1_1_n_n none (extf .f32 a0 bitsLt_bf16_f32) (extf .f32 a1 bitsLt_bf16_f32)) bitsLt_bf16_f32 : FVec Ideal S10752x2048 .bf16) (ix2 r j) = G2 a0 a1 a2 (ix2 r j) := by
  pointwise [G2]
end

/-- The reference's run leaves its arguments and every counter as they were. -/
theorem frame_reference : Cert.quiescent_Reference15Ideal := fun m g _ =>
  (θ_run Cert.Reference15Ideal.defs _ _).mono (fun r h => ⟨fun c => (h c).2, sem_eq_zero_of_no_sems (by decide) r.2⟩)
    (Cert.Reference15Ideal.Value.run (F := Ideal) m g)

/-- The call and the reference end with equal results. -/
theorem agree : Cert.algebraic_Kernel15Ideal_Reference15Ideal := by
  intro m g m' g' hp he
  refine ⟨fun c => (Cert.Kernel15Ideal.Gen.dats m 0 c).arrAt 2 Cert.Kernel15Ideal.cfg0.N, Cert.Kernel15Ideal.Value.run_blocks m g, ?_⟩
  refine (θ_run Cert.Reference15Ideal.defs _ _).mono (fun r h c => ?_) (Cert.Reference15Ideal.Value.run (F := Ideal) m' g')
  obtain ⟨e0, e1, e2⟩ := he c
  obtain ⟨r0, ha⟩ := h c
  exact ⟨r0.trans ((ext2 fun r j => ref2 (m' ((c.tc : Thread Cert.Reference15Ideal.nD Cert.Reference15Ideal.τ).loc Cert.Reference15Ideal.main_arg0)) (m' ((c.tc : Thread Cert.Reference15Ideal.nD Cert.Reference15Ideal.τ).loc Cert.Reference15Ideal.main_arg1)) (m' ((c.tc : Thread Cert.Reference15Ideal.nD Cert.Reference15Ideal.τ).loc Cert.Reference15Ideal.main_arg2)) r j).trans (by simp only [arr2 m c, e0, e1, e2])), ha⟩

end Cert.Proof.InProjDw
end
-- ==== Proof.InProjDx.lean ====
module
public import proofs.«01_k».proof.Defs
public import proofs.«01_k».proof.Proof.Gen.Kernel16Ideal.Value
public import proofs.«01_k».proof.Proof.Gen.Reference16Ideal.Run
public import Idealize.ShloMosaic.Lib.Pipeline.ValueKit
public import proofs.«01_k».proof.Proof.Nums
public import Idealize.ShloMosaic.Lib.Pipeline.ReadBack
public import Idealize.ShloMosaic.Lib.StableHlo.ReadAt
@[expose] public section
set_option maxRecDepth 16384
noncomputable section
namespace Cert.Proof.InProjDx
open Idealize.ShloMosaic Idealize.ShloMosaic.TcCoe Idealize.SL.Sem

/-! The gradient of the input projection's input, lower half: a product over all columns, in four quarters with an accumulator, into the rows from 2048 of an array whose other rows stay. -/

/-- A sum over the 10752 columns, as the four quarters' sums. -/
theorem sum_quarters (f : Fin 10752 → EReal) :
    ∑ r : Fin 10752, f r = (((∑ r : Fin 2688, f ⟨r.val, by omega⟩) + ∑ r : Fin 2688, f ⟨2688 + r.val, by omega⟩)
      + ∑ r : Fin 2688, f ⟨5376 + r.val, by omega⟩) + ∑ r : Fin 2688, f ⟨8064 + r.val, by omega⟩ := by
  refine (Fin.sum_univ_add (a := 8064) (b := 2688) f).trans ?_
  refine congrArg (· + _) ((Fin.sum_univ_add (a := 5376) (b := 2688) fun i => f (Fin.castAdd 2688 i)).trans ?_)
  refine congrArg (· + _) ((Fin.sum_univ_add (a := 2688) (b := 2688) fun i => f (Fin.castAdd 2688 (Fin.castAdd 2688 i))).trans ?_)
  rfl

/-- One entry of the result: the array as it was in the rows above, a sum over all columns in the rows below. -/
def G2 (a0 : Vec Ideal ⟨2, ![4096, 10752]⟩ .bf16) (a1 : Vec Ideal ⟨2, ![4096, 2048]⟩ .bf16) (a2 : Vec Ideal ⟨2, ![10752, 2048]⟩ .bf16) (a3 : Vec Ideal ⟨2, ![4096, 2048]⟩ .bf16) : Vec Ideal ⟨2, ![4096, 2048]⟩ .bf16 :=
  fun i => if (i 0).val < 2048 then a3 i else ∑ r : Fin 10752, (a0 (ix2 (i 0) r) : EReal) * a2 (ix2 r (i 1))

theorem G2_low (a0 : Vec Ideal ⟨2, ![4096, 10752]⟩ .bf16) (a1 : Vec Ideal ⟨2, ![4096, 2048]⟩ .bf16) (a2 : Vec Ideal ⟨2, ![10752, 2048]⟩ .bf16) (a3 : Vec Ideal ⟨2, ![4096, 2048]⟩ .bf16) (R : Fin 4096) (J : Fin 2048) (h : ¬ R.val < 2048) :
    G2 a0 a1 a2 a3 (ix2 R J) = ∑ r : Fin 10752, (a0 (ix2 R r) : EReal) * a2 (ix2 r J) := if_neg h
theorem G2_high (a0 : Vec Ideal ⟨2, ![4096, 10752]⟩ .bf16) (a1 : Vec Ideal ⟨2, ![4096, 2048]⟩ .bf16) (a2 : Vec Ideal ⟨2, ![10752, 2048]⟩ .bf16) (a3 : Vec Ideal ⟨2, ![4096, 2048]⟩ .bf16) (i : (⟨2, ![4096, 2048]⟩ : Shape).Idx) (h : (i 0).val < 2048) : G2 a0 a1 a2 a3 i = a3 i := if_pos h

section
open Cert.Kernel16Ideal Cert.Kernel16Ideal.Gen Cert.Kernel16Ideal.Value
variable (m : (ℓ : Loc nD τ sig) → Buf (Elt Ideal) ℓ) (c : Dev nD)

theorem idx : ∀ t : Fin cfg0.N, win0_0.index t = ![t.val / 8 + 2, t.val % 4] ∧ win0_1.index t = ![t.val % 4, t.val / 4 % 2] ∧ win0_2.index t = ![t.val / 8 + 2, t.val / 4 % 2] := by decide +kernel
theorem size : ∀ t : Fin cfg0.N, t.val < 16 := by decide +kernel

/-- A block's product, at an entry. -/
def P (x0 : Vec Ideal S1024x2688 .bf16) (x1 : Vec Ideal S2688x1024 .bf16) (p : Fin 1024) (q : Fin 1024) : EReal :=
  ∑ r : Fin 2688, (x0 (ix2 p r) : EReal) * x1 (ix2 r q)

theorem pay2 (x0 : Vec Ideal S1024x2688 .bf16) (x1 : Vec Ideal S2688x1024 .bf16) (p : Fin 1024) (q : Fin 1024) :
    k0_pay2 x0 x1 (ix2 p q) = P x0 x1 p q := by
  pointwise [k0_pay2, k0_pay1, P]
theorem pay3 (x0 : Vec Ideal S1024x2688 .bf16) (x1 : Vec Ideal S2688x1024 .bf16) (z : Vec Ideal S1024x1024 .f32) (p : Fin 1024) (q : Fin 1024) :
    k0_pay3 x0 x1 z (ix2 p q) = (z (ix2 p q) : EReal) + P x0 x1 p q := by
  pointwise [k0_pay3, k0_pay1, P]
theorem pay4 (x0 : Vec Ideal S1024x2688 .bf16) (x1 : Vec Ideal S2688x1024 .bf16) (z : Vec Ideal S1024x1024 .f32) (p : Fin 1024) (q : Fin 1024) :
    k0_pay4 (k0_pay3 x0 x1 z) (ix2 p q) = (z (ix2 p q) : EReal) + P x0 x1 p q := by
  pointwise [k0_pay4, k0_pay3, k0_pay1, P]

/-- The grid point `i` before `t`. -/
abbrev back (t : Fin cfg0.N) (i : ℕ) : Fin cfg0.N := ⟨t.val - i, Nat.lt_of_le_of_lt (Nat.sub_le _ _) t.isLt⟩

/-- After the first quarter of the columns the accumulator holds that quarter's product. -/
theorem acc0 (t : Fin cfg0.N) (h : t.val % 4 = 0) (p : Fin 1024) (q : Fin 1024) :
    (outsAt0 m c t.val t.isLt).2 (ix2 p q) = P (iblk m c 0 t) (iblk m c 1 t) p q := by
  rw [outsAt0_A m c t h (by omega) (by omega)]
  frame_out
  exact pay2 _ _ p q

/-- A later quarter's product is added to it. -/
theorem acc1 (t : Fin cfg0.N) (h : t.val % 4 = 1 ∨ t.val % 4 = 2) (p : Fin 1024) (q : Fin 1024) :
    (outsAt0 m c t.val t.isLt).2 (ix2 p q) = ((outsAt0 m c (back t 1).val (back t 1).isLt).2 (ix2 p q) : EReal) + P (iblk m c 0 t) (iblk m c 1 t) p q := by
  rw [outsAt0_B m c t (by omega) (by omega) (by omega)]
  frame_out
  simp only [read_unread_whole]
  exact pay3 _ _ _ p q

/-- After the last quarter the block written back holds the sum of the four. -/
theorem out (t : Fin cfg0.N) (h : t.val % 4 = 3) (p : Fin 1024) (q : Fin 1024) :
    (outsAt0 m c t.val t.isLt).1 (ix2 p q)
      = ((P (iblk m c 0 (back t 3)) (iblk m c 1 (back t 3)) p q + P (iblk m c 0 (back t 2)) (iblk m c 1 (back t 2)) p q)
        + P (iblk m c 0 (back t 1)) (iblk m c 1 (back t 1)) p q) + P (iblk m c 0 t) (iblk m c 1 t) p q := by
  rw [outsAt0_C m c t (by omega) (by omega) h]
  frame_out
  simp only [read_unread_whole]
  refine (pay4 _ _ _ p q).trans ?_
  refine congrArg (· + _) ((acc1 m c (back t 1) (Or.inr (by show (t.val - 1) % 4 = 2; omega)) p q).trans ?_)
  refine congrArg (· + _) ((acc1 m c (back t 2) (Or.inl (by show (t.val - 2) % 4 = 1; omega)) p q).trans ?_)
  exact congrArg (· + _) (acc0 m c (back t 3) (by show (t.val - 3) % 4 = 0; omega) p q)

/-- The call's result starts as the array handed to it. -/
theorem hV : V m c main_v0 = m ((c : Thread nD τ).loc main_arg3) := by
  unfold V
  after_reads_simp
  try rfl

theorem left (t : Fin cfg0.N) (p : Fin 1024) (r : Fin 2688) (R : Fin 4096) (K : Fin 10752) (hR : 1024 * (t.val / 8 + 2) + p.val = R.val) (hK : 2688 * (t.val % 4) + r.val = K.val) :
    iblk m c 0 t (ix2 p r) = m ((c : Thread nD τ).loc main_arg0) (ix2 R K) := by
  blk_ext [iblk, V, idx t]
theorem right (t : Fin cfg0.N) (r : Fin 2688) (q : Fin 1024) (K : Fin 10752) (J : Fin 2048) (hK : 2688 * (t.val % 4) + r.val = K.val) (hJ : 1024 * (t.val / 4 % 2) + q.val = J.val) :
    iblk m c 1 t (ix2 r q) = m ((c : Thread nD τ).loc main_arg2) (ix2 K J) := by
  blk_ext [iblk, V, idx t]
theorem emb (t : Fin cfg0.N) (p : Fin 1024) (q : Fin 1024) (R : Fin 4096) (J : Fin 2048) (hR : 1024 * (t.val / 8 + 2) + p.val = R.val) (hJ : 1024 * (t.val / 4 % 2) + q.val = J.val) :
    ((View.whole main_v0).slice (win0_2.rect t)).emb (ix2 p q) = (ix2 R J : S4096x2048.Idx) := by
  blk_ext [idx t]

/-- The gradient handed to the call. -/
abbrev A0 : Vec Ideal ⟨2, ![4096, 10752]⟩ .bf16 := m ((c : Thread nD τ).loc main_arg0)
/-- The weights handed to the call. -/
abbrev A2 : Vec Ideal ⟨2, ![10752, 2048]⟩ .bf16 := m ((c : Thread nD τ).loc main_arg2)

/-- A block's product in terms of the arguments. -/
theorem quarter (t : Fin cfg0.N) (p q : Fin 1024) (R : Fin 4096) (J : Fin 2048) (o : ℕ) (ho : o + 2688 ≤ 10752)
    (hR : 1024 * (t.val / 8 + 2) + p.val = R.val) (hJ : 1024 * (t.val / 4 % 2) + q.val = J.val) (hK : 2688 * (t.val % 4) = o) :
    P (iblk m c 0 t) (iblk m c 1 t) p q = ∑ r : Fin 2688, (A0 m c (ix2 R ⟨o + r.val, by omega⟩) : EReal) * A2 m c (ix2 ⟨o + r.val, by omega⟩ J) := by
  unfold P
  refine Finset.sum_congr rfl fun r _ => ?_
  rw [left m c t p r R ⟨o + r.val, by omega⟩ hR (by rw [hK]), right m c t r q ⟨o + r.val, by omega⟩ J (by rw [hK]) hJ]

/-- A block written back holds the result's entries. -/
theorem block (t : Fin cfg0.N) (ht : t.val % 4 = 3) (p q : Fin 1024) (R : Fin 4096) (J : Fin 2048)
    (hR : 1024 * (t.val / 8 + 2) + p.val = R.val) (hJ : 1024 * (t.val / 4 % 2) + q.val = J.val) :
    (outsAt0 m c t.val t.isLt).1 (ix2 p q) = G2 (m ((c : Thread nD τ).loc main_arg0)) (m ((c : Thread nD τ).loc main_arg1)) (m ((c : Thread nD τ).loc main_arg2)) (m ((c : Thread nD τ).loc main_arg3)) (ix2 R J) := by
  refine (out m c t ht p q).trans ?_
  have hs := size t
  rw [quarter m c (back t 3) p q R J 0 (by omega) (by show 1024 * ((t.val - 3) / 8 + 2) + _ = _; omega) (by show 1024 * ((t.val - 3) / 4 % 2) + _ = _; omega) (by show 2688 * ((t.val - 3) % 4) = _; omega),
    quarter m c (back t 2) p q R J 2688 (by omega) (by show 1024 * ((t.val - 2) / 8 + 2) + _ = _; omega) (by show 1024 * ((t.val - 2) / 4 % 2) + _ = _; omega) (by show 2688 * ((t.val - 2) % 4) = _; omega),
    quarter m c (back t 1) p q R J 5376 (by omega) (by show 1024 * ((t.val - 1) / 8 + 2) + _ = _; omega) (by show 1024 * ((t.val - 1) / 4 % 2) + _ = _; omega) (by show 2688 * ((t.val - 1) % 4) = _; omega),
    quarter m c t p q R J 8064 (by omega) hR hJ (by omega)]
  rw [G2_low _ _ _ _ R J (by omega), sum_quarters]
  simp only [Nat.zero_add]

theorem arr2 : (dats m 0 c).arrAt 2 cfg0.N = G2 (m ((c : Thread nD τ).loc main_arg0)) (m ((c : Thread nD τ).loc main_arg1)) (m ((c : Thread nD τ).loc main_arg2)) (m ((c : Thread nD τ).loc main_arg3)) := by
  refine (dats m 0 c).arrAt_eq_of_coversWhere_of_agree 2 _ (fun β => 2 ≤ β 0) (by decide +kernel) (fun t hf y => ?_) fun j hj => ?_
  · have ht : t.val % 4 = 3 := (flush0_2 t).mp hf
    have hs := size t
    blk_simp
    rw [after0_2]
    obtain ⟨p, q, rfl⟩ : ∃ (p : Fin 1024) (q : Fin 1024), y = ix2 p q := ⟨y 0, y 1, by funext a; fin_cases a <;> rfl⟩
    rw [emb t p q ⟨1024 * (t.val / 8 + 2) + p.val, by omega⟩ ⟨1024 * (t.val / 4 % 2) + q.val, by omega⟩ rfl rfl]
    exact block m c t ht p q _ _ rfl rfl
  · rw [A_eq]
    refine (congrFun (hV m c) _).trans ?_
    rw [G2_high]
    revert hj
    blk_simp [Pipeline.Window.cell_apply]
    omega
end

section
open Cert.Reference16Ideal Cert.Reference16Ideal.Gen Cert.Reference16Ideal.Value
theorem ref2 (a0 : Vec Ideal ⟨2, ![4096, 10752]⟩ .bf16) (a1 : Vec Ideal ⟨2, ![4096, 2048]⟩ .bf16) (a2 : Vec Ideal ⟨2, ![10752, 2048]⟩ .bf16) (a3 : Vec Ideal ⟨2, ![4096, 2048]⟩ .bf16) (r : Fin 4096) (j : Fin 2048) :
    (concatenate S4096x2048 0 [⟨S2048x2048, (extractStridedSlice S2048x2048 ![0, 0] a3 slices_S4096x2048_S2048x2048_0_0)⟩, ⟨S2048x2048, (extractStridedSlice S2048x2048 ![2048, 0] (truncf .bf16 (Host.dotGeneral dot_S4096x10752_S10752x2048_S4096x2048_1_0_0_1_n_n none (extf .f32 a0 bitsLt_bf16_f32) (extf .f32 a2 bitsLt_bf16_f32)) bitsLt_bf16_f32) slices_S4096x2048_S2048x2048_2048_0)⟩] concatenates_S2048x2048_S2048x2048_S4096x2048_d0 : FVec Ideal S4096x2048 .bf16) (ix2 r j) = G2 a0 a1 a2 a3 (ix2 r j) := by
  pointwise [G2]
  split
  · rfl
  · rename_i h
    refine Finset.sum_congr rfl fun x _ => ?_
    congr 3
    exact Fin.ext (by show 2048 + (r.val - 2048) = r.val; omega)
end

/-- The reference's run leaves its arguments and every counter as they were. -/
theorem frame_reference : Cert.quiescent_Reference16Ideal := fun m g _ =>
  (θ_run Cert.Reference16Ideal.defs _ _).mono (fun r h => ⟨fun c => (h c).2, sem_eq_zero_of_no_sems (by decide) r.2⟩)
    (Cert.Reference16Ideal.Value.run (F := Ideal) m g)

/-- The call and the reference end with equal results. -/
theorem agree : Cert.algebraic_Kernel16Ideal_Reference16Ideal := by
  intro m g m' g' hp he
  refine ⟨fun c => (Cert.Kernel16Ideal.Gen.dats m 0 c).arrAt 2 Cert.Kernel16Ideal.cfg0.N, Cert.Kernel16Ideal.Value.run_blocks m g, ?_⟩
  refine (θ_run Cert.Reference16Ideal.defs _ _).mono (fun r h c => ?_) (Cert.Reference16Ideal.Value.run (F := Ideal) m' g')
  obtain ⟨e0, e1, e2, e3⟩ := he c
  obtain ⟨r0, ha⟩ := h c
  exact ⟨r0.trans ((ext2 fun r j => ref2 (m' ((c.tc : Thread Cert.Reference16Ideal.nD Cert.Reference16Ideal.τ).loc Cert.Reference16Ideal.main_arg0)) (m' ((c.tc : Thread Cert.Reference16Ideal.nD Cert.Reference16Ideal.τ).loc Cert.Reference16Ideal.main_arg1)) (m' ((c.tc : Thread Cert.Reference16Ideal.nD Cert.Reference16Ideal.τ).loc Cert.Reference16Ideal.main_arg2)) (m' ((c.tc : Thread Cert.Reference16Ideal.nD Cert.Reference16Ideal.τ).loc Cert.Reference16Ideal.main_arg3)) r j).trans (by simp only [arr2 m c, e0, e1, e2, e3])), ha⟩

end Cert.Proof.InProjDx
end
-- ==== Proof.Adam.lean ====
module
public import Idealize.ShloMosaic.Lib.Pipeline.ValueKit
@[expose] public section
noncomputable section
namespace Cert.Proof
open Idealize.ShloMosaic

/-! One entry of an optimiser step, from the weight, the two moments and the gradient at that entry. -/

/-- The value of a number written by its bits. -/
def num (b : BitVec 32) : EReal := Ideal.ofBits .f32 b
/-- The new first moment. -/
def newM (m g : EReal) : EReal := num 0x3F666666#32 * m + num 0x3DCCCCCD#32 * g
/-- The new second moment. -/
def newV (v g : EReal) : EReal := num 0x3F7FBE77#32 * v + num 0x3A83126F#32 * (g * g)
/-- The step of the weight. -/
def step (w m v g : EReal) : EReal :=
  num 0xBA83126F#32 * (Ideal.div (newM m g * num 0x3FC48605#32) (Ideal.sqrt (newV v g * num 0x42C8E6D3#32) + num 0x322BCC77#32) + num 0x3C23D70A#32 * w)

/-- One entry of a norm and its modulation: a row, a place in it, the gain, the scale and the shift there. -/
def normed (x : Fin 2048 → EReal) (j : Fin 2048) (g s t : EReal) : EReal :=
  x j * Ideal.rsqrt (Ideal.div (∑ k : Fin 2048, x k * x k) (num 0x45000000#32) + num 0x358637BD#32) * g * (1 + s) + t

end Cert.Proof
end
-- ==== Proof.AdamFf1.lean ====
module
public import proofs.«01_k».proof.Defs
public import proofs.«01_k».proof.Proof.Gen.Kernel17Ideal.Value
public import proofs.«01_k».proof.Proof.Gen.Reference17Ideal.Run
public import Idealize.ShloMosaic.Lib.Pipeline.ValueKit
public import proofs.«01_k».proof.Proof.Nums
public import proofs.«01_k».proof.Proof.Adam
@[expose] public section
set_option maxRecDepth 16384
noncomputable section
namespace Cert.Proof.AdamFf1
open Idealize.ShloMosaic Idealize.ShloMosaic.TcCoe Idealize.SL.Sem

/-! The optimiser step of the first feed-forward weights. -/

/-- One entry of a result. -/
def G4 (a0 : Vec Ideal ⟨2, ![2048, 1024]⟩ .f32) (a1 : Vec Ideal ⟨2, ![2048, 1024]⟩ .f32) (a2 : Vec Ideal ⟨2, ![2048, 1024]⟩ .f32) (a3 : Vec Ideal ⟨2, ![2048, 1024]⟩ .f32) : Vec Ideal ⟨2, ![2048, 1024]⟩ .f32 :=
  fun i => (a3 (ix2 (i 0) (i 1)) : EReal)

/-- One entry of a result. -/
def G5 (a0 : Vec Ideal ⟨2, ![2048, 1024]⟩ .f32) (a1 : Vec Ideal ⟨2, ![2048, 1024]⟩ .f32) (a2 : Vec Ideal ⟨2, ![2048, 1024]⟩ .f32) (a3 : Vec Ideal ⟨2, ![2048, 1024]⟩ .f32) : Vec Ideal ⟨2, ![2048, 1024]⟩ .f32 :=
  fun i => step (a0 (ix2 (i 0) (i 1)) : EReal) (a1 (ix2 (i 0) (i 1)) : EReal) (a2 (ix2 (i 0) (i 1)) : EReal) (a3 (ix2 (i 0) (i 1)) : EReal)

/-- One entry of a result. -/
def G6 (a0 : Vec Ideal ⟨2, ![2048, 1024]⟩ .f32) (a1 : Vec Ideal ⟨2, ![2048, 1024]⟩ .f32) (a2 : Vec Ideal ⟨2, ![2048, 1024]⟩ .f32) (a3 : Vec Ideal ⟨2, ![2048, 1024]⟩ .f32) : Vec Ideal ⟨2, ![2048, 1024]⟩ .f32 :=
  fun i => newM (a1 (ix2 (i 0) (i 1)) : EReal) (a3 (ix2 (i 0) (i 1)) : EReal)

/-- One entry of a result. -/
def G7 (a0 : Vec Ideal ⟨2, ![2048, 1024]⟩ .f32) (a1 : Vec Ideal ⟨2, ![2048, 1024]⟩ .f32) (a2 : Vec Ideal ⟨2, ![2048, 1024]⟩ .f32) (a3 : Vec Ideal ⟨2, ![2048, 1024]⟩ .f32) : Vec Ideal ⟨2, ![2048, 1024]⟩ .f32 :=
  fun i => newV (a2 (ix2 (i 0) (i 1)) : EReal) (a3 (ix2 (i 0) (i 1)) : EReal)

section
open Cert.Kernel17Ideal Cert.Kernel17Ideal.Gen Cert.Kernel17Ideal.Value
variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] := by decide +kernel

theorem pay4 (x0 : Vec Ideal ⟨2, ![128, 1024]⟩ .f32) (x1 : Vec Ideal ⟨2, ![128, 1024]⟩ .f32) (x2 : Vec Ideal ⟨2, ![128, 1024]⟩ .f32) (x3 : Vec Ideal ⟨2, ![128, 1024]⟩ .f32) (r : Fin 128) (j : Fin 1024) :
    x3 (ix2 r j) = (x3 (ix2 r j) : EReal) := by
  rfl

theorem arr4 : (dats m 0 c).arrAt 4 cfg0.N = G4 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  obtain ⟨r, j, rfl⟩ : ∃ (r : Fin 128) (j : Fin 1024), y = ix2 r j := ⟨y 0, y 1, by funext a; fin_cases a <;> rfl⟩
  refine (pay4 (iblk m c 0 t) (iblk m c 1 t) (iblk m c 2 t) (iblk m c 3 t) r j).trans ?_
  unfold G4
  blk_point [iblk, V, idx t]

theorem pay5 (x0 : Vec Ideal ⟨2, ![128, 1024]⟩ .f32) (x1 : Vec Ideal ⟨2, ![128, 1024]⟩ .f32) (x2 : Vec Ideal ⟨2, ![128, 1024]⟩ .f32) (x3 : Vec Ideal ⟨2, ![128, 1024]⟩ .f32) (r : Fin 128) (j : Fin 1024) :
    k0_pay3 x3 x1 x2 x0 (ix2 r j) = step (x0 (ix2 r j) : EReal) (x1 (ix2 r j) : EReal) (x2 (ix2 r j) : EReal) (x3 (ix2 r j) : EReal) := by
  pointwise [k0_pay3, k0_pay2, k0_pay1, step, newM, newV, num]

theorem arr5 : (dats m 0 c).arrAt 5 cfg0.N = G5 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  obtain ⟨r, j, rfl⟩ : ∃ (r : Fin 128) (j : Fin 1024), y = ix2 r j := ⟨y 0, y 1, by funext a; fin_cases a <;> rfl⟩
  refine (pay5 (iblk m c 0 t) (iblk m c 1 t) (iblk m c 2 t) (iblk m c 3 t) r j).trans ?_
  unfold G5
  blk_point [iblk, V, idx t]

theorem pay6 (x0 : Vec Ideal ⟨2, ![128, 1024]⟩ .f32) (x1 : Vec Ideal ⟨2, ![128, 1024]⟩ .f32) (x2 : Vec Ideal ⟨2, ![128, 1024]⟩ .f32) (x3 : Vec Ideal ⟨2, ![128, 1024]⟩ .f32) (r : Fin 128) (j : Fin 1024) :
    k0_pay1 x3 x1 (ix2 r j) = newM (x1 (ix2 r j) : EReal) (x3 (ix2 r j) : EReal) := by
  pointwise [k0_pay1, newM, num]

theorem arr6 : (dats m 0 c).arrAt 6 cfg0.N = G6 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  frame_out
  obtain ⟨r, j, rfl⟩ : ∃ (r : Fin 128) (j : Fin 1024), y = ix2 r j := ⟨y 0, y 1, by funext a; fin_cases a <;> rfl⟩
  refine (pay6 (iblk m c 0 t) (iblk m c 1 t) (iblk m c 2 t) (iblk m c 3 t) r j).trans ?_
  unfold G6
  blk_point [iblk, V, idx t]

theorem pay7 (x0 : Vec Ideal ⟨2, ![128, 1024]⟩ .f32) (x1 : Vec Ideal ⟨2, ![128, 1024]⟩ .f32) (x2 : Vec Ideal ⟨2, ![128, 1024]⟩ .f32) (x3 : Vec Ideal ⟨2, ![128, 1024]⟩ .f32) (r : Fin 128) (j : Fin 1024) :
    k0_pay2 x3 x2 (ix2 r j) = newV (x2 (ix2 r j) : EReal) (x3 (ix2 r j) : EReal) := by
  pointwise [k0_pay2, newV, num]

theorem arr7 : (dats m 0 c).arrAt 7 cfg0.N = G7 (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  frame_out
  obtain ⟨r, j, rfl⟩ : ∃ (r : Fin 128) (j : Fin 1024), y = ix2 r j := ⟨y 0, y 1, by funext a; fin_cases a <;> rfl⟩
  refine (pay7 (iblk m c 0 t) (iblk m c 1 t) (iblk m c 2 t) (iblk m c 3 t) r j).trans ?_
  unfold G7
  blk_point [iblk, V, idx t]

end

section
open Cert.Reference17Ideal Cert.Reference17Ideal.Gen Cert.Reference17Ideal.Value
theorem ref4 (a0 : Vec Ideal ⟨2, ![2048, 1024]⟩ .f32) (a1 : Vec Ideal ⟨2, ![2048, 1024]⟩ .f32) (a2 : Vec Ideal ⟨2, ![2048, 1024]⟩ .f32) (a3 : Vec Ideal ⟨2, ![2048, 1024]⟩ .f32) (r : Fin 2048) (j : Fin 1024) :
    (a3 : FVec Ideal S2048x1024 .f32) (ix2 r j) = G4 a0 a1 a2 a3 (ix2 r j) := by
  pointwise [G4, step, newM, newV, num]

theorem ref5 (a0 : Vec Ideal ⟨2, ![2048, 1024]⟩ .f32) (a1 : Vec Ideal ⟨2, ![2048, 1024]⟩ .f32) (a2 : Vec Ideal ⟨2, ![2048, 1024]⟩ .f32) (a3 : Vec Ideal ⟨2, ![2048, 1024]⟩ .f32) (r : Fin 2048) (j : Fin 1024) :
    (mulf (broadcastInDim S2048x1024 ![] bcast_S_S2048x1024 (constant (F := Ideal) S_ .f32 0xBA83126F#32)) (addf (Host.divf (mulf (addf (mulf (broadcastInDim S2048x1024 ![] bcast_S_S2048x1024 (constant (F := Ideal) S_ .f32 0x3F666666#32)) a1) (mulf (broadcastInDim S2048x1024 ![] bcast_S_S2048x1024 (constant (F := Ideal) S_ .f32 0x3DCCCCCD#32)) a3)) (broadcastInDim S2048x1024 ![] bcast_S_S2048x1024 (constant (F := Ideal) S_ .f32 0x3FC48605#32))) (addf (Host.sqrt (mulf (addf (mulf (broadcastInDim S2048x1024 ![] bcast_S_S2048x1024 (constant (F := Ideal) S_ .f32 0x3F7FBE77#32)) a2) (mulf (broadcastInDim S2048x1024 ![] bcast_S_S2048x1024 (constant (F := Ideal) S_ .f32 0x3A83126F#32)) (mulf a3 a3))) (broadcastInDim S2048x1024 ![] bcast_S_S2048x1024 (constant (F := Ideal) S_ .f32 0x42C8E6D3#32)))) (broadcastInDim S2048x1024 ![] bcast_S_S2048x1024 (constant (F := Ideal) S_ .f32 0x322BCC77#32)))) (mulf (broadcastInDim S2048x1024 ![] bcast_S_S2048x1024 (constant (F := Ideal) S_ .f32 0x3C23D70A#32)) a0)) : FVec Ideal S2048x1024 .f32) (ix2 r j) = G5 a0 a1 a2 a3 (ix2 r j) := by
  pointwise [G5, step, newM, newV, num]

theorem ref6 (a0 : Vec Ideal ⟨2, ![2048, 1024]⟩ .f32) (a1 : Vec Ideal ⟨2, ![2048, 1024]⟩ .f32) (a2 : Vec Ideal ⟨2, ![2048, 1024]⟩ .f32) (a3 : Vec Ideal ⟨2, ![2048, 1024]⟩ .f32) (r : Fin 2048) (j : Fin 1024) :
    (addf (mulf (broadcastInDim S2048x1024 ![] bcast_S_S2048x1024 (constant (F := Ideal) S_ .f32 0x3F666666#32)) a1) (mulf (broadcastInDim S2048x1024 ![] bcast_S_S2048x1024 (constant (F := Ideal) S_ .f32 0x3DCCCCCD#32)) a3) : FVec Ideal S2048x1024 .f32) (ix2 r j) = G6 a0 a1 a2 a3 (ix2 r j) := by
  pointwise [G6, step, newM, newV, num]

theorem ref7 (a0 : Vec Ideal ⟨2, ![2048, 1024]⟩ .f32) (a1 : Vec Ideal ⟨2, ![2048, 1024]⟩ .f32) (a2 : Vec Ideal ⟨2, ![2048, 1024]⟩ .f32) (a3 : Vec Ideal ⟨2, ![2048, 1024]⟩ .f32) (r : Fin 2048) (j : Fin 1024) :
    (addf (mulf (broadcastInDim S2048x1024 ![] bcast_S_S2048x1024 (constant (F := Ideal) S_ .f32 0x3F7FBE77#32)) a2) (mulf (broadcastInDim S2048x1024 ![] bcast_S_S2048x1024 (constant (F := Ideal) S_ .f32 0x3A83126F#32)) (mulf a3 a3)) : FVec Ideal S2048x1024 .f32) (ix2 r j) = G7 a0 a1 a2 a3 (ix2 r j) := by
  pointwise [G7, step, newM, newV, num]

end

/-- The reference's run leaves its arguments and every counter as they were. -/
theorem frame_reference : Cert.quiescent_Reference17Ideal := fun m g _ =>
  (θ_run Cert.Reference17Ideal.defs _ _).mono (fun r h => ⟨fun c => (h c).2.2.2.2, sem_eq_zero_of_no_sems (by decide) r.2⟩)
    (Cert.Reference17Ideal.Value.run (F := Ideal) m g)

/-- The call and the reference end with equal results. -/
theorem agree : Cert.algebraic_Kernel17Ideal_Reference17Ideal := by
  intro m g m' g' hp he
  refine ⟨fun c => (Cert.Kernel17Ideal.Gen.dats m 0 c).arrAt 4 Cert.Kernel17Ideal.cfg0.N, fun c => (Cert.Kernel17Ideal.Gen.dats m 0 c).arrAt 5 Cert.Kernel17Ideal.cfg0.N, fun c => (Cert.Kernel17Ideal.Gen.dats m 0 c).arrAt 6 Cert.Kernel17Ideal.cfg0.N, fun c => (Cert.Kernel17Ideal.Gen.dats m 0 c).arrAt 7 Cert.Kernel17Ideal.cfg0.N, Cert.Kernel17Ideal.Value.run_blocks m g, ?_⟩
  refine (θ_run Cert.Reference17Ideal.defs _ _).mono (fun r h c => ?_) (Cert.Reference17Ideal.Value.run (F := Ideal) m' g')
  obtain ⟨e0, e1, e2, e3⟩ := he c
  obtain ⟨r0, r1, r2, r3, ha⟩ := h c
  exact ⟨r0.trans ((ext2 fun r j => ref4 (m' ((c.tc : Thread Cert.Reference17Ideal.nD Cert.Reference17Ideal.τ).loc Cert.Reference17Ideal.main_arg0)) (m' ((c.tc : Thread Cert.Reference17Ideal.nD Cert.Reference17Ideal.τ).loc Cert.Reference17Ideal.main_arg1)) (m' ((c.tc : Thread Cert.Reference17Ideal.nD Cert.Reference17Ideal.τ).loc Cert.Reference17Ideal.main_arg2)) (m' ((c.tc : Thread Cert.Reference17Ideal.nD Cert.Reference17Ideal.τ).loc Cert.Reference17Ideal.main_arg3)) r j).trans (by simp only [arr4 m c, e0, e1, e2, e3])), r1.trans ((ext2 fun r j => ref5 (m' ((c.tc : Thread Cert.Reference17Ideal.nD Cert.Reference17Ideal.τ).loc Cert.Reference17Ideal.main_arg0)) (m' ((c.tc : Thread Cert.Reference17Ideal.nD Cert.Reference17Ideal.τ).loc Cert.Reference17Ideal.main_arg1)) (m' ((c.tc : Thread Cert.Reference17Ideal.nD Cert.Reference17Ideal.τ).loc Cert.Reference17Ideal.main_arg2)) (m' ((c.tc : Thread Cert.Reference17Ideal.nD Cert.Reference17Ideal.τ).loc Cert.Reference17Ideal.main_arg3)) r j).trans (by simp only [arr5 m c, e0, e1, e2, e3])), r2.trans ((ext2 fun r j => ref6 (m' ((c.tc : Thread Cert.Reference17Ideal.nD Cert.Reference17Ideal.τ).loc Cert.Reference17Ideal.main_arg0)) (m' ((c.tc : Thread Cert.Reference17Ideal.nD Cert.Reference17Ideal.τ).loc Cert.Reference17Ideal.main_arg1)) (m' ((c.tc : Thread Cert.Reference17Ideal.nD Cert.Reference17Ideal.τ).loc Cert.Reference17Ideal.main_arg2)) (m' ((c.tc : Thread Cert.Reference17Ideal.nD Cert.Reference17Ideal.τ).loc Cert.Reference17Ideal.main_arg3)) r j).trans (by simp only [arr6 m c, e0, e1, e2, e3])), r3.trans ((ext2 fun r j => ref7 (m' ((c.tc : Thread Cert.Reference17Ideal.nD Cert.Reference17Ideal.τ).loc Cert.Reference17Ideal.main_arg0)) (m' ((c.tc : Thread Cert.Reference17Ideal.nD Cert.Reference17Ideal.τ).loc Cert.Reference17Ideal.main_arg1)) (m' ((c.tc : Thread Cert.Reference17Ideal.nD Cert.Reference17Ideal.τ).loc Cert.Reference17Ideal.main_arg2)) (m' ((c.tc : Thread Cert.Reference17Ideal.nD Cert.Reference17Ideal.τ).loc Cert.Reference17Ideal.main_arg3)) r j).trans (by simp only [arr7 m c, e0, e1, e2, e3])), ha⟩

end Cert.Proof.AdamFf1
end
-- ==== Proof.AdamAda.lean ====
module
public import proofs.«01_k».proof.Defs
public import proofs.«01_k».proof.Proof.Gen.Kernel18Ideal.Value
public import proofs.«01_k».proof.Proof.Gen.Reference18Ideal.Run
public import Idealize.ShloMosaic.Lib.Pipeline.ValueKit
public import proofs.«01_k».proof.Proof.Nums
public import proofs.«01_k».proof.Proof.Adam
@[expose] public section
set_option maxRecDepth 16384
noncomputable section
namespace Cert.Proof.AdamAda
open Idealize.ShloMosaic Idealize.ShloMosaic.TcCoe Idealize.SL.Sem

/-! The optimiser step of the modulation's weights. -/

/-- One entry of a result. -/
def G4 (a0 : Vec Ideal ⟨2, ![2048, 1536]⟩ .f32) (a1 : Vec Ideal ⟨2, ![2048, 1536]⟩ .f32) (a2 : Vec Ideal ⟨2, ![2048, 1536]⟩ .f32) (a3 : Vec Ideal ⟨2, ![2048, 1536]⟩ .f32) : Vec Ideal ⟨2, ![2048, 1536]⟩ .f32 :=
  fun i => (a3 (ix2 (i 0) (i 1)) : EReal)

/-- One entry of a result. -/
def G5 (a0 : Vec Ideal ⟨2, ![2048, 1536]⟩ .f32) (a1 : Vec Ideal ⟨2, ![2048, 1536]⟩ .f32) (a2 : Vec Ideal ⟨2, ![2048, 1536]⟩ .f32) (a3 : Vec Ideal ⟨2, ![2048, 1536]⟩ .f32) : Vec Ideal ⟨2, ![2048, 1536]⟩ .f32 :=
  fun i => step (a0 (ix2 (i 0) (i 1)) : EReal) (a1 (ix2 (i 0) (i 1)) : EReal) (a2 (ix2 (i 0) (i 1)) : EReal) (a3 (ix2 (i 0) (i 1)) : EReal)

/-- One entry of a result. -/
def G6 (a0 : Vec Ideal ⟨2, ![2048, 1536]⟩ .f32) (a1 : Vec Ideal ⟨2, ![2048, 1536]⟩ .f32) (a2 : Vec Ideal ⟨2, ![2048, 1536]⟩ .f32) (a3 : Vec Ideal ⟨2, ![2048, 1536]⟩ .f32) : Vec Ideal ⟨2, ![2048, 1536]⟩ .f32 :=
  fun i => newM (a1 (ix2 (i 0) (i 1)) : EReal) (a3 (ix2 (i 0) (i 1)) : EReal)

/-- One entry of a result. -/
def G7 (a0 : Vec Ideal ⟨2, ![2048, 1536]⟩ .f32) (a1 : Vec Ideal ⟨2, ![2048, 1536]⟩ .f32) (a2 : Vec Ideal ⟨2, ![2048, 1536]⟩ .f32) (a3 : Vec Ideal ⟨2, ![2048, 1536]⟩ .f32) : Vec Ideal ⟨2, ![2048, 1536]⟩ .f32 :=
  fun i => newV (a2 (ix2 (i 0) (i 1)) : EReal) (a3 (ix2 (i 0) (i 1)) : EReal)

section
open Cert.Kernel18Ideal Cert.Kernel18Ideal.Gen Cert.Kernel18Ideal.Value
variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] := by decide +kernel

theorem pay4 (x0 : Vec Ideal ⟨2, ![128, 1536]⟩ .f32) (x1 : Vec Ideal ⟨2, ![128, 1536]⟩ .f32) (x2 : Vec Ideal ⟨2, ![128, 1536]⟩ .f32) (x3 : Vec Ideal ⟨2, ![128, 1536]⟩ .f32) (r : Fin 128) (j : Fin 1536) :
    x3 (ix2 r j) = (x3 (ix2 r j) : EReal) := by
  rfl

theorem arr4 : (dats m 0 c).arrAt 4 cfg0.N = G4 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  obtain ⟨r, j, rfl⟩ : ∃ (r : Fin 128) (j : Fin 1536), y = ix2 r j := ⟨y 0, y 1, by funext a; fin_cases a <;> rfl⟩
  refine (pay4 (iblk m c 0 t) (iblk m c 1 t) (iblk m c 2 t) (iblk m c 3 t) r j).trans ?_
  unfold G4
  blk_point [iblk, V, idx t]

theorem pay5 (x0 : Vec Ideal ⟨2, ![128, 1536]⟩ .f32) (x1 : Vec Ideal ⟨2, ![128, 1536]⟩ .f32) (x2 : Vec Ideal ⟨2, ![128, 1536]⟩ .f32) (x3 : Vec Ideal ⟨2, ![128, 1536]⟩ .f32) (r : Fin 128) (j : Fin 1536) :
    k0_pay3 x3 x1 x2 x0 (ix2 r j) = step (x0 (ix2 r j) : EReal) (x1 (ix2 r j) : EReal) (x2 (ix2 r j) : EReal) (x3 (ix2 r j) : EReal) := by
  pointwise [k0_pay3, k0_pay2, k0_pay1, step, newM, newV, num]

theorem arr5 : (dats m 0 c).arrAt 5 cfg0.N = G5 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  obtain ⟨r, j, rfl⟩ : ∃ (r : Fin 128) (j : Fin 1536), y = ix2 r j := ⟨y 0, y 1, by funext a; fin_cases a <;> rfl⟩
  refine (pay5 (iblk m c 0 t) (iblk m c 1 t) (iblk m c 2 t) (iblk m c 3 t) r j).trans ?_
  unfold G5
  blk_point [iblk, V, idx t]

theorem pay6 (x0 : Vec Ideal ⟨2, ![128, 1536]⟩ .f32) (x1 : Vec Ideal ⟨2, ![128, 1536]⟩ .f32) (x2 : Vec Ideal ⟨2, ![128, 1536]⟩ .f32) (x3 : Vec Ideal ⟨2, ![128, 1536]⟩ .f32) (r : Fin 128) (j : Fin 1536) :
    k0_pay1 x3 x1 (ix2 r j) = newM (x1 (ix2 r j) : EReal) (x3 (ix2 r j) : EReal) := by
  pointwise [k0_pay1, newM, num]

theorem arr6 : (dats m 0 c).arrAt 6 cfg0.N = G6 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  frame_out
  obtain ⟨r, j, rfl⟩ : ∃ (r : Fin 128) (j : Fin 1536), y = ix2 r j := ⟨y 0, y 1, by funext a; fin_cases a <;> rfl⟩
  refine (pay6 (iblk m c 0 t) (iblk m c 1 t) (iblk m c 2 t) (iblk m c 3 t) r j).trans ?_
  unfold G6
  blk_point [iblk, V, idx t]

theorem pay7 (x0 : Vec Ideal ⟨2, ![128, 1536]⟩ .f32) (x1 : Vec Ideal ⟨2, ![128, 1536]⟩ .f32) (x2 : Vec Ideal ⟨2, ![128, 1536]⟩ .f32) (x3 : Vec Ideal ⟨2, ![128, 1536]⟩ .f32) (r : Fin 128) (j : Fin 1536) :
    k0_pay2 x3 x2 (ix2 r j) = newV (x2 (ix2 r j) : EReal) (x3 (ix2 r j) : EReal) := by
  pointwise [k0_pay2, newV, num]

theorem arr7 : (dats m 0 c).arrAt 7 cfg0.N = G7 (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  frame_out
  obtain ⟨r, j, rfl⟩ : ∃ (r : Fin 128) (j : Fin 1536), y = ix2 r j := ⟨y 0, y 1, by funext a; fin_cases a <;> rfl⟩
  refine (pay7 (iblk m c 0 t) (iblk m c 1 t) (iblk m c 2 t) (iblk m c 3 t) r j).trans ?_
  unfold G7
  blk_point [iblk, V, idx t]

end

section
open Cert.Reference18Ideal Cert.Reference18Ideal.Gen Cert.Reference18Ideal.Value
theorem ref4 (a0 : Vec Ideal ⟨2, ![2048, 1536]⟩ .f32) (a1 : Vec Ideal ⟨2, ![2048, 1536]⟩ .f32) (a2 : Vec Ideal ⟨2, ![2048, 1536]⟩ .f32) (a3 : Vec Ideal ⟨2, ![2048, 1536]⟩ .f32) (r : Fin 2048) (j : Fin 1536) :
    (a3 : FVec Ideal S2048x1536 .f32) (ix2 r j) = G4 a0 a1 a2 a3 (ix2 r j) := by
  pointwise [G4, step, newM, newV, num]

theorem ref5 (a0 : Vec Ideal ⟨2, ![2048, 1536]⟩ .f32) (a1 : Vec Ideal ⟨2, ![2048, 1536]⟩ .f32) (a2 : Vec Ideal ⟨2, ![2048, 1536]⟩ .f32) (a3 : Vec Ideal ⟨2, ![2048, 1536]⟩ .f32) (r : Fin 2048) (j : Fin 1536) :
    (mulf (broadcastInDim S2048x1536 ![] bcast_S_S2048x1536 (constant (F := Ideal) S_ .f32 0xBA83126F#32)) (addf (Host.divf (mulf (addf (mulf (broadcastInDim S2048x1536 ![] bcast_S_S2048x1536 (constant (F := Ideal) S_ .f32 0x3F666666#32)) a1) (mulf (broadcastInDim S2048x1536 ![] bcast_S_S2048x1536 (constant (F := Ideal) S_ .f32 0x3DCCCCCD#32)) a3)) (broadcastInDim S2048x1536 ![] bcast_S_S2048x1536 (constant (F := Ideal) S_ .f32 0x3FC48605#32))) (addf (Host.sqrt (mulf (addf (mulf (broadcastInDim S2048x1536 ![] bcast_S_S2048x1536 (constant (F := Ideal) S_ .f32 0x3F7FBE77#32)) a2) (mulf (broadcastInDim S2048x1536 ![] bcast_S_S2048x1536 (constant (F := Ideal) S_ .f32 0x3A83126F#32)) (mulf a3 a3))) (broadcastInDim S2048x1536 ![] bcast_S_S2048x1536 (constant (F := Ideal) S_ .f32 0x42C8E6D3#32)))) (broadcastInDim S2048x1536 ![] bcast_S_S2048x1536 (constant (F := Ideal) S_ .f32 0x322BCC77#32)))) (mulf (broadcastInDim S2048x1536 ![] bcast_S_S2048x1536 (constant (F := Ideal) S_ .f32 0x3C23D70A#32)) a0)) : FVec Ideal S2048x1536 .f32) (ix2 r j) = G5 a0 a1 a2 a3 (ix2 r j) := by
  pointwise [G5, step, newM, newV, num]

theorem ref6 (a0 : Vec Ideal ⟨2, ![2048, 1536]⟩ .f32) (a1 : Vec Ideal ⟨2, ![2048, 1536]⟩ .f32) (a2 : Vec Ideal ⟨2, ![2048, 1536]⟩ .f32) (a3 : Vec Ideal ⟨2, ![2048, 1536]⟩ .f32) (r : Fin 2048) (j : Fin 1536) :
    (addf (mulf (broadcastInDim S2048x1536 ![] bcast_S_S2048x1536 (constant (F := Ideal) S_ .f32 0x3F666666#32)) a1) (mulf (broadcastInDim S2048x1536 ![] bcast_S_S2048x1536 (constant (F := Ideal) S_ .f32 0x3DCCCCCD#32)) a3) : FVec Ideal S2048x1536 .f32) (ix2 r j) = G6 a0 a1 a2 a3 (ix2 r j) := by
  pointwise [G6, step, newM, newV, num]

theorem ref7 (a0 : Vec Ideal ⟨2, ![2048, 1536]⟩ .f32) (a1 : Vec Ideal ⟨2, ![2048, 1536]⟩ .f32) (a2 : Vec Ideal ⟨2, ![2048, 1536]⟩ .f32) (a3 : Vec Ideal ⟨2, ![2048, 1536]⟩ .f32) (r : Fin 2048) (j : Fin 1536) :
    (addf (mulf (broadcastInDim S2048x1536 ![] bcast_S_S2048x1536 (constant (F := Ideal) S_ .f32 0x3F7FBE77#32)) a2) (mulf (broadcastInDim S2048x1536 ![] bcast_S_S2048x1536 (constant (F := Ideal) S_ .f32 0x3A83126F#32)) (mulf a3 a3)) : FVec Ideal S2048x1536 .f32) (ix2 r j) = G7 a0 a1 a2 a3 (ix2 r j) := by
  pointwise [G7, step, newM, newV, num]

end

/-- The reference's run leaves its arguments and every counter as they were. -/
theorem frame_reference : Cert.quiescent_Reference18Ideal := fun m g _ =>
  (θ_run Cert.Reference18Ideal.defs _ _).mono (fun r h => ⟨fun c => (h c).2.2.2.2, sem_eq_zero_of_no_sems (by decide) r.2⟩)
    (Cert.Reference18Ideal.Value.run (F := Ideal) m g)

/-- The call and the reference end with equal results. -/
theorem agree : Cert.algebraic_Kernel18Ideal_Reference18Ideal := by
  intro m g m' g' hp he
  refine ⟨fun c => (Cert.Kernel18Ideal.Gen.dats m 0 c).arrAt 4 Cert.Kernel18Ideal.cfg0.N, fun c => (Cert.Kernel18Ideal.Gen.dats m 0 c).arrAt 5 Cert.Kernel18Ideal.cfg0.N, fun c => (Cert.Kernel18Ideal.Gen.dats m 0 c).arrAt 6 Cert.Kernel18Ideal.cfg0.N, fun c => (Cert.Kernel18Ideal.Gen.dats m 0 c).arrAt 7 Cert.Kernel18Ideal.cfg0.N, Cert.Kernel18Ideal.Value.run_blocks m g, ?_⟩
  refine (θ_run Cert.Reference18Ideal.defs _ _).mono (fun r h c => ?_) (Cert.Reference18Ideal.Value.run (F := Ideal) m' g')
  obtain ⟨e0, e1, e2, e3⟩ := he c
  obtain ⟨r0, r1, r2, r3, ha⟩ := h c
  exact ⟨r0.trans ((ext2 fun r j => ref4 (m' ((c.tc : Thread Cert.Reference18Ideal.nD Cert.Reference18Ideal.τ).loc Cert.Reference18Ideal.main_arg0)) (m' ((c.tc : Thread Cert.Reference18Ideal.nD Cert.Reference18Ideal.τ).loc Cert.Reference18Ideal.main_arg1)) (m' ((c.tc : Thread Cert.Reference18Ideal.nD Cert.Reference18Ideal.τ).loc Cert.Reference18Ideal.main_arg2)) (m' ((c.tc : Thread Cert.Reference18Ideal.nD Cert.Reference18Ideal.τ).loc Cert.Reference18Ideal.main_arg3)) r j).trans (by simp only [arr4 m c, e0, e1, e2, e3])), r1.trans ((ext2 fun r j => ref5 (m' ((c.tc : Thread Cert.Reference18Ideal.nD Cert.Reference18Ideal.τ).loc Cert.Reference18Ideal.main_arg0)) (m' ((c.tc : Thread Cert.Reference18Ideal.nD Cert.Reference18Ideal.τ).loc Cert.Reference18Ideal.main_arg1)) (m' ((c.tc : Thread Cert.Reference18Ideal.nD Cert.Reference18Ideal.τ).loc Cert.Reference18Ideal.main_arg2)) (m' ((c.tc : Thread Cert.Reference18Ideal.nD Cert.Reference18Ideal.τ).loc Cert.Reference18Ideal.main_arg3)) r j).trans (by simp only [arr5 m c, e0, e1, e2, e3])), r2.trans ((ext2 fun r j => ref6 (m' ((c.tc : Thread Cert.Reference18Ideal.nD Cert.Reference18Ideal.τ).loc Cert.Reference18Ideal.main_arg0)) (m' ((c.tc : Thread Cert.Reference18Ideal.nD Cert.Reference18Ideal.τ).loc Cert.Reference18Ideal.main_arg1)) (m' ((c.tc : Thread Cert.Reference18Ideal.nD Cert.Reference18Ideal.τ).loc Cert.Reference18Ideal.main_arg2)) (m' ((c.tc : Thread Cert.Reference18Ideal.nD Cert.Reference18Ideal.τ).loc Cert.Reference18Ideal.main_arg3)) r j).trans (by simp only [arr6 m c, e0, e1, e2, e3])), r3.trans ((ext2 fun r j => ref7 (m' ((c.tc : Thread Cert.Reference18Ideal.nD Cert.Reference18Ideal.τ).loc Cert.Reference18Ideal.main_arg0)) (m' ((c.tc : Thread Cert.Reference18Ideal.nD Cert.Reference18Ideal.τ).loc Cert.Reference18Ideal.main_arg1)) (m' ((c.tc : Thread Cert.Reference18Ideal.nD Cert.Reference18Ideal.τ).loc Cert.Reference18Ideal.main_arg2)) (m' ((c.tc : Thread Cert.Reference18Ideal.nD Cert.Reference18Ideal.τ).loc Cert.Reference18Ideal.main_arg3)) r j).trans (by simp only [arr7 m c, e0, e1, e2, e3])), ha⟩

end Cert.Proof.AdamAda
end
-- ==== Proof.AdamIn.lean ====
module
public import proofs.«01_k».proof.Defs
public import proofs.«01_k».proof.Proof.Gen.Kernel19Ideal.Value
public import proofs.«01_k».proof.Proof.Gen.Reference19Ideal.Run
public import Idealize.ShloMosaic.Lib.Pipeline.ValueKit
public import proofs.«01_k».proof.Proof.Nums
public import proofs.«01_k».proof.Proof.Adam
@[expose] public section
set_option maxRecDepth 16384
noncomputable section
namespace Cert.Proof.AdamIn
open Idealize.ShloMosaic Idealize.ShloMosaic.TcCoe Idealize.SL.Sem

/-! The optimiser step of the input projection's weights. -/

/-- One entry of a result. -/
def G4 (a0 : Vec Ideal ⟨2, ![2048, 1344]⟩ .f32) (a1 : Vec Ideal ⟨2, ![2048, 1344]⟩ .f32) (a2 : Vec Ideal ⟨2, ![2048, 1344]⟩ .f32) (a3 : Vec Ideal ⟨2, ![2048, 1344]⟩ .f32) : Vec Ideal ⟨2, ![2048, 1344]⟩ .f32 :=
  fun i => (a3 (ix2 (i 0) (i 1)) : EReal)

/-- One entry of a result. -/
def G5 (a0 : Vec Ideal ⟨2, ![2048, 1344]⟩ .f32) (a1 : Vec Ideal ⟨2, ![2048, 1344]⟩ .f32) (a2 : Vec Ideal ⟨2, ![2048, 1344]⟩ .f32) (a3 : Vec Ideal ⟨2, ![2048, 1344]⟩ .f32) : Vec Ideal ⟨2, ![2048, 1344]⟩ .f32 :=
  fun i => step (a0 (ix2 (i 0) (i 1)) : EReal) (a1 (ix2 (i 0) (i 1)) : EReal) (a2 (ix2 (i 0) (i 1)) : EReal) (a3 (ix2 (i 0) (i 1)) : EReal)

/-- One entry of a result. -/
def G6 (a0 : Vec Ideal ⟨2, ![2048, 1344]⟩ .f32) (a1 : Vec Ideal ⟨2, ![2048, 1344]⟩ .f32) (a2 : Vec Ideal ⟨2, ![2048, 1344]⟩ .f32) (a3 : Vec Ideal ⟨2, ![2048, 1344]⟩ .f32) : Vec Ideal ⟨2, ![2048, 1344]⟩ .f32 :=
  fun i => newM (a1 (ix2 (i 0) (i 1)) : EReal) (a3 (ix2 (i 0) (i 1)) : EReal)

/-- One entry of a result. -/
def G7 (a0 : Vec Ideal ⟨2, ![2048, 1344]⟩ .f32) (a1 : Vec Ideal ⟨2, ![2048, 1344]⟩ .f32) (a2 : Vec Ideal ⟨2, ![2048, 1344]⟩ .f32) (a3 : Vec Ideal ⟨2, ![2048, 1344]⟩ .f32) : Vec Ideal ⟨2, ![2048, 1344]⟩ .f32 :=
  fun i => newV (a2 (ix2 (i 0) (i 1)) : EReal) (a3 (ix2 (i 0) (i 1)) : EReal)

section
open Cert.Kernel19Ideal Cert.Kernel19Ideal.Gen Cert.Kernel19Ideal.Value
variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] := by decide +kernel

theorem pay4 (x0 : Vec Ideal ⟨2, ![128, 1344]⟩ .f32) (x1 : Vec Ideal ⟨2, ![128, 1344]⟩ .f32) (x2 : Vec Ideal ⟨2, ![128, 1344]⟩ .f32) (x3 : Vec Ideal ⟨2, ![128, 1344]⟩ .f32) (r : Fin 128) (j : Fin 1344) :
    x3 (ix2 r j) = (x3 (ix2 r j) : EReal) := by
  rfl

theorem arr4 : (dats m 0 c).arrAt 4 cfg0.N = G4 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  obtain ⟨r, j, rfl⟩ : ∃ (r : Fin 128) (j : Fin 1344), y = ix2 r j := ⟨y 0, y 1, by funext a; fin_cases a <;> rfl⟩
  refine (pay4 (iblk m c 0 t) (iblk m c 1 t) (iblk m c 2 t) (iblk m c 3 t) r j).trans ?_
  unfold G4
  blk_point [iblk, V, idx t]

theorem pay5 (x0 : Vec Ideal ⟨2, ![128, 1344]⟩ .f32) (x1 : Vec Ideal ⟨2, ![128, 1344]⟩ .f32) (x2 : Vec Ideal ⟨2, ![128, 1344]⟩ .f32) (x3 : Vec Ideal ⟨2, ![128, 1344]⟩ .f32) (r : Fin 128) (j : Fin 1344) :
    k0_pay3 x3 x1 x2 x0 (ix2 r j) = step (x0 (ix2 r j) : EReal) (x1 (ix2 r j) : EReal) (x2 (ix2 r j) : EReal) (x3 (ix2 r j) : EReal) := by
  pointwise [k0_pay3, k0_pay2, k0_pay1, step, newM, newV, num]

theorem arr5 : (dats m 0 c).arrAt 5 cfg0.N = G5 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  obtain ⟨r, j, rfl⟩ : ∃ (r : Fin 128) (j : Fin 1344), y = ix2 r j := ⟨y 0, y 1, by funext a; fin_cases a <;> rfl⟩
  refine (pay5 (iblk m c 0 t) (iblk m c 1 t) (iblk m c 2 t) (iblk m c 3 t) r j).trans ?_
  unfold G5
  blk_point [iblk, V, idx t]

theorem pay6 (x0 : Vec Ideal ⟨2, ![128, 1344]⟩ .f32) (x1 : Vec Ideal ⟨2, ![128, 1344]⟩ .f32) (x2 : Vec Ideal ⟨2, ![128, 1344]⟩ .f32) (x3 : Vec Ideal ⟨2, ![128, 1344]⟩ .f32) (r : Fin 128) (j : Fin 1344) :
    k0_pay1 x3 x1 (ix2 r j) = newM (x1 (ix2 r j) : EReal) (x3 (ix2 r j) : EReal) := by
  pointwise [k0_pay1, newM, num]

theorem arr6 : (dats m 0 c).arrAt 6 cfg0.N = G6 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  frame_out
  obtain ⟨r, j, rfl⟩ : ∃ (r : Fin 128) (j : Fin 1344), y = ix2 r j := ⟨y 0, y 1, by funext a; fin_cases a <;> rfl⟩
  refine (pay6 (iblk m c 0 t) (iblk m c 1 t) (iblk m c 2 t) (iblk m c 3 t) r j).trans ?_
  unfold G6
  blk_point [iblk, V, idx t]

theorem pay7 (x0 : Vec Ideal ⟨2, ![128, 1344]⟩ .f32) (x1 : Vec Ideal ⟨2, ![128, 1344]⟩ .f32) (x2 : Vec Ideal ⟨2, ![128, 1344]⟩ .f32) (x3 : Vec Ideal ⟨2, ![128, 1344]⟩ .f32) (r : Fin 128) (j : Fin 1344) :
    k0_pay2 x3 x2 (ix2 r j) = newV (x2 (ix2 r j) : EReal) (x3 (ix2 r j) : EReal) := by
  pointwise [k0_pay2, newV, num]

theorem arr7 : (dats m 0 c).arrAt 7 cfg0.N = G7 (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  frame_out
  obtain ⟨r, j, rfl⟩ : ∃ (r : Fin 128) (j : Fin 1344), y = ix2 r j := ⟨y 0, y 1, by funext a; fin_cases a <;> rfl⟩
  refine (pay7 (iblk m c 0 t) (iblk m c 1 t) (iblk m c 2 t) (iblk m c 3 t) r j).trans ?_
  unfold G7
  blk_point [iblk, V, idx t]

end

section
open Cert.Reference19Ideal Cert.Reference19Ideal.Gen Cert.Reference19Ideal.Value
theorem ref4 (a0 : Vec Ideal ⟨2, ![2048, 1344]⟩ .f32) (a1 : Vec Ideal ⟨2, ![2048, 1344]⟩ .f32) (a2 : Vec Ideal ⟨2, ![2048, 1344]⟩ .f32) (a3 : Vec Ideal ⟨2, ![2048, 1344]⟩ .f32) (r : Fin 2048) (j : Fin 1344) :
    (a3 : FVec Ideal S2048x1344 .f32) (ix2 r j) = G4 a0 a1 a2 a3 (ix2 r j) := by
  pointwise [G4, step, newM, newV, num]

theorem ref5 (a0 : Vec Ideal ⟨2, ![2048, 1344]⟩ .f32) (a1 : Vec Ideal ⟨2, ![2048, 1344]⟩ .f32) (a2 : Vec Ideal ⟨2, ![2048, 1344]⟩ .f32) (a3 : Vec Ideal ⟨2, ![2048, 1344]⟩ .f32) (r : Fin 2048) (j : Fin 1344) :
    (mulf (broadcastInDim S2048x1344 ![] bcast_S_S2048x1344 (constant (F := Ideal) S_ .f32 0xBA83126F#32)) (addf (Host.divf (mulf (addf (mulf (broadcastInDim S2048x1344 ![] bcast_S_S2048x1344 (constant (F := Ideal) S_ .f32 0x3F666666#32)) a1) (mulf (broadcastInDim S2048x1344 ![] bcast_S_S2048x1344 (constant (F := Ideal) S_ .f32 0x3DCCCCCD#32)) a3)) (broadcastInDim S2048x1344 ![] bcast_S_S2048x1344 (constant (F := Ideal) S_ .f32 0x3FC48605#32))) (addf (Host.sqrt (mulf (addf (mulf (broadcastInDim S2048x1344 ![] bcast_S_S2048x1344 (constant (F := Ideal) S_ .f32 0x3F7FBE77#32)) a2) (mulf (broadcastInDim S2048x1344 ![] bcast_S_S2048x1344 (constant (F := Ideal) S_ .f32 0x3A83126F#32)) (mulf a3 a3))) (broadcastInDim S2048x1344 ![] bcast_S_S2048x1344 (constant (F := Ideal) S_ .f32 0x42C8E6D3#32)))) (broadcastInDim S2048x1344 ![] bcast_S_S2048x1344 (constant (F := Ideal) S_ .f32 0x322BCC77#32)))) (mulf (broadcastInDim S2048x1344 ![] bcast_S_S2048x1344 (constant (F := Ideal) S_ .f32 0x3C23D70A#32)) a0)) : FVec Ideal S2048x1344 .f32) (ix2 r j) = G5 a0 a1 a2 a3 (ix2 r j) := by
  pointwise [G5, step, newM, newV, num]

theorem ref6 (a0 : Vec Ideal ⟨2, ![2048, 1344]⟩ .f32) (a1 : Vec Ideal ⟨2, ![2048, 1344]⟩ .f32) (a2 : Vec Ideal ⟨2, ![2048, 1344]⟩ .f32) (a3 : Vec Ideal ⟨2, ![2048, 1344]⟩ .f32) (r : Fin 2048) (j : Fin 1344) :
    (addf (mulf (broadcastInDim S2048x1344 ![] bcast_S_S2048x1344 (constant (F := Ideal) S_ .f32 0x3F666666#32)) a1) (mulf (broadcastInDim S2048x1344 ![] bcast_S_S2048x1344 (constant (F := Ideal) S_ .f32 0x3DCCCCCD#32)) a3) : FVec Ideal S2048x1344 .f32) (ix2 r j) = G6 a0 a1 a2 a3 (ix2 r j) := by
  pointwise [G6, step, newM, newV, num]

theorem ref7 (a0 : Vec Ideal ⟨2, ![2048, 1344]⟩ .f32) (a1 : Vec Ideal ⟨2, ![2048, 1344]⟩ .f32) (a2 : Vec Ideal ⟨2, ![2048, 1344]⟩ .f32) (a3 : Vec Ideal ⟨2, ![2048, 1344]⟩ .f32) (r : Fin 2048) (j : Fin 1344) :
    (addf (mulf (broadcastInDim S2048x1344 ![] bcast_S_S2048x1344 (constant (F := Ideal) S_ .f32 0x3F7FBE77#32)) a2) (mulf (broadcastInDim S2048x1344 ![] bcast_S_S2048x1344 (constant (F := Ideal) S_ .f32 0x3A83126F#32)) (mulf a3 a3)) : FVec Ideal S2048x1344 .f32) (ix2 r j) = G7 a0 a1 a2 a3 (ix2 r j) := by
  pointwise [G7, step, newM, newV, num]

end

/-- The reference's run leaves its arguments and every counter as they were. -/
theorem frame_reference : Cert.quiescent_Reference19Ideal := fun m g _ =>
  (θ_run Cert.Reference19Ideal.defs _ _).mono (fun r h => ⟨fun c => (h c).2.2.2.2, sem_eq_zero_of_no_sems (by decide) r.2⟩)
    (Cert.Reference19Ideal.Value.run (F := Ideal) m g)

/-- The call and the reference end with equal results. -/
theorem agree : Cert.algebraic_Kernel19Ideal_Reference19Ideal := by
  intro m g m' g' hp he
  refine ⟨fun c => (Cert.Kernel19Ideal.Gen.dats m 0 c).arrAt 4 Cert.Kernel19Ideal.cfg0.N, fun c => (Cert.Kernel19Ideal.Gen.dats m 0 c).arrAt 5 Cert.Kernel19Ideal.cfg0.N, fun c => (Cert.Kernel19Ideal.Gen.dats m 0 c).arrAt 6 Cert.Kernel19Ideal.cfg0.N, fun c => (Cert.Kernel19Ideal.Gen.dats m 0 c).arrAt 7 Cert.Kernel19Ideal.cfg0.N, Cert.Kernel19Ideal.Value.run_blocks m g, ?_⟩
  refine (θ_run Cert.Reference19Ideal.defs _ _).mono (fun r h c => ?_) (Cert.Reference19Ideal.Value.run (F := Ideal) m' g')
  obtain ⟨e0, e1, e2, e3⟩ := he c
  obtain ⟨r0, r1, r2, r3, ha⟩ := h c
  exact ⟨r0.trans ((ext2 fun r j => ref4 (m' ((c.tc : Thread Cert.Reference19Ideal.nD Cert.Reference19Ideal.τ).loc Cert.Reference19Ideal.main_arg0)) (m' ((c.tc : Thread Cert.Reference19Ideal.nD Cert.Reference19Ideal.τ).loc Cert.Reference19Ideal.main_arg1)) (m' ((c.tc : Thread Cert.Reference19Ideal.nD Cert.Reference19Ideal.τ).loc Cert.Reference19Ideal.main_arg2)) (m' ((c.tc : Thread Cert.Reference19Ideal.nD Cert.Reference19Ideal.τ).loc Cert.Reference19Ideal.main_arg3)) r j).trans (by simp only [arr4 m c, e0, e1, e2, e3])), r1.trans ((ext2 fun r j => ref5 (m' ((c.tc : Thread Cert.Reference19Ideal.nD Cert.Reference19Ideal.τ).loc Cert.Reference19Ideal.main_arg0)) (m' ((c.tc : Thread Cert.Reference19Ideal.nD Cert.Reference19Ideal.τ).loc Cert.Reference19Ideal.main_arg1)) (m' ((c.tc : Thread Cert.Reference19Ideal.nD Cert.Reference19Ideal.τ).loc Cert.Reference19Ideal.main_arg2)) (m' ((c.tc : Thread Cert.Reference19Ideal.nD Cert.Reference19Ideal.τ).loc Cert.Reference19Ideal.main_arg3)) r j).trans (by simp only [arr5 m c, e0, e1, e2, e3])), r2.trans ((ext2 fun r j => ref6 (m' ((c.tc : Thread Cert.Reference19Ideal.nD Cert.Reference19Ideal.τ).loc Cert.Reference19Ideal.main_arg0)) (m' ((c.tc : Thread Cert.Reference19Ideal.nD Cert.Reference19Ideal.τ).loc Cert.Reference19Ideal.main_arg1)) (m' ((c.tc : Thread Cert.Reference19Ideal.nD Cert.Reference19Ideal.τ).loc Cert.Reference19Ideal.main_arg2)) (m' ((c.tc : Thread Cert.Reference19Ideal.nD Cert.Reference19Ideal.τ).loc Cert.Reference19Ideal.main_arg3)) r j).trans (by simp only [arr6 m c, e0, e1, e2, e3])), r3.trans ((ext2 fun r j => ref7 (m' ((c.tc : Thread Cert.Reference19Ideal.nD Cert.Reference19Ideal.τ).loc Cert.Reference19Ideal.main_arg0)) (m' ((c.tc : Thread Cert.Reference19Ideal.nD Cert.Reference19Ideal.τ).loc Cert.Reference19Ideal.main_arg1)) (m' ((c.tc : Thread Cert.Reference19Ideal.nD Cert.Reference19Ideal.τ).loc Cert.Reference19Ideal.main_arg2)) (m' ((c.tc : Thread Cert.Reference19Ideal.nD Cert.Reference19Ideal.τ).loc Cert.Reference19Ideal.main_arg3)) r j).trans (by simp only [arr7 m c, e0, e1, e2, e3])), ha⟩

end Cert.Proof.AdamIn
end
-- ==== Proof.AdamConv.lean ====
module
public import proofs.«01_k».proof.Defs
public import proofs.«01_k».proof.Proof.Gen.Kernel20Ideal.Value
public import proofs.«01_k».proof.Proof.Gen.Reference20Ideal.Run
public import Idealize.ShloMosaic.Lib.Pipeline.ValueKit
public import proofs.«01_k».proof.Proof.Nums
public import proofs.«01_k».proof.Proof.Adam
@[expose] public section
set_option maxRecDepth 16384
noncomputable section
namespace Cert.Proof.AdamConv
open Idealize.ShloMosaic Idealize.ShloMosaic.TcCoe Idealize.SL.Sem

/-! The optimiser step of the convolution's weights. -/

/-- One entry of a result. -/
def G4 (a0 : Vec Ideal ⟨2, ![4, 256]⟩ .f32) (a1 : Vec Ideal ⟨2, ![4, 256]⟩ .f32) (a2 : Vec Ideal ⟨2, ![4, 256]⟩ .f32) (a3 : Vec Ideal ⟨2, ![4, 256]⟩ .f32) : Vec Ideal ⟨2, ![4, 256]⟩ .f32 :=
  fun i => (a3 (ix2 (i 0) (i 1)) : EReal)

/-- One entry of a result. -/
def G5 (a0 : Vec Ideal ⟨2, ![4, 256]⟩ .f32) (a1 : Vec Ideal ⟨2, ![4, 256]⟩ .f32) (a2 : Vec Ideal ⟨2, ![4, 256]⟩ .f32) (a3 : Vec Ideal ⟨2, ![4, 256]⟩ .f32) : Vec Ideal ⟨2, ![4, 256]⟩ .f32 :=
  fun i => step (a0 (ix2 (i 0) (i 1)) : EReal) (a1 (ix2 (i 0) (i 1)) : EReal) (a2 (ix2 (i 0) (i 1)) : EReal) (a3 (ix2 (i 0) (i 1)) : EReal)

/-- One entry of a result. -/
def G6 (a0 : Vec Ideal ⟨2, ![4, 256]⟩ .f32) (a1 : Vec Ideal ⟨2, ![4, 256]⟩ .f32) (a2 : Vec Ideal ⟨2, ![4, 256]⟩ .f32) (a3 : Vec Ideal ⟨2, ![4, 256]⟩ .f32) : Vec Ideal ⟨2, ![4, 256]⟩ .f32 :=
  fun i => newM (a1 (ix2 (i 0) (i 1)) : EReal) (a3 (ix2 (i 0) (i 1)) : EReal)

/-- One entry of a result. -/
def G7 (a0 : Vec Ideal ⟨2, ![4, 256]⟩ .f32) (a1 : Vec Ideal ⟨2, ![4, 256]⟩ .f32) (a2 : Vec Ideal ⟨2, ![4, 256]⟩ .f32) (a3 : Vec Ideal ⟨2, ![4, 256]⟩ .f32) : Vec Ideal ⟨2, ![4, 256]⟩ .f32 :=
  fun i => newV (a2 (ix2 (i 0) (i 1)) : EReal) (a3 (ix2 (i 0) (i 1)) : EReal)

section
open Cert.Kernel20Ideal Cert.Kernel20Ideal.Gen Cert.Kernel20Ideal.Value
variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] := by decide +kernel

theorem pay4 (x0 : Vec Ideal ⟨2, ![4, 256]⟩ .f32) (x1 : Vec Ideal ⟨2, ![4, 256]⟩ .f32) (x2 : Vec Ideal ⟨2, ![4, 256]⟩ .f32) (x3 : Vec Ideal ⟨2, ![4, 256]⟩ .f32) (r : Fin 4) (j : Fin 256) :
    x3 (ix2 r j) = (x3 (ix2 r j) : EReal) := by
  rfl

theorem arr4 : (dats m 0 c).arrAt 4 cfg0.N = G4 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  obtain ⟨r, j, rfl⟩ : ∃ (r : Fin 4) (j : Fin 256), y = ix2 r j := ⟨y 0, y 1, by funext a; fin_cases a <;> rfl⟩
  refine (pay4 (iblk m c 0 t) (iblk m c 1 t) (iblk m c 2 t) (iblk m c 3 t) r j).trans ?_
  unfold G4
  blk_point [iblk, V, idx t]

theorem pay5 (x0 : Vec Ideal ⟨2, ![4, 256]⟩ .f32) (x1 : Vec Ideal ⟨2, ![4, 256]⟩ .f32) (x2 : Vec Ideal ⟨2, ![4, 256]⟩ .f32) (x3 : Vec Ideal ⟨2, ![4, 256]⟩ .f32) (r : Fin 4) (j : Fin 256) :
    k0_pay3 x3 x1 x2 x0 (ix2 r j) = step (x0 (ix2 r j) : EReal) (x1 (ix2 r j) : EReal) (x2 (ix2 r j) : EReal) (x3 (ix2 r j) : EReal) := by
  pointwise [k0_pay3, k0_pay2, k0_pay1, step, newM, newV, num]

theorem arr5 : (dats m 0 c).arrAt 5 cfg0.N = G5 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  obtain ⟨r, j, rfl⟩ : ∃ (r : Fin 4) (j : Fin 256), y = ix2 r j := ⟨y 0, y 1, by funext a; fin_cases a <;> rfl⟩
  refine (pay5 (iblk m c 0 t) (iblk m c 1 t) (iblk m c 2 t) (iblk m c 3 t) r j).trans ?_
  unfold G5
  blk_point [iblk, V, idx t]

theorem pay6 (x0 : Vec Ideal ⟨2, ![4, 256]⟩ .f32) (x1 : Vec Ideal ⟨2, ![4, 256]⟩ .f32) (x2 : Vec Ideal ⟨2, ![4, 256]⟩ .f32) (x3 : Vec Ideal ⟨2, ![4, 256]⟩ .f32) (r : Fin 4) (j : Fin 256) :
    k0_pay1 x3 x1 (ix2 r j) = newM (x1 (ix2 r j) : EReal) (x3 (ix2 r j) : EReal) := by
  pointwise [k0_pay1, newM, num]

theorem arr6 : (dats m 0 c).arrAt 6 cfg0.N = G6 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  frame_out
  obtain ⟨r, j, rfl⟩ : ∃ (r : Fin 4) (j : Fin 256), y = ix2 r j := ⟨y 0, y 1, by funext a; fin_cases a <;> rfl⟩
  refine (pay6 (iblk m c 0 t) (iblk m c 1 t) (iblk m c 2 t) (iblk m c 3 t) r j).trans ?_
  unfold G6
  blk_point [iblk, V, idx t]

theorem pay7 (x0 : Vec Ideal ⟨2, ![4, 256]⟩ .f32) (x1 : Vec Ideal ⟨2, ![4, 256]⟩ .f32) (x2 : Vec Ideal ⟨2, ![4, 256]⟩ .f32) (x3 : Vec Ideal ⟨2, ![4, 256]⟩ .f32) (r : Fin 4) (j : Fin 256) :
    k0_pay2 x3 x2 (ix2 r j) = newV (x2 (ix2 r j) : EReal) (x3 (ix2 r j) : EReal) := by
  pointwise [k0_pay2, newV, num]

theorem arr7 : (dats m 0 c).arrAt 7 cfg0.N = G7 (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  frame_out
  obtain ⟨r, j, rfl⟩ : ∃ (r : Fin 4) (j : Fin 256), y = ix2 r j := ⟨y 0, y 1, by funext a; fin_cases a <;> rfl⟩
  refine (pay7 (iblk m c 0 t) (iblk m c 1 t) (iblk m c 2 t) (iblk m c 3 t) r j).trans ?_
  unfold G7
  blk_point [iblk, V, idx t]

end

section
open Cert.Reference20Ideal Cert.Reference20Ideal.Gen Cert.Reference20Ideal.Value
theorem ref4 (a0 : Vec Ideal ⟨2, ![4, 256]⟩ .f32) (a1 : Vec Ideal ⟨2, ![4, 256]⟩ .f32) (a2 : Vec Ideal ⟨2, ![4, 256]⟩ .f32) (a3 : Vec Ideal ⟨2, ![4, 256]⟩ .f32) (r : Fin 4) (j : Fin 256) :
    (a3 : FVec Ideal S4x256 .f32) (ix2 r j) = G4 a0 a1 a2 a3 (ix2 r j) := by
  pointwise [G4, step, newM, newV, num]

theorem ref5 (a0 : Vec Ideal ⟨2, ![4, 256]⟩ .f32) (a1 : Vec Ideal ⟨2, ![4, 256]⟩ .f32) (a2 : Vec Ideal ⟨2, ![4, 256]⟩ .f32) (a3 : Vec Ideal ⟨2, ![4, 256]⟩ .f32) (r : Fin 4) (j : Fin 256) :
    (mulf (broadcastInDim S4x256 ![] bcast_S_S4x256 (constant (F := Ideal) S_ .f32 0xBA83126F#32)) (addf (Host.divf (mulf (addf (mulf (broadcastInDim S4x256 ![] bcast_S_S4x256 (constant (F := Ideal) S_ .f32 0x3F666666#32)) a1) (mulf (broadcastInDim S4x256 ![] bcast_S_S4x256 (constant (F := Ideal) S_ .f32 0x3DCCCCCD#32)) a3)) (broadcastInDim S4x256 ![] bcast_S_S4x256 (constant (F := Ideal) S_ .f32 0x3FC48605#32))) (addf (Host.sqrt (mulf (addf (mulf (broadcastInDim S4x256 ![] bcast_S_S4x256 (constant (F := Ideal) S_ .f32 0x3F7FBE77#32)) a2) (mulf (broadcastInDim S4x256 ![] bcast_S_S4x256 (constant (F := Ideal) S_ .f32 0x3A83126F#32)) (mulf a3 a3))) (broadcastInDim S4x256 ![] bcast_S_S4x256 (constant (F := Ideal) S_ .f32 0x42C8E6D3#32)))) (broadcastInDim S4x256 ![] bcast_S_S4x256 (constant (F := Ideal) S_ .f32 0x322BCC77#32)))) (mulf (broadcastInDim S4x256 ![] bcast_S_S4x256 (constant (F := Ideal) S_ .f32 0x3C23D70A#32)) a0)) : FVec Ideal S4x256 .f32) (ix2 r j) = G5 a0 a1 a2 a3 (ix2 r j) := by
  pointwise [G5, step, newM, newV, num]

theorem ref6 (a0 : Vec Ideal ⟨2, ![4, 256]⟩ .f32) (a1 : Vec Ideal ⟨2, ![4, 256]⟩ .f32) (a2 : Vec Ideal ⟨2, ![4, 256]⟩ .f32) (a3 : Vec Ideal ⟨2, ![4, 256]⟩ .f32) (r : Fin 4) (j : Fin 256) :
    (addf (mulf (broadcastInDim S4x256 ![] bcast_S_S4x256 (constant (F := Ideal) S_ .f32 0x3F666666#32)) a1) (mulf (broadcastInDim S4x256 ![] bcast_S_S4x256 (constant (F := Ideal) S_ .f32 0x3DCCCCCD#32)) a3) : FVec Ideal S4x256 .f32) (ix2 r j) = G6 a0 a1 a2 a3 (ix2 r j) := by
  pointwise [G6, step, newM, newV, num]

theorem ref7 (a0 : Vec Ideal ⟨2, ![4, 256]⟩ .f32) (a1 : Vec Ideal ⟨2, ![4, 256]⟩ .f32) (a2 : Vec Ideal ⟨2, ![4, 256]⟩ .f32) (a3 : Vec Ideal ⟨2, ![4, 256]⟩ .f32) (r : Fin 4) (j : Fin 256) :
    (addf (mulf (broadcastInDim S4x256 ![] bcast_S_S4x256 (constant (F := Ideal) S_ .f32 0x3F7FBE77#32)) a2) (mulf (broadcastInDim S4x256 ![] bcast_S_S4x256 (constant (F := Ideal) S_ .f32 0x3A83126F#32)) (mulf a3 a3)) : FVec Ideal S4x256 .f32) (ix2 r j) = G7 a0 a1 a2 a3 (ix2 r j) := by
  pointwise [G7, step, newM, newV, num]

end

/-- The reference's run leaves its arguments and every counter as they were. -/
theorem frame_reference : Cert.quiescent_Reference20Ideal := fun m g _ =>
  (θ_run Cert.Reference20Ideal.defs _ _).mono (fun r h => ⟨fun c => (h c).2.2.2.2, sem_eq_zero_of_no_sems (by decide) r.2⟩)
    (Cert.Reference20Ideal.Value.run (F := Ideal) m g)

/-- The call and the reference end with equal results. -/
theorem agree : Cert.algebraic_Kernel20Ideal_Reference20Ideal := by
  intro m g m' g' hp he
  refine ⟨fun c => (Cert.Kernel20Ideal.Gen.dats m 0 c).arrAt 4 Cert.Kernel20Ideal.cfg0.N, fun c => (Cert.Kernel20Ideal.Gen.dats m 0 c).arrAt 5 Cert.Kernel20Ideal.cfg0.N, fun c => (Cert.Kernel20Ideal.Gen.dats m 0 c).arrAt 6 Cert.Kernel20Ideal.cfg0.N, fun c => (Cert.Kernel20Ideal.Gen.dats m 0 c).arrAt 7 Cert.Kernel20Ideal.cfg0.N, Cert.Kernel20Ideal.Value.run_blocks m g, ?_⟩
  refine (θ_run Cert.Reference20Ideal.defs _ _).mono (fun r h c => ?_) (Cert.Reference20Ideal.Value.run (F := Ideal) m' g')
  obtain ⟨e0, e1, e2, e3⟩ := he c
  obtain ⟨r0, r1, r2, r3, ha⟩ := h c
  exact ⟨r0.trans ((ext2 fun r j => ref4 (m' ((c.tc : Thread Cert.Reference20Ideal.nD Cert.Reference20Ideal.τ).loc Cert.Reference20Ideal.main_arg0)) (m' ((c.tc : Thread Cert.Reference20Ideal.nD Cert.Reference20Ideal.τ).loc Cert.Reference20Ideal.main_arg1)) (m' ((c.tc : Thread Cert.Reference20Ideal.nD Cert.Reference20Ideal.τ).loc Cert.Reference20Ideal.main_arg2)) (m' ((c.tc : Thread Cert.Reference20Ideal.nD Cert.Reference20Ideal.τ).loc Cert.Reference20Ideal.main_arg3)) r j).trans (by simp only [arr4 m c, e0, e1, e2, e3])), r1.trans ((ext2 fun r j => ref5 (m' ((c.tc : Thread Cert.Reference20Ideal.nD Cert.Reference20Ideal.τ).loc Cert.Reference20Ideal.main_arg0)) (m' ((c.tc : Thread Cert.Reference20Ideal.nD Cert.Reference20Ideal.τ).loc Cert.Reference20Ideal.main_arg1)) (m' ((c.tc : Thread Cert.Reference20Ideal.nD Cert.Reference20Ideal.τ).loc Cert.Reference20Ideal.main_arg2)) (m' ((c.tc : Thread Cert.Reference20Ideal.nD Cert.Reference20Ideal.τ).loc Cert.Reference20Ideal.main_arg3)) r j).trans (by simp only [arr5 m c, e0, e1, e2, e3])), r2.trans ((ext2 fun r j => ref6 (m' ((c.tc : Thread Cert.Reference20Ideal.nD Cert.Reference20Ideal.τ).loc Cert.Reference20Ideal.main_arg0)) (m' ((c.tc : Thread Cert.Reference20Ideal.nD Cert.Reference20Ideal.τ).loc Cert.Reference20Ideal.main_arg1)) (m' ((c.tc : Thread Cert.Reference20Ideal.nD Cert.Reference20Ideal.τ).loc Cert.Reference20Ideal.main_arg2)) (m' ((c.tc : Thread Cert.Reference20Ideal.nD Cert.Reference20Ideal.τ).loc Cert.Reference20Ideal.main_arg3)) r j).trans (by simp only [arr6 m c, e0, e1, e2, e3])), r3.trans ((ext2 fun r j => ref7 (m' ((c.tc : Thread Cert.Reference20Ideal.nD Cert.Reference20Ideal.τ).loc Cert.Reference20Ideal.main_arg0)) (m' ((c.tc : Thread Cert.Reference20Ideal.nD Cert.Reference20Ideal.τ).loc Cert.Reference20Ideal.main_arg1)) (m' ((c.tc : Thread Cert.Reference20Ideal.nD Cert.Reference20Ideal.τ).loc Cert.Reference20Ideal.main_arg2)) (m' ((c.tc : Thread Cert.Reference20Ideal.nD Cert.Reference20Ideal.τ).loc Cert.Reference20Ideal.main_arg3)) r j).trans (by simp only [arr7 m c, e0, e1, e2, e3])), ha⟩

end Cert.Proof.AdamConv
end
-- ==== Proof.AdamMats.lean ====
module
public import proofs.«01_k».proof.Defs
public import proofs.«01_k».proof.Proof.Gen.Kernel21Ideal.Value
public import proofs.«01_k».proof.Proof.Gen.Reference21Ideal.Run
public import Idealize.ShloMosaic.Lib.Pipeline.ValueKit
public import proofs.«01_k».proof.Proof.Nums
public import proofs.«01_k».proof.Proof.Adam
@[expose] public section
set_option maxRecDepth 16384
noncomputable section
namespace Cert.Proof.AdamMats
open Idealize.ShloMosaic Idealize.ShloMosaic.TcCoe Idealize.SL.Sem

/-! The sum of the gradients of the recurrence's gate matrices, and the optimiser step of them. -/

/-- One entry of a result. -/
def G11 (a0 : Vec Ideal ⟨2, ![256, 2048]⟩ .f32) (a1 : Vec Ideal ⟨2, ![256, 2048]⟩ .f32) (a2 : Vec Ideal ⟨2, ![256, 2048]⟩ .f32) (a3 : Vec Ideal ⟨3, ![8, 256, 2048]⟩ .f32) : Vec Ideal ⟨2, ![256, 2048]⟩ .f32 :=
  fun i => (∑ d : Fin 8, (a3 (ix3 d (i 0) (i 1)) : EReal))

/-- One entry of a result. -/
def G12 (a0 : Vec Ideal ⟨2, ![256, 2048]⟩ .f32) (a1 : Vec Ideal ⟨2, ![256, 2048]⟩ .f32) (a2 : Vec Ideal ⟨2, ![256, 2048]⟩ .f32) (a3 : Vec Ideal ⟨3, ![8, 256, 2048]⟩ .f32) : Vec Ideal ⟨2, ![256, 2048]⟩ .f32 :=
  fun i => step (a0 (ix2 (i 0) (i 1)) : EReal) (a1 (ix2 (i 0) (i 1)) : EReal) (a2 (ix2 (i 0) (i 1)) : EReal) (∑ d : Fin 8, (a3 (ix3 d (i 0) (i 1)) : EReal))

/-- One entry of a result. -/
def G13 (a0 : Vec Ideal ⟨2, ![256, 2048]⟩ .f32) (a1 : Vec Ideal ⟨2, ![256, 2048]⟩ .f32) (a2 : Vec Ideal ⟨2, ![256, 2048]⟩ .f32) (a3 : Vec Ideal ⟨3, ![8, 256, 2048]⟩ .f32) : Vec Ideal ⟨2, ![256, 2048]⟩ .f32 :=
  fun i => newM (a1 (ix2 (i 0) (i 1)) : EReal) (∑ d : Fin 8, (a3 (ix3 d (i 0) (i 1)) : EReal))

/-- One entry of a result. -/
def G14 (a0 : Vec Ideal ⟨2, ![256, 2048]⟩ .f32) (a1 : Vec Ideal ⟨2, ![256, 2048]⟩ .f32) (a2 : Vec Ideal ⟨2, ![256, 2048]⟩ .f32) (a3 : Vec Ideal ⟨3, ![8, 256, 2048]⟩ .f32) : Vec Ideal ⟨2, ![256, 2048]⟩ .f32 :=
  fun i => newV (a2 (ix2 (i 0) (i 1)) : EReal) (∑ d : Fin 8, (a3 (ix3 d (i 0) (i 1)) : EReal))

section
open Cert.Kernel21Ideal Cert.Kernel21Ideal.Gen Cert.Kernel21Ideal.Value
variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![0, t.val, 0] ∧ win0_4.index t = ![1, t.val, 0] ∧ win0_5.index t = ![2, t.val, 0] ∧ win0_6.index t = ![3, t.val, 0] ∧ win0_7.index t = ![4, t.val, 0] ∧ win0_8.index t = ![5, t.val, 0] ∧ win0_9.index t = ![6, t.val, 0] ∧ win0_10.index t = ![7, t.val, 0] ∧ win0_11.index t = ![t.val, 0] ∧ win0_12.index t = ![t.val, 0] ∧ win0_13.index t = ![t.val, 0] ∧ win0_14.index t = ![t.val, 0] := by decide +kernel

theorem pay11 (x0 : Vec Ideal ⟨2, ![128, 2048]⟩ .f32) (x1 : Vec Ideal ⟨2, ![128, 2048]⟩ .f32) (x2 : Vec Ideal ⟨2, ![128, 2048]⟩ .f32) (x3 : Vec Ideal ⟨3, ![1, 128, 2048]⟩ .f32) (x4 : Vec Ideal ⟨3, ![1, 128, 2048]⟩ .f32) (x5 : Vec Ideal ⟨3, ![1, 128, 2048]⟩ .f32) (x6 : Vec Ideal ⟨3, ![1, 128, 2048]⟩ .f32) (x7 : Vec Ideal ⟨3, ![1, 128, 2048]⟩ .f32) (x8 : Vec Ideal ⟨3, ![1, 128, 2048]⟩ .f32) (x9 : Vec Ideal ⟨3, ![1, 128, 2048]⟩ .f32) (x10 : Vec Ideal ⟨3, ![1, 128, 2048]⟩ .f32) (r : Fin 128) (j : Fin 2048) :
    k0_pay5 x0 x1 x2 x3 x4 x5 x6 x7 x8 x9 x10 (ix2 r j) = ((x3 (ix3 0 r j) : EReal) + (x4 (ix3 0 r j) : EReal) + (x5 (ix3 0 r j) : EReal) + (x6 (ix3 0 r j) : EReal) + (x7 (ix3 0 r j) : EReal) + (x8 (ix3 0 r j) : EReal) + (x9 (ix3 0 r j) : EReal) + (x10 (ix3 0 r j) : EReal)) := by
  pointwise [k0_pay5, k0_pay3]

theorem arr11 : (dats m 0 c).arrAt 11 cfg0.N = G11 (m ((c : Thread nD τ).loc main_arg0)) (m ((c : Thread nD τ).loc main_arg1)) (m ((c : Thread nD τ).loc main_arg2)) (m ((c : Thread nD τ).loc main_arg3)) := by
  refine (dats m 0 c).arrAt_eq_of_covers 11 _ (by decide +kernel) fun t hf y => ?_
  blk_simp
  rw [after0_11]
  frame_out
  obtain ⟨r, j, rfl⟩ : ∃ (r : Fin 128) (j : Fin 2048), y = ix2 r j := ⟨y 0, y 1, by funext a; fin_cases a <;> rfl⟩
  refine (pay11 (iblk m c 0 t) (iblk m c 1 t) (iblk m c 2 t) (iblk m c 3 t) (iblk m c 4 t) (iblk m c 5 t) (iblk m c 6 t) (iblk m c 7 t) (iblk m c 8 t) (iblk m c 9 t) (iblk m c 10 t) r j).trans ?_
  unfold G11
  simp only [Fin.sum_univ_eight]
  blk_point [iblk, V, idx t]

theorem pay12 (x0 : Vec Ideal ⟨2, ![128, 2048]⟩ .f32) (x1 : Vec Ideal ⟨2, ![128, 2048]⟩ .f32) (x2 : Vec Ideal ⟨2, ![128, 2048]⟩ .f32) (x3 : Vec Ideal ⟨3, ![1, 128, 2048]⟩ .f32) (x4 : Vec Ideal ⟨3, ![1, 128, 2048]⟩ .f32) (x5 : Vec Ideal ⟨3, ![1, 128, 2048]⟩ .f32) (x6 : Vec Ideal ⟨3, ![1, 128, 2048]⟩ .f32) (x7 : Vec Ideal ⟨3, ![1, 128, 2048]⟩ .f32) (x8 : Vec Ideal ⟨3, ![1, 128, 2048]⟩ .f32) (x9 : Vec Ideal ⟨3, ![1, 128, 2048]⟩ .f32) (x10 : Vec Ideal ⟨3, ![1, 128, 2048]⟩ .f32) (r : Fin 128) (j : Fin 2048) :
    k0_pay2 (k0_pay5 x0 x1 x2 x3 x4 x5 x6 x7 x8 x9 x10) (k0_pay6 x0 x1 x2 x3 x4 x5 x6 x7 x8 x9 x10) x2 x0 (ix2 r j) = step (x0 (ix2 r j) : EReal) (x1 (ix2 r j) : EReal) (x2 (ix2 r j) : EReal) ((x3 (ix3 0 r j) : EReal) + (x4 (ix3 0 r j) : EReal) + (x5 (ix3 0 r j) : EReal) + (x6 (ix3 0 r j) : EReal) + (x7 (ix3 0 r j) : EReal) + (x8 (ix3 0 r j) : EReal) + (x9 (ix3 0 r j) : EReal) + (x10 (ix3 0 r j) : EReal)) := by
  pointwise [k0_pay6, k0_pay5, k0_pay4, k0_pay3, k0_pay2, k0_pay1, step, newM, newV, num]

theorem arr12 : (dats m 0 c).arrAt 12 cfg0.N = G12 (m ((c : Thread nD τ).loc main_arg0)) (m ((c : Thread nD τ).loc main_arg1)) (m ((c : Thread nD τ).loc main_arg2)) (m ((c : Thread nD τ).loc main_arg3)) := by
  refine (dats m 0 c).arrAt_eq_of_covers 12 _ (by decide +kernel) fun t hf y => ?_
  blk_simp
  rw [after0_12]
  frame_out
  obtain ⟨r, j, rfl⟩ : ∃ (r : Fin 128) (j : Fin 2048), y = ix2 r j := ⟨y 0, y 1, by funext a; fin_cases a <;> rfl⟩
  refine (pay12 (iblk m c 0 t) (iblk m c 1 t) (iblk m c 2 t) (iblk m c 3 t) (iblk m c 4 t) (iblk m c 5 t) (iblk m c 6 t) (iblk m c 7 t) (iblk m c 8 t) (iblk m c 9 t) (iblk m c 10 t) r j).trans ?_
  unfold G12
  simp only [Fin.sum_univ_eight]
  blk_point [iblk, V, idx t]

theorem pay13 (x0 : Vec Ideal ⟨2, ![128, 2048]⟩ .f32) (x1 : Vec Ideal ⟨2, ![128, 2048]⟩ .f32) (x2 : Vec Ideal ⟨2, ![128, 2048]⟩ .f32) (x3 : Vec Ideal ⟨3, ![1, 128, 2048]⟩ .f32) (x4 : Vec Ideal ⟨3, ![1, 128, 2048]⟩ .f32) (x5 : Vec Ideal ⟨3, ![1, 128, 2048]⟩ .f32) (x6 : Vec Ideal ⟨3, ![1, 128, 2048]⟩ .f32) (x7 : Vec Ideal ⟨3, ![1, 128, 2048]⟩ .f32) (x8 : Vec Ideal ⟨3, ![1, 128, 2048]⟩ .f32) (x9 : Vec Ideal ⟨3, ![1, 128, 2048]⟩ .f32) (x10 : Vec Ideal ⟨3, ![1, 128, 2048]⟩ .f32) (r : Fin 128) (j : Fin 2048) :
    k0_pay6 x0 x1 x2 x3 x4 x5 x6 x7 x8 x9 x10 (ix2 r j) = newM (x1 (ix2 r j) : EReal) ((x3 (ix3 0 r j) : EReal) + (x4 (ix3 0 r j) : EReal) + (x5 (ix3 0 r j) : EReal) + (x6 (ix3 0 r j) : EReal) + (x7 (ix3 0 r j) : EReal) + (x8 (ix3 0 r j) : EReal) + (x9 (ix3 0 r j) : EReal) + (x10 (ix3 0 r j) : EReal)) := by
  pointwise [k0_pay6, k0_pay4, k0_pay3, newM, num]

theorem arr13 : (dats m 0 c).arrAt 13 cfg0.N = G13 (m ((c : Thread nD τ).loc main_arg0)) (m ((c : Thread nD τ).loc main_arg1)) (m ((c : Thread nD τ).loc main_arg2)) (m ((c : Thread nD τ).loc main_arg3)) := by
  refine (dats m 0 c).arrAt_eq_of_covers 13 _ (by decide +kernel) fun t hf y => ?_
  blk_simp
  rw [after0_13]
  frame_out
  obtain ⟨r, j, rfl⟩ : ∃ (r : Fin 128) (j : Fin 2048), y = ix2 r j := ⟨y 0, y 1, by funext a; fin_cases a <;> rfl⟩
  refine (pay13 (iblk m c 0 t) (iblk m c 1 t) (iblk m c 2 t) (iblk m c 3 t) (iblk m c 4 t) (iblk m c 5 t) (iblk m c 6 t) (iblk m c 7 t) (iblk m c 8 t) (iblk m c 9 t) (iblk m c 10 t) r j).trans ?_
  unfold G13
  simp only [Fin.sum_univ_eight]
  blk_point [iblk, V, idx t]

theorem pay14 (x0 : Vec Ideal ⟨2, ![128, 2048]⟩ .f32) (x1 : Vec Ideal ⟨2, ![128, 2048]⟩ .f32) (x2 : Vec Ideal ⟨2, ![128, 2048]⟩ .f32) (x3 : Vec Ideal ⟨3, ![1, 128, 2048]⟩ .f32) (x4 : Vec Ideal ⟨3, ![1, 128, 2048]⟩ .f32) (x5 : Vec Ideal ⟨3, ![1, 128, 2048]⟩ .f32) (x6 : Vec Ideal ⟨3, ![1, 128, 2048]⟩ .f32) (x7 : Vec Ideal ⟨3, ![1, 128, 2048]⟩ .f32) (x8 : Vec Ideal ⟨3, ![1, 128, 2048]⟩ .f32) (x9 : Vec Ideal ⟨3, ![1, 128, 2048]⟩ .f32) (x10 : Vec Ideal ⟨3, ![1, 128, 2048]⟩ .f32) (r : Fin 128) (j : Fin 2048) :
    k0_pay1 (k0_pay5 x0 x1 x2 x3 x4 x5 x6 x7 x8 x9 x10) x2 (ix2 r j) = newV (x2 (ix2 r j) : EReal) ((x3 (ix3 0 r j) : EReal) + (x4 (ix3 0 r j) : EReal) + (x5 (ix3 0 r j) : EReal) + (x6 (ix3 0 r j) : EReal) + (x7 (ix3 0 r j) : EReal) + (x8 (ix3 0 r j) : EReal) + (x9 (ix3 0 r j) : EReal) + (x10 (ix3 0 r j) : EReal)) := by
  pointwise [k0_pay5, k0_pay3, k0_pay1, newV, num]

theorem arr14 : (dats m 0 c).arrAt 14 cfg0.N = G14 (m ((c : Thread nD τ).loc main_arg0)) (m ((c : Thread nD τ).loc main_arg1)) (m ((c : Thread nD τ).loc main_arg2)) (m ((c : Thread nD τ).loc main_arg3)) := by
  refine (dats m 0 c).arrAt_eq_of_covers 14 _ (by decide +kernel) fun t hf y => ?_
  blk_simp
  rw [after0_14]
  frame_out
  obtain ⟨r, j, rfl⟩ : ∃ (r : Fin 128) (j : Fin 2048), y = ix2 r j := ⟨y 0, y 1, by funext a; fin_cases a <;> rfl⟩
  refine (pay14 (iblk m c 0 t) (iblk m c 1 t) (iblk m c 2 t) (iblk m c 3 t) (iblk m c 4 t) (iblk m c 5 t) (iblk m c 6 t) (iblk m c 7 t) (iblk m c 8 t) (iblk m c 9 t) (iblk m c 10 t) r j).trans ?_
  unfold G14
  simp only [Fin.sum_univ_eight]
  blk_point [iblk, V, idx t]

end

section
open Cert.Reference21Ideal Cert.Reference21Ideal.Gen Cert.Reference21Ideal.Value
theorem ref11 (a0 : Vec Ideal ⟨2, ![256, 2048]⟩ .f32) (a1 : Vec Ideal ⟨2, ![256, 2048]⟩ .f32) (a2 : Vec Ideal ⟨2, ![256, 2048]⟩ .f32) (a3 : Vec Ideal ⟨3, ![8, 256, 2048]⟩ .f32) (r : Fin 256) (j : Fin 2048) :
    (Host.reduceAdd a3 (constant (F := Ideal) S_ .f32 0x00000000#32) reducesTo_S8x256x2048_S256x2048_d0 h_S_ : FVec Ideal S256x2048 .f32) (ix2 r j) = G11 a0 a1 a2 a3 (ix2 r j) := by
  pointwise [G11, step, newM, newV, num]

theorem ref12 (a0 : Vec Ideal ⟨2, ![256, 2048]⟩ .f32) (a1 : Vec Ideal ⟨2, ![256, 2048]⟩ .f32) (a2 : Vec Ideal ⟨2, ![256, 2048]⟩ .f32) (a3 : Vec Ideal ⟨3, ![8, 256, 2048]⟩ .f32) (r : Fin 256) (j : Fin 2048) :
    (mulf (broadcastInDim S256x2048 ![] bcast_S_S256x2048 (constant (F := Ideal) S_ .f32 0xBA83126F#32)) (addf (Host.divf (mulf (addf (mulf (broadcastInDim S256x2048 ![] bcast_S_S256x2048 (constant (F := Ideal) S_ .f32 0x3F666666#32)) a1) (mulf (broadcastInDim S256x2048 ![] bcast_S_S256x2048 (constant (F := Ideal) S_ .f32 0x3DCCCCCD#32)) (Host.reduceAdd a3 (constant (F := Ideal) S_ .f32 0x00000000#32) reducesTo_S8x256x2048_S256x2048_d0 h_S_))) (broadcastInDim S256x2048 ![] bcast_S_S256x2048 (constant (F := Ideal) S_ .f32 0x3FC48605#32))) (addf (Host.sqrt (mulf (addf (mulf (broadcastInDim S256x2048 ![] bcast_S_S256x2048 (constant (F := Ideal) S_ .f32 0x3F7FBE77#32)) a2) (mulf (broadcastInDim S256x2048 ![] bcast_S_S256x2048 (constant (F := Ideal) S_ .f32 0x3A83126F#32)) (mulf (Host.reduceAdd a3 (constant (F := Ideal) S_ .f32 0x00000000#32) reducesTo_S8x256x2048_S256x2048_d0 h_S_) (Host.reduceAdd a3 (constant (F := Ideal) S_ .f32 0x00000000#32) reducesTo_S8x256x2048_S256x2048_d0 h_S_)))) (broadcastInDim S256x2048 ![] bcast_S_S256x2048 (constant (F := Ideal) S_ .f32 0x42C8E6D3#32)))) (broadcastInDim S256x2048 ![] bcast_S_S256x2048 (constant (F := Ideal) S_ .f32 0x322BCC77#32)))) (mulf (broadcastInDim S256x2048 ![] bcast_S_S256x2048 (constant (F := Ideal) S_ .f32 0x3C23D70A#32)) a0)) : FVec Ideal S256x2048 .f32) (ix2 r j) = G12 a0 a1 a2 a3 (ix2 r j) := by
  pointwise [G12, step, newM, newV, num]

theorem ref13 (a0 : Vec Ideal ⟨2, ![256, 2048]⟩ .f32) (a1 : Vec Ideal ⟨2, ![256, 2048]⟩ .f32) (a2 : Vec Ideal ⟨2, ![256, 2048]⟩ .f32) (a3 : Vec Ideal ⟨3, ![8, 256, 2048]⟩ .f32) (r : Fin 256) (j : Fin 2048) :
    (addf (mulf (broadcastInDim S256x2048 ![] bcast_S_S256x2048 (constant (F := Ideal) S_ .f32 0x3F666666#32)) a1) (mulf (broadcastInDim S256x2048 ![] bcast_S_S256x2048 (constant (F := Ideal) S_ .f32 0x3DCCCCCD#32)) (Host.reduceAdd a3 (constant (F := Ideal) S_ .f32 0x00000000#32) reducesTo_S8x256x2048_S256x2048_d0 h_S_)) : FVec Ideal S256x2048 .f32) (ix2 r j) = G13 a0 a1 a2 a3 (ix2 r j) := by
  pointwise [G13, step, newM, newV, num]

theorem ref14 (a0 : Vec Ideal ⟨2, ![256, 2048]⟩ .f32) (a1 : Vec Ideal ⟨2, ![256, 2048]⟩ .f32) (a2 : Vec Ideal ⟨2, ![256, 2048]⟩ .f32) (a3 : Vec Ideal ⟨3, ![8, 256, 2048]⟩ .f32) (r : Fin 256) (j : Fin 2048) :
    (addf (mulf (broadcastInDim S256x2048 ![] bcast_S_S256x2048 (constant (F := Ideal) S_ .f32 0x3F7FBE77#32)) a2) (mulf (broadcastInDim S256x2048 ![] bcast_S_S256x2048 (constant (F := Ideal) S_ .f32 0x3A83126F#32)) (mulf (Host.reduceAdd a3 (constant (F := Ideal) S_ .f32 0x00000000#32) reducesTo_S8x256x2048_S256x2048_d0 h_S_) (Host.reduceAdd a3 (constant (F := Ideal) S_ .f32 0x00000000#32) reducesTo_S8x256x2048_S256x2048_d0 h_S_))) : FVec Ideal S256x2048 .f32) (ix2 r j) = G14 a0 a1 a2 a3 (ix2 r j) := by
  pointwise [G14, step, newM, newV, num]

end

/-- The reference's run leaves its arguments and every counter as they were. -/
theorem frame_reference : Cert.quiescent_Reference21Ideal := fun m g _ =>
  (θ_run Cert.Reference21Ideal.defs _ _).mono (fun r h => ⟨fun c => (h c).2.2.2.2, sem_eq_zero_of_no_sems (by decide) r.2⟩)
    (Cert.Reference21Ideal.Value.run (F := Ideal) m g)

/-- The call and the reference end with equal results. -/
theorem agree : Cert.algebraic_Kernel21Ideal_Reference21Ideal := by
  intro m g m' g' hp he
  refine ⟨fun c => (Cert.Kernel21Ideal.Gen.dats m 0 c).arrAt 11 Cert.Kernel21Ideal.cfg0.N, fun c => (Cert.Kernel21Ideal.Gen.dats m 0 c).arrAt 12 Cert.Kernel21Ideal.cfg0.N, fun c => (Cert.Kernel21Ideal.Gen.dats m 0 c).arrAt 13 Cert.Kernel21Ideal.cfg0.N, fun c => (Cert.Kernel21Ideal.Gen.dats m 0 c).arrAt 14 Cert.Kernel21Ideal.cfg0.N, Cert.Kernel21Ideal.Value.run_blocks m g, ?_⟩
  refine (θ_run Cert.Reference21Ideal.defs _ _).mono (fun r h c => ?_) (Cert.Reference21Ideal.Value.run (F := Ideal) m' g')
  obtain ⟨e0, e1, e2, e3⟩ := he c
  obtain ⟨r0, r1, r2, r3, ha⟩ := h c
  exact ⟨r0.trans ((ext2 fun r j => ref11 (m' ((c.tc : Thread Cert.Reference21Ideal.nD Cert.Reference21Ideal.τ).loc Cert.Reference21Ideal.main_arg0)) (m' ((c.tc : Thread Cert.Reference21Ideal.nD Cert.Reference21Ideal.τ).loc Cert.Reference21Ideal.main_arg1)) (m' ((c.tc : Thread Cert.Reference21Ideal.nD Cert.Reference21Ideal.τ).loc Cert.Reference21Ideal.main_arg2)) (m' ((c.tc : Thread Cert.Reference21Ideal.nD Cert.Reference21Ideal.τ).loc Cert.Reference21Ideal.main_arg3)) r j).trans (by simp only [arr11 m c, e0, e1, e2, e3])), r1.trans ((ext2 fun r j => ref12 (m' ((c.tc : Thread Cert.Reference21Ideal.nD Cert.Reference21Ideal.τ).loc Cert.Reference21Ideal.main_arg0)) (m' ((c.tc : Thread Cert.Reference21Ideal.nD Cert.Reference21Ideal.τ).loc Cert.Reference21Ideal.main_arg1)) (m' ((c.tc : Thread Cert.Reference21Ideal.nD Cert.Reference21Ideal.τ).loc Cert.Reference21Ideal.main_arg2)) (m' ((c.tc : Thread Cert.Reference21Ideal.nD Cert.Reference21Ideal.τ).loc Cert.Reference21Ideal.main_arg3)) r j).trans (by simp only [arr12 m c, e0, e1, e2, e3])), r2.trans ((ext2 fun r j => ref13 (m' ((c.tc : Thread Cert.Reference21Ideal.nD Cert.Reference21Ideal.τ).loc Cert.Reference21Ideal.main_arg0)) (m' ((c.tc : Thread Cert.Reference21Ideal.nD Cert.Reference21Ideal.τ).loc Cert.Reference21Ideal.main_arg1)) (m' ((c.tc : Thread Cert.Reference21Ideal.nD Cert.Reference21Ideal.τ).loc Cert.Reference21Ideal.main_arg2)) (m' ((c.tc : Thread Cert.Reference21Ideal.nD Cert.Reference21Ideal.τ).loc Cert.Reference21Ideal.main_arg3)) r j).trans (by simp only [arr13 m c, e0, e1, e2, e3])), r3.trans ((ext2 fun r j => ref14 (m' ((c.tc : Thread Cert.Reference21Ideal.nD Cert.Reference21Ideal.τ).loc Cert.Reference21Ideal.main_arg0)) (m' ((c.tc : Thread Cert.Reference21Ideal.nD Cert.Reference21Ideal.τ).loc Cert.Reference21Ideal.main_arg1)) (m' ((c.tc : Thread Cert.Reference21Ideal.nD Cert.Reference21Ideal.τ).loc Cert.Reference21Ideal.main_arg2)) (m' ((c.tc : Thread Cert.Reference21Ideal.nD Cert.Reference21Ideal.τ).loc Cert.Reference21Ideal.main_arg3)) r j).trans (by simp only [arr14 m c, e0, e1, e2, e3])), ha⟩

end Cert.Proof.AdamMats
end
-- ==== Proof.AdamSmall.lean ====
module
public import proofs.«01_k».proof.Defs
public import proofs.«01_k».proof.Proof.Gen.Kernel22Ideal.Value
public import proofs.«01_k».proof.Proof.Gen.Reference22Ideal.Run
public import Idealize.ShloMosaic.Lib.Pipeline.ValueKit
public import proofs.«01_k».proof.Proof.Nums
public import proofs.«01_k».proof.Proof.Adam
@[expose] public section
set_option maxRecDepth 16384
noncomputable section
namespace Cert.Proof.AdamSmall
open Idealize.ShloMosaic Idealize.ShloMosaic.TcCoe Idealize.SL.Sem

/-! The sum of the gradients of the replicated vectors, and the optimiser step of them. -/

/-- One entry of a result. -/
def G11 (a0 : Vec Ideal ⟨2, ![24, 2048]⟩ .f32) (a1 : Vec Ideal ⟨2, ![24, 2048]⟩ .f32) (a2 : Vec Ideal ⟨2, ![24, 2048]⟩ .f32) (a3 : Vec Ideal ⟨3, ![8, 24, 2048]⟩ .f32) : Vec Ideal ⟨2, ![24, 2048]⟩ .f32 :=
  fun i => (∑ d : Fin 8, (a3 (ix3 d (i 0) (i 1)) : EReal))

/-- One entry of a result. -/
def G12 (a0 : Vec Ideal ⟨2, ![24, 2048]⟩ .f32) (a1 : Vec Ideal ⟨2, ![24, 2048]⟩ .f32) (a2 : Vec Ideal ⟨2, ![24, 2048]⟩ .f32) (a3 : Vec Ideal ⟨3, ![8, 24, 2048]⟩ .f32) : Vec Ideal ⟨2, ![24, 2048]⟩ .f32 :=
  fun i => step (a0 (ix2 (i 0) (i 1)) : EReal) (a1 (ix2 (i 0) (i 1)) : EReal) (a2 (ix2 (i 0) (i 1)) : EReal) (∑ d : Fin 8, (a3 (ix3 d (i 0) (i 1)) : EReal))

/-- One entry of a result. -/
def G13 (a0 : Vec Ideal ⟨2, ![24, 2048]⟩ .f32) (a1 : Vec Ideal ⟨2, ![24, 2048]⟩ .f32) (a2 : Vec Ideal ⟨2, ![24, 2048]⟩ .f32) (a3 : Vec Ideal ⟨3, ![8, 24, 2048]⟩ .f32) : Vec Ideal ⟨2, ![24, 2048]⟩ .f32 :=
  fun i => newM (a1 (ix2 (i 0) (i 1)) : EReal) (∑ d : Fin 8, (a3 (ix3 d (i 0) (i 1)) : EReal))

/-- One entry of a result. -/
def G14 (a0 : Vec Ideal ⟨2, ![24, 2048]⟩ .f32) (a1 : Vec Ideal ⟨2, ![24, 2048]⟩ .f32) (a2 : Vec Ideal ⟨2, ![24, 2048]⟩ .f32) (a3 : Vec Ideal ⟨3, ![8, 24, 2048]⟩ .f32) : Vec Ideal ⟨2, ![24, 2048]⟩ .f32 :=
  fun i => newV (a2 (ix2 (i 0) (i 1)) : EReal) (∑ d : Fin 8, (a3 (ix3 d (i 0) (i 1)) : EReal))

section
open Cert.Kernel22Ideal Cert.Kernel22Ideal.Gen Cert.Kernel22Ideal.Value
variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![0, t.val, 0] ∧ win0_4.index t = ![1, t.val, 0] ∧ win0_5.index t = ![2, t.val, 0] ∧ win0_6.index t = ![3, t.val, 0] ∧ win0_7.index t = ![4, t.val, 0] ∧ win0_8.index t = ![5, t.val, 0] ∧ win0_9.index t = ![6, t.val, 0] ∧ win0_10.index t = ![7, t.val, 0] ∧ win0_11.index t = ![t.val, 0] ∧ win0_12.index t = ![t.val, 0] ∧ win0_13.index t = ![t.val, 0] ∧ win0_14.index t = ![t.val, 0] := by decide +kernel

theorem pay11 (x0 : Vec Ideal ⟨2, ![24, 2048]⟩ .f32) (x1 : Vec Ideal ⟨2, ![24, 2048]⟩ .f32) (x2 : Vec Ideal ⟨2, ![24, 2048]⟩ .f32) (x3 : Vec Ideal ⟨3, ![1, 24, 2048]⟩ .f32) (x4 : Vec Ideal ⟨3, ![1, 24, 2048]⟩ .f32) (x5 : Vec Ideal ⟨3, ![1, 24, 2048]⟩ .f32) (x6 : Vec Ideal ⟨3, ![1, 24, 2048]⟩ .f32) (x7 : Vec Ideal ⟨3, ![1, 24, 2048]⟩ .f32) (x8 : Vec Ideal ⟨3, ![1, 24, 2048]⟩ .f32) (x9 : Vec Ideal ⟨3, ![1, 24, 2048]⟩ .f32) (x10 : Vec Ideal ⟨3, ![1, 24, 2048]⟩ .f32) (r : Fin 24) (j : Fin 2048) :
    k0_pay5 x0 x1 x2 x3 x4 x5 x6 x7 x8 x9 x10 (ix2 r j) = ((x3 (ix3 0 r j) : EReal) + (x4 (ix3 0 r j) : EReal) + (x5 (ix3 0 r j) : EReal) + (x6 (ix3 0 r j) : EReal) + (x7 (ix3 0 r j) : EReal) + (x8 (ix3 0 r j) : EReal) + (x9 (ix3 0 r j) : EReal) + (x10 (ix3 0 r j) : EReal)) := by
  pointwise [k0_pay5, k0_pay3]

theorem arr11 : (dats m 0 c).arrAt 11 cfg0.N = G11 (m ((c : Thread nD τ).loc main_arg0)) (m ((c : Thread nD τ).loc main_arg1)) (m ((c : Thread nD τ).loc main_arg2)) (m ((c : Thread nD τ).loc main_arg3)) := by
  refine (dats m 0 c).arrAt_eq_of_covers 11 _ (by decide +kernel) fun t hf y => ?_
  blk_simp
  rw [after0_11]
  frame_out
  obtain ⟨r, j, rfl⟩ : ∃ (r : Fin 24) (j : Fin 2048), y = ix2 r j := ⟨y 0, y 1, by funext a; fin_cases a <;> rfl⟩
  refine (pay11 (iblk m c 0 t) (iblk m c 1 t) (iblk m c 2 t) (iblk m c 3 t) (iblk m c 4 t) (iblk m c 5 t) (iblk m c 6 t) (iblk m c 7 t) (iblk m c 8 t) (iblk m c 9 t) (iblk m c 10 t) r j).trans ?_
  unfold G11
  simp only [Fin.sum_univ_eight]
  blk_point [iblk, V, idx t]

theorem pay12 (x0 : Vec Ideal ⟨2, ![24, 2048]⟩ .f32) (x1 : Vec Ideal ⟨2, ![24, 2048]⟩ .f32) (x2 : Vec Ideal ⟨2, ![24, 2048]⟩ .f32) (x3 : Vec Ideal ⟨3, ![1, 24, 2048]⟩ .f32) (x4 : Vec Ideal ⟨3, ![1, 24, 2048]⟩ .f32) (x5 : Vec Ideal ⟨3, ![1, 24, 2048]⟩ .f32) (x6 : Vec Ideal ⟨3, ![1, 24, 2048]⟩ .f32) (x7 : Vec Ideal ⟨3, ![1, 24, 2048]⟩ .f32) (x8 : Vec Ideal ⟨3, ![1, 24, 2048]⟩ .f32) (x9 : Vec Ideal ⟨3, ![1, 24, 2048]⟩ .f32) (x10 : Vec Ideal ⟨3, ![1, 24, 2048]⟩ .f32) (r : Fin 24) (j : Fin 2048) :
    k0_pay2 (k0_pay5 x0 x1 x2 x3 x4 x5 x6 x7 x8 x9 x10) (k0_pay6 x0 x1 x2 x3 x4 x5 x6 x7 x8 x9 x10) x2 x0 (ix2 r j) = step (x0 (ix2 r j) : EReal) (x1 (ix2 r j) : EReal) (x2 (ix2 r j) : EReal) ((x3 (ix3 0 r j) : EReal) + (x4 (ix3 0 r j) : EReal) + (x5 (ix3 0 r j) : EReal) + (x6 (ix3 0 r j) : EReal) + (x7 (ix3 0 r j) : EReal) + (x8 (ix3 0 r j) : EReal) + (x9 (ix3 0 r j) : EReal) + (x10 (ix3 0 r j) : EReal)) := by
  pointwise [k0_pay6, k0_pay5, k0_pay4, k0_pay3, k0_pay2, k0_pay1, step, newM, newV, num]

theorem arr12 : (dats m 0 c).arrAt 12 cfg0.N = G12 (m ((c : Thread nD τ).loc main_arg0)) (m ((c : Thread nD τ).loc main_arg1)) (m ((c : Thread nD τ).loc main_arg2)) (m ((c : Thread nD τ).loc main_arg3)) := by
  refine (dats m 0 c).arrAt_eq_of_covers 12 _ (by decide +kernel) fun t hf y => ?_
  blk_simp
  rw [after0_12]
  frame_out
  obtain ⟨r, j, rfl⟩ : ∃ (r : Fin 24) (j : Fin 2048), y = ix2 r j := ⟨y 0, y 1, by funext a; fin_cases a <;> rfl⟩
  refine (pay12 (iblk m c 0 t) (iblk m c 1 t) (iblk m c 2 t) (iblk m c 3 t) (iblk m c 4 t) (iblk m c 5 t) (iblk m c 6 t) (iblk m c 7 t) (iblk m c 8 t) (iblk m c 9 t) (iblk m c 10 t) r j).trans ?_
  unfold G12
  simp only [Fin.sum_univ_eight]
  blk_point [iblk, V, idx t]

theorem pay13 (x0 : Vec Ideal ⟨2, ![24, 2048]⟩ .f32) (x1 : Vec Ideal ⟨2, ![24, 2048]⟩ .f32) (x2 : Vec Ideal ⟨2, ![24, 2048]⟩ .f32) (x3 : Vec Ideal ⟨3, ![1, 24, 2048]⟩ .f32) (x4 : Vec Ideal ⟨3, ![1, 24, 2048]⟩ .f32) (x5 : Vec Ideal ⟨3, ![1, 24, 2048]⟩ .f32) (x6 : Vec Ideal ⟨3, ![1, 24, 2048]⟩ .f32) (x7 : Vec Ideal ⟨3, ![1, 24, 2048]⟩ .f32) (x8 : Vec Ideal ⟨3, ![1, 24, 2048]⟩ .f32) (x9 : Vec Ideal ⟨3, ![1, 24, 2048]⟩ .f32) (x10 : Vec Ideal ⟨3, ![1, 24, 2048]⟩ .f32) (r : Fin 24) (j : Fin 2048) :
    k0_pay6 x0 x1 x2 x3 x4 x5 x6 x7 x8 x9 x10 (ix2 r j) = newM (x1 (ix2 r j) : EReal) ((x3 (ix3 0 r j) : EReal) + (x4 (ix3 0 r j) : EReal) + (x5 (ix3 0 r j) : EReal) + (x6 (ix3 0 r j) : EReal) + (x7 (ix3 0 r j) : EReal) + (x8 (ix3 0 r j) : EReal) + (x9 (ix3 0 r j) : EReal) + (x10 (ix3 0 r j) : EReal)) := by
  pointwise [k0_pay6, k0_pay4, k0_pay3, newM, num]

theorem arr13 : (dats m 0 c).arrAt 13 cfg0.N = G13 (m ((c : Thread nD τ).loc main_arg0)) (m ((c : Thread nD τ).loc main_arg1)) (m ((c : Thread nD τ).loc main_arg2)) (m ((c : Thread nD τ).loc main_arg3)) := by
  refine (dats m 0 c).arrAt_eq_of_covers 13 _ (by decide +kernel) fun t hf y => ?_
  blk_simp
  rw [after0_13]
  frame_out
  obtain ⟨r, j, rfl⟩ : ∃ (r : Fin 24) (j : Fin 2048), y = ix2 r j := ⟨y 0, y 1, by funext a; fin_cases a <;> rfl⟩
  refine (pay13 (iblk m c 0 t) (iblk m c 1 t) (iblk m c 2 t) (iblk m c 3 t) (iblk m c 4 t) (iblk m c 5 t) (iblk m c 6 t) (iblk m c 7 t) (iblk m c 8 t) (iblk m c 9 t) (iblk m c 10 t) r j).trans ?_
  unfold G13
  simp only [Fin.sum_univ_eight]
  blk_point [iblk, V, idx t]

theorem pay14 (x0 : Vec Ideal ⟨2, ![24, 2048]⟩ .f32) (x1 : Vec Ideal ⟨2, ![24, 2048]⟩ .f32) (x2 : Vec Ideal ⟨2, ![24, 2048]⟩ .f32) (x3 : Vec Ideal ⟨3, ![1, 24, 2048]⟩ .f32) (x4 : Vec Ideal ⟨3, ![1, 24, 2048]⟩ .f32) (x5 : Vec Ideal ⟨3, ![1, 24, 2048]⟩ .f32) (x6 : Vec Ideal ⟨3, ![1, 24, 2048]⟩ .f32) (x7 : Vec Ideal ⟨3, ![1, 24, 2048]⟩ .f32) (x8 : Vec Ideal ⟨3, ![1, 24, 2048]⟩ .f32) (x9 : Vec Ideal ⟨3, ![1, 24, 2048]⟩ .f32) (x10 : Vec Ideal ⟨3, ![1, 24, 2048]⟩ .f32) (r : Fin 24) (j : Fin 2048) :
    k0_pay1 (k0_pay5 x0 x1 x2 x3 x4 x5 x6 x7 x8 x9 x10) x2 (ix2 r j) = newV (x2 (ix2 r j) : EReal) ((x3 (ix3 0 r j) : EReal) + (x4 (ix3 0 r j) : EReal) + (x5 (ix3 0 r j) : EReal) + (x6 (ix3 0 r j) : EReal) + (x7 (ix3 0 r j) : EReal) + (x8 (ix3 0 r j) : EReal) + (x9 (ix3 0 r j) : EReal) + (x10 (ix3 0 r j) : EReal)) := by
  pointwise [k0_pay5, k0_pay3, k0_pay1, newV, num]

theorem arr14 : (dats m 0 c).arrAt 14 cfg0.N = G14 (m ((c : Thread nD τ).loc main_arg0)) (m ((c : Thread nD τ).loc main_arg1)) (m ((c : Thread nD τ).loc main_arg2)) (m ((c : Thread nD τ).loc main_arg3)) := by
  refine (dats m 0 c).arrAt_eq_of_covers 14 _ (by decide +kernel) fun t hf y => ?_
  blk_simp
  rw [after0_14]
  frame_out
  obtain ⟨r, j, rfl⟩ : ∃ (r : Fin 24) (j : Fin 2048), y = ix2 r j := ⟨y 0, y 1, by funext a; fin_cases a <;> rfl⟩
  refine (pay14 (iblk m c 0 t) (iblk m c 1 t) (iblk m c 2 t) (iblk m c 3 t) (iblk m c 4 t) (iblk m c 5 t) (iblk m c 6 t) (iblk m c 7 t) (iblk m c 8 t) (iblk m c 9 t) (iblk m c 10 t) r j).trans ?_
  unfold G14
  simp only [Fin.sum_univ_eight]
  blk_point [iblk, V, idx t]

end

section
open Cert.Reference22Ideal Cert.Reference22Ideal.Gen Cert.Reference22Ideal.Value
theorem ref11 (a0 : Vec Ideal ⟨2, ![24, 2048]⟩ .f32) (a1 : Vec Ideal ⟨2, ![24, 2048]⟩ .f32) (a2 : Vec Ideal ⟨2, ![24, 2048]⟩ .f32) (a3 : Vec Ideal ⟨3, ![8, 24, 2048]⟩ .f32) (r : Fin 24) (j : Fin 2048) :
    (Host.reduceAdd a3 (constant (F := Ideal) S_ .f32 0x00000000#32) reducesTo_S8x24x2048_S24x2048_d0 h_S_ : FVec Ideal S24x2048 .f32) (ix2 r j) = G11 a0 a1 a2 a3 (ix2 r j) := by
  pointwise [G11, step, newM, newV, num]

theorem ref12 (a0 : Vec Ideal ⟨2, ![24, 2048]⟩ .f32) (a1 : Vec Ideal ⟨2, ![24, 2048]⟩ .f32) (a2 : Vec Ideal ⟨2, ![24, 2048]⟩ .f32) (a3 : Vec Ideal ⟨3, ![8, 24, 2048]⟩ .f32) (r : Fin 24) (j : Fin 2048) :
    (mulf (broadcastInDim S24x2048 ![] bcast_S_S24x2048 (constant (F := Ideal) S_ .f32 0xBA83126F#32)) (addf (Host.divf (mulf (addf (mulf (broadcastInDim S24x2048 ![] bcast_S_S24x2048 (constant (F := Ideal) S_ .f32 0x3F666666#32)) a1) (mulf (broadcastInDim S24x2048 ![] bcast_S_S24x2048 (constant (F := Ideal) S_ .f32 0x3DCCCCCD#32)) (Host.reduceAdd a3 (constant (F := Ideal) S_ .f32 0x00000000#32) reducesTo_S8x24x2048_S24x2048_d0 h_S_))) (broadcastInDim S24x2048 ![] bcast_S_S24x2048 (constant (F := Ideal) S_ .f32 0x3FC48605#32))) (addf (Host.sqrt (mulf (addf (mulf (broadcastInDim S24x2048 ![] bcast_S_S24x2048 (constant (F := Ideal) S_ .f32 0x3F7FBE77#32)) a2) (mulf (broadcastInDim S24x2048 ![] bcast_S_S24x2048 (constant (F := Ideal) S_ .f32 0x3A83126F#32)) (mulf (Host.reduceAdd a3 (constant (F := Ideal) S_ .f32 0x00000000#32) reducesTo_S8x24x2048_S24x2048_d0 h_S_) (Host.reduceAdd a3 (constant (F := Ideal) S_ .f32 0x00000000#32) reducesTo_S8x24x2048_S24x2048_d0 h_S_)))) (broadcastInDim S24x2048 ![] bcast_S_S24x2048 (constant (F := Ideal) S_ .f32 0x42C8E6D3#32)))) (broadcastInDim S24x2048 ![] bcast_S_S24x2048 (constant (F := Ideal) S_ .f32 0x322BCC77#32)))) (mulf (broadcastInDim S24x2048 ![] bcast_S_S24x2048 (constant (F := Ideal) S_ .f32 0x3C23D70A#32)) a0)) : FVec Ideal S24x2048 .f32) (ix2 r j) = G12 a0 a1 a2 a3 (ix2 r j) := by
  pointwise [G12, step, newM, newV, num]

theorem ref13 (a0 : Vec Ideal ⟨2, ![24, 2048]⟩ .f32) (a1 : Vec Ideal ⟨2, ![24, 2048]⟩ .f32) (a2 : Vec Ideal ⟨2, ![24, 2048]⟩ .f32) (a3 : Vec Ideal ⟨3, ![8, 24, 2048]⟩ .f32) (r : Fin 24) (j : Fin 2048) :
    (addf (mulf (broadcastInDim S24x2048 ![] bcast_S_S24x2048 (constant (F := Ideal) S_ .f32 0x3F666666#32)) a1) (mulf (broadcastInDim S24x2048 ![] bcast_S_S24x2048 (constant (F := Ideal) S_ .f32 0x3DCCCCCD#32)) (Host.reduceAdd a3 (constant (F := Ideal) S_ .f32 0x00000000#32) reducesTo_S8x24x2048_S24x2048_d0 h_S_)) : FVec Ideal S24x2048 .f32) (ix2 r j) = G13 a0 a1 a2 a3 (ix2 r j) := by
  pointwise [G13, step, newM, newV, num]

theorem ref14 (a0 : Vec Ideal ⟨2, ![24, 2048]⟩ .f32) (a1 : Vec Ideal ⟨2, ![24, 2048]⟩ .f32) (a2 : Vec Ideal ⟨2, ![24, 2048]⟩ .f32) (a3 : Vec Ideal ⟨3, ![8, 24, 2048]⟩ .f32) (r : Fin 24) (j : Fin 2048) :
    (addf (mulf (broadcastInDim S24x2048 ![] bcast_S_S24x2048 (constant (F := Ideal) S_ .f32 0x3F7FBE77#32)) a2) (mulf (broadcastInDim S24x2048 ![] bcast_S_S24x2048 (constant (F := Ideal) S_ .f32 0x3A83126F#32)) (mulf (Host.reduceAdd a3 (constant (F := Ideal) S_ .f32 0x00000000#32) reducesTo_S8x24x2048_S24x2048_d0 h_S_) (Host.reduceAdd a3 (constant (F := Ideal) S_ .f32 0x00000000#32) reducesTo_S8x24x2048_S24x2048_d0 h_S_))) : FVec Ideal S24x2048 .f32) (ix2 r j) = G14 a0 a1 a2 a3 (ix2 r j) := by
  pointwise [G14, step, newM, newV, num]

end

/-- The reference's run leaves its arguments and every counter as they were. -/
theorem frame_reference : Cert.quiescent_Reference22Ideal := fun m g _ =>
  (θ_run Cert.Reference22Ideal.defs _ _).mono (fun r h => ⟨fun c => (h c).2.2.2.2, sem_eq_zero_of_no_sems (by decide) r.2⟩)
    (Cert.Reference22Ideal.Value.run (F := Ideal) m g)

/-- The call and the reference end with equal results. -/
theorem agree : Cert.algebraic_Kernel22Ideal_Reference22Ideal := by
  intro m g m' g' hp he
  refine ⟨fun c => (Cert.Kernel22Ideal.Gen.dats m 0 c).arrAt 11 Cert.Kernel22Ideal.cfg0.N, fun c => (Cert.Kernel22Ideal.Gen.dats m 0 c).arrAt 12 Cert.Kernel22Ideal.cfg0.N, fun c => (Cert.Kernel22Ideal.Gen.dats m 0 c).arrAt 13 Cert.Kernel22Ideal.cfg0.N, fun c => (Cert.Kernel22Ideal.Gen.dats m 0 c).arrAt 14 Cert.Kernel22Ideal.cfg0.N, Cert.Kernel22Ideal.Value.run_blocks m g, ?_⟩
  refine (θ_run Cert.Reference22Ideal.defs _ _).mono (fun r h c => ?_) (Cert.Reference22Ideal.Value.run (F := Ideal) m' g')
  obtain ⟨e0, e1, e2, e3⟩ := he c
  obtain ⟨r0, r1, r2, r3, ha⟩ := h c
  exact ⟨r0.trans ((ext2 fun r j => ref11 (m' ((c.tc : Thread Cert.Reference22Ideal.nD Cert.Reference22Ideal.τ).loc Cert.Reference22Ideal.main_arg0)) (m' ((c.tc : Thread Cert.Reference22Ideal.nD Cert.Reference22Ideal.τ).loc Cert.Reference22Ideal.main_arg1)) (m' ((c.tc : Thread Cert.Reference22Ideal.nD Cert.Reference22Ideal.τ).loc Cert.Reference22Ideal.main_arg2)) (m' ((c.tc : Thread Cert.Reference22Ideal.nD Cert.Reference22Ideal.τ).loc Cert.Reference22Ideal.main_arg3)) r j).trans (by simp only [arr11 m c, e0, e1, e2, e3])), r1.trans ((ext2 fun r j => ref12 (m' ((c.tc : Thread Cert.Reference22Ideal.nD Cert.Reference22Ideal.τ).loc Cert.Reference22Ideal.main_arg0)) (m' ((c.tc : Thread Cert.Reference22Ideal.nD Cert.Reference22Ideal.τ).loc Cert.Reference22Ideal.main_arg1)) (m' ((c.tc : Thread Cert.Reference22Ideal.nD Cert.Reference22Ideal.τ).loc Cert.Reference22Ideal.main_arg2)) (m' ((c.tc : Thread Cert.Reference22Ideal.nD Cert.Reference22Ideal.τ).loc Cert.Reference22Ideal.main_arg3)) r j).trans (by simp only [arr12 m c, e0, e1, e2, e3])), r2.trans ((ext2 fun r j => ref13 (m' ((c.tc : Thread Cert.Reference22Ideal.nD Cert.Reference22Ideal.τ).loc Cert.Reference22Ideal.main_arg0)) (m' ((c.tc : Thread Cert.Reference22Ideal.nD Cert.Reference22Ideal.τ).loc Cert.Reference22Ideal.main_arg1)) (m' ((c.tc : Thread Cert.Reference22Ideal.nD Cert.Reference22Ideal.τ).loc Cert.Reference22Ideal.main_arg2)) (m' ((c.tc : Thread Cert.Reference22Ideal.nD Cert.Reference22Ideal.τ).loc Cert.Reference22Ideal.main_arg3)) r j).trans (by simp only [arr13 m c, e0, e1, e2, e3])), r3.trans ((ext2 fun r j => ref14 (m' ((c.tc : Thread Cert.Reference22Ideal.nD Cert.Reference22Ideal.τ).loc Cert.Reference22Ideal.main_arg0)) (m' ((c.tc : Thread Cert.Reference22Ideal.nD Cert.Reference22Ideal.τ).loc Cert.Reference22Ideal.main_arg1)) (m' ((c.tc : Thread Cert.Reference22Ideal.nD Cert.Reference22Ideal.τ).loc Cert.Reference22Ideal.main_arg2)) (m' ((c.tc : Thread Cert.Reference22Ideal.nD Cert.Reference22Ideal.τ).loc Cert.Reference22Ideal.main_arg3)) r j).trans (by simp only [arr14 m c, e0, e1, e2, e3])), ha⟩

end Cert.Proof.AdamSmall
end
-- ==== Proof.AdaBwd.lean ====
module
public import proofs.«01_k».proof.Defs
public import proofs.«01_k».proof.Proof.Gen.Kernel23Ideal.Value
public import proofs.«01_k».proof.Proof.Gen.Reference23Ideal.Run
public import Idealize.ShloMosaic.Lib.Pipeline.ValueKit
public import proofs.«01_k».proof.Proof.Nums
public import Idealize.ShloMosaic.Lib.Pipeline.ReadBack
public import Idealize.ShloMosaic.Lib.StableHlo.ReadAt
@[expose] public section
set_option maxRecDepth 16384
noncomputable section
namespace Cert.Proof.AdaBwd
open Idealize.ShloMosaic Idealize.ShloMosaic.TcCoe Idealize.SL.Sem

/-! The gradient of the modulation weights: the activated condition, transposed, times the gradient. -/

/-- An array with its two axes exchanged. -/
def flip (a : Vec Ideal ⟨2, ![8, 2048]⟩ .f32) : Vec Ideal ⟨2, ![2048, 8]⟩ .f32 := fun i => a (ix2 (i 1) (i 0))

/-- One entry of a result. -/
def G2 (a0 : Vec Ideal ⟨2, ![8, 2048]⟩ .f32) (a1 : Vec Ideal ⟨2, ![8, 1536]⟩ .f32) (a2 : Vec Ideal ⟨2, ![2048, 1536]⟩ .f32) : Vec Ideal ⟨2, ![2048, 1536]⟩ .f32 :=
  fun i => ∑ b : Fin 8, (flip a0 (ix2 (i 0) b) * sg (flip a0 (ix2 (i 0) b)) : EReal) * a1 (ix2 b (i 1))

section
open Cert.Kernel23Ideal Cert.Kernel23Ideal.Gen Cert.Kernel23Ideal.Value
variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] := by decide +kernel

/-- The host's line hands the call the condition with its axes exchanged. -/
theorem hV : V m c main_v0 = flip (m ((c : Thread nD τ).loc main_arg0)) := by
  unfold V
  after_reads_simp
  refine ext2 (a := 2048) (b := 8) fun r j => ?_
  pointwise [flip]

theorem pay2 (x0 : Vec Ideal ⟨2, ![256, 8]⟩ .f32) (x1 : Vec Ideal ⟨2, ![8, 1536]⟩ .f32) (r : Fin 256) (j : Fin 1536) :
    k0_pay1 (k0_pay2 x0) (k0_pay3 x1) (k0_pay4 x0 x1) (k0_pay5 x0) (k0_pay6 x1) (ix2 r j) = ∑ b : Fin 8, (x0 (ix2 r b) * sg (x0 (ix2 r b)) : EReal) * x1 (ix2 b j) := by
  rw [Fin.sum_univ_eight]
  pointwise [k0_pay1, k0_pay2, k0_pay3, k0_pay4, k0_pay5, k0_pay6]
  simp only [ofBits_half, tanh_sg]

theorem arr2 : (dats m 0 c).arrAt 2 cfg0.N = G2 (m ((c : Thread nD τ).loc main_arg0)) (m ((c : Thread nD τ).loc main_arg1)) (m ((c : Thread nD τ).loc main_arg2)) := by
  refine (dats m 0 c).arrAt_eq_of_covers 2 _ (by decide +kernel) fun t hf y => ?_
  blk_simp
  rw [after0_2]
  frame_out
  obtain ⟨r, j, rfl⟩ : ∃ (r : Fin 256) (j : Fin 1536), y = ix2 r j := ⟨y 0, y 1, by funext a; fin_cases a <;> rfl⟩
  refine (pay2 (iblk m c 0 t) (iblk m c 1 t) r j).trans ?_
  have hb : ∀ (q : Fin 256) (b : Fin 8), iblk m c 0 t (ix2 q b) = flip (m ((c : Thread nD τ).loc main_arg0)) (((cfg0.win 0).blk t).view.emb (ix2 q b)) :=
    fun q b => by rw [← hV m c]; rfl
  simp only [hb]
  obtain ⟨i0, i1, i2⟩ := idx t
  unfold G2
  refine Finset.sum_congr rfl fun b _ => ?_
  have e : ((cfg0.win 0).blk t).view.emb (ix2 r b) = ix2 ((((cfg0.win 2).blk t).view.emb (ix2 r j)) 0) b := by blk_ext [i0, i2]
  rw [e]
  congr 1
  blk_ext [iblk, V, i1, i2]

end

section
open Cert.Reference23Ideal Cert.Reference23Ideal.Gen Cert.Reference23Ideal.Value
theorem ref2 (a0 : Vec Ideal ⟨2, ![8, 2048]⟩ .f32) (a1 : Vec Ideal ⟨2, ![8, 1536]⟩ .f32) (a2 : Vec Ideal ⟨2, ![2048, 1536]⟩ .f32) (r : Fin 2048) (j : Fin 1536) :
    (transpose S2048x1536 [1, 0] (Host.dotGeneral (φ₁ := FTy.f32) (φ₂ := FTy.f32) dot_S8x1536_S8x2048_S1536x2048_0_0_1_1_n_n none a1 (mulf a0 (Host.divf (broadcastInDim S8x2048 ![] bcast_S_S8x2048 (constant (F := Ideal) S_ .f32 0x3F800000#32)) (addf (broadcastInDim S8x2048 ![] bcast_S_S8x2048 (constant (F := Ideal) S_ .f32 0x3F800000#32)) (Host.exp (Host.negf a0)))))) transposes_S1536x2048_S2048x1536_1_0 : FVec Ideal S2048x1536 .f32) (ix2 r j) = G2 a0 a1 a2 (ix2 r j) := by
  pointwise [G2, flip]
  exact Finset.sum_congr rfl fun _ _ => mul_comm _ _

end

/-- The reference's run leaves its arguments and every counter as they were. -/
theorem frame_reference : Cert.quiescent_Reference23Ideal := fun m g _ =>
  (θ_run Cert.Reference23Ideal.defs _ _).mono (fun r h => ⟨fun c => (h c).2, sem_eq_zero_of_no_sems (by decide) r.2⟩)
    (Cert.Reference23Ideal.Value.run (F := Ideal) m g)

/-- The call and the reference end with equal results. -/
theorem agree : Cert.algebraic_Kernel23Ideal_Reference23Ideal := by
  intro m g m' g' hp he
  refine ⟨fun c => (Cert.Kernel23Ideal.Gen.dats m 0 c).arrAt 2 Cert.Kernel23Ideal.cfg0.N, Cert.Kernel23Ideal.Value.run_blocks m g, ?_⟩
  refine (θ_run Cert.Reference23Ideal.defs _ _).mono (fun r h c => ?_) (Cert.Reference23Ideal.Value.run (F := Ideal) m' g')
  obtain ⟨e0, e1, e2⟩ := he c
  obtain ⟨r0, ha⟩ := h c
  exact ⟨r0.trans ((ext2 fun r j => ref2 (m' ((c.tc : Thread Cert.Reference23Ideal.nD Cert.Reference23Ideal.τ).loc Cert.Reference23Ideal.main_arg0)) (m' ((c.tc : Thread Cert.Reference23Ideal.nD Cert.Reference23Ideal.τ).loc Cert.Reference23Ideal.main_arg1)) (m' ((c.tc : Thread Cert.Reference23Ideal.nD Cert.Reference23Ideal.τ).loc Cert.Reference23Ideal.main_arg2)) r j).trans (by simp only [arr2 m c, e0, e1, e2])), ha⟩

end Cert.Proof.AdaBwd
end
-- ==== Proof.AdaFwd.lean ====
module
public import proofs.«01_k».proof.Defs
public import proofs.«01_k».proof.Proof.Gen.Kernel24Ideal.Value
public import proofs.«01_k».proof.Proof.Gen.Reference24Ideal.Run
public import Idealize.ShloMosaic.Lib.Pipeline.ValueKit
public import proofs.«01_k».proof.Proof.Nums
@[expose] public section
set_option maxRecDepth 16384
noncomputable section
namespace Cert.Proof.AdaFwd
open Idealize.ShloMosaic Idealize.ShloMosaic.TcCoe Idealize.SL.Sem

/-! The modulation: a product of the activated condition with the weights, and the bias. -/

/-- One entry of a result. -/
def G3 (a0 : Vec Ideal ⟨2, ![8, 2048]⟩ .f32) (a1 : Vec Ideal ⟨2, ![2048, 1536]⟩ .f32) (a2 : Vec Ideal ⟨2, ![1, 1536]⟩ .f32) : Vec Ideal ⟨2, ![8, 1536]⟩ .f32 :=
  fun i => (∑ k : Fin 2048, (a0 (ix2 (i 0) k) * sg (a0 (ix2 (i 0) k)) : EReal) * a1 (ix2 k (i 1))) + a2 (ix2 0 (i 1))

section
open Cert.Kernel24Ideal Cert.Kernel24Ideal.Gen Cert.Kernel24Ideal.Value
variable (m : (ℓ : Loc nD τ sig) → Buf (Elt Ideal) ℓ) (c : Dev nD)

theorem idx : ∀ t : Fin cfg0.N, win0_0.index t = ![0, 0] ∧ win0_1.index t = ![0, t.val] ∧ win0_2.index t = ![0, t.val] ∧ win0_3.index t = ![0, t.val] := by decide +kernel

theorem pay3 (x0 : Vec Ideal ⟨2, ![8, 2048]⟩ .f32) (x1 : Vec Ideal ⟨2, ![2048, 512]⟩ .f32) (x2 : Vec Ideal ⟨2, ![1, 512]⟩ .f32) (r : Fin 8) (j : Fin 512) :
    k0_pay1 x0 x1 x2 (ix2 r j) = (∑ k : Fin 2048, (x0 (ix2 r k) * sg (x0 (ix2 r k)) : EReal) * x1 (ix2 k j)) + x2 (ix2 0 j) := by
  pointwise [k0_pay1]
  simp only [ofBits_half, tanh_sg]

theorem arr3 : (dats m 0 c).arrAt 3 cfg0.N = G3 (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  obtain ⟨r, j, rfl⟩ : ∃ (r : Fin 8) (j : Fin 512), y = ix2 r j := ⟨y 0, y 1, by funext a; fin_cases a <;> rfl⟩
  refine (pay3 (iblk m c 0 t) (iblk m c 1 t) (iblk m c 2 t) r j).trans ?_
  unfold G3
  blk_point [iblk, V, idx t]

end

section
open Cert.Reference24Ideal Cert.Reference24Ideal.Gen Cert.Reference24Ideal.Value
theorem ref3 (a0 : Vec Ideal ⟨2, ![8, 2048]⟩ .f32) (a1 : Vec Ideal ⟨2, ![2048, 1536]⟩ .f32) (a2 : Vec Ideal ⟨2, ![1, 1536]⟩ .f32) (r : Fin 8) (j : Fin 1536) :
    (addf (Host.dotGeneral (φ₁ := FTy.f32) (φ₂ := FTy.f32) dot_S8x2048_S2048x1536_S8x1536_1_0_0_1_n_n none (mulf a0 (Host.divf (broadcastInDim S8x2048 ![] bcast_S_S8x2048 (constant (F := Ideal) S_ .f32 0x3F800000#32)) (addf (broadcastInDim S8x2048 ![] bcast_S_S8x2048 (constant (F := Ideal) S_ .f32 0x3F800000#32)) (Host.exp (Host.negf a0))))) a1) (broadcastInDim S8x1536 ![0, 1] bcast_S1x1536_S8x1536_0_1 a2) : FVec Ideal S8x1536 .f32) (ix2 r j) = G3 a0 a1 a2 (ix2 r j) := by
  pointwise [G3]
  rfl

end

/-- The reference's run leaves its arguments and every counter as they were. -/
theorem frame_reference : Cert.quiescent_Reference24Ideal := fun m g _ =>
  (θ_run Cert.Reference24Ideal.defs _ _).mono (fun r h => ⟨fun c => (h c).2, sem_eq_zero_of_no_sems (by decide) r.2⟩)
    (Cert.Reference24Ideal.Value.run (F := Ideal) m g)

/-- The call and the reference end with equal results. -/
theorem agree : Cert.algebraic_Kernel24Ideal_Reference24Ideal := by
  intro m g m' g' hp he
  refine ⟨fun c => (Cert.Kernel24Ideal.Gen.dats m 0 c).arrAt 3 Cert.Kernel24Ideal.cfg0.N, Cert.Kernel24Ideal.Value.run_blocks m g, ?_⟩
  refine (θ_run Cert.Reference24Ideal.defs _ _).mono (fun r h c => ?_) (Cert.Reference24Ideal.Value.run (F := Ideal) m' g')
  obtain ⟨e0, e1, e2⟩ := he c
  obtain ⟨r0, ha⟩ := h c
  exact ⟨r0.trans ((ext2 fun r j => ref3 (m' ((c.tc : Thread Cert.Reference24Ideal.nD Cert.Reference24Ideal.τ).loc Cert.Reference24Ideal.main_arg0)) (m' ((c.tc : Thread Cert.Reference24Ideal.nD Cert.Reference24Ideal.τ).loc Cert.Reference24Ideal.main_arg1)) (m' ((c.tc : Thread Cert.Reference24Ideal.nD Cert.Reference24Ideal.τ).loc Cert.Reference24Ideal.main_arg2)) r j).trans (by simp only [arr3 m c, e0, e1, e2])), ha⟩

end Cert.Proof.AdaFwd
end
-- ==== Proof.Norm1.lean ====
module
public import proofs.«01_k».proof.Defs
public import proofs.«01_k».proof.Proof.Gen.Kernel25Ideal.Value
public import proofs.«01_k».proof.Proof.Gen.Reference25Ideal.Run
public import Idealize.ShloMosaic.Lib.Pipeline.ValueKit
public import proofs.«01_k».proof.Proof.Nums
public import proofs.«01_k».proof.Proof.Adam
@[expose] public section
set_option maxRecDepth 16384
noncomputable section
namespace Cert.Proof.Norm1
open Idealize.ShloMosaic Idealize.ShloMosaic.TcCoe Idealize.SL.Sem

/-! A norm over the features, and its modulation. -/

/-- One entry of a result. -/
def G3 (a0 : Vec Ideal ⟨2, ![4096, 2048]⟩ .f32) (a1 : Vec Ideal ⟨2, ![1, 2048]⟩ .f32) (a2 : Vec Ideal ⟨2, ![8, 2048]⟩ .f32) : Vec Ideal ⟨2, ![4096, 2048]⟩ .bf16 :=
  fun i => normed (fun k => (a0 (ix2 (i 0) k) : EReal)) (i 1) (a1 (ix2 0 (i 1))) (a2 (ix2 1 (i 1))) (a2 (ix2 0 (i 1)))

section
open Cert.Kernel25Ideal Cert.Kernel25Ideal.Gen Cert.Kernel25Ideal.Value
variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0] ∧ win0_3.index t = ![t.val, 0] := by decide +kernel

theorem pay3 (x0 : Vec Ideal ⟨2, ![512, 2048]⟩ .f32) (x1 : Vec Ideal ⟨2, ![1, 2048]⟩ .f32) (x2 : Vec Ideal ⟨2, ![8, 2048]⟩ .f32) (r : Fin 512) (j : Fin 2048) :
    k0_pay1 x0 (View.ld x2 r0_1) (View.ld x2 r0_2) x1 (ix2 r j) = normed (fun k => (x0 (ix2 r k) : EReal)) j (x1 (ix2 0 j)) (x2 (ix2 1 j)) (x2 (ix2 0 j)) := by
  pointwise [k0_pay1, normed, num]

theorem arr3 : (dats m 0 c).arrAt 3 cfg0.N = G3 (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  obtain ⟨r, j, rfl⟩ : ∃ (r : Fin 512) (j : Fin 2048), y = ix2 r j := ⟨y 0, y 1, by funext a; fin_cases a <;> rfl⟩
  refine (pay3 (iblk m c 0 t) (iblk m c 1 t) (iblk m c 2 t) r j).trans ?_
  unfold G3
  blk_point [iblk, V, idx t]

end

section
open Cert.Reference25Ideal Cert.Reference25Ideal.Gen Cert.Reference25Ideal.Value
theorem ref3 (a0 : Vec Ideal ⟨2, ![4096, 2048]⟩ .f32) (a1 : Vec Ideal ⟨2, ![1, 2048]⟩ .f32) (a2 : Vec Ideal ⟨2, ![8, 2048]⟩ .f32) (r : Fin 4096) (j : Fin 2048) :
    (truncf .bf16 (addf (mulf (mulf (mulf a0 (broadcastInDim S4096x2048 ![0, 1] bcast_S4096x1_S4096x2048_0_1 (Host.rsqrt (addf (Host.divf (broadcastInDim S4096x1 ![0] bcast_S4096_S4096x1_0 (Host.reduceAdd (mulf a0 a0) (constant (F := Ideal) S_ .f32 0x00000000#32) reducesTo_S4096x2048_S4096_d1 h_S_)) (broadcastInDim S4096x1 ![] bcast_S_S4096x1 (constant (F := Ideal) S_ .f32 0x45000000#32))) (broadcastInDim S4096x1 ![] bcast_S_S4096x1 (constant (F := Ideal) S_ .f32 0x358637BD#32)))))) (broadcastInDim S4096x2048 ![0, 1] bcast_S1x2048_S4096x2048_0_1 a1)) (broadcastInDim S4096x2048 ![0, 1] bcast_S1x2048_S4096x2048_0_1 (broadcastInDim S1x2048 ![1] bcast_S2048_S1x2048_1 (addf (broadcastInDim S2048 ![] bcast_S_S2048 (constant (F := Ideal) S_ .f32 0x3F800000#32)) (shapeCast _ (extractStridedSlice S1x2048 ![1, 0] a2 slices_S8x2048_S1x2048_1_0) shapeCasts_S1x2048_S2048))))) (broadcastInDim S4096x2048 ![0, 1] bcast_S1x2048_S4096x2048_0_1 (broadcastInDim S1x2048 ![1] bcast_S2048_S1x2048_1 (shapeCast _ (extractStridedSlice S1x2048 ![0, 0] a2 slices_S8x2048_S1x2048_0_0) shapeCasts_S1x2048_S2048)))) bitsLt_bf16_f32 : FVec Ideal S4096x2048 .bf16) (ix2 r j) = G3 a0 a1 a2 (ix2 r j) := by
  pointwise [G3, normed, num]

end

/-- The reference's run leaves its arguments and every counter as they were. -/
theorem frame_reference : Cert.quiescent_Reference25Ideal := fun m g _ =>
  (θ_run Cert.Reference25Ideal.defs _ _).mono (fun r h => ⟨fun c => (h c).2, sem_eq_zero_of_no_sems (by decide) r.2⟩)
    (Cert.Reference25Ideal.Value.run (F := Ideal) m g)

/-- The call and the reference end with equal results. -/
theorem agree : Cert.algebraic_Kernel25Ideal_Reference25Ideal := by
  intro m g m' g' hp he
  refine ⟨fun c => (Cert.Kernel25Ideal.Gen.dats m 0 c).arrAt 3 Cert.Kernel25Ideal.cfg0.N, Cert.Kernel25Ideal.Value.run_blocks m g, ?_⟩
  refine (θ_run Cert.Reference25Ideal.defs _ _).mono (fun r h c => ?_) (Cert.Reference25Ideal.Value.run (F := Ideal) m' g')
  obtain ⟨e0, e1, e2⟩ := he c
  obtain ⟨r0, ha⟩ := h c
  exact ⟨r0.trans ((ext2 fun r j => ref3 (m' ((c.tc : Thread Cert.Reference25Ideal.nD Cert.Reference25Ideal.τ).loc Cert.Reference25Ideal.main_arg0)) (m' ((c.tc : Thread Cert.Reference25Ideal.nD Cert.Reference25Ideal.τ).loc Cert.Reference25Ideal.main_arg1)) (m' ((c.tc : Thread Cert.Reference25Ideal.nD Cert.Reference25Ideal.τ).loc Cert.Reference25Ideal.main_arg2)) r j).trans (by simp only [arr3 m c, e0, e1, e2])), ha⟩

end Cert.Proof.Norm1
end
-- ==== Proof.Norm2.lean ====
module
public import proofs.«01_k».proof.Defs
public import proofs.«01_k».proof.Proof.Gen.Kernel26Ideal.Value
public import proofs.«01_k».proof.Proof.Gen.Reference26Ideal.Run
public import Idealize.ShloMosaic.Lib.Pipeline.ValueKit
public import proofs.«01_k».proof.Proof.Nums
public import proofs.«01_k».proof.Proof.Adam
@[expose] public section
set_option maxRecDepth 16384
noncomputable section
namespace Cert.Proof.Norm2
open Idealize.ShloMosaic Idealize.ShloMosaic.TcCoe Idealize.SL.Sem

/-! A norm over the features, and its modulation. -/

/-- One entry of a result. -/
def G3 (a0 : Vec Ideal ⟨2, ![4096, 2048]⟩ .f32) (a1 : Vec Ideal ⟨2, ![1, 2048]⟩ .f32) (a2 : Vec Ideal ⟨2, ![8, 2048]⟩ .f32) : Vec Ideal ⟨2, ![4096, 2048]⟩ .bf16 :=
  fun i => normed (fun k => (a0 (ix2 (i 0) k) : EReal)) (i 1) (a1 (ix2 0 (i 1))) (a2 (ix2 4 (i 1))) (a2 (ix2 3 (i 1)))

section
open Cert.Kernel26Ideal Cert.Kernel26Ideal.Gen Cert.Kernel26Ideal.Value
variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0] ∧ win0_3.index t = ![t.val, 0] := by decide +kernel

theorem pay3 (x0 : Vec Ideal ⟨2, ![512, 2048]⟩ .f32) (x1 : Vec Ideal ⟨2, ![1, 2048]⟩ .f32) (x2 : Vec Ideal ⟨2, ![8, 2048]⟩ .f32) (r : Fin 512) (j : Fin 2048) :
    k0_pay1 x0 (View.ld x2 r0_1) (View.ld x2 r0_2) x1 (ix2 r j) = normed (fun k => (x0 (ix2 r k) : EReal)) j (x1 (ix2 0 j)) (x2 (ix2 4 j)) (x2 (ix2 3 j)) := by
  pointwise [k0_pay1, normed, num]

theorem arr3 : (dats m 0 c).arrAt 3 cfg0.N = G3 (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  obtain ⟨r, j, rfl⟩ : ∃ (r : Fin 512) (j : Fin 2048), y = ix2 r j := ⟨y 0, y 1, by funext a; fin_cases a <;> rfl⟩
  refine (pay3 (iblk m c 0 t) (iblk m c 1 t) (iblk m c 2 t) r j).trans ?_
  unfold G3
  blk_point [iblk, V, idx t]

end

section
open Cert.Reference26Ideal Cert.Reference26Ideal.Gen Cert.Reference26Ideal.Value
theorem ref3 (a0 : Vec Ideal ⟨2, ![4096, 2048]⟩ .f32) (a1 : Vec Ideal ⟨2, ![1, 2048]⟩ .f32) (a2 : Vec Ideal ⟨2, ![8, 2048]⟩ .f32) (r : Fin 4096) (j : Fin 2048) :
    (truncf .bf16 (addf (mulf (mulf (mulf a0 (broadcastInDim S4096x2048 ![0, 1] bcast_S4096x1_S4096x2048_0_1 (Host.rsqrt (addf (Host.divf (broadcastInDim S4096x1 ![0] bcast_S4096_S4096x1_0 (Host.reduceAdd (mulf a0 a0) (constant (F := Ideal) S_ .f32 0x00000000#32) reducesTo_S4096x2048_S4096_d1 h_S_)) (broadcastInDim S4096x1 ![] bcast_S_S4096x1 (constant (F := Ideal) S_ .f32 0x45000000#32))) (broadcastInDim S4096x1 ![] bcast_S_S4096x1 (constant (F := Ideal) S_ .f32 0x358637BD#32)))))) (broadcastInDim S4096x2048 ![0, 1] bcast_S1x2048_S4096x2048_0_1 a1)) (broadcastInDim S4096x2048 ![0, 1] bcast_S1x2048_S4096x2048_0_1 (broadcastInDim S1x2048 ![1] bcast_S2048_S1x2048_1 (addf (broadcastInDim S2048 ![] bcast_S_S2048 (constant (F := Ideal) S_ .f32 0x3F800000#32)) (shapeCast _ (extractStridedSlice S1x2048 ![4, 0] a2 slices_S8x2048_S1x2048_4_0) shapeCasts_S1x2048_S2048))))) (broadcastInDim S4096x2048 ![0, 1] bcast_S1x2048_S4096x2048_0_1 (broadcastInDim S1x2048 ![1] bcast_S2048_S1x2048_1 (shapeCast _ (extractStridedSlice S1x2048 ![3, 0] a2 slices_S8x2048_S1x2048_3_0) shapeCasts_S1x2048_S2048)))) bitsLt_bf16_f32 : FVec Ideal S4096x2048 .bf16) (ix2 r j) = G3 a0 a1 a2 (ix2 r j) := by
  pointwise [G3, normed, num]

end

/-- The reference's run leaves its arguments and every counter as they were. -/
theorem frame_reference : Cert.quiescent_Reference26Ideal := fun m g _ =>
  (θ_run Cert.Reference26Ideal.defs _ _).mono (fun r h => ⟨fun c => (h c).2, sem_eq_zero_of_no_sems (by decide) r.2⟩)
    (Cert.Reference26Ideal.Value.run (F := Ideal) m g)

/-- The call and the reference end with equal results. -/
theorem agree : Cert.algebraic_Kernel26Ideal_Reference26Ideal := by
  intro m g m' g' hp he
  refine ⟨fun c => (Cert.Kernel26Ideal.Gen.dats m 0 c).arrAt 3 Cert.Kernel26Ideal.cfg0.N, Cert.Kernel26Ideal.Value.run_blocks m g, ?_⟩
  refine (θ_run Cert.Reference26Ideal.defs _ _).mono (fun r h c => ?_) (Cert.Reference26Ideal.Value.run (F := Ideal) m' g')
  obtain ⟨e0, e1, e2⟩ := he c
  obtain ⟨r0, ha⟩ := h c
  exact ⟨r0.trans ((ext2 fun r j => ref3 (m' ((c.tc : Thread Cert.Reference26Ideal.nD Cert.Reference26Ideal.τ).loc Cert.Reference26Ideal.main_arg0)) (m' ((c.tc : Thread Cert.Reference26Ideal.nD Cert.Reference26Ideal.τ).loc Cert.Reference26Ideal.main_arg1)) (m' ((c.tc : Thread Cert.Reference26Ideal.nD Cert.Reference26Ideal.τ).loc Cert.Reference26Ideal.main_arg2)) r j).trans (by simp only [arr3 m c, e0, e1, e2])), ha⟩

end Cert.Proof.Norm2
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Final
public import Idealize.ShloMosaic.Adequacy
public import Idealize.ShloMosaic.Init

public import proofs.«01_k».proof.Proof.FfDx
public import proofs.«01_k».proof.Proof.FfDw
public import proofs.«01_k».proof.Proof.OutProjDx
public import proofs.«01_k».proof.Proof.OutProjDw
public import proofs.«01_k».proof.Proof.AttnOutDx
public import proofs.«01_k».proof.Proof.AttnOutDw
public import proofs.«01_k».proof.Proof.LruOutDx
public import proofs.«01_k».proof.Proof.LruOutDw
public import proofs.«01_k».proof.Proof.LruOut
public import proofs.«01_k».proof.Proof.AttnMerge
public import proofs.«01_k».proof.Proof.OutProj
public import proofs.«01_k».proof.Proof.Ff1
public import proofs.«01_k».proof.Proof.Ff1Dw
public import proofs.«01_k».proof.Proof.InProjDw
public import proofs.«01_k».proof.Proof.InProjDx
public import proofs.«01_k».proof.Proof.Gen.Kernel17.Frame
public import proofs.«01_k».proof.Proof.Gen.Kernel17Ideal.Value
public import proofs.«01_k».proof.Proof.Gen.Kernel17Ideal.Frame
public import proofs.«01_k».proof.Proof.Gen.Reference17Ideal.Run
public import proofs.«01_k».proof.Proof.Gen.Kernel18.Frame
public import proofs.«01_k».proof.Proof.Gen.Kernel18Ideal.Value
public import proofs.«01_k».proof.Proof.Gen.Kernel18Ideal.Frame
public import proofs.«01_k».proof.Proof.Gen.Reference18Ideal.Run
public import proofs.«01_k».proof.Proof.Gen.Kernel19.Frame
public import proofs.«01_k».proof.Proof.Gen.Kernel19Ideal.Value
public import proofs.«01_k».proof.Proof.Gen.Kernel19Ideal.Frame
public import proofs.«01_k».proof.Proof.Gen.Reference19Ideal.Run
public import proofs.«01_k».proof.Proof.Gen.Kernel20.Frame
public import proofs.«01_k».proof.Proof.Gen.Kernel20Ideal.Value
public import proofs.«01_k».proof.Proof.Gen.Kernel20Ideal.Frame
public import proofs.«01_k».proof.Proof.Gen.Reference20Ideal.Run
public import proofs.«01_k».proof.Proof.AdamFf1
public import proofs.«01_k».proof.Proof.AdamAda
public import proofs.«01_k».proof.Proof.AdamIn
public import proofs.«01_k».proof.Proof.AdamConv
public import proofs.«01_k».proof.Proof.Gen.Kernel21.Frame
public import proofs.«01_k».proof.Proof.Gen.Kernel21Ideal.Value
public import proofs.«01_k».proof.Proof.Gen.Kernel21Ideal.Frame
public import proofs.«01_k».proof.Proof.Gen.Reference21Ideal.Run
public import proofs.«01_k».proof.Proof.Gen.Kernel22.Frame
public import proofs.«01_k».proof.Proof.Gen.Kernel22Ideal.Value
public import proofs.«01_k».proof.Proof.Gen.Kernel22Ideal.Frame
public import proofs.«01_k».proof.Proof.Gen.Reference22Ideal.Run
public import proofs.«01_k».proof.Proof.Gen.Kernel23.Frame
public import proofs.«01_k».proof.Proof.Gen.Kernel23Ideal.Value
public import proofs.«01_k».proof.Proof.Gen.Kernel23Ideal.Frame
public import proofs.«01_k».proof.Proof.Gen.Reference23Ideal.Run
public import proofs.«01_k».proof.Proof.Gen.Kernel24.Frame
public import proofs.«01_k».proof.Proof.Gen.Kernel24Ideal.Value
public import proofs.«01_k».proof.Proof.Gen.Kernel24Ideal.Frame
public import proofs.«01_k».proof.Proof.Gen.Reference24Ideal.Run
public import proofs.«01_k».proof.Proof.Gen.Kernel25.Frame
public import proofs.«01_k».proof.Proof.Gen.Kernel25Ideal.Value
public import proofs.«01_k».proof.Proof.Gen.Kernel25Ideal.Frame
public import proofs.«01_k».proof.Proof.Gen.Reference25Ideal.Run
public import proofs.«01_k».proof.Proof.Gen.Kernel26.Frame
public import proofs.«01_k».proof.Proof.Gen.Kernel26Ideal.Value
public import proofs.«01_k».proof.Proof.Gen.Kernel26Ideal.Frame
public import proofs.«01_k».proof.Proof.Gen.Reference26Ideal.Run
public import proofs.«01_k».proof.Proof.AdamMats
public import proofs.«01_k».proof.Proof.AdamSmall
public import proofs.«01_k».proof.Proof.AdaBwd
public import proofs.«01_k».proof.Proof.AdaFwd
public import proofs.«01_k».proof.Proof.Norm1
public import proofs.«01_k».proof.Proof.Norm2
@[expose] public section

noncomputable section

namespace Cert.Proof

open Idealize.ShloMosaic Idealize.SL.Sem Cert.Kernel

/-- The reference declares no semaphore, so its run leaves every counter at zero; its arguments are the run's last conjuncts. -/
theorem frame_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run Cert.ReferenceIdeal.defs _ _).mono (fun r h => ⟨fun c => (h c).2.2.2.2.2, sem_eq_zero_of_no_sems (by decide) r.2⟩)
    (Cert.ReferenceIdeal.Value.run (F := Ideal) m g)

/-- The kernel's run and the reference's run end with the same five results. -/
theorem agree : Cert.algebraic_KernelIdeal_ReferenceIdeal_pre_finite := by
  intro m g m' g' hp he
  refine ⟨fun c => (Cert.KernelIdeal.Gen.dats m 0 c).arrAt 9 Cert.KernelIdeal.cfg0.N, fun c => (Cert.KernelIdeal.Gen.dats m 0 c).arrAt 10 Cert.KernelIdeal.cfg0.N,
    fun c => (Cert.KernelIdeal.Gen.dats m 0 c).arrAt 11 Cert.KernelIdeal.cfg0.N, fun c => (Cert.KernelIdeal.Gen.dats m 0 c).arrAt 12 Cert.KernelIdeal.cfg0.N,
    fun c => (Cert.KernelIdeal.Gen.dats m 0 c).arrAt 13 Cert.KernelIdeal.cfg0.N, Cert.KernelIdeal.Value.run_blocks m g, ?_⟩
  refine (θ_run Cert.ReferenceIdeal.defs _ _).mono (fun r h c => ?_) (Cert.ReferenceIdeal.Value.run (F := Ideal) m' g')
  obtain ⟨e0, e1, e2, e3, e4⟩ := he c
  obtain ⟨r0, r1, r2, r3, r4, ha⟩ := h c
  exact ⟨r0.trans (same0 m c _ e0 e1 e2 e3 _ e4 hp).symm, r1.trans (same1 m c _ e0 e1 e2 e3 hp).symm, r2.trans (same2 m c _ e0 e1 e2 e3 hp).symm,
    r3.trans (same3 m c _ e0 e1 e2 e3 hp).symm, r4.trans (same4 m c _ e0 e1 e2 e3 hp _).symm, ha⟩

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  fun m g _ => frame_reference m g,
  fun m g _ => frame_reference m g,
  fun m ρ _ => Cert.Kernel2.Gen.frame m ρ,
  fun m ρ _ => Cert.Kernel2Ideal.Gen.frame m ρ,
  FfDx.frame_reference,
  fun m ρ _ => Cert.Kernel3.Gen.frame m ρ,
  fun m ρ _ => Cert.Kernel3Ideal.Gen.frame m ρ,
  FfDw.frame_reference,
  fun m ρ _ => Cert.Kernel4.Gen.frame m ρ,
  fun m ρ _ => Cert.Kernel4Ideal.Gen.frame m ρ,
  OutProjDx.frame_reference,
  fun m ρ _ => Cert.Kernel5.Gen.frame m ρ,
  fun m ρ _ => Cert.Kernel5Ideal.Gen.frame m ρ,
  OutProjDw.frame_reference,
  fun m ρ _ => Cert.Kernel6.Gen.frame m ρ,
  fun m ρ _ => Cert.Kernel6Ideal.Gen.frame m ρ,
  AttnOutDx.frame_reference,
  fun m ρ _ => Cert.Kernel7.Gen.frame m ρ,
  fun m ρ _ => Cert.Kernel7Ideal.Gen.frame m ρ,
  AttnOutDw.frame_reference,
  fun m ρ _ => Cert.Kernel8.Gen.frame m ρ,
  fun m ρ _ => Cert.Kernel8Ideal.Gen.frame m ρ,
  LruOutDx.frame_reference,
  fun m ρ _ => Cert.Kernel9.Gen.frame m ρ,
  fun m ρ _ => Cert.Kernel9Ideal.Gen.frame m ρ,
  LruOutDw.frame_reference,
  fun m ρ _ => Cert.Kernel10.Gen.frame m ρ,
  fun m ρ _ => Cert.Kernel10Ideal.Gen.frame m ρ,
  LruOut.frame_reference,
  fun m ρ _ => Cert.Kernel11.Gen.frame m ρ,
  fun m ρ _ => Cert.Kernel11Ideal.Gen.frame m ρ,
  AttnMerge.frame_reference,
  fun m ρ _ => Cert.Kernel12.Gen.frame m ρ,
  fun m ρ _ => Cert.Kernel12Ideal.Gen.frame m ρ,
  OutProj.frame_reference,
  fun m ρ _ => Cert.Kernel13.Gen.frame m ρ,
  fun m ρ _ => Cert.Kernel13Ideal.Gen.frame m ρ,
  Ff1.frame_reference,
  fun m ρ _ => Cert.Kernel14.Gen.frame m ρ,
  fun m ρ _ => Cert.Kernel14Ideal.Gen.frame m ρ,
  Ff1Dw.frame_reference,
  fun m ρ _ => Cert.Kernel15.Gen.frame m ρ,
  fun m ρ _ => Cert.Kernel15Ideal.Gen.frame m ρ,
  InProjDw.frame_reference,
  fun m ρ _ => Cert.Kernel16.Gen.frame m ρ,
  fun m ρ _ => Cert.Kernel16Ideal.Gen.frame m ρ,
  InProjDx.frame_reference,
  fun m ρ _ => Cert.Kernel17.Gen.frame m ρ,
  fun m ρ _ => Cert.Kernel17Ideal.Gen.frame m ρ,
  AdamFf1.frame_reference,
  fun m ρ _ => Cert.Kernel18.Gen.frame m ρ,
  fun m ρ _ => Cert.Kernel18Ideal.Gen.frame m ρ,
  AdamAda.frame_reference,
  fun m ρ _ => Cert.Kernel19.Gen.frame m ρ,
  fun m ρ _ => Cert.Kernel19Ideal.Gen.frame m ρ,
  AdamIn.frame_reference,
  fun m ρ _ => Cert.Kernel20.Gen.frame m ρ,
  fun m ρ _ => Cert.Kernel20Ideal.Gen.frame m ρ,
  AdamConv.frame_reference,
  fun m ρ _ => Cert.Kernel21.Gen.frame m ρ,
  fun m ρ _ => Cert.Kernel21Ideal.Gen.frame m ρ,
  AdamMats.frame_reference,
  fun m ρ _ => Cert.Kernel22.Gen.frame m ρ,
  fun m ρ _ => Cert.Kernel22Ideal.Gen.frame m ρ,
  AdamSmall.frame_reference,
  fun m ρ _ => Cert.Kernel23.Gen.frame m ρ,
  fun m ρ _ => Cert.Kernel23Ideal.Gen.frame m ρ,
  AdaBwd.frame_reference,
  fun m ρ _ => Cert.Kernel24.Gen.frame m ρ,
  fun m ρ _ => Cert.Kernel24Ideal.Gen.frame m ρ,
  AdaFwd.frame_reference,
  fun m ρ _ => Cert.Kernel25.Gen.frame m ρ,
  fun m ρ _ => Cert.Kernel25Ideal.Gen.frame m ρ,
  Norm1.frame_reference,
  fun m ρ _ => Cert.Kernel26.Gen.frame m ρ,
  fun m ρ _ => Cert.Kernel26Ideal.Gen.frame m ρ,
  Norm2.frame_reference,
  IdealRules.named_const.statement Cert.KernelIdeal.κ "mask" .f32 0xF149F2CA#32 ⊥ rfl,
  agree,
  trivial,
  FfDx.agree,
  trivial,
  FfDw.agree,
  trivial,
  OutProjDx.agree,
  trivial,
  OutProjDw.agree,
  trivial,
  AttnOutDx.agree,
  trivial,
  AttnOutDw.agree,
  trivial,
  LruOutDx.agree,
  trivial,
  LruOutDw.agree,
  trivial,
  LruOut.agree,
  trivial,
  AttnMerge.agree,
  trivial,
  OutProj.agree,
  trivial,
  Ff1.agree,
  trivial,
  Ff1Dw.agree,
  trivial,
  InProjDw.agree,
  trivial,
  InProjDx.agree,
  trivial,
  AdamFf1.agree,
  trivial,
  AdamAda.agree,
  trivial,
  AdamIn.agree,
  trivial,
  AdamConv.agree,
  trivial,
  AdamMats.agree,
  trivial,
  AdamSmall.agree,
  trivial,
  AdaBwd.agree,
  trivial,
  AdaFwd.agree,
  trivial,
  Norm1.agree,
  trivial,
  Norm2.agree⟩

end Cert.Proof

end
